-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_and_nonzero [hPre_finite_and_nonzero : Cert.Pre_finite_and_nonzero.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite_and_nonzero.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_and_nonzero [hPre_finite_and_nonzero : Cert.Pre_finite_and_nonzero.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite_and_nonzero.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_and_nonzero [hKernel2Ideal : Cert.Kernel2Ideal.Facts] [hPre_finite_and_nonzero : Cert.Pre_finite_and_nonzero.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_and_nonzero m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_and_nonzero [hReference2Ideal : Cert.Reference2Ideal.Facts] [hPre_finite_and_nonzero : Cert.Pre_finite_and_nonzero.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_and_nonzero m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_and_nonzero [hKernel2Ideal : Cert.Kernel2Ideal.Facts] [hReference2Ideal : Cert.Reference2Ideal.Facts] [hPre_finite_and_nonzero : Cert.Pre_finite_and_nonzero.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_and_nonzero m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v364)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v364) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v32_0)) (v1 : (c : Dev Cert.Kernel7Ideal.nD) → Buf (Elt Ideal) ((c.tc : Thread Cert.Kernel7Ideal.nD Cert.Kernel7Ideal.τ).loc Cert.Kernel7Ideal.main_v32_1)) (v2 : (c : Dev Cert.Kernel7Ideal.nD) → Buf (Elt Ideal) ((c.tc : Thread Cert.Kernel7Ideal.nD Cert.Kernel7Ideal.τ).loc Cert.Kernel7Ideal.main_v32_2)) (v3 : (c : Dev Cert.Kernel7Ideal.nD) → Buf (Elt Ideal) ((c.tc : Thread Cert.Kernel7Ideal.nD Cert.Kernel7Ideal.τ).loc Cert.Kernel7Ideal.main_v32_3)) (v4 : (c : Dev Cert.Kernel7Ideal.nD) → Buf (Elt Ideal) ((c.tc : Thread Cert.Kernel7Ideal.nD Cert.Kernel7Ideal.τ).loc Cert.Kernel7Ideal.main_v32_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_0) = v0 c
          ∧ r.2.mem ((c.tc : Thread Cert.Kernel7Ideal.nD Cert.Kernel7Ideal.τ).loc Cert.Kernel7Ideal.main_v32_1) = v1 c
          ∧ r.2.mem ((c.tc : Thread Cert.Kernel7Ideal.nD Cert.Kernel7Ideal.τ).loc Cert.Kernel7Ideal.main_v32_2) = v2 c
          ∧ r.2.mem ((c.tc : Thread Cert.Kernel7Ideal.nD Cert.Kernel7Ideal.τ).loc Cert.Kernel7Ideal.main_v32_3) = v3 c
          ∧ r.2.mem ((c.tc : Thread Cert.Kernel7Ideal.nD Cert.Kernel7Ideal.τ).loc Cert.Kernel7Ideal.main_v32_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v114) = v0 c
          ∧ r.2.mem ((c.tc : Thread Cert.Reference7Ideal.nD Cert.Reference7Ideal.τ).loc Cert.Reference7Ideal.main_v116) = v1 c
          ∧ r.2.mem ((c.tc : Thread Cert.Reference7Ideal.nD Cert.Reference7Ideal.τ).loc Cert.Reference7Ideal.main_v117) = v2 c
          ∧ r.2.mem ((c.tc : Thread Cert.Reference7Ideal.nD Cert.Reference7Ideal.τ).loc Cert.Reference7Ideal.main_v119) = v3 c
          ∧ r.2.mem ((c.tc : Thread Cert.Reference7Ideal.nD Cert.Reference7Ideal.τ).loc Cert.Reference7Ideal.main_v97) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_and_nonzero : Cert.Pre_finite_and_nonzero.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_and_nonzero (hKernel2Ideal := hKernel2Ideal) (hPre_finite_and_nonzero := hPre_finite_and_nonzero)
    ∧ quiescent_Reference2Ideal (hReference2Ideal := hReference2Ideal)
    ∧ quiescent_Reference2Ideal_pre_finite_and_nonzero (hReference2Ideal := hReference2Ideal) (hPre_finite_and_nonzero := hPre_finite_and_nonzero)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_and_nonzero (hKernel2Ideal := hKernel2Ideal) (hReference2Ideal := hReference2Ideal) (hPre_finite_and_nonzero := hPre_finite_and_nonzero)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_and_nonzero.lean ====
abbrev S32768x768 : Shape := ⟨2, ![32768, 768]⟩
abbrev S48x64 : Shape := ⟨2, ![48, 64]⟩
abbrev S48 : Shape := ⟨1, ![48]⟩
abbrev S48x64x16 : Shape := ⟨3, ![48, 64, 16]⟩
abbrev S48x16x64 : Shape := ⟨3, ![48, 16, 64]⟩
abbrev S48x16 : Shape := ⟨2, ![48, 16]⟩
abbrev S_ : Shape := ⟨0, ![]⟩

class Facts : Prop where
  bcast_S_S32768x768 : S_.BroadcastsInDim S32768x768 (![] : Fin 0 → Fin S32768x768.rank)
  bcast_S_S48x64 : S_.BroadcastsInDim S48x64 (![] : Fin 0 → Fin S48x64.rank)
  bcast_S_S48 : S_.BroadcastsInDim S48 (![] : Fin 0 → Fin S48.rank)
  bcast_S_S48x64x16 : S_.BroadcastsInDim S48x64x16 (![] : Fin 0 → Fin S48x64x16.rank)
  bcast_S_S48x16x64 : S_.BroadcastsInDim S48x16x64 (![] : Fin 0 → Fin S48x16x64.rank)

variable [Facts]

def fn_part1 {F : FTy → Type} [FloatOps F] (main_arg1 : FVec F S48x64 .f32) (main_arg2 : FVec F S48x64 .f32) (main_arg6 : FVec F S48x16x64 .f32) (main_arg7 : FVec F S48x16x64 .f32) (main_v2 : IVec S32768x768 1) (main_v5 : IVec S48x64 1) (main_v8 : IVec S48x64 1) (main_v11 : IVec S48 1) (main_v14 : IVec S48x64x16 1) (main_v17 : IVec S48x64x16 1) : IVec S32768x768 1 × IVec S48x64 1 × IVec S48x64 1 × IVec S48 1 × IVec S48x64x16 1 × IVec S48x64x16 1 × IVec S48x16x64 1 × IVec S48x16x64 1 × IVec S48x64 1 :=
  let main_v18 : FVec F S48x16x64 .f32 := Host.absf main_arg6
  let main_cst_5 : FVec F S_ .f32 := constant S_ .f32 0x7F800000#32
  let main_v19 : FVec F S48x16x64 .f32 := broadcastInDim S48x16x64 ![] bcast_S_S48x16x64 main_cst_5
  let main_v20 : IVec S48x16x64 1 := cmpf .olt main_v18 main_v19
  let main_v21 : FVec F S48x16x64 .f32 := Host.absf main_arg7
  let main_cst_6 : FVec F S_ .f32 := constant S_ .f32 0x7F800000#32
  let main_v22 : FVec F S48x16x64 .f32 := broadcastInDim S48x16x64 ![] bcast_S_S48x16x64 main_cst_6
  let main_v23 : IVec S48x16x64 1 := cmpf .olt main_v21 main_v22
  let main_v24 : FVec F S48x64 .f32 := mulf main_arg1 main_arg1
  let main_v25 : FVec F S48x64 .f32 := mulf main_arg2 main_arg2
  let main_v26 : FVec F S48x64 .f32 := addf main_v24 main_v25
  let main_cst_7 : FVec F S_ .f32 := constant S_ .f32 0x00000000#32
  let main_v27 : FVec F S48x64 .f32 := broadcastInDim S48x64 ![] bcast_S_S48x64 main_cst_7
  let main_v28 : IVec S48x64 1 := cmpf .ogt main_v26 main_v27
  (main_v2, main_v5, main_v8, main_v11, main_v14, main_v17, main_v20, main_v23, main_v28)

def fn {F : FTy → Type} [FloatOps F] (main_arg0 : FVec F S32768x768 .f32) (main_arg1 : FVec F S48x64 .f32) (main_arg2 : FVec F S48x64 .f32) (main_arg3 : FVec F S48 .f32) (main_arg4 : FVec F S48x64x16 .f32) (main_arg5 : FVec F S48x64x16 .f32) (main_arg6 : FVec F S48x16x64 .f32) (main_arg7 : FVec F S48x16x64 .f32) (main_arg8 : FVec F S48x16 .f32) : IVec S32768x768 1 × IVec S48x64 1 × IVec S48x64 1 × IVec S48 1 × IVec S48x64x16 1 × IVec S48x64x16 1 × IVec S48x16x64 1 × IVec S48x16x64 1 × IVec S48x64 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_v3 : FVec F S48x64 .f32 := Host.absf main_arg1
  let main_cst_0 : FVec F S_ .f32 := constant S_ .f32 0x7F800000#32
  let main_v4 : FVec F S48x64 .f32 := broadcastInDim S48x64 ![] bcast_S_S48x64 main_cst_0
  let main_v5 : IVec S48x64 1 := cmpf .olt main_v3 main_v4
  let main_v6 : FVec F S48x64 .f32 := Host.absf main_arg2
  let main_cst_1 : FVec F S_ .f32 := constant S_ .f32 0x7F800000#32
  let main_v7 : FVec F S48x64 .f32 := broadcastInDim S48x64 ![] bcast_S_S48x64 main_cst_1
  let main_v8 : IVec S48x64 1 := cmpf .olt main_v6 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_v12 : FVec F S48x64x16 .f32 := Host.absf main_arg4
  let main_cst_3 : FVec F S_ .f32 := constant S_ .f32 0x7F800000#32
  let main_v13 : FVec F S48x64x16 .f32 := broadcastInDim S48x64x16 ![] bcast_S_S48x64x16 main_cst_3
  let main_v14 : IVec S48x64x16 1 := cmpf .olt main_v12 main_v13
  let main_v15 : FVec F S48x64x16 .f32 := Host.absf main_arg5
  let main_cst_4 : FVec F S_ .f32 := constant S_ .f32 0x7F800000#32
  let main_v16 : FVec F S48x64x16 .f32 := broadcastInDim S48x64x16 ![] bcast_S_S48x64x16 main_cst_4
  let main_v17 : IVec S48x64x16 1 := cmpf .olt main_v15 main_v16
  fn_part1 (F := F) main_arg1 main_arg2 main_arg6 main_arg7 main_v2 main_v5 main_v8 main_v11 main_v14 main_v17
-- ==== Kernel.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x5632 : Shape := ⟨2, ![1, 5632]⟩
abbrev S4x5632 : Shape := ⟨2, ![4, 5632]⟩
abbrev S1x1024 : Shape := ⟨2, ![1, 1024]⟩
abbrev S1024x1024 : Shape := ⟨2, ![1024, 1024]⟩
abbrev S16x1024 : Shape := ⟨2, ![16, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S4x256 : Shape := ⟨2, ![4, 256]⟩
abbrev S1x256 : Shape := ⟨2, ![1, 256]⟩

abbrev nBuf : Space → Nat
  | .hbm => 15
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x5632, .f32⟩
  | .hbm, ⟨9, _⟩ => ⟨S4x5632, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S4x5632, .f32⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S2x16384x5632, .f32⟩
  | .hbm, ⟨24, _⟩ => ⟨S_, .i32⟩
  | .hbm, ⟨25, _⟩ => ⟨S_, .f32⟩
  | .hbm, ⟨26, _⟩ => ⟨S2x16386x5632, .f32⟩
  | .hbm, ⟨27, _⟩ => ⟨S2x16384x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S2x16384x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S1x1x5632, .f32⟩
  | .hbm, ⟨48, _⟩ => ⟨S2x16384x5632, .f32⟩
  | .hbm, ⟨49, _⟩ => ⟨S2x16384x5632, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S_, .f32⟩
  | .hbm, ⟨55, _⟩ => ⟨S2x16384x2816, .f32⟩
  | .hbm, ⟨56, _⟩ => ⟨S2x16384x2816, .f32⟩
  | .hbm, ⟨57, _⟩ => ⟨S_, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S2x16384x1, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | .hbm, ⟨80, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel2.lean ====
abbrev S32768x768 : Shape := ⟨2, ![32768, 768]⟩
abbrev S48x64 : Shape := ⟨2, ![48, 64]⟩
abbrev S48 : Shape := ⟨1, ![48]⟩
abbrev S48x64x16 : Shape := ⟨3, ![48, 64, 16]⟩
abbrev S48x16x64 : Shape := ⟨3, ![48, 16, 64]⟩
abbrev S48x16 : Shape := ⟨2, ![48, 16]⟩
abbrev S48x1 : Shape := ⟨2, ![48, 1]⟩
abbrev S_ : Shape := ⟨0, ![]⟩
abbrev S48x64x1 : Shape := ⟨3, ![48, 64, 1]⟩
abbrev S9 : Shape := ⟨1, ![9]⟩
abbrev S9x1x1 : Shape := ⟨3, ![9, 1, 1]⟩
abbrev S1x48x64 : Shape := ⟨3, ![1, 48, 64]⟩
abbrev S9x48x64 : Shape := ⟨3, ![9, 48, 64]⟩
abbrev S1x48x16x64 : Shape := ⟨4, ![1, 48, 16, 64]⟩
abbrev S9x48x1x64 : Shape := ⟨4, ![9, 48, 1, 64]⟩
abbrev S9x48x16x64 : Shape := ⟨4, ![9, 48, 16, 64]⟩
abbrev S48x16x9x16 : Shape := ⟨4, ![48, 16, 9, 16]⟩
abbrev S9x48x16x16 : Shape := ⟨4, ![9, 48, 16, 16]⟩
abbrev S48x16x1 : Shape := ⟨3, ![48, 16, 1]⟩
abbrev S16x16 : Shape := ⟨2, ![16, 16]⟩
abbrev S1x16x16 : Shape := ⟨3, ![1, 16, 16]⟩
abbrev S48x16x16 : Shape := ⟨3, ![48, 16, 16]⟩
abbrev S1 : Shape := ⟨1, ![1]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1x1x1 : Shape := ⟨5, ![8, 8, 1, 1, 1]⟩
abbrev S8x8x1 : Shape := ⟨3, ![8, 8, 1]⟩
abbrev S8x8x48x16x16 : Shape := ⟨5, ![8, 8, 48, 16, 16]⟩
abbrev S8x8x6x8x16x16 : Shape := ⟨6, ![8, 8, 6, 8, 16, 16]⟩
abbrev S6x8x8x16x8x16 : Shape := ⟨6, ![6, 8, 8, 16, 8, 16]⟩
abbrev S6x1024x128 : Shape := ⟨3, ![6, 1024, 128]⟩
abbrev S8x48x64 : Shape := ⟨3, ![8, 48, 64]⟩
abbrev S8x48x64x1 : Shape := ⟨4, ![8, 48, 64, 1]⟩
abbrev S1x48x64x16 : Shape := ⟨4, ![1, 48, 64, 16]⟩
abbrev S8x48x64x16 : Shape := ⟨4, ![8, 48, 64, 16]⟩
abbrev S1x8x48x64x16 : Shape := ⟨5, ![1, 8, 48, 64, 16]⟩
abbrev S2x8x48x64x16 : Shape := ⟨5, ![2, 8, 48, 64, 16]⟩
abbrev S2x8x6x8x64x16 : Shape := ⟨6, ![2, 8, 6, 8, 64, 16]⟩
abbrev S6x8x8x16x2x64 : Shape := ⟨6, ![6, 8, 8, 16, 2, 64]⟩
abbrev S8x48x1x64 : Shape := ⟨4, ![8, 48, 1, 64]⟩
abbrev S8x48x16x64 : Shape := ⟨4, ![8, 48, 16, 64]⟩
abbrev S1x8x48x16x64 : Shape := ⟨5, ![1, 8, 48, 16, 64]⟩
abbrev S2x8x48x16x64 : Shape := ⟨5, ![2, 8, 48, 16, 64]⟩
abbrev S2x8x6x8x16x64 : Shape := ⟨6, ![2, 8, 6, 8, 16, 64]⟩
abbrev S6x2x8x64x8x16 : Shape := ⟨6, ![6, 2, 8, 64, 8, 16]⟩
abbrev S8x1x1 : Shape := ⟨3, ![8, 1, 1]⟩
abbrev S8x1x48x64 : Shape := ⟨4, ![8, 1, 48, 64]⟩
abbrev S8x2x48x64 : Shape := ⟨4, ![8, 2, 48, 64]⟩
abbrev S8x2x6x512 : Shape := ⟨4, ![8, 2, 6, 512]⟩
abbrev S6x8x2x512 : Shape := ⟨4, ![6, 8, 2, 512]⟩
abbrev S6x8x1024 : Shape := ⟨3, ![6, 8, 1024]⟩
abbrev S4096x8x768 : Shape := ⟨3, ![4096, 8, 768]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1024x1 : Shape := ⟨2, ![1024, 1]⟩
abbrev S1024x1024 : Shape := ⟨2, ![1024, 1024]⟩
abbrev S1x1024x1024 : Shape := ⟨3, ![1, 1024, 1024]⟩
abbrev S3x1024x1024 : Shape := ⟨3, ![3, 1024, 1024]⟩
abbrev S256x8x128 : Shape := ⟨3, ![256, 8, 128]⟩
abbrev S1x1024x128 : Shape := ⟨3, ![1, 1024, 128]⟩
abbrev S1x8x1024 : Shape := ⟨3, ![1, 8, 1024]⟩
abbrev S1024x128 : Shape := ⟨2, ![1024, 128]⟩
abbrev S256x1x128 : Shape := ⟨3, ![256, 1, 128]⟩
abbrev S256x128 : Shape := ⟨2, ![256, 128]⟩
abbrev S256x1024 : Shape := ⟨2, ![256, 1024]⟩
abbrev S256x512 : Shape := ⟨2, ![256, 512]⟩
abbrev S1x512 : Shape := ⟨2, ![1, 512]⟩
abbrev S8x1024 : Shape := ⟨2, ![8, 1024]⟩

abbrev nBuf : Space → Nat
  | .hbm => 447
  | .vmem => 19
  | .smem => 0
  | _ => 0

abbrev hbmTy0_0 (i : Nat) : BufTy := match i % 128 with
  | 0 => ⟨S32768x768, .f32⟩
  | 1 => ⟨S48x64, .f32⟩
  | 2 => ⟨S48x64, .f32⟩
  | 3 => ⟨S48, .f32⟩
  | 4 => ⟨S48x64x16, .f32⟩
  | 5 => ⟨S48x64x16, .f32⟩
  | 6 => ⟨S48x16x64, .f32⟩
  | 7 => ⟨S48x16x64, .f32⟩
  | 8 => ⟨S48x16, .f32⟩
  | 9 => ⟨S48, .f32⟩
  | 10 => ⟨S48x1, .f32⟩
  | 11 => ⟨S48x64, .f32⟩
  | 12 => ⟨S48x64, .f32⟩
  | 13 => ⟨S48x64, .f32⟩
  | 14 => ⟨S48x64, .f32⟩
  | 15 => ⟨S48x64, .f32⟩
  | 16 => ⟨S48x64, .f32⟩
  | 17 => ⟨S48x64, .f32⟩
  | 18 => ⟨S48x64, .f32⟩
  | 19 => ⟨S48x64, .f32⟩
  | 20 => ⟨S48x64, .f32⟩
  | 21 => ⟨S48x64, .f32⟩
  | 22 => ⟨S48x64, .f32⟩
  | 23 => ⟨S48x64, .f32⟩
  | 24 => ⟨S48x64, .f32⟩
  | 25 => ⟨S_, .f32⟩
  | 26 => ⟨S48x64, .f32⟩
  | 27 => ⟨S48x64, .f32⟩
  | 28 => ⟨S48x64, .f32⟩
  | 29 => ⟨S48x64, .f32⟩
  | 30 => ⟨S48x64, .f32⟩
  | 31 => ⟨S48x64, .f32⟩
  | 32 => ⟨S48x64, .f32⟩
  | 33 => ⟨S48x64, .f32⟩
  | 34 => ⟨S48x64, .f32⟩
  | 35 => ⟨S48x64, .f32⟩
  | 36 => ⟨S48x64x1, .f32⟩
  | 37 => ⟨S48x64x16, .f32⟩
  | 38 => ⟨S48x64x16, .f32⟩
  | 39 => ⟨S48x64x1, .f32⟩
  | 40 => ⟨S48x64x16, .f32⟩
  | 41 => ⟨S48x64x16, .f32⟩
  | 42 => ⟨S48x64x16, .f32⟩
  | 43 => ⟨S48x64x1, .f32⟩
  | 44 => ⟨S48x64x16, .f32⟩
  | 45 => ⟨S48x64x16, .f32⟩
  | 46 => ⟨S48x64x1, .f32⟩
  | 47 => ⟨S48x64x16, .f32⟩
  | 48 => ⟨S48x64x16, .f32⟩
  | 49 => ⟨S48x64x16, .f32⟩
  | 50 => ⟨S9, .i32⟩
  | 51 => ⟨S9, .f32⟩
  | 52 => ⟨S9x1x1, .f32⟩
  | 53 => ⟨S48x64, .f32⟩
  | 54 => ⟨S48x64, .f32⟩
  | 55 => ⟨S1x48x64, .f32⟩
  | 56 => ⟨S9x48x64, .f32⟩
  | 57 => ⟨S9x48x64, .f32⟩
  | 58 => ⟨S9x48x64, .f32⟩
  | 59 => ⟨S9x48x64, .f32⟩
  | 60 => ⟨S48x64, .f32⟩
  | 61 => ⟨S48x64, .f32⟩
  | 62 => ⟨S1x48x64, .f32⟩
  | 63 => ⟨S9x48x64, .f32⟩
  | 64 => ⟨S9x48x64, .f32⟩
  | 65 => ⟨S9x48x64, .f32⟩
  | 66 => ⟨S9x48x64, .f32⟩
  | 67 => ⟨S9x48x64, .f32⟩
  | 68 => ⟨S48x64, .f32⟩
  | 69 => ⟨S48x64, .f32⟩
  | 70 => ⟨S1x48x64, .f32⟩
  | 71 => ⟨S9x48x64, .f32⟩
  | 72 => ⟨S9x48x64, .f32⟩
  | 73 => ⟨S9x48x64, .f32⟩
  | 74 => ⟨S9x48x64, .f32⟩
  | 75 => ⟨S9x48x64, .f32⟩
  | 76 => ⟨S1x48x16x64, .f32⟩
  | 77 => ⟨S9x48x1x64, .f32⟩
  | 78 => ⟨S9x48x16x64, .f32⟩
  | 79 => ⟨S9x48x16x64, .f32⟩
  | 80 => ⟨S9x48x16x64, .f32⟩
  | 81 => ⟨S1x48x16x64, .f32⟩
  | 82 => ⟨S9x48x1x64, .f32⟩
  | 83 => ⟨S9x48x16x64, .f32⟩
  | 84 => ⟨S9x48x16x64, .f32⟩
  | 85 => ⟨S9x48x16x64, .f32⟩
  | 86 => ⟨S1x48x16x64, .f32⟩
  | 87 => ⟨S9x48x1x64, .f32⟩
  | 88 => ⟨S9x48x16x64, .f32⟩
  | 89 => ⟨S9x48x16x64, .f32⟩
  | 90 => ⟨S9x48x16x64, .f32⟩
  | 91 => ⟨S1x48x16x64, .f32⟩
  | 92 => ⟨S9x48x1x64, .f32⟩
  | 93 => ⟨S9x48x16x64, .f32⟩
  | 94 => ⟨S9x48x16x64, .f32⟩
  | 95 => ⟨S9x48x16x64, .f32⟩
  | 96 => ⟨S48x16x9x16, .f32⟩
  | 97 => ⟨S9x48x16x16, .f32⟩
  | 98 => ⟨S48x16x9x16, .f32⟩
  | 99 => ⟨S9x48x16x16, .f32⟩
  | 100 => ⟨S9x48x16x16, .f32⟩
  | 101 => ⟨S48x16x9x16, .f32⟩
  | 102 => ⟨S9x48x16x16, .f32⟩
  | 103 => ⟨S9x48x16x16, .f32⟩
  | 104 => ⟨S48x16x9x16, .f32⟩
  | 105 => ⟨S9x48x16x16, .f32⟩
  | 106 => ⟨S9x48x16x16, .f32⟩
  | 107 => ⟨S48x16x1, .f32⟩
  | 108 => ⟨S16x16, .i32⟩
  | 109 => ⟨S16x16, .i32⟩
  | 110 => ⟨S_, .i32⟩
  | 111 => ⟨S16x16, .i32⟩
  | 112 => ⟨S16x16, .i32⟩
  | 113 => ⟨S16x16, .i1⟩
  | 114 => ⟨S16x16, .f32⟩
  | 115 => ⟨S1x16x16, .f32⟩
  | 116 => ⟨S48x16x16, .f32⟩
  | 117 => ⟨S48x16x16, .f32⟩
  | 118 => ⟨S48x16x16, .f32⟩
  | 119 => ⟨S_, .i32⟩
  | 120 => ⟨S1, .i32⟩
  | 121 => ⟨S9x48x16x16, .f32⟩
  | 122 => ⟨S8, .i32⟩
  | 123 => ⟨S8x1, .i32⟩
  | 124 => ⟨S8, .i32⟩
  | 125 => ⟨S1x8, .i32⟩
  | 126 => ⟨S8x8, .i32⟩
  | 127 => ⟨S8x8, .i32⟩
  | _ => ⟨S32768x768, .f32⟩

abbrev hbmTy0_1 (i : Nat) : BufTy := match i % 128 with
  | 0 => ⟨S8x8, .i32⟩
  | 1 => ⟨S_, .i32⟩
  | 2 => ⟨S_, .i32⟩
  | 3 => ⟨S_, .i32⟩
  | 4 => ⟨S8x8, .i32⟩
  | 5 => ⟨S8x8, .i32⟩
  | 6 => ⟨S_, .i32⟩
  | 7 => ⟨S8x8, .i32⟩
  | 8 => ⟨S8x8, .i32⟩
  | 9 => ⟨S8x8, .i32⟩
  | 10 => ⟨S8x8, .i32⟩
  | 11 => ⟨S8x8, .i1⟩
  | 12 => ⟨S8x8x1x1x1, .i1⟩
  | 13 => ⟨S_, .i32⟩
  | 14 => ⟨S8x8, .i32⟩
  | 15 => ⟨S8x8, .i1⟩
  | 16 => ⟨S_, .i32⟩
  | 17 => ⟨S8x8, .i32⟩
  | 18 => ⟨S8x8, .i32⟩
  | 19 => ⟨S8x8, .i32⟩
  | 20 => ⟨S8x8x1, .i32⟩
  | 21 => ⟨S8x8x48x16x16, .f32⟩
  | 22 => ⟨S_, .f32⟩
  | 23 => ⟨S_, .f32⟩
  | 24 => ⟨S8x8x48x16x16, .i1⟩
  | 25 => ⟨S8x8x48x16x16, .f32⟩
  | 26 => ⟨S8x8x48x16x16, .f32⟩
  | 27 => ⟨S8x8x6x8x16x16, .f32⟩
  | 28 => ⟨S6x8x8x16x8x16, .f32⟩
  | 29 => ⟨S6x1024x128, .f32⟩
  | 30 => ⟨S8, .i32⟩
  | 31 => ⟨S_, .i32⟩
  | 32 => ⟨S8, .i32⟩
  | 33 => ⟨S8, .i32⟩
  | 34 => ⟨S_, .i32⟩
  | 35 => ⟨S8, .i32⟩
  | 36 => ⟨S8, .i1⟩
  | 37 => ⟨S_, .i32⟩
  | 38 => ⟨S8, .i32⟩
  | 39 => ⟨S8, .i32⟩
  | 40 => ⟨S8, .i32⟩
  | 41 => ⟨S8x1, .i32⟩
  | 42 => ⟨S8x48x64, .f32⟩
  | 43 => ⟨S8, .i32⟩
  | 44 => ⟨S_, .i32⟩
  | 45 => ⟨S8, .i32⟩
  | 46 => ⟨S8, .i32⟩
  | 47 => ⟨S_, .i32⟩
  | 48 => ⟨S8, .i32⟩
  | 49 => ⟨S8, .i1⟩
  | 50 => ⟨S_, .i32⟩
  | 51 => ⟨S8, .i32⟩
  | 52 => ⟨S8, .i32⟩
  | 53 => ⟨S8, .i32⟩
  | 54 => ⟨S8x1, .i32⟩
  | 55 => ⟨S8x48x64, .f32⟩
  | 56 => ⟨S8x48x64x1, .f32⟩
  | 57 => ⟨S1x48x64x16, .f32⟩
  | 58 => ⟨S8x48x64x16, .f32⟩
  | 59 => ⟨S8x48x64x16, .f32⟩
  | 60 => ⟨S8x48x64x16, .f32⟩
  | 61 => ⟨S8x48x64x1, .f32⟩
  | 62 => ⟨S1x48x64x16, .f32⟩
  | 63 => ⟨S8x48x64x16, .f32⟩
  | 64 => ⟨S8x48x64x16, .f32⟩
  | 65 => ⟨S8x48x64x16, .f32⟩
  | 66 => ⟨S8x48x64x16, .f32⟩
  | 67 => ⟨S8x48x64x1, .f32⟩
  | 68 => ⟨S1x48x64x16, .f32⟩
  | 69 => ⟨S8x48x64x16, .f32⟩
  | 70 => ⟨S8x48x64x16, .f32⟩
  | 71 => ⟨S8x48x64x16, .f32⟩
  | 72 => ⟨S8x48x64x1, .f32⟩
  | 73 => ⟨S1x48x64x16, .f32⟩
  | 74 => ⟨S8x48x64x16, .f32⟩
  | 75 => ⟨S8x48x64x16, .f32⟩
  | 76 => ⟨S8x48x64x16, .f32⟩
  | 77 => ⟨S8x48x64x16, .f32⟩
  | 78 => ⟨S1x8x48x64x16, .f32⟩
  | 79 => ⟨S1x8x48x64x16, .f32⟩
  | 80 => ⟨S2x8x48x64x16, .f32⟩
  | 81 => ⟨S2x8x6x8x64x16, .f32⟩
  | 82 => ⟨S6x8x8x16x2x64, .f32⟩
  | 83 => ⟨S6x1024x128, .f32⟩
  | 84 => ⟨S8x48x64, .f32⟩
  | 85 => ⟨S8x48x64, .f32⟩
  | 86 => ⟨S1x48x16x64, .f32⟩
  | 87 => ⟨S8x48x1x64, .f32⟩
  | 88 => ⟨S8x48x16x64, .f32⟩
  | 89 => ⟨S8x48x16x64, .f32⟩
  | 90 => ⟨S8x48x16x64, .f32⟩
  | 91 => ⟨S1x48x16x64, .f32⟩
  | 92 => ⟨S8x48x1x64, .f32⟩
  | 93 => ⟨S8x48x16x64, .f32⟩
  | 94 => ⟨S8x48x16x64, .f32⟩
  | 95 => ⟨S8x48x16x64, .f32⟩
  | 96 => ⟨S8x48x16x64, .f32⟩
  | 97 => ⟨S1x48x16x64, .f32⟩
  | 98 => ⟨S8x48x1x64, .f32⟩
  | 99 => ⟨S8x48x16x64, .f32⟩
  | 100 => ⟨S8x48x16x64, .f32⟩
  | 101 => ⟨S8x48x16x64, .f32⟩
  | 102 => ⟨S1x48x16x64, .f32⟩
  | 103 => ⟨S8x48x1x64, .f32⟩
  | 104 => ⟨S8x48x16x64, .f32⟩
  | 105 => ⟨S8x48x16x64, .f32⟩
  | 106 => ⟨S8x48x16x64, .f32⟩
  | 107 => ⟨S8x48x16x64, .f32⟩
  | 108 => ⟨S8x48x16x64, .f32⟩
  | 109 => ⟨S1x8x48x16x64, .f32⟩
  | 110 => ⟨S1x8x48x16x64, .f32⟩
  | 111 => ⟨S2x8x48x16x64, .f32⟩
  | 112 => ⟨S2x8x6x8x16x64, .f32⟩
  | 113 => ⟨S6x2x8x64x8x16, .f32⟩
  | 114 => ⟨S6x1024x128, .f32⟩
  | 115 => ⟨S8, .i32⟩
  | 116 => ⟨S_, .i32⟩
  | 117 => ⟨S_, .i32⟩
  | 118 => ⟨S_, .i1⟩
  | 119 => ⟨S_, .i32⟩
  | 120 => ⟨S8, .i32⟩
  | 121 => ⟨S8, .i1⟩
  | 122 => ⟨S8, .i1⟩
  | 123 => ⟨S8, .i1⟩
  | 124 => ⟨S_, .i32⟩
  | 125 => ⟨S_, .i32⟩
  | 126 => ⟨S8, .i32⟩
  | 127 => ⟨S8, .i32⟩
  | _ => ⟨S32768x768, .f32⟩

abbrev hbmTy0_2 (i : Nat) : BufTy := match i % 128 with
  | 0 => ⟨S8, .i32⟩
  | 1 => ⟨S_, .i32⟩
  | 2 => ⟨S8, .i32⟩
  | 3 => ⟨S8, .i32⟩
  | 4 => ⟨S_, .i32⟩
  | 5 => ⟨S8, .i32⟩
  | 6 => ⟨S8, .i32⟩
  | 7 => ⟨S_, .i32⟩
  | 8 => ⟨S8, .i32⟩
  | 9 => ⟨S8, .i1⟩
  | 10 => ⟨S8, .i32⟩
  | 11 => ⟨S_, .i32⟩
  | 12 => ⟨S_, .i32⟩
  | 13 => ⟨S_, .i32⟩
  | 14 => ⟨S_, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S8, .i32⟩
  | 22 => ⟨S_, .i32⟩
  | 23 => ⟨S8, .i32⟩
  | 24 => ⟨S8, .i1⟩
  | 25 => ⟨S8, .i32⟩
  | 26 => ⟨S_, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S8, .i32⟩
  | 34 => ⟨S8, .i32⟩
  | 35 => ⟨S_, .i32⟩
  | 36 => ⟨S8, .i32⟩
  | 37 => ⟨S8, .i1⟩
  | 38 => ⟨S8, .i32⟩
  | 39 => ⟨S_, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S_, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i1⟩
  | 64 => ⟨S8, .i32⟩
  | 65 => ⟨S_, .i32⟩
  | 66 => ⟨S_, .i32⟩
  | 67 => ⟨S8, .i32⟩
  | 68 => ⟨S8, .i32⟩
  | 69 => ⟨S_, .i32⟩
  | 70 => ⟨S8, .i32⟩
  | 71 => ⟨S8, .i32⟩
  | 72 => ⟨S8, .i32⟩
  | 73 => ⟨S8, .i32⟩
  | 74 => ⟨S_, .i32⟩
  | 75 => ⟨S8, .i32⟩
  | 76 => ⟨S8, .i1⟩
  | 77 => ⟨S8, .i32⟩
  | 78 => ⟨S_, .i32⟩
  | 79 => ⟨S_, .i32⟩
  | 80 => ⟨S8, .i32⟩
  | 81 => ⟨S8, .i32⟩
  | 82 => ⟨S_, .i32⟩
  | 83 => ⟨S8, .i32⟩
  | 84 => ⟨S8, .i32⟩
  | 85 => ⟨S8, .f32⟩
  | 86 => ⟨S8x1x1, .f32⟩
  | 87 => ⟨S48x64, .f32⟩
  | 88 => ⟨S48x64, .f32⟩
  | 89 => ⟨S1x48x64, .f32⟩
  | 90 => ⟨S8x48x64, .f32⟩
  | 91 => ⟨S8x48x64, .f32⟩
  | 92 => ⟨S8x48x64, .f32⟩
  | 93 => ⟨S8x48x64, .f32⟩
  | 94 => ⟨S48x64, .f32⟩
  | 95 => ⟨S48x64, .f32⟩
  | 96 => ⟨S1x48x64, .f32⟩
  | 97 => ⟨S8x48x64, .f32⟩
  | 98 => ⟨S8x48x64, .f32⟩
  | 99 => ⟨S8x48x64, .f32⟩
  | 100 => ⟨S8x48x64, .f32⟩
  | 101 => ⟨S8x48x64, .f32⟩
  | 102 => ⟨S48x64, .f32⟩
  | 103 => ⟨S48x64, .f32⟩
  | 104 => ⟨S1x48x64, .f32⟩
  | 105 => ⟨S8x48x64, .f32⟩
  | 106 => ⟨S8x48x64, .f32⟩
  | 107 => ⟨S8x48x64, .f32⟩
  | 108 => ⟨S8x48x64, .f32⟩
  | 109 => ⟨S8x48x64, .f32⟩
  | 110 => ⟨S8x1x48x64, .f32⟩
  | 111 => ⟨S8x1x48x64, .f32⟩
  | 112 => ⟨S8x2x48x64, .f32⟩
  | 113 => ⟨S8x2x6x512, .f32⟩
  | 114 => ⟨S6x8x2x512, .f32⟩
  | 115 => ⟨S6x8x1024, .f32⟩
  | 116 => ⟨S6x1024x128, .bf16⟩
  | 117 => ⟨S6x1024x128, .bf16⟩
  | 118 => ⟨S6x1024x128, .bf16⟩
  | 119 => ⟨S4096x8x768, .f32⟩
  | 120 => ⟨S1024, .i32⟩
  | 121 => ⟨S_, .i32⟩
  | 122 => ⟨S1024, .i32⟩
  | 123 => ⟨S1024, .i32⟩
  | 124 => ⟨S_, .i32⟩
  | 125 => ⟨S1024, .i32⟩
  | 126 => ⟨S1024, .i32⟩
  | 127 => ⟨S_, .i32⟩
  | _ => ⟨S32768x768, .f32⟩

abbrev hbmTy0_3 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i32⟩
  | 6 => ⟨S_, .i32⟩
  | 7 => ⟨S1024, .i32⟩
  | 8 => ⟨S1024, .i32⟩
  | 9 => ⟨S_, .i32⟩
  | 10 => ⟨S1024, .i32⟩
  | 11 => ⟨S1024, .i32⟩
  | 12 => ⟨S1024, .i32⟩
  | 13 => ⟨S128, .i32⟩
  | 14 => ⟨S128x1, .i32⟩
  | 15 => ⟨S1x1024, .i32⟩
  | 16 => ⟨S128x1024, .i32⟩
  | 17 => ⟨S128x1024, .i32⟩
  | 18 => ⟨S128x1024, .i1⟩
  | 19 => ⟨S128, .i32⟩
  | 20 => ⟨S128x1, .i32⟩
  | 21 => ⟨S1x1024, .i32⟩
  | 22 => ⟨S128x1024, .i32⟩
  | 23 => ⟨S128x1024, .i32⟩
  | 24 => ⟨S128x1024, .i1⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i32⟩
  | 37 => ⟨S1024x1, .i32⟩
  | 38 => ⟨S1x1024, .i32⟩
  | 39 => ⟨S1024x1024, .i32⟩
  | 40 => ⟨S1024x1024, .i32⟩
  | 41 => ⟨S1024x1024, .i1⟩
  | 42 => ⟨S1024x1, .i32⟩
  | 43 => ⟨S1x1024, .i32⟩
  | 44 => ⟨S1024x1024, .i32⟩
  | 45 => ⟨S1024x1024, .i32⟩
  | 46 => ⟨S1024x1024, .i1⟩
  | 47 => ⟨S1024x1, .i32⟩
  | 48 => ⟨S1x1024, .i32⟩
  | 49 => ⟨S1024x1024, .i32⟩
  | 50 => ⟨S1024x1024, .i32⟩
  | 51 => ⟨S1024x1024, .i1⟩
  | 52 => ⟨S1x1024x1024, .i1⟩
  | 53 => ⟨S1x1024x1024, .i1⟩
  | 54 => ⟨S1x1024x1024, .i1⟩
  | 55 => ⟨S3x1024x1024, .i1⟩
  | 56 => ⟨S128x1024, .f32⟩
  | 57 => ⟨S128x1024, .bf16⟩
  | 58 => ⟨S128x1024, .f32⟩
  | 59 => ⟨S128x1024, .bf16⟩
  | 60 => ⟨S3x1024x1024, .f32⟩
  | 61 => ⟨S3x1024x1024, .bf16⟩
  | 62 => ⟨S4096x8x768, .f32⟩
  | _ => ⟨S32768x768, .f32⟩

abbrev hbmTy (i : Nat) : BufTy := match i / 128 with
  | 0 => hbmTy0_0 i
  | 1 => hbmTy0_1 i
  | 2 => hbmTy0_2 i
  | 3 => hbmTy0_3 i
  | _ => ⟨S32768x768, .f32⟩

abbrev bufTy : (tb : Table) → Fin (tcTables nBuf tb) → BufTy
  | .hbm, ⟨i, _⟩ => hbmTy i
  | .local _ .vmem, ⟨0, _⟩ => ⟨S256x8x128, .f32⟩
  | .local _ .vmem, ⟨1, _⟩ => ⟨S256x8x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x8x1024, .f32⟩
  | .local _ .vmem, ⟨9, _⟩ => ⟨S1x8x1024, .f32⟩
  | .local _ .vmem, ⟨10, _⟩ => ⟨S128x1024, .bf16⟩
  | .local _ .vmem, ⟨11, _⟩ => ⟨S128x1024, .bf16⟩
  | .local _ .vmem, ⟨12, _⟩ => ⟨S3x1024x1024, .bf16⟩
  | .local _ .vmem, ⟨13, _⟩ => ⟨S256x8x128, .f32⟩
  | .local _ .vmem, ⟨14, _⟩ => ⟨S256x8x128, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_c : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_c_0 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_c_1 : Ref sig .tc := ⟨.hbm, 129, rfl⟩
abbrev main_c_2 : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_c_3 : Ref sig .tc := ⟨.hbm, 141, rfl⟩
abbrev main_v122 : Ref sig .tc := ⟨.hbm, 142, rfl⟩
abbrev main_v123 : Ref sig .tc := ⟨.hbm, 143, rfl⟩
abbrev main_c_4 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_5 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_c_6 : Ref sig .tc := ⟨.hbm, 159, rfl⟩
abbrev main_v134 : Ref sig .tc := ⟨.hbm, 160, rfl⟩
abbrev main_v135 : Ref sig .tc := ⟨.hbm, 161, rfl⟩
abbrev main_c_7 : Ref sig .tc := ⟨.hbm, 162, rfl⟩
abbrev main_v136 : Ref sig .tc := ⟨.hbm, 163, rfl⟩
abbrev main_v137 : Ref sig .tc := ⟨.hbm, 164, rfl⟩
abbrev main_c_8 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_c_9 : Ref sig .tc := ⟨.hbm, 172, rfl⟩
abbrev main_v144 : Ref sig .tc := ⟨.hbm, 173, rfl⟩
abbrev main_v145 : Ref sig .tc := ⟨.hbm, 174, rfl⟩
abbrev main_c_10 : Ref sig .tc := ⟨.hbm, 175, rfl⟩
abbrev main_v146 : Ref sig .tc := ⟨.hbm, 176, rfl⟩
abbrev main_v147 : Ref sig .tc := ⟨.hbm, 177, rfl⟩
abbrev main_c_11 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_c_12 : Ref sig .tc := ⟨.hbm, 244, rfl⟩
abbrev main_c_13 : Ref sig .tc := ⟨.hbm, 245, rfl⟩
abbrev main_v213 : Ref sig .tc := ⟨.hbm, 246, rfl⟩
abbrev main_c_14 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_c_15 : Ref sig .tc := ⟨.hbm, 252, rfl⟩
abbrev main_c_16 : Ref sig .tc := ⟨.hbm, 253, rfl⟩
abbrev main_call2_v0 : Ref sig .tc := ⟨.hbm, 254, rfl⟩
abbrev main_call2_v1 : Ref sig .tc := ⟨.hbm, 255, rfl⟩
abbrev main_v218 : Ref sig .tc := ⟨.hbm, 256, rfl⟩
abbrev main_c_17 : Ref sig .tc := ⟨.hbm, 257, rfl⟩
abbrev main_v219 : Ref sig .tc := ⟨.hbm, 258, rfl⟩
abbrev main_v220 : Ref sig .tc := ⟨.hbm, 259, rfl⟩
abbrev main_c_18 : Ref sig .tc := ⟨.hbm, 260, rfl⟩
abbrev main_v221 : Ref sig .tc := ⟨.hbm, 261, rfl⟩
abbrev main_v222 : Ref sig .tc := ⟨.hbm, 262, rfl⟩
abbrev main_call3_c : Ref sig .tc := ⟨.hbm, 263, rfl⟩
abbrev main_call3_v0 : Ref sig .tc := ⟨.hbm, 264, rfl⟩
abbrev main_call3_v1 : Ref sig .tc := ⟨.hbm, 265, rfl⟩
abbrev main_v223 : Ref sig .tc := ⟨.hbm, 266, rfl⟩
abbrev main_c_19 : Ref sig .tc := ⟨.hbm, 267, rfl⟩
abbrev main_c_20 : Ref sig .tc := ⟨.hbm, 268, rfl⟩
abbrev main_v224 : Ref sig .tc := ⟨.hbm, 269, rfl⟩
abbrev main_c_21 : Ref sig .tc := ⟨.hbm, 270, rfl⟩
abbrev main_v225 : Ref sig .tc := ⟨.hbm, 271, rfl⟩
abbrev main_v226 : Ref sig .tc := ⟨.hbm, 272, rfl⟩
abbrev main_c_22 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_call4_c : Ref sig .tc := ⟨.hbm, 278, rfl⟩
abbrev main_call4_v0 : Ref sig .tc := ⟨.hbm, 279, rfl⟩
abbrev main_call4_v1 : Ref sig .tc := ⟨.hbm, 280, rfl⟩
abbrev main_v231 : Ref sig .tc := ⟨.hbm, 281, rfl⟩
abbrev main_v232 : Ref sig .tc := ⟨.hbm, 282, rfl⟩
abbrev main_c_23 : Ref sig .tc := ⟨.hbm, 283, rfl⟩
abbrev main_v233 : Ref sig .tc := ⟨.hbm, 284, rfl⟩
abbrev main_v234 : Ref sig .tc := ⟨.hbm, 285, rfl⟩
abbrev main_c_24 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_call5_c : Ref sig .tc := ⟨.hbm, 291, rfl⟩
abbrev main_call5_v0 : Ref sig .tc := ⟨.hbm, 292, rfl⟩
abbrev main_call5_v1 : Ref sig .tc := ⟨.hbm, 293, rfl⟩
abbrev main_v239 : Ref sig .tc := ⟨.hbm, 294, rfl⟩
abbrev main_v240 : Ref sig .tc := ⟨.hbm, 295, rfl⟩
abbrev main_c_25 : Ref sig .tc := ⟨.hbm, 296, rfl⟩
abbrev main_v241 : Ref sig .tc := ⟨.hbm, 297, rfl⟩
abbrev main_v242 : Ref sig .tc := ⟨.hbm, 298, rfl⟩
abbrev main_c_26 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_call6_c : Ref sig .tc := ⟨.hbm, 304, rfl⟩
abbrev main_call6_v0 : Ref sig .tc := ⟨.hbm, 305, rfl⟩
abbrev main_call6_v1 : Ref sig .tc := ⟨.hbm, 306, rfl⟩
abbrev main_v247 : Ref sig .tc := ⟨.hbm, 307, rfl⟩
abbrev main_v248 : Ref sig .tc := ⟨.hbm, 308, rfl⟩
abbrev main_c_27 : Ref sig .tc := ⟨.hbm, 309, rfl⟩
abbrev main_v249 : Ref sig .tc := ⟨.hbm, 310, rfl⟩
abbrev main_v250 : Ref sig .tc := ⟨.hbm, 311, rfl⟩
abbrev main_c_28 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_call7_c : Ref sig .tc := ⟨.hbm, 317, rfl⟩
abbrev main_call7_v0 : Ref sig .tc := ⟨.hbm, 318, rfl⟩
abbrev main_call7_v1 : Ref sig .tc := ⟨.hbm, 319, rfl⟩
abbrev main_v255 : Ref sig .tc := ⟨.hbm, 320, rfl⟩
abbrev main_v256 : Ref sig .tc := ⟨.hbm, 321, rfl⟩
abbrev main_c_29 : Ref sig .tc := ⟨.hbm, 322, rfl⟩
abbrev main_v257 : Ref sig .tc := ⟨.hbm, 323, rfl⟩
abbrev main_v258 : Ref sig .tc := ⟨.hbm, 324, rfl⟩
abbrev main_c_30 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_call8_c : Ref sig .tc := ⟨.hbm, 330, rfl⟩
abbrev main_call8_v0 : Ref sig .tc := ⟨.hbm, 331, rfl⟩
abbrev main_call8_v1 : Ref sig .tc := ⟨.hbm, 332, rfl⟩
abbrev main_v263 : Ref sig .tc := ⟨.hbm, 333, rfl⟩
abbrev main_v264 : Ref sig .tc := ⟨.hbm, 334, rfl⟩
abbrev main_c_31 : Ref sig .tc := ⟨.hbm, 335, rfl⟩
abbrev main_v265 : Ref sig .tc := ⟨.hbm, 336, rfl⟩
abbrev main_v266 : Ref sig .tc := ⟨.hbm, 337, rfl⟩
abbrev main_c_32 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_c_33 : Ref sig .tc := ⟨.hbm, 377, rfl⟩
abbrev main_v305 : Ref sig .tc := ⟨.hbm, 378, rfl⟩
abbrev main_v306 : Ref sig .tc := ⟨.hbm, 379, rfl⟩
abbrev main_c_34 : Ref sig .tc := ⟨.hbm, 380, rfl⟩
abbrev main_v307 : Ref sig .tc := ⟨.hbm, 381, rfl⟩
abbrev main_v308 : Ref sig .tc := ⟨.hbm, 382, rfl⟩
abbrev main_c_35 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_c_36 : Ref sig .tc := ⟨.hbm, 387, rfl⟩
abbrev main_v312 : Ref sig .tc := ⟨.hbm, 388, rfl⟩
abbrev main_v313 : Ref sig .tc := ⟨.hbm, 389, rfl⟩
abbrev main_c_37 : Ref sig .tc := ⟨.hbm, 390, rfl⟩
abbrev main_v314 : Ref sig .tc := ⟨.hbm, 391, rfl⟩
abbrev main_v315 : Ref sig .tc := ⟨.hbm, 392, rfl⟩
abbrev main_c_38 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_c_39 : Ref sig .tc := ⟨.hbm, 409, rfl⟩
abbrev main_v331 : Ref sig .tc := ⟨.hbm, 410, rfl⟩
abbrev main_v332 : Ref sig .tc := ⟨.hbm, 411, rfl⟩
abbrev main_c_40 : Ref sig .tc := ⟨.hbm, 412, rfl⟩
abbrev main_v333 : Ref sig .tc := ⟨.hbm, 413, rfl⟩
abbrev main_v334 : Ref sig .tc := ⟨.hbm, 414, rfl⟩
abbrev main_c_41 : Ref sig .tc := ⟨.hbm, 415, rfl⟩
abbrev main_v335 : Ref sig .tc := ⟨.hbm, 416, rfl⟩
abbrev main_v336 : Ref sig .tc := ⟨.hbm, 417, rfl⟩
abbrev main_c_42 : Ref sig .tc := ⟨.hbm, 418, rfl⟩
abbrev main_v337 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 6, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat, arg1.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference2Ideal.lean ====
abbrev S32768x768 : Shape := ⟨2, ![32768, 768]⟩
abbrev S48x64 : Shape := ⟨2, ![48, 64]⟩
abbrev S48 : Shape := ⟨1, ![48]⟩
abbrev S48x64x16 : Shape := ⟨3, ![48, 64, 16]⟩
abbrev S48x16x64 : Shape := ⟨3, ![48, 16, 64]⟩
abbrev S48x16 : Shape := ⟨2, ![48, 16]⟩
abbrev S2x16384x48x16 : Shape := ⟨4, ![2, 16384, 48, 16]⟩
abbrev S48x1 : Shape := ⟨2, ![48, 1]⟩
abbrev S_ : Shape := ⟨0, ![]⟩
abbrev S48x64x1 : Shape := ⟨3, ![48, 64, 1]⟩
abbrev S2x48x64 : Shape := ⟨3, ![2, 48, 64]⟩
abbrev S16384x2x48x16 : Shape := ⟨4, ![16384, 2, 48, 16]⟩
abbrev S1x2x48x16 : Shape := ⟨4, ![1, 2, 48, 16]⟩
abbrev S2x48x16 : Shape := ⟨3, ![2, 48, 16]⟩
abbrev S48x64x2 : Shape := ⟨3, ![48, 64, 2]⟩
abbrev S1x48x64 : Shape := ⟨3, ![1, 48, 64]⟩
abbrev S48x2x16 : Shape := ⟨3, ![48, 2, 16]⟩
abbrev S1x48x16 : Shape := ⟨3, ![1, 48, 16]⟩
abbrev S4096x8x768 : Shape := ⟨3, ![4096, 8, 768]⟩

abbrev nBuf : Space → Nat
  | .hbm => 116
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S48x64, .f32⟩
  | .hbm, ⟨2, _⟩ => ⟨S48x64, .f32⟩
  | .hbm, ⟨3, _⟩ => ⟨S48, .f32⟩
  | .hbm, ⟨4, _⟩ => ⟨S48x64x16, .f32⟩
  | .hbm, ⟨5, _⟩ => ⟨S48x64x16, .f32⟩
  | .hbm, ⟨6, _⟩ => ⟨S48x16x64, .f32⟩
  | .hbm, ⟨7, _⟩ => ⟨S48x16x64, .f32⟩
  | .hbm, ⟨8, _⟩ => ⟨S48x16, .f32⟩
  | .hbm, ⟨9, _⟩ => ⟨S2x16384x48x16, .f32⟩
  | .hbm, ⟨10, _⟩ => ⟨S48, .f32⟩
  | .hbm, ⟨11, _⟩ => ⟨S48x1, .f32⟩
  | .hbm, ⟨12, _⟩ => ⟨S48x64, .f32⟩
  | .hbm, ⟨13, _⟩ => ⟨S48x64, .f32⟩
  | .hbm, ⟨14, _⟩ => ⟨S48x64, .f32⟩
  | .hbm, ⟨15, _⟩ => ⟨S48x64, .f32⟩
  | .hbm, ⟨16, _⟩ => ⟨S48x64, .f32⟩
  | .hbm, ⟨17, _⟩ => ⟨S48x64, .f32⟩
  | .hbm, ⟨18, _⟩ => ⟨S48x64, .f32⟩
  | .hbm, ⟨19, _⟩ => ⟨S48x64, .f32⟩
  | .hbm, ⟨20, _⟩ => ⟨S48x64, .f32⟩
  | .hbm, ⟨21, _⟩ => ⟨S48x64, .f32⟩
  | .hbm, ⟨22, _⟩ => ⟨S48x64, .f32⟩
  | .hbm, ⟨23, _⟩ => ⟨S48x64, .f32⟩
  | .hbm, ⟨24, _⟩ => ⟨S48x64, .f32⟩
  | .hbm, ⟨25, _⟩ => ⟨S48x64, .f32⟩
  | .hbm, ⟨26, _⟩ => ⟨S_, .f32⟩
  | .hbm, ⟨27, _⟩ => ⟨S48x64, .f32⟩
  | .hbm, ⟨28, _⟩ => ⟨S48x64, .f32⟩
  | .hbm, ⟨29, _⟩ => ⟨S48x64, .f32⟩
  | .hbm, ⟨30, _⟩ => ⟨S48x64, .f32⟩
  | .hbm, ⟨31, _⟩ => ⟨S48x64, .f32⟩
  | .hbm, ⟨32, _⟩ => ⟨S48x64, .f32⟩
  | .hbm, ⟨33, _⟩ => ⟨S48x64, .f32⟩
  | .hbm, ⟨34, _⟩ => ⟨S48x64, .f32⟩
  | .hbm, ⟨35, _⟩ => ⟨S48x64, .f32⟩
  | .hbm, ⟨36, _⟩ => ⟨S48x64, .f32⟩
  | .hbm, ⟨37, _⟩ => ⟨S48x64x1, .f32⟩
  | .hbm, ⟨38, _⟩ => ⟨S48x64x16, .f32⟩
  | .hbm, ⟨39, _⟩ => ⟨S48x64x16, .f32⟩
  | .hbm, ⟨40, _⟩ => ⟨S48x64x1, .f32⟩
  | .hbm, ⟨41, _⟩ => ⟨S48x64x16, .f32⟩
  | .hbm, ⟨42, _⟩ => ⟨S48x64x16, .f32⟩
  | .hbm, ⟨43, _⟩ => ⟨S48x64x16, .f32⟩
  | .hbm, ⟨44, _⟩ => ⟨S48x64x1, .f32⟩
  | .hbm, ⟨45, _⟩ => ⟨S48x64x16, .f32⟩
  | .hbm, ⟨46, _⟩ => ⟨S48x64x16, .f32⟩
  | .hbm, ⟨47, _⟩ => ⟨S48x64x1, .f32⟩
  | .hbm, ⟨48, _⟩ => ⟨S48x64x16, .f32⟩
  | .hbm, ⟨49, _⟩ => ⟨S48x64x16, .f32⟩
  | .hbm, ⟨50, _⟩ => ⟨S48x64x16, .f32⟩
  | .hbm, ⟨51, _⟩ => ⟨S_, .f32⟩
  | .hbm, ⟨52, _⟩ => ⟨S2x48x64, .f32⟩
  | .hbm, ⟨53, _⟩ => ⟨S_, .f32⟩
  | .hbm, ⟨54, _⟩ => ⟨S2x48x64, .f32⟩
  | .hbm, ⟨55, _⟩ => ⟨S16384x2x48x16, .f32⟩
  | .hbm, ⟨56, _⟩ => ⟨S_, .f32⟩
  | .hbm, ⟨57, _⟩ => ⟨S16384x2x48x16, .f32⟩
  | .hbm, ⟨58, _⟩ => ⟨S_, .i32⟩
  | .hbm, ⟨59, _⟩ => ⟨S16384x2x48x16, .f32⟩
  | .hbm, ⟨60, _⟩ => ⟨S48x64x16, .f32⟩
  | .hbm, ⟨61, _⟩ => ⟨S48x64x16, .f32⟩
  | .hbm, ⟨62, _⟩ => ⟨S48x64, .f32⟩
  | .hbm, ⟨63, _⟩ => ⟨S48x64, .f32⟩
  | .hbm, ⟨64, _⟩ => ⟨S48x16x64, .f32⟩
  | .hbm, ⟨65, _⟩ => ⟨S48x16x64, .f32⟩
  | .hbm, ⟨66, _⟩ => ⟨S48x16, .f32⟩
  | .hbm, ⟨67, _⟩ => ⟨S_, .i32⟩
  | .hbm, ⟨68, _⟩ => ⟨S2x48x64, .f32⟩
  | .hbm, ⟨69, _⟩ => ⟨S2x48x64, .f32⟩
  | .hbm, ⟨70, _⟩ => ⟨S16384x2x48x16, .f32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x2x48x16, .f32⟩
  | .hbm, ⟨77, _⟩ => ⟨S2x48x16, .f32⟩
  | .hbm, ⟨78, _⟩ => ⟨S48x64x2, .f32⟩
  | .hbm, ⟨79, _⟩ => ⟨S2x48x64, .f32⟩
  | .hbm, ⟨80, _⟩ => ⟨S48x64x2, .f32⟩
  | .hbm, ⟨81, _⟩ => ⟨S2x48x64, .f32⟩
  | .hbm, ⟨82, _⟩ => ⟨S1x48x64, .f32⟩
  | .hbm, ⟨83, _⟩ => ⟨S2x48x64, .f32⟩
  | .hbm, ⟨84, _⟩ => ⟨S2x48x64, .f32⟩
  | .hbm, ⟨85, _⟩ => ⟨S1x48x64, .f32⟩
  | .hbm, ⟨86, _⟩ => ⟨S2x48x64, .f32⟩
  | .hbm, ⟨87, _⟩ => ⟨S2x48x64, .f32⟩
  | .hbm, ⟨88, _⟩ => ⟨S2x48x64, .f32⟩
  | .hbm, ⟨89, _⟩ => ⟨S2x48x64, .f32⟩
  | .hbm, ⟨90, _⟩ => ⟨S1x48x64, .f32⟩
  | .hbm, ⟨91, _⟩ => ⟨S2x48x64, .f32⟩
  | .hbm, ⟨92, _⟩ => ⟨S2x48x64, .f32⟩
  | .hbm, ⟨93, _⟩ => ⟨S1x48x64, .f32⟩
  | .hbm, ⟨94, _⟩ => ⟨S2x48x64, .f32⟩
  | .hbm, ⟨95, _⟩ => ⟨S2x48x64, .f32⟩
  | .hbm, ⟨96, _⟩ => ⟨S2x48x64, .f32⟩
  | .hbm, ⟨97, _⟩ => ⟨S2x48x64, .f32⟩
  | .hbm, ⟨98, _⟩ => ⟨S48x2x16, .f32⟩
  | .hbm, ⟨99, _⟩ => ⟨S2x48x16, .f32⟩
  | .hbm, ⟨100, _⟩ => ⟨S48x2x16, .f32⟩
  | .hbm, ⟨101, _⟩ => ⟨S2x48x16, .f32⟩
  | .hbm, ⟨102, _⟩ => ⟨S2x48x16, .f32⟩
  | .hbm, ⟨103, _⟩ => ⟨S1x48x16, .f32⟩
  | .hbm, ⟨104, _⟩ => ⟨S2x48x16, .f32⟩
  | .hbm, ⟨105, _⟩ => ⟨S2x48x16, .f32⟩
  | .hbm, ⟨106, _⟩ => ⟨S2x48x16, .f32⟩
  | .hbm, ⟨107, _⟩ => ⟨S1x2x48x16, .f32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S16384x2x48x16, .f32⟩
  | .hbm, ⟨112, _⟩ => ⟨S_, .i32⟩
  | .hbm, ⟨113, _⟩ => ⟨S_, .i32⟩
  | .hbm, ⟨114, _⟩ => ⟨S2x16384x48x16, .f32⟩
  | .hbm, ⟨115, _⟩ => ⟨S4096x8x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_c : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev main_v45_3 : Ref sig .tc := ⟨.hbm, 62, rfl⟩
abbrev main_v45_4 : Ref sig .tc := ⟨.hbm, 63, rfl⟩
abbrev main_v45_5 : Ref sig .tc := ⟨.hbm, 64, rfl⟩
abbrev main_v45_6 : Ref sig .tc := ⟨.hbm, 65, rfl⟩
abbrev main_v45_7 : Ref sig .tc := ⟨.hbm, 66, rfl⟩
abbrev main_v45_8 : Ref sig .tc := ⟨.hbm, 67, rfl⟩
abbrev main_v45_9 : Ref sig .tc := ⟨.hbm, 68, rfl⟩
abbrev main_v45_10 : Ref sig .tc := ⟨.hbm, 69, rfl⟩
abbrev main_v45_11 : Ref sig .tc := ⟨.hbm, 70, rfl⟩
abbrev main_while0c_c_14 : Ref sig .tc := ⟨.hbm, 71, rfl⟩
abbrev main_while0c_v48 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_v75 : Ref sig .tc := ⟨.hbm, 104, rfl⟩
abbrev main_while0b_v76 : Ref sig .tc := ⟨.hbm, 105, rfl⟩
abbrev main_while0b_v77 : Ref sig .tc := ⟨.hbm, 106, rfl⟩
abbrev main_while0b_call1_v0 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_c_1 : Ref sig .tc := ⟨.hbm, 110, rfl⟩
abbrev main_while0b_v78 : Ref sig .tc := ⟨.hbm, 111, rfl⟩
abbrev main_while0b_c_14 : Ref sig .tc := ⟨.hbm, 112, rfl⟩
abbrev main_while0b_v79 : Ref sig .tc := ⟨.hbm, 113, rfl⟩
abbrev main_v46 : Ref sig .tc := ⟨.hbm, 114, rfl⟩
abbrev main_v47 : Ref sig .tc := ⟨.hbm, 115, rfl⟩

abbrev nD : Nat := 1
abbrev τ : Topo := Topo.v7x

variable {F : FTy → Type} [FloatOps F]

abbrev main_while0_count : Scf.Loop 32 := ⟨0#32, 16384#32, 1#32⟩
-- ==== Kernel3.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S2x256x512 : Shape := ⟨3, ![2, 256, 512]⟩
abbrev S768x768 : Shape := ⟨2, ![768, 768]⟩
abbrev S1024x1024 : Shape := ⟨2, ![1024, 1024]⟩
abbrev S32768x1024 : Shape := ⟨2, ![32768, 1024]⟩
abbrev S32768x768 : Shape := ⟨2, ![32768, 768]⟩
abbrev S32768x256 : Shape := ⟨2, ![32768, 256]⟩
abbrev S512x512 : Shape := ⟨2, ![512, 512]⟩
abbrev S1024x768 : Shape := ⟨2, ![1024, 768]⟩
abbrev S1024x256 : Shape := ⟨2, ![1024, 256]⟩
abbrev S256x256 : Shape := ⟨2, ![256, 256]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩

abbrev nBuf : Space → Nat
  | .hbm => 15
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x256, .f32⟩
  | .hbm, ⟨3, _⟩ => ⟨S2x256x512, .f32⟩
  | .hbm, ⟨4, _⟩ => ⟨S768x768, .f32⟩
  | .hbm, ⟨5, _⟩ => ⟨S1024x1024, .f32⟩
  | .hbm, ⟨6, _⟩ => ⟨S32768x1024, .f32⟩
  | .hbm, ⟨7, _⟩ => ⟨S32768x768, .f32⟩
  | .hbm, ⟨8, _⟩ => ⟨S32768x256, .f32⟩
  | .hbm, ⟨9, _⟩ => ⟨S32768x256, .bf16⟩
  | .hbm, ⟨10, _⟩ => ⟨S512x512, .f32⟩
  | .hbm, ⟨11, _⟩ => ⟨S512x512, .bf16⟩
  | .hbm, ⟨12, _⟩ => ⟨S768x768, .bf16⟩
  | .hbm, ⟨13, _⟩ => ⟨S1024x1024, .bf16⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .f32⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S768x768, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S2x256x512 : Shape := ⟨3, ![2, 256, 512]⟩
abbrev S768x768 : Shape := ⟨2, ![768, 768]⟩
abbrev S1024x1024 : Shape := ⟨2, ![1024, 1024]⟩
abbrev S_ : Shape := ⟨0, ![]⟩
abbrev S2x256x256 : Shape := ⟨3, ![2, 256, 256]⟩
abbrev S2x256x4x64 : Shape := ⟨4, ![2, 256, 4, 64]⟩
abbrev S2x16384x4x64 : Shape := ⟨4, ![2, 16384, 4, 64]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x256, .f32⟩
  | .hbm, ⟨3, _⟩ => ⟨S2x256x512, .f32⟩
  | .hbm, ⟨4, _⟩ => ⟨S768x768, .f32⟩
  | .hbm, ⟨5, _⟩ => ⟨S1024x1024, .f32⟩
  | .hbm, ⟨6, _⟩ => ⟨S2x16384x768, .f32⟩
  | .hbm, ⟨7, _⟩ => ⟨S2x16384x768, .f32⟩
  | .hbm, ⟨8, _⟩ => ⟨S_, .f32⟩
  | .hbm, ⟨9, _⟩ => ⟨S2x16384x768, .f32⟩
  | .hbm, ⟨10, _⟩ => ⟨S2x16384x768, .f32⟩
  | .hbm, ⟨11, _⟩ => ⟨S2x16384x768, .f32⟩
  | .hbm, ⟨12, _⟩ => ⟨S_, .f32⟩
  | .hbm, ⟨13, _⟩ => ⟨S2x16384x768, .f32⟩
  | .hbm, ⟨14, _⟩ => ⟨S2x16384x768, .f32⟩
  | .hbm, ⟨15, _⟩ => ⟨S2x16384x768, .f32⟩
  | .hbm, ⟨16, _⟩ => ⟨S_, .f32⟩
  | .hbm, ⟨17, _⟩ => ⟨S2x16384x768, .f32⟩
  | .hbm, ⟨18, _⟩ => ⟨S2x16384x768, .f32⟩
  | .hbm, ⟨19, _⟩ => ⟨S_, .f32⟩
  | .hbm, ⟨20, _⟩ => ⟨S2x16384x768, .f32⟩
  | .hbm, ⟨21, _⟩ => ⟨S2x16384x768, .f32⟩
  | .hbm, ⟨22, _⟩ => ⟨S2x16384x768, .f32⟩
  | .hbm, ⟨23, _⟩ => ⟨S2x16384x768, .f32⟩
  | .hbm, ⟨24, _⟩ => ⟨S2x16384x768, .f32⟩
  | .hbm, ⟨25, _⟩ => ⟨S2x16384x768, .f32⟩
  | .hbm, ⟨26, _⟩ => ⟨S_, .f32⟩
  | .hbm, ⟨27, _⟩ => ⟨S2x16384x768, .f32⟩
  | .hbm, ⟨28, _⟩ => ⟨S2x16384x768, .f32⟩
  | .hbm, ⟨29, _⟩ => ⟨S_, .f32⟩
  | .hbm, ⟨30, _⟩ => ⟨S2x16384x768, .f32⟩
  | .hbm, ⟨31, _⟩ => ⟨S2x16384x768, .f32⟩
  | .hbm, ⟨32, _⟩ => ⟨S2x16384x768, .f32⟩
  | .hbm, ⟨33, _⟩ => ⟨S2x256x256, .f32⟩
  | .hbm, ⟨34, _⟩ => ⟨S2x256x4x64, .f32⟩
  | .hbm, ⟨35, _⟩ => ⟨S2x256x256, .f32⟩
  | .hbm, ⟨36, _⟩ => ⟨S2x256x4x64, .f32⟩
  | .hbm, ⟨37, _⟩ => ⟨S2x16384x4x64, .f32⟩
  | .hbm, ⟨38, _⟩ => ⟨S2x4x16384x256, .f32⟩
  | .hbm, ⟨39, _⟩ => ⟨S_, .f32⟩
  | .hbm, ⟨40, _⟩ => ⟨S2x4x16384x256, .f32⟩
  | .hbm, ⟨41, _⟩ => ⟨S2x4x16384x256, .f32⟩
  | .hbm, ⟨42, _⟩ => ⟨S_, .f32⟩
  | .hbm, ⟨43, _⟩ => ⟨S2x4x16384, .f32⟩
  | .hbm, ⟨44, _⟩ => ⟨S_, .f32⟩
  | .hbm, ⟨45, _⟩ => ⟨S2x4x16384, .f32⟩
  | .hbm, ⟨46, _⟩ => ⟨S2x4x16384, .f32⟩
  | .hbm, ⟨47, _⟩ => ⟨S2x4x16384x1, .f32⟩
  | .hbm, ⟨48, _⟩ => ⟨S2x4x16384x256, .f32⟩
  | .hbm, ⟨49, _⟩ => ⟨S2x4x16384x256, .f32⟩
  | .hbm, ⟨50, _⟩ => ⟨S2x4x16384x256, .f32⟩
  | .hbm, ⟨51, _⟩ => ⟨S_, .f32⟩
  | .hbm, ⟨52, _⟩ => ⟨S2x4x16384, .f32⟩
  | .hbm, ⟨53, _⟩ => ⟨S2x4x16384x1, .f32⟩
  | .hbm, ⟨54, _⟩ => ⟨S2x4x16384x256, .f32⟩
  | .hbm, ⟨55, _⟩ => ⟨S2x4x16384x256, .f32⟩
  | .hbm, ⟨56, _⟩ => ⟨S2x4x64x16384, .f32⟩
  | .hbm, ⟨57, _⟩ => ⟨S2x16384x4x64, .f32⟩
  | .hbm, ⟨58, _⟩ => ⟨S2x16384x256, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S2x256x512 : Shape := ⟨3, ![2, 256, 512]⟩
abbrev S1024x1024 : Shape := ⟨2, ![1024, 1024]⟩
abbrev S32768x1024 : Shape := ⟨2, ![32768, 1024]⟩
abbrev S32768x768 : Shape := ⟨2, ![32768, 768]⟩
abbrev S32768x256 : Shape := ⟨2, ![32768, 256]⟩
abbrev S512x512 : Shape := ⟨2, ![512, 512]⟩
abbrev S1024x768 : Shape := ⟨2, ![1024, 768]⟩
abbrev S1024x256 : Shape := ⟨2, ![1024, 256]⟩
abbrev S256x256 : Shape := ⟨2, ![256, 256]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x256, .f32⟩
  | .hbm, ⟨3, _⟩ => ⟨S2x256x512, .f32⟩
  | .hbm, ⟨4, _⟩ => ⟨S1024x1024, .f32⟩
  | .hbm, ⟨5, _⟩ => ⟨S32768x1024, .f32⟩
  | .hbm, ⟨6, _⟩ => ⟨S32768x768, .f32⟩
  | .hbm, ⟨7, _⟩ => ⟨S32768x768, .bf16⟩
  | .hbm, ⟨8, _⟩ => ⟨S32768x256, .f32⟩
  | .hbm, ⟨9, _⟩ => ⟨S32768x256, .bf16⟩
  | .hbm, ⟨10, _⟩ => ⟨S512x512, .f32⟩
  | .hbm, ⟨11, _⟩ => ⟨S512x512, .bf16⟩
  | .hbm, ⟨12, _⟩ => ⟨S1024x1024, .bf16⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S2x256x512 : Shape := ⟨3, ![2, 256, 512]⟩
abbrev S1024x1024 : Shape := ⟨2, ![1024, 1024]⟩
abbrev S2x256x256 : Shape := ⟨3, ![2, 256, 256]⟩
abbrev S2x256x4x64 : Shape := ⟨4, ![2, 256, 4, 64]⟩
abbrev S2x16384x4x64 : Shape := ⟨4, ![2, 16384, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x256, .f32⟩
  | .hbm, ⟨3, _⟩ => ⟨S2x256x512, .f32⟩
  | .hbm, ⟨4, _⟩ => ⟨S1024x1024, .f32⟩
  | .hbm, ⟨5, _⟩ => ⟨S2x256x256, .f32⟩
  | .hbm, ⟨6, _⟩ => ⟨S2x256x4x64, .f32⟩
  | .hbm, ⟨7, _⟩ => ⟨S2x256x256, .f32⟩
  | .hbm, ⟨8, _⟩ => ⟨S2x256x4x64, .f32⟩
  | .hbm, ⟨9, _⟩ => ⟨S2x16384x4x64, .f32⟩
  | .hbm, ⟨10, _⟩ => ⟨S2x4x16384x256, .f32⟩
  | .hbm, ⟨11, _⟩ => ⟨S_, .f32⟩
  | .hbm, ⟨12, _⟩ => ⟨S2x4x16384x256, .f32⟩
  | .hbm, ⟨13, _⟩ => ⟨S2x4x16384x256, .f32⟩
  | .hbm, ⟨14, _⟩ => ⟨S_, .f32⟩
  | .hbm, ⟨15, _⟩ => ⟨S2x4x16384, .f32⟩
  | .hbm, ⟨16, _⟩ => ⟨S_, .f32⟩
  | .hbm, ⟨17, _⟩ => ⟨S2x4x16384, .f32⟩
  | .hbm, ⟨18, _⟩ => ⟨S2x4x16384, .f32⟩
  | .hbm, ⟨19, _⟩ => ⟨S2x4x16384x1, .f32⟩
  | .hbm, ⟨20, _⟩ => ⟨S2x4x16384x256, .f32⟩
  | .hbm, ⟨21, _⟩ => ⟨S2x4x16384x256, .f32⟩
  | .hbm, ⟨22, _⟩ => ⟨S2x4x16384x256, .f32⟩
  | .hbm, ⟨23, _⟩ => ⟨S_, .f32⟩
  | .hbm, ⟨24, _⟩ => ⟨S2x4x16384, .f32⟩
  | .hbm, ⟨25, _⟩ => ⟨S2x4x16384x1, .f32⟩
  | .hbm, ⟨26, _⟩ => ⟨S2x4x16384x256, .f32⟩
  | .hbm, ⟨27, _⟩ => ⟨S2x4x16384x256, .f32⟩
  | .hbm, ⟨28, _⟩ => ⟨S2x4x64x16384, .f32⟩
  | .hbm, ⟨29, _⟩ => ⟨S2x16384x4x64, .f32⟩
  | .hbm, ⟨30, _⟩ => ⟨S2x16384x256, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x1024 : Shape := ⟨2, ![1024, 1024]⟩
abbrev S32768x1024 : Shape := ⟨2, ![32768, 1024]⟩
abbrev S1x1024 : Shape := ⟨2, ![1, 1024]⟩
abbrev S32768x768 : Shape := ⟨2, ![32768, 768]⟩
abbrev S32768x256 : Shape := ⟨2, ![32768, 256]⟩
abbrev S1024x768 : Shape := ⟨2, ![1024, 768]⟩
abbrev S1024x256 : Shape := ⟨2, ![1024, 256]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1024, .f32⟩
  | .hbm, ⟨3, _⟩ => ⟨S32768x1024, .f32⟩
  | .hbm, ⟨4, _⟩ => ⟨S1024x1024, .bf16⟩
  | .hbm, ⟨5, _⟩ => ⟨S1x1024, .f32⟩
  | .hbm, ⟨6, _⟩ => ⟨S32768x768, .f32⟩
  | .hbm, ⟨7, _⟩ => ⟨S32768x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x768, .f32⟩
  | .local _ .vmem, ⟨5, _⟩ => ⟨S1024x768, .f32⟩
  | .local _ .vmem, ⟨6, _⟩ => ⟨S1024x256, .bf16⟩
  | .local _ .vmem, ⟨7, _⟩ => ⟨S1024x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x16384x1024 : Shape := ⟨3, ![2, 16384, 1024]⟩
abbrev S1024 : Shape := ⟨1, ![1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x768 : Shape := ⟨3, ![2, 16384, 768]⟩
abbrev S2x16384x256 : Shape := ⟨3, ![2, 16384, 256]⟩
abbrev S32768x768 : Shape := ⟨2, ![32768, 768]⟩
abbrev S32768x256 : Shape := ⟨2, ![32768, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1024, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S2x16384x768, .f32⟩
  | .hbm, ⟨21, _⟩ => ⟨S2x16384x256, .f32⟩
  | .hbm, ⟨22, _⟩ => ⟨S32768x768, .f32⟩
  | .hbm, ⟨23, _⟩ => ⟨S32768x256, .f32⟩
  | .hbm, ⟨24, _⟩ => ⟨S32768x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S2x256x1024 : Shape := ⟨3, ![2, 256, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S1024x512, .bf16⟩
  | .hbm, ⟨5, _⟩ => ⟨S1x1024, .f32⟩
  | .hbm, ⟨6, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x256x1024 : Shape := ⟨3, ![2, 256, 1024]⟩
abbrev S1024 : Shape := ⟨1, ![1024]⟩
abbrev S1024x512 : Shape := ⟨2, ![1024, 512]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x512 : Shape := ⟨3, ![2, 256, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x512, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x512, .f32⟩
  | .hbm, ⟨20, _⟩ => ⟨S512x512, .f32⟩
  | .hbm, ⟨21, _⟩ => ⟨S512x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S2x16384x1024 : Shape := ⟨3, ![2, 16384, 1024]⟩
abbrev S1024 : Shape := ⟨1, ![1024]⟩
abbrev S1024x1024 : Shape := ⟨2, ![1024, 1024]⟩
abbrev S1024x1536 : Shape := ⟨2, ![1024, 1536]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S32768x1024 : Shape := ⟨2, ![32768, 1024]⟩
abbrev S1x1024 : Shape := ⟨2, ![1, 1024]⟩
abbrev S32768x768 : Shape := ⟨2, ![32768, 768]⟩
abbrev S32768x256 : Shape := ⟨2, ![32768, 256]⟩
abbrev S12x16384x256 : Shape := ⟨3, ![12, 16384, 256]⟩
abbrev S128x768x256 : Shape := ⟨3, ![128, 768, 256]⟩
abbrev S128x1x768 : Shape := ⟨3, ![128, 1, 768]⟩
abbrev S256x1024 : Shape := ⟨2, ![256, 1024]⟩
abbrev S256x128 : Shape := ⟨2, ![256, 128]⟩
abbrev S256x768 : Shape := ⟨2, ![256, 768]⟩
abbrev S256x256 : Shape := ⟨2, ![256, 256]⟩
abbrev S6x256x256 : Shape := ⟨3, ![6, 256, 256]⟩
abbrev S1x768x256 : Shape := ⟨3, ![1, 768, 256]⟩
abbrev S1x1x768 : Shape := ⟨3, ![1, 1, 768]⟩
abbrev S256 : Shape := ⟨1, ![256]⟩
abbrev S256x1 : Shape := ⟨2, ![256, 1]⟩
abbrev S256x1536 : Shape := ⟨2, ![256, 1536]⟩
abbrev S768 : Shape := ⟨1, ![768]⟩
abbrev S1x768 : Shape := ⟨2, ![1, 768]⟩
abbrev S768x256 : Shape := ⟨2, ![768, 256]⟩
abbrev S1x256x256 : Shape := ⟨3, ![1, 256, 256]⟩

abbrev nBuf : Space → Nat
  | .hbm => 46
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1536, .f32⟩
  | .hbm, ⟨5, _⟩ => ⟨S16384, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x64, .f32⟩
  | .hbm, ⟨28, _⟩ => ⟨S1x16384x1x64, .f32⟩
  | .hbm, ⟨29, _⟩ => ⟨S1x16384x2x64, .f32⟩
  | .hbm, ⟨30, _⟩ => ⟨S16384x128, .f32⟩
  | .hbm, ⟨31, _⟩ => ⟨S16384x32, .f32⟩
  | .hbm, ⟨32, _⟩ => ⟨S16384x64, .f32⟩
  | .hbm, ⟨33, _⟩ => ⟨S1x16384x1x64, .f32⟩
  | .hbm, ⟨34, _⟩ => ⟨S1x16384x2x64, .f32⟩
  | .hbm, ⟨35, _⟩ => ⟨S16384x128, .f32⟩
  | .hbm, ⟨36, _⟩ => ⟨S32768x1024, .f32⟩
  | .hbm, ⟨37, _⟩ => ⟨S1024x1024, .bf16⟩
  | .hbm, ⟨38, _⟩ => ⟨S1024x1536, .bf16⟩
  | .hbm, ⟨39, _⟩ => ⟨S1x1024, .f32⟩
  | .hbm, ⟨40, _⟩ => ⟨S1x1024, .f32⟩
  | .hbm, ⟨41, _⟩ => ⟨S32768x768, .bf16⟩
  | .hbm, ⟨42, _⟩ => ⟨S32768x256, .bf16⟩
  | .hbm, ⟨43, _⟩ => ⟨S12x16384x256, .bf16⟩
  | .hbm, ⟨44, _⟩ => ⟨S128x768x256, .bf16⟩
  | .hbm, ⟨45, _⟩ => ⟨S128x1x768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1536, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x768, .bf16⟩
  | .local _ .vmem, ⟨11, _⟩ => ⟨S256x768, .bf16⟩
  | .local _ .vmem, ⟨12, _⟩ => ⟨S256x256, .bf16⟩
  | .local _ .vmem, ⟨13, _⟩ => ⟨S256x256, .bf16⟩
  | .local _ .vmem, ⟨14, _⟩ => ⟨S6x256x256, .bf16⟩
  | .local _ .vmem, ⟨15, _⟩ => ⟨S6x256x256, .bf16⟩
  | .local _ .vmem, ⟨16, _⟩ => ⟨S1x768x256, .bf16⟩
  | .local _ .vmem, ⟨17, _⟩ => ⟨S1x768x256, .bf16⟩
  | .local _ .vmem, ⟨18, _⟩ => ⟨S1x1x768, .f32⟩
  | .local _ .vmem, ⟨19, _⟩ => ⟨S1x1x768, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S2x16384x1024 : Shape := ⟨3, ![2, 16384, 1024]⟩
abbrev S1024 : Shape := ⟨1, ![1024]⟩
abbrev S1024x1024 : Shape := ⟨2, ![1024, 1024]⟩
abbrev S1024x1536 : Shape := ⟨2, ![1024, 1536]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S2x16384 : Shape := ⟨2, ![2, 16384]⟩
abbrev S2x16384x1 : Shape := ⟨3, ![2, 16384, 1]⟩
abbrev S1x1x1024 : Shape := ⟨3, ![1, 1, 1024]⟩
abbrev S2x16384x768 : Shape := ⟨3, ![2, 16384, 768]⟩
abbrev S2x16384x256 : Shape := ⟨3, ![2, 16384, 256]⟩
abbrev S2x16384x12x64 : Shape := ⟨4, ![2, 16384, 12, 64]⟩
abbrev S2x16384x12x32 : Shape := ⟨4, ![2, 16384, 12, 32]⟩
abbrev S16384x1x32 : Shape := ⟨3, ![16384, 1, 32]⟩
abbrev S1x16384x1x32 : Shape := ⟨4, ![1, 16384, 1, 32]⟩
abbrev S2x16384x1536 : Shape := ⟨3, ![2, 16384, 1536]⟩
abbrev S128x256x768 : Shape := ⟨3, ![128, 256, 768]⟩
abbrev S128x768 : Shape := ⟨2, ![128, 768]⟩
abbrev S128x1x768 : Shape := ⟨3, ![128, 1, 768]⟩
abbrev S64x64 : Shape := ⟨2, ![64, 64]⟩
abbrev S64x1x64 : Shape := ⟨3, ![64, 1, 64]⟩
abbrev S64x256x64 : Shape := ⟨3, ![64, 256, 64]⟩
abbrev S16384x64 : Shape := ⟨2, ![16384, 64]⟩
abbrev S16384x1x64 : Shape := ⟨3, ![16384, 1, 64]⟩
abbrev S2x16384x12x128 : Shape := ⟨4, ![2, 16384, 12, 128]⟩
abbrev S2x16384x6x256 : Shape := ⟨4, ![2, 16384, 6, 256]⟩
abbrev S2x6x16384x256 : Shape := ⟨4, ![2, 6, 16384, 256]⟩
abbrev S12x16384x256 : Shape := ⟨3, ![12, 16384, 256]⟩
abbrev S32768x768 : Shape := ⟨2, ![32768, 768]⟩
abbrev S32768x256 : Shape := ⟨2, ![32768, 256]⟩
abbrev S128x768x256 : Shape := ⟨3, ![128, 768, 256]⟩

abbrev nBuf : Space → Nat
  | .hbm => 139
  | .vmem => 0
  | .smem => 0
  | _ => 0

abbrev hbmTy0_0 (i : Nat) : BufTy := match i % 128 with
  | 0 => ⟨S2x16384x1024, .f32⟩
  | 1 => ⟨S1024, .f32⟩
  | 2 => ⟨S1024, .f32⟩
  | 3 => ⟨S1024x1024, .f32⟩
  | 4 => ⟨S1024x1536, .f32⟩
  | 5 => ⟨S16384, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S16384x1, .f32⟩
  | 21 => ⟨S1x32, .f32⟩
  | 22 => ⟨S16384x32, .f32⟩
  | 23 => ⟨S16384x32, .f32⟩
  | 24 => ⟨S16384x32, .f32⟩
  | 25 => ⟨S16384x32, .f32⟩
  | 26 => ⟨S16384x32, .f32⟩
  | 27 => ⟨S2x16384x1024, .f32⟩
  | 28 => ⟨S_, .f32⟩
  | 29 => ⟨S2x16384, .f32⟩
  | 30 => ⟨S2x16384x1, .f32⟩
  | 31 => ⟨S_, .f32⟩
  | 32 => ⟨S2x16384x1, .f32⟩
  | 33 => ⟨S2x16384x1, .f32⟩
  | 34 => ⟨S_, .f32⟩
  | 35 => ⟨S2x16384x1, .f32⟩
  | 36 => ⟨S2x16384x1, .f32⟩
  | 37 => ⟨S2x16384x1, .f32⟩
  | 38 => ⟨S2x16384x1024, .f32⟩
  | 39 => ⟨S2x16384x1024, .f32⟩
  | 40 => ⟨S1x1x1024, .f32⟩
  | 41 => ⟨S2x16384x1024, .f32⟩
  | 42 => ⟨S2x16384x1024, .f32⟩
  | 43 => ⟨S2x16384x1024, .f32⟩
  | 44 => ⟨S2x16384x768, .f32⟩
  | 45 => ⟨S2x16384x256, .f32⟩
  | 46 => ⟨S2x16384x12x64, .f32⟩
  | 47 => ⟨S2x16384x12x32, .f32⟩
  | 48 => ⟨S2x16384x12x32, .f32⟩
  | 49 => ⟨S16384x1x32, .f32⟩
  | 50 => ⟨S16384x1x32, .f32⟩
  | 51 => ⟨S1x16384x1x32, .f32⟩
  | 52 => ⟨S2x16384x12x32, .f32⟩
  | 53 => ⟨S2x16384x12x32, .f32⟩
  | 54 => ⟨S1x16384x1x32, .f32⟩
  | 55 => ⟨S2x16384x12x32, .f32⟩
  | 56 => ⟨S2x16384x12x32, .f32⟩
  | 57 => ⟨S2x16384x12x32, .f32⟩
  | 58 => ⟨S1x16384x1x32, .f32⟩
  | 59 => ⟨S2x16384x12x32, .f32⟩
  | 60 => ⟨S2x16384x12x32, .f32⟩
  | 61 => ⟨S1x16384x1x32, .f32⟩
  | 62 => ⟨S2x16384x12x32, .f32⟩
  | 63 => ⟨S2x16384x12x32, .f32⟩
  | 64 => ⟨S2x16384x12x32, .f32⟩
  | 65 => ⟨S2x16384x12x64, .f32⟩
  | 66 => ⟨S_, .f32⟩
  | 67 => ⟨S2x16384x12x64, .f32⟩
  | 68 => ⟨S2x16384x12x64, .f32⟩
  | 69 => ⟨S2x16384x1024, .f32⟩
  | 70 => ⟨S_, .f32⟩
  | 71 => ⟨S2x16384, .f32⟩
  | 72 => ⟨S2x16384x1, .f32⟩
  | 73 => ⟨S_, .f32⟩
  | 74 => ⟨S2x16384x1, .f32⟩
  | 75 => ⟨S2x16384x1, .f32⟩
  | 76 => ⟨S_, .f32⟩
  | 77 => ⟨S2x16384x1, .f32⟩
  | 78 => ⟨S2x16384x1, .f32⟩
  | 79 => ⟨S2x16384x1, .f32⟩
  | 80 => ⟨S2x16384x1024, .f32⟩
  | 81 => ⟨S2x16384x1024, .f32⟩
  | 82 => ⟨S1x1x1024, .f32⟩
  | 83 => ⟨S2x16384x1024, .f32⟩
  | 84 => ⟨S2x16384x1024, .f32⟩
  | 85 => ⟨S2x16384x1536, .f32⟩
  | 86 => ⟨S2x16384x768, .f32⟩
  | 87 => ⟨S2x16384x12x64, .f32⟩
  | 88 => ⟨S2x16384x12x32, .f32⟩
  | 89 => ⟨S2x16384x12x32, .f32⟩
  | 90 => ⟨S16384x1x32, .f32⟩
  | 91 => ⟨S16384x1x32, .f32⟩
  | 92 => ⟨S1x16384x1x32, .f32⟩
  | 93 => ⟨S2x16384x12x32, .f32⟩
  | 94 => ⟨S2x16384x12x32, .f32⟩
  | 95 => ⟨S1x16384x1x32, .f32⟩
  | 96 => ⟨S2x16384x12x32, .f32⟩
  | 97 => ⟨S2x16384x12x32, .f32⟩
  | 98 => ⟨S2x16384x12x32, .f32⟩
  | 99 => ⟨S1x16384x1x32, .f32⟩
  | 100 => ⟨S2x16384x12x32, .f32⟩
  | 101 => ⟨S2x16384x12x32, .f32⟩
  | 102 => ⟨S1x16384x1x32, .f32⟩
  | 103 => ⟨S2x16384x12x32, .f32⟩
  | 104 => ⟨S2x16384x12x32, .f32⟩
  | 105 => ⟨S2x16384x12x32, .f32⟩
  | 106 => ⟨S2x16384x12x64, .f32⟩
  | 107 => ⟨S2x16384x768, .f32⟩
  | 108 => ⟨S128x256x768, .f32⟩
  | 109 => ⟨S128x256x768, .f32⟩
  | 110 => ⟨S_, .f32⟩
  | 111 => ⟨S128x768, .f32⟩
  | 112 => ⟨S128x1x768, .f32⟩
  | 113 => ⟨S_, .f32⟩
  | 114 => ⟨S128x1x768, .f32⟩
  | 115 => ⟨S128x1x768, .f32⟩
  | 116 => ⟨S64x64, .i32⟩
  | 117 => ⟨S64x64, .i32⟩
  | 118 => ⟨S_, .i32⟩
  | 119 => ⟨S64x64, .i32⟩
  | 120 => ⟨S64x64, .i32⟩
  | 121 => ⟨S64x64, .i1⟩
  | 122 => ⟨S64x64, .f32⟩
  | 123 => ⟨S64x1x64, .f32⟩
  | 124 => ⟨S64x256x64, .f32⟩
  | 125 => ⟨S16384x64, .f32⟩
  | 126 => ⟨S16384x1x64, .f32⟩
  | 127 => ⟨S2x16384x12x64, .f32⟩
  | _ => ⟨S2x16384x1024, .f32⟩

abbrev hbmTy0_1 (i : Nat) : BufTy := match i % 128 with
  | 0 => ⟨S2x16384x12x128, .f32⟩
  | 1 => ⟨S2x16384x6x256, .f32⟩
  | 2 => ⟨S2x6x16384x256, .f32⟩
  | 3 => ⟨S12x16384x256, .f32⟩
  | 4 => ⟨S32768x768, .f32⟩
  | 5 => ⟨S32768x768, .bf16⟩
  | 6 => ⟨S32768x256, .f32⟩
  | 7 => ⟨S32768x256, .bf16⟩
  | 8 => ⟨S12x16384x256, .bf16⟩
  | 9 => ⟨S128x768x256, .f32⟩
  | 10 => ⟨S128x768x256, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_10 : Ref sig .tc := ⟨.hbm, 110, rfl⟩
abbrev main_v94 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩

abbrev nD : Nat := 1
abbrev τ : Topo := Topo.v7x

variable {F : FTy → Type} [FloatOps F]
-- ==== Kernel8.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x5632 : Shape := ⟨2, ![1, 5632]⟩
abbrev S4x5632 : Shape := ⟨2, ![4, 5632]⟩
abbrev S1x1024 : Shape := ⟨2, ![1, 1024]⟩
abbrev S1024x1024 : Shape := ⟨2, ![1024, 1024]⟩
abbrev S16x1024 : Shape := ⟨2, ![16, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1040x1024 : Shape := ⟨2, ![1040, 1024]⟩
abbrev S1024x256 : Shape := ⟨2, ![1024, 256]⟩
abbrev S1040x256 : Shape := ⟨2, ![1040, 256]⟩
abbrev S4x256 : Shape := ⟨2, ![4, 256]⟩
abbrev S1x256 : Shape := ⟨2, ![1, 256]⟩

abbrev nBuf : Space → Nat
  | .hbm => 13
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S32768x1024, .f32⟩
  | .hbm, ⟨7, _⟩ => ⟨S1x5632, .f32⟩
  | .hbm, ⟨8, _⟩ => ⟨S4x5632, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S4x5632, .f32⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x16384x5632, .f32⟩
  | .hbm, ⟨23, _⟩ => ⟨S_, .i32⟩
  | .hbm, ⟨24, _⟩ => ⟨S_, .f32⟩
  | .hbm, ⟨25, _⟩ => ⟨S2x16386x5632, .f32⟩
  | .hbm, ⟨26, _⟩ => ⟨S2x16384x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S2x16384x5632, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x16384x5632, .f32⟩
  | .hbm, ⟨44, _⟩ => ⟨S2x16384x5632, .f32⟩
  | .hbm, ⟨45, _⟩ => ⟨S2x16384x5632, .f32⟩
  | .hbm, ⟨46, _⟩ => ⟨S1x1x5632, .f32⟩
  | .hbm, ⟨47, _⟩ => ⟨S2x16384x5632, .f32⟩
  | .hbm, ⟨48, _⟩ => ⟨S2x16384x5632, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S_, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x1024, .f32⟩
  | .hbm, ⟨62, _⟩ => ⟨S2x16384x1024, .f32⟩
  | .hbm, ⟨63, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Ffn.Spec.lean ====
/-
  The mathematics of the convolutional gated feed-forward block on one row, in extended reals: the two programs are each
  read as these functions, and the equation between them is then between two readings of one array.
-/
module

public import Idealize.ShloMosaic.PureOps.Ideal
public import Idealize.ShloMosaic.Lib.IdealHost
public import Idealize.ShloMosaic.Lib.Pointwise

@[expose] public section

noncomputable section

namespace Cert.Ffn

open Idealize.ShloMosaic

/-- The row length as the programs' constant. -/
abbrev len : EReal := Ideal.ofBits .f32 0x44800000#32
/-- The norm's epsilon as the programs' constant. -/
abbrev eps : EReal := Ideal.ofBits .f32 0x358637BD#32

/-- The reciprocal root of a row's mean square. -/
def scale (f : Fin 1024 → EReal) : EReal := Ideal.rsqrt (Ideal.div (∑ k, f k * f k) len + eps)

/-- A row divided by its root mean square, times the gain. -/
def unit (f g : Fin 1024 → EReal) : Fin 1024 → EReal := fun k => f k * scale f * g k

/-- The gated activation `g / (1 + e^(-g)) * v`. -/
def gate (g v : EReal) : EReal := Ideal.div g (1 + Ideal.exp (-g)) * v

/-- Three taps, the oldest first, and the bias. -/
def taps (w u : Fin 3 → EReal) (b : EReal) : EReal := w 0 * u 0 + w 1 * u 1 + w 2 * u 2 + b

/-- A zero row stays zero under the norm. -/
theorem unit_zero (g : Fin 1024 → EReal) : unit (fun _ => 0) g = fun _ => 0 := by
  funext k; simp [unit]

/-- The exponential is not negative. -/
theorem exp_nonneg (x : EReal) : 0 ≤ Ideal.exp x := by
  induction x using EReal.rec with
  | bot => exact le_rfl
  | top => exact le_top
  | coe r => show (0 : EReal) ≤ ((Real.exp r : ℝ) : EReal); exact_mod_cast (Real.exp_pos r).le

/-- The logistic's denominator is not zero. -/
theorem one_add_exp_ne_zero (x : EReal) : 1 + Ideal.exp x ≠ 0 := by
  have h : (0 : EReal) < 1 + Ideal.exp x := lt_of_lt_of_le zero_lt_one (le_add_of_nonneg_right (exp_nonneg x))
  exact h.ne'

/-- The gate with the logistic function as a factor. -/
theorem gate_eq (g v : EReal) : g * Ideal.div 1 (1 + Ideal.exp (-g)) * v = gate g v := by
  rw [gate, Ideal.mul_one_div (one_add_exp_ne_zero _)]

/-! ## The block over a batch of sequences -/

section Block

variable (x : Fin 2 → Fin 16384 → Fin 1024 → EReal) (gain : Fin 1024 → EReal) (up : Fin 1024 → Fin 5632 → EReal)
  (w : Fin 3 → Fin 5632 → EReal) (b : Fin 5632 → EReal) (down : Fin 2816 → Fin 1024 → EReal) (last : Fin 1024 → EReal)

/-- The up projection of the normed row at position `s` of sequence `n`, hidden column `j`. -/
def proj (n : Fin 2) (s : Fin 16384) (j : Fin 5632) : EReal := ∑ k, unit (x n s) gain k * up k j

/-- The same `2 - d` positions back; zero before the sequence's start. -/
def past (n : Fin 2) (s : Fin 16384) (j : Fin 5632) (d : Fin 3) : EReal :=
  if h : 2 ≤ s.val + d.val then proj x gain up n ⟨s.val + d.val - 2, by omega⟩ j else 0

/-- The causal convolution of the up projection along the sequence. -/
def conv (n : Fin 2) (s : Fin 16384) (j : Fin 5632) : EReal := taps (fun d => w d j) (past x gain up n s j) (b j)

/-- The gated activation: the first half of the columns gates the second. -/
def hidden (n : Fin 2) (s : Fin 16384) (j : Fin 2816) : EReal :=
  gate (conv x gain up w b n s ⟨j.val, by omega⟩) (conv x gain up w b n s ⟨2816 + j.val, by omega⟩)

/-- The block with its residual, -/
def added (n : Fin 2) (s : Fin 16384) (k : Fin 1024) : EReal := x n s k + ∑ j, hidden x gain up w b n s j * down j k

/-- and with the closing norm. -/
def block (n : Fin 2) (s : Fin 16384) : Fin 1024 → EReal := unit (added x gain up w b down n s) last

end Block

/-- The block's result as an array over the argument arrays, the sequences one after the other. -/
def result (x : (⟨3, ![2, 16384, 1024]⟩ : Shape).Idx → EReal) (gain : (⟨1, ![1024]⟩ : Shape).Idx → EReal)
    (up : (⟨2, ![1024, 5632]⟩ : Shape).Idx → EReal) (w : (⟨2, ![3, 5632]⟩ : Shape).Idx → EReal)
    (b : (⟨1, ![5632]⟩ : Shape).Idx → EReal) (down : (⟨2, ![2816, 1024]⟩ : Shape).Idx → EReal)
    (last : (⟨1, ![1024]⟩ : Shape).Idx → EReal) (R : Fin 32768) (k : Fin 1024) : EReal :=
  block (fun n s k => x (ix3 n s k)) (fun k => gain (ix1 k)) (fun k j => up (ix2 k j)) (fun d j => w (ix2 d j))
    (fun j => b (ix1 j)) (fun j k => down (ix2 j k)) (fun k => last (ix1 k)) ⟨R.val / 16384, by omega⟩ ⟨R.val % 16384, by omega⟩ k

/-- The same without the closing norm. -/
def plainResult (x : (⟨3, ![2, 16384, 1024]⟩ : Shape).Idx → EReal) (gain : (⟨1, ![1024]⟩ : Shape).Idx → EReal)
    (up : (⟨2, ![1024, 5632]⟩ : Shape).Idx → EReal) (w : (⟨2, ![3, 5632]⟩ : Shape).Idx → EReal)
    (b : (⟨1, ![5632]⟩ : Shape).Idx → EReal) (down : (⟨2, ![2816, 1024]⟩ : Shape).Idx → EReal) (R : Fin 32768) (k : Fin 1024) : EReal :=
  added (fun n s k => x (ix3 n s k)) (fun k => gain (ix1 k)) (fun k j => up (ix2 k j)) (fun d j => w (ix2 d j))
    (fun j => b (ix1 j)) (fun j k => down (ix2 j k)) ⟨R.val / 16384, by omega⟩ ⟨R.val % 16384, by omega⟩ k

end Cert.Ffn

end
-- ==== Proof.Ffn.Tile.lean ====
/-
  One grid point of the kernel: what its stores leave in the result's tile, as the block's mathematics (`Spec`) of the
  tile's rows, the sixteen rows before it and the weights.
-/
module

public import proofs.«01_k».proof.Proof.Gen.KernelIdeal.Value
public import proofs.«01_k».proof.Proof.Ffn.Spec
public import Idealize.ShloMosaic.Lib.ValueIdx

@[expose] public section

noncomputable section

namespace Cert.KernelIdeal.Tile

open Cert.KernelIdeal Cert.KernelIdeal.Gen Idealize.ShloMosaic Idealize.ShloMosaic.TcCoe Idealize.SL.Sem
open Idealize.ShloMosaic.ValueIdx (idx2_lt0 idx2_lt1 select_one select_zero)

/-- Row `r` of the rows with their halo, times column `c` of the up projection. -/
def upAt (h : FVec Ideal S1040x1024 .bf16) (X : Vec Ideal S1024x5632 .bf16) (r : Fin 1040) (c : Fin 5632) : EReal :=
  ∑ k : Fin 1024, h (ix2 r k) * X (ix2 k c)

/-- The convolution of the up projection at tile row `r` and column `c`. -/
def convAt (h : FVec Ideal S1040x1024 .bf16) (X : Vec Ideal S1024x5632 .bf16) (K : Vec Ideal S4x5632 .f32)
    (r : Fin 1024) (c : Fin 5632) : EReal :=
  Ffn.taps (fun d => K (ix2 ⟨d.val, by omega⟩ c)) (fun d => upAt h X ⟨14 + d.val + r.val, by omega⟩ c) (K (ix2 3 c))

/-- The convolution's payload over a column chunk starting at `o`. -/
theorem conv_apply (h : FVec Ideal S1040x1024 .bf16) (X : Vec Ideal S1024x5632 .bf16) (K : Vec Ideal S4x5632 .f32) (o : ℕ)
    (hX : ∀ a, (![0, o] : Fin 2 → ℕ) a + (![1024, 256] : Fin 2 → ℕ) a ≤ S1024x5632.size a)
    (hK : ∀ a, (![0, o] : Fin 2 → ℕ) a + (![4, 256] : Fin 2 → ℕ) a ≤ S4x5632.size a) (r : Fin 1024) (c : Fin 256) (c' : Fin 5632)
    (hc : c'.val = o + c.val) :
    k0_pay13 h (View.ld X (Rect.unit (s := S1024x5632) ![0, o] ![1024, 256] hX)) (View.ld K (Rect.unit (s := S4x5632) ![0, o] ![4, 256] hK)) (ix2 r c)
      = convAt h X K r c' := by
  unfold_payloads
  pointwise
  have e (a b : ℕ) (h1) (h2) (hab : a = b) : upAt h X ⟨a, h1⟩ c' = ∑ k : Fin 1024, h (ix2 ⟨b, h2⟩ k) * X (ix2 k c') := by
    subst hab; rfl
  have hc' : (⟨o + c.val, hc ▸ c'.isLt⟩ : Fin 5632) = c' := Fin.ext hc.symm
  simp only [hc']
  unfold convAt Ffn.taps
  beta_reduce
  rw [e (14 + (0 : Fin 3).val + r.val) _ _ (Nat.mod_lt _ (by decide)) (show _ = (16 + r.val + 1040 - 2) % 1040 by simp; omega),
    e (14 + (1 : Fin 3).val + r.val) _ _ (Nat.mod_lt _ (by decide)) (show _ = (16 + r.val + 1040 - 1) % 1040 by simp; omega),
    e (14 + (2 : Fin 3).val + r.val) _ _ (by omega) (show _ = 16 + r.val by simp)]
  rfl

/-- The gated activation of two convolved chunks, as the kernel's operations. -/
def act (g v : FVec Ideal S1024x256 .f32) : FVec Ideal S1024x256 .bf16 :=
  shapeCast S1024x256 (truncf .bf16 (mulf (divf g (addf (broadcast S1024x256 (Scalar.ofBits .f32 0x3F800000#32))
    (exp (subf (broadcast S1024x256 (Scalar.ofBits .f32 0x00000000#32)) g)))) v) bitsLt_bf16_f32) shapeCasts_S1024x256_S1024x256

/-- It is the gate, element by element. -/
theorem act_apply (g v : FVec Ideal S1024x256 .f32) (r : Fin 1024) (c : Fin 256) :
    act g v (ix2 r c) = Ffn.gate (g (ix2 r c)) (v (ix2 r c)) := by
  pointwise [act, Ffn.gate]
  rw [zero_sub]

/-- The gated activation of the tile at row `r` and hidden column `c`. -/
def actAt (h : FVec Ideal S1040x1024 .bf16) (X : Vec Ideal S1024x5632 .bf16) (K : Vec Ideal S4x5632 .f32) : Vec Ideal S1024x2816 .bf16 :=
  fun j => Ffn.gate (convAt h X K (j 0) ⟨(j 1).val, by have := idx2_lt1 j; omega⟩)
    (convAt h X K (j 0) ⟨2816 + (j 1).val, by have := idx2_lt1 j; omega⟩)

/-- The chunk stored at column `o` agrees with `actAt`. -/
theorem chunk_apply (h : FVec Ideal S1040x1024 .bf16) (X : Vec Ideal S1024x5632 .bf16) (K : Vec Ideal S4x5632 .f32) (o o' : ℕ)
    (ho : o' = 2816 + o)
    (hX : ∀ a, (![0, o] : Fin 2 → ℕ) a + (![1024, 256] : Fin 2 → ℕ) a ≤ S1024x5632.size a)
    (hK : ∀ a, (![0, o] : Fin 2 → ℕ) a + (![4, 256] : Fin 2 → ℕ) a ≤ S4x5632.size a)
    (hX' : ∀ a, (![0, o'] : Fin 2 → ℕ) a + (![1024, 256] : Fin 2 → ℕ) a ≤ S1024x5632.size a)
    (hK' : ∀ a, (![0, o'] : Fin 2 → ℕ) a + (![4, 256] : Fin 2 → ℕ) a ≤ S4x5632.size a)
    (hA : ∀ a, (![0, o] : Fin 2 → ℕ) a + (![1024, 256] : Fin 2 → ℕ) a ≤ S1024x2816.size a) (x : S1024x256.Idx) :
    act (k0_pay13 h (View.ld X (Rect.unit (s := S1024x5632) ![0, o] ![1024, 256] hX)) (View.ld K (Rect.unit (s := S4x5632) ![0, o] ![4, 256] hK)))
        (k0_pay13 h (View.ld X (Rect.unit (s := S1024x5632) ![0, o'] ![1024, 256] hX')) (View.ld K (Rect.unit (s := S4x5632) ![0, o'] ![4, 256] hK'))) x
      = actAt h X K ((Rect.unit (s := S1024x2816) ![0, o] ![1024, 256] hA).emb x) := by
  have h1 : o + 256 ≤ 2816 := hA 1
  obtain ⟨r, c, rfl⟩ : ∃ (r : Fin 1024) (c : Fin 256), x = ix2 r c := ⟨x 0, x 1, eq_ix2 x⟩
  have e : (Rect.unit (s := S1024x2816) ![0, o] ![1024, 256] hA).emb (ix2 r c) = ix2 r (⟨o + c.val, by omega⟩ : Fin 2816) := by
    funext a
    fin_cases a
    · exact Fin.ext (show 0 + 1 * r.val = r.val by omega)
    · exact Fin.ext (show o + 1 * c.val = o + c.val by omega)
  rw [act_apply, e]
  unfold actAt
  rw [conv_apply h X K o hX hK r c ⟨o + c.val, by omega⟩ rfl,
    conv_apply h X K o' hX' hK' r c ⟨2816 + (o + c.val), by omega⟩ (by subst ho; show 2816 + (o + c.val) = _; omega)]
  rfl

/-- The normed rows of a tile under its halo. -/
def rows (i : grid0.Coords) (x0 : Vec Ideal S1024x1024 .f32) (x1 : Vec Ideal S16x1024 .f32) (x2 : Vec Ideal S1x1024 .f32) :
    FVec Ideal S1040x1024 .bf16 :=
  k0_pay6 (k0_pay2 x0) (k0_pay3 x2) (k0_pay4 i x2 x1) (k0_pay5 x0)

/-- Below the halo they are the tile's own rows, normed. -/
theorem rows_tile (i : grid0.Coords) (x0 : Vec Ideal S1024x1024 .f32) (x1 : Vec Ideal S16x1024 .f32) (x2 : Vec Ideal S1x1024 .f32)
    (r : Fin 1040) (k : Fin 1024) (hr : 16 ≤ r.val) :
    rows i x0 x1 x2 (ix2 r k) = Ffn.unit (fun k => x0 (ix2 ⟨r.val - 16, by omega⟩ k)) (fun k => x2 (ix2 0 k)) k := by
  unfold rows
  unfold_payloads
  pointwise [Ffn.unit, Ffn.scale]
  rw [dif_neg (by omega)]

/-- The kernel's word for "the tile is the first of its sequence". -/
def isFirst (n : BitVec 32) : BitVec 1 :=
  let m := Scalar.select (Scalar.cmpi .eq 16#32 0#32) 1#32 16#32
  let q := Scalar.remsi n m
  Scalar.cmpi .eq (Scalar.select (Scalar.andi (Scalar.xori (Scalar.cmpi .slt q 0#32) (Scalar.cmpi .slt m 0#32)) (Scalar.cmpi .ne q 0#32))
    (Scalar.addi q m) q) 0#32

/-- It is that, at each of the grid's points. -/
theorem isFirst_eq : ∀ n : Fin 32, isFirst (BitVec.ofNat 32 n.val) = if n.val % 16 = 0 then 1#1 else 0#1 := by decide

/-- The halo is the sixteen rows before the tile, normed; zero where the tile is a sequence's first. -/
theorem rows_halo (i : grid0.Coords) (x0 : Vec Ideal S1024x1024 .f32) (x1 : Vec Ideal S16x1024 .f32) (x2 : Vec Ideal S1x1024 .f32)
    (r : Fin 1040) (k : Fin 1024) (hr : r.val < 16) :
    rows i x0 x1 x2 (ix2 r k) = if (i 0).val % 16 = 0 then 0 else Ffn.unit (fun k => x1 (ix2 ⟨r.val, hr⟩ k)) (fun k => x2 (ix2 0 k)) k := by
  unfold rows
  unfold_payloads
  pointwise [Ffn.unit, Ffn.scale]
  have key := isFirst_eq (i 0)
  unfold isFirst at key
  rw [dif_pos hr]
  simp only [key]
  by_cases h0 : (i 0).val % 16 = 0
  · simp only [h0, if_true, select_one]
  · simp only [h0, if_false, select_zero]

set_option maxHeartbeats 4000000 in
/-- The kernel's output tile at a grid point: the tile's rows plus the down projection of the gated activation, normed. -/
theorem out_apply (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S4x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x2816 .bf16) (harg9 : arg9.IsWhole)
    (x0 : Vec Ideal S1024x1024 .f32) (x1 : Vec Ideal S16x1024 .f32) (x2 : Vec Ideal S1x1024 .f32) (x3 : Vec Ideal S1024x5632 .bf16) (x4 : Vec Ideal S4x5632 .f32) (x5 : Vec Ideal S2816x1024 .bf16) (x6 : Vec Ideal S1x1024 .f32) (r k : Fin 1024) :
    out0_A_7 c i arg1 harg1 arg2 harg2 arg3 harg3 arg4 harg4 arg5 harg5 arg6 harg6 arg7 harg7 arg8 harg8 arg9 harg9 x0 x1 x2 x3 x4 x5 x6 (ix2 r k)
      = Ffn.unit (fun k => x0 (ix2 r k) + ∑ j : Fin 2816, actAt (rows i x0 x1 x2) x3 x4 (ix2 r j) * x5 (ix2 j k)) (fun k => x6 (ix2 0 k)) k := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.readAt_eq_ld, Memref.IsWhole.read_unread]
  rw [View.readCov_eq_canon_ld _ _ _ (fun y => View.cover_of_tiledL _ ![1024, 256] (by sl_kernel_rfl) y)]
  have z : (![0, 0] : Fin 2 → ℕ) = fun _ => 0 := by decide
  rw [View.canon_unit_zero (S := S1024x1024) z]
  rw [View.ld_unit_zero (S := S1024x1024) z, View.ld_unit_zero (S := S16x1024) z, View.ld_unit_zero (S := S1024x2816) z,
    View.ld_unit_zero (S := S2816x1024) z]
  simp only [View.ld_unit_zero (S := S1x1024) z]
  have hA : ∀ L : List (View.Piece (Elt Ideal) S1024x2816 .bf16), (∀ p ∈ L, ∀ x, p.2 x = actAt (rows i x0 x1 x2) x3 x4 (p.1.emb x)) → (∀ y, ∃ p ∈ L, y ∈ p.1.set) →
      View.canon L = actAt (rows i x0 x1 x2) x3 x4 := fun L h hc => funext fun y => View.canon_apply_of_pieces _ L h y (hc y)
  rw [hA _ ?_ (fun y => View.cover_of_tiledL _ ![1024, 256] (by sl_kernel_rfl) y)]
  · unfold_payloads
    pointwise [Ffn.unit, Ffn.scale]
  · simp only [List.forall_mem_cons]
    refine ⟨fun x => ?_, fun x => ?_, fun x => ?_, fun x => ?_, fun x => ?_, fun x => ?_, fun x => ?_, fun x => ?_, fun x => ?_, fun x => ?_, fun x => ?_, by simp⟩
    all_goals exact chunk_apply _ _ _ _ _ (by norm_num) _ _ _ _ _ x

end Cert.KernelIdeal.Tile

end
-- ==== Proof.Ffn.Blocks.lean ====
/-
  What the kernel's windows hold at a grid point, and what the host operations before the call leave in their arrays: each
  element as an element of an argument.
-/
module

public import proofs.«01_k».proof.Proof.Gen.KernelIdeal.Value
public import Idealize.ShloMosaic.Lib.Pointwise

@[expose] public section

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-! ## The host operations before the call -/

/-- The rows of the batch, one sequence after the other. -/
theorem v0_apply (c : Dev nD) (R : Fin 32768) (k : Fin 1024) :
    V m c main_v0 (ix2 R k) = m ((c : Thread nD τ).loc main_arg0) (ix3 ⟨R.val / 16384, by omega⟩ ⟨R.val % 16384, by omega⟩ k) := by
  unfold_abbrev_sides
  after_results
  pointwise

/-- The taps over the bias, in one array. -/
theorem v2_apply (c : Dev nD) (d : Fin 4) (j : Fin 5632) :
    V m c main_v2 (ix2 d j) = if h : d.val < 3 then m ((c : Thread nD τ).loc main_arg3) (ix2 ⟨d.val, h⟩ j) else m ((c : Thread nD τ).loc main_arg4) (ix1 j) := by
  unfold_abbrev_sides
  after_results
  pointwise

/-- The first norm's gain as a row. -/
theorem v3_apply (c : Dev nD) (k : Fin 1024) : V m c main_v3 (ix2 0 k) = m ((c : Thread nD τ).loc main_arg1) (ix1 k) := by
  unfold_abbrev_sides
  after_results
  pointwise

/-- The up projection's weights. -/
theorem v4_apply (c : Dev nD) (k : Fin 1024) (j : Fin 5632) : V m c main_v4 (ix2 k j) = m ((c : Thread nD τ).loc main_arg2) (ix2 k j) := by
  unfold_abbrev_sides
  after_results
  pointwise

/-- The down projection's weights. -/
theorem v5_apply (c : Dev nD) (j : Fin 2816) (k : Fin 1024) : V m c main_v5 (ix2 j k) = m ((c : Thread nD τ).loc main_arg5) (ix2 j k) := by
  unfold_abbrev_sides
  after_results
  pointwise

/-- The closing norm's gain as a row. -/
theorem v6_apply (c : Dev nD) (k : Fin 1024) : V m c main_v6 (ix2 0 k) = m ((c : Thread nD τ).loc main_arg6) (ix1 k) := by
  unfold_abbrev_sides
  after_results
  pointwise

/-! ## The windows' blocks -/

/-- The tile at grid point `t` is block `t` of the rows. -/
theorem idx0 : ∀ t : Fin cfg0.N, win0_0.index t = ![t.val, 0] :=
  (by decide +kernel : ∀ t : Fin grid0.N, win0_0.index t = ![t.val, 0])
/-- The halo is the block of sixteen rows before it. -/
theorem idx1 : ∀ t : Fin cfg0.N, win0_1.index t = ![64 * t.val - 1, 0] :=
  (by decide +kernel : ∀ t : Fin grid0.N, win0_1.index t = ![64 * t.val - 1, 0])
/-- The first gain's window stays at its array. -/
theorem idx2 : ∀ t : Fin cfg0.N, win0_2.index t = ![0, 0] := (by decide +kernel : ∀ t : Fin grid0.N, win0_2.index t = ![0, 0])
/-- So does the up projection's. -/
theorem idx3 : ∀ t : Fin cfg0.N, win0_3.index t = ![0, 0] := (by decide +kernel : ∀ t : Fin grid0.N, win0_3.index t = ![0, 0])
/-- So do the taps'. -/
theorem idx4 : ∀ t : Fin cfg0.N, win0_4.index t = ![0, 0] := (by decide +kernel : ∀ t : Fin grid0.N, win0_4.index t = ![0, 0])
/-- So does the down projection's. -/
theorem idx5 : ∀ t : Fin cfg0.N, win0_5.index t = ![0, 0] := (by decide +kernel : ∀ t : Fin grid0.N, win0_5.index t = ![0, 0])
/-- So does the closing gain's. -/
theorem idx6 : ∀ t : Fin cfg0.N, win0_6.index t = ![0, 0] := (by decide +kernel : ∀ t : Fin grid0.N, win0_6.index t = ![0, 0])
/-- The result's tile is where the rows' tile is. -/
theorem idx7 : ∀ t : Fin cfg0.N, win0_7.index t = ![t.val, 0] :=
  (by decide +kernel : ∀ t : Fin grid0.N, win0_7.index t = ![t.val, 0])

/-- The grid point's one coordinate is its number. -/
theorem coords_val : ∀ t : Fin cfg0.N, (grid0.coords t 0).val = t.val :=
  (by decide +kernel : ∀ t : Fin grid0.N, (grid0.coords t 0).val = t.val)

/-- The tile's row `r` is row `1024 t + r` of the batch. -/
theorem iblk0_apply (c : Dev nD) (t : Fin cfg0.N) (r k : Fin 1024) (R : Fin 32768) (hR : R.val = 1024 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 1024 + 1 * r.val = R.val by rw [idx0]; show t.val * 1024 + _ = _; omega)
  | ⟨1, _⟩ => exact Fin.ext (show win0_0.index t (1 : Fin 2) * 1024 + 1 * k.val = k.val by rw [idx0]; show 0 * 1024 + _ = _; omega)

/-- Past the first tile the halo's row `r` is row `1024 t - 16 + r`. -/
theorem iblk1_apply (c : Dev nD) (t : Fin cfg0.N) (r : Fin 16) (k : Fin 1024) (R : Fin 32768) (ht : 0 < t.val)
    (hR : R.val + 16 = 1024 * t.val + r.val) : iblk m c 1 t (ix2 r k) = V m c main_v0 (ix2 R k) := by
  show V m c main_v0 (((cfg0.win 1).blk t).view.emb (ix2 r k)) = _
  congr 1
  funext a
  match a with
  | ⟨0, _⟩ => exact Fin.ext (show win0_1.index t (0 : Fin 2) * 16 + 1 * r.val = R.val by rw [idx1]; show (64 * t.val - 1) * 16 + _ = _; omega)
  | ⟨1, _⟩ => exact Fin.ext (show win0_1.index t (1 : Fin 2) * 1024 + 1 * k.val = k.val by rw [idx1]; show 0 * 1024 + _ = _; omega)

/-- The first gain's block is its array. -/
theorem iblk2_eq (c : Dev nD) (t : Fin cfg0.N) : iblk m c 2 t = V m c main_v3 := by
  funext j
  show V m c main_v3 (((cfg0.win 2).blk t).view.emb j) = _
  congr 1
  funext a
  match a with
  | ⟨0, _⟩ => exact Fin.ext (show win0_2.index t (0 : Fin 2) * 1 + 1 * (j 0).val = (j 0).val by rw [idx2]; show 0 * 1 + _ = _; omega)
  | ⟨1, _⟩ => exact Fin.ext (show win0_2.index t (1 : Fin 2) * 1024 + 1 * (j 1).val = (j 1).val by rw [idx2]; show 0 * 1024 + _ = _; omega)

/-- The up projection's block is its array. -/
theorem iblk3_eq (c : Dev nD) (t : Fin cfg0.N) : iblk m c 3 t = V m c main_v4 := by
  funext j
  show V m c main_v4 (((cfg0.win 3).blk t).view.emb j) = _
  congr 1
  funext a
  match a with
  | ⟨0, _⟩ => exact Fin.ext (show win0_3.index t (0 : Fin 2) * 1024 + 1 * (j 0).val = (j 0).val by rw [idx3]; show 0 * 1024 + _ = _; omega)
  | ⟨1, _⟩ => exact Fin.ext (show win0_3.index t (1 : Fin 2) * 5632 + 1 * (j 1).val = (j 1).val by rw [idx3]; show 0 * 5632 + _ = _; omega)

/-- The taps' block is their array. -/
theorem iblk4_eq (c : Dev nD) (t : Fin cfg0.N) : iblk m c 4 t = V m c main_v2 := by
  funext j
  show V m c main_v2 (((cfg0.win 4).blk t).view.emb j) = _
  congr 1
  funext a
  match a with
  | ⟨0, _⟩ => exact Fin.ext (show win0_4.index t (0 : Fin 2) * 4 + 1 * (j 0).val = (j 0).val by rw [idx4]; show 0 * 4 + _ = _; omega)
  | ⟨1, _⟩ => exact Fin.ext (show win0_4.index t (1 : Fin 2) * 5632 + 1 * (j 1).val = (j 1).val by rw [idx4]; show 0 * 5632 + _ = _; omega)

/-- The down projection's block is its array. -/
theorem iblk5_eq (c : Dev nD) (t : Fin cfg0.N) : iblk m c 5 t = V m c main_v5 := by
  funext j
  show V m c main_v5 (((cfg0.win 5).blk t).view.emb j) = _
  congr 1
  funext a
  match a with
  | ⟨0, _⟩ => exact Fin.ext (show win0_5.index t (0 : Fin 2) * 2816 + 1 * (j 0).val = (j 0).val by rw [idx5]; show 0 * 2816 + _ = _; omega)
  | ⟨1, _⟩ => exact Fin.ext (show win0_5.index t (1 : Fin 2) * 1024 + 1 * (j 1).val = (j 1).val by rw [idx5]; show 0 * 1024 + _ = _; omega)

/-- The closing gain's block is its array. -/
theorem iblk6_eq (c : Dev nD) (t : Fin cfg0.N) : iblk m c 6 t = V m c main_v6 := by
  funext j
  show V m c main_v6 (((cfg0.win 6).blk t).view.emb j) = _
  congr 1
  funext a
  match a with
  | ⟨0, _⟩ => exact Fin.ext (show win0_6.index t (0 : Fin 2) * 1 + 1 * (j 0).val = (j 0).val by rw [idx6]; show 0 * 1 + _ = _; omega)
  | ⟨1, _⟩ => exact Fin.ext (show win0_6.index t (1 : Fin 2) * 1024 + 1 * (j 1).val = (j 1).val by rw [idx6]; show 0 * 1024 + _ = _; omega)

/-- The result's tile at grid point `t`, row `r`, is row `1024 t + r` of the result. -/
theorem emb7 (t : Fin cfg0.N) (r k : Fin 1024) (R : Fin 32768) (hR : R.val = 1024 * t.val + r.val) :
    ((cfg0.win 7).blk t).view.emb (ix2 r k) = (ix2 R k : S32768x1024.Idx) := by
  funext a
  match a with
  | ⟨0, _⟩ => exact Fin.ext (show win0_7.index t (0 : Fin 2) * 1024 + 1 * r.val = R.val by rw [idx7]; show t.val * 1024 + _ = _; omega)
  | ⟨1, _⟩ => exact Fin.ext (show win0_7.index t (1 : Fin 2) * 1024 + 1 * k.val = k.val by rw [idx7]; show 0 * 1024 + _ = _; omega)

end Cert.KernelIdeal.Blocks

end
-- ==== Proof.Ffn.Kern.lean ====
/-
  The kernel's result array: every element as the block's mathematics of the argument arrays.
-/
module

public import proofs.«01_k».proof.Proof.Ffn.Tile
public import proofs.«01_k».proof.Proof.Ffn.Blocks

@[expose] public section

noncomputable section

namespace Cert.KernelIdeal.Kern

open Cert.KernelIdeal Cert.KernelIdeal.Gen Cert.KernelIdeal.Tile Cert.KernelIdeal.Blocks
open Idealize.ShloMosaic Idealize.ShloMosaic.TcCoe Idealize.SL.Sem

variable (m : (ℓ : Loc nD τ sig) → Buf (Elt Ideal) ℓ) (c : Dev nD)

/-- The arguments, by coordinates. -/
abbrev xs (n : Fin 2) (s : Fin 16384) (k : Fin 1024) : EReal := m ((c : Thread nD τ).loc main_arg0) (ix3 n s k)
/-- The first norm's gain. -/
abbrev gain (k : Fin 1024) : EReal := m ((c : Thread nD τ).loc main_arg1) (ix1 k)
/-- The up projection's weights. -/
abbrev up (k : Fin 1024) (j : Fin 5632) : EReal := m ((c : Thread nD τ).loc main_arg2) (ix2 k j)
/-- The convolution's taps. -/
abbrev tap (d : Fin 3) (j : Fin 5632) : EReal := m ((c : Thread nD τ).loc main_arg3) (ix2 d j)
/-- The convolution's bias. -/
abbrev bias (j : Fin 5632) : EReal := m ((c : Thread nD τ).loc main_arg4) (ix1 j)

/-- The tile's rows and its halo at grid point `t`, normed. -/
abbrev hs (t : Fin cfg0.N) : FVec Ideal S1040x1024 .bf16 := rows (grid0.coords t) (iblk m c 0 t) (iblk m c 1 t) (iblk m c 2 t)

/-- Row `14 + d + r` of them is the normed row `2 - d` positions before the tile's row `r`, or zero before the sequence's start. -/
theorem hs_apply (t : Fin cfg0.N) (r : Fin 1024) (d : Fin 3) (k : Fin 1024) (n : Fin 2) (s : Fin 16384) (hn : n.val = t.val / 16)
    (hs' : s.val = t.val % 16 * 1024 + r.val) :
    hs m c t (ix2 ⟨14 + d.val + r.val, by omega⟩ k)
      = if h : 2 ≤ s.val + d.val then Ffn.unit (xs m c n ⟨s.val + d.val - 2, by omega⟩) (gain m c) k else 0 := by
  have ht : t.val < 32 := t.isLt
  have hg : (fun k => iblk m c 2 t (ix2 0 k)) = gain m c := by
    funext k; rw [iblk2_eq]; exact v3_apply m c k
  have row (R : Fin 32768) (p : Fin 16384) (hR : R.val = 16384 * n.val + p.val) (k : Fin 1024) : V m c main_v0 (ix2 R k) = xs m c n p k := by
    rw [v0_apply]
    have e0 : (⟨R.val / 16384, by omega⟩ : Fin 2) = n := Fin.ext (show R.val / 16384 = n.val by omega)
    have e1 : (⟨R.val % 16384, by omega⟩ : Fin 16384) = p := Fin.ext (show R.val % 16384 = p.val by omega)
    rw [e0, e1]
  by_cases h16 : 16 ≤ 14 + d.val + r.val
  · refine (rows_tile _ _ _ _ ⟨14 + d.val + r.val, by omega⟩ k h16).trans ?_
    rw [dif_pos (by omega), hg]
    congr 1
    funext k
    rw [iblk0_apply m c t _ k ⟨1024 * t.val + (14 + d.val + r.val - 16), by omega⟩ rfl]
    exact row _ _ (by show 1024 * t.val + (14 + d.val + r.val - 16) = 16384 * n.val + (s.val + d.val - 2); omega) k
  · refine (rows_halo _ _ _ _ ⟨14 + d.val + r.val, by omega⟩ k (by show 14 + d.val + r.val < 16; omega)).trans ?_
    rw [coords_val, hg]
    by_cases h0 : t.val % 16 = 0
    · rw [if_pos h0, dif_neg (by omega)]
    · rw [if_neg h0, dif_pos (by omega)]
      congr 1
      funext k
      rw [iblk1_apply m c t _ k ⟨1024 * t.val + (d.val + r.val) - 2, by omega⟩ (by omega)
        (by show 1024 * t.val + (d.val + r.val) - 2 + 16 = 1024 * t.val + (14 + d.val + r.val); omega)]
      exact row _ _ (by show 1024 * t.val + (d.val + r.val) - 2 = 16384 * n.val + (s.val + d.val - 2); omega) k

/-- The tile's convolution is the sequence's. -/
theorem conv_eq (t : Fin cfg0.N) (r : Fin 1024) (j : Fin 5632) (n : Fin 2) (s : Fin 16384) (hn : n.val = t.val / 16)
    (hs' : s.val = t.val % 16 * 1024 + r.val) :
    convAt (hs m c t) (iblk m c 3 t) (iblk m c 4 t) r j = Ffn.conv (xs m c) (gain m c) (up m c) (tap m c) (bias m c) n s j := by
  have hK (d : Fin 3) : iblk m c 4 t (ix2 (⟨d.val, by omega⟩ : Fin 4) j) = tap m c d j := by
    rw [iblk4_eq, v2_apply, dif_pos d.isLt]
  have hB : iblk m c 4 t (ix2 (3 : Fin 4) j) = bias m c j := by
    rw [iblk4_eq, v2_apply, dif_neg (by decide)]
  have hU (d : Fin 3) : upAt (hs m c t) (iblk m c 3 t) ⟨14 + d.val + r.val, by omega⟩ j = Ffn.past (xs m c) (gain m c) (up m c) n s j d := by
    have hW (k : Fin 1024) : iblk m c 3 t (ix2 k j) = up m c k j := by rw [iblk3_eq]; exact v4_apply m c k j
    unfold upAt Ffn.past Ffn.proj
    simp only [hs_apply m c t r d _ n s hn hs', hW]
    by_cases h : 2 ≤ s.val + d.val
    · simp only [dif_pos h]
    · simp only [dif_neg h, zero_mul, Finset.sum_const_zero]
  unfold convAt Ffn.conv
  simp only [hK, hB, hU]

/-- The result array, element by element. -/
theorem result_apply (R : Fin 32768) (k : Fin 1024) : (dats m 0 c).arrAt 7 cfg0.N (ix2 R k)
    = Ffn.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) R k := by
  have hN : cfg0.N = 32 := by decide
  let t : Fin cfg0.N := ⟨R.val / 1024, by omega⟩
  let r : Fin 1024 := ⟨R.val % 1024, by omega⟩
  have b := congrFun (Value.blocks7 m c t (flush0_7 t)) (ix2 r k)
  rw [Value.flushed7_A] at b
  have b' : (dats m 0 c).arrAt 7 cfg0.N (((cfg0.win 7).blk t).view.emb (ix2 r k)) = _ := b
  rw [emb7 t r k R (by show R.val = 1024 * (R.val / 1024) + R.val % 1024; omega)] at b'
  refine b'.trans ((out_apply c _ _ _ _ _ _ _ _ _ _ _ _ _ _ _ _ _ _ _ _ _ _ _ _ _ _ r k).trans ?_)
  unfold Ffn.result Ffn.block Ffn.added
  have hx (k : Fin 1024) : iblk m c 0 t (ix2 r k) = xs m c ⟨R.val / 16384, by omega⟩ ⟨R.val % 16384, by omega⟩ k := by
    rw [iblk0_apply m c t r k R (by show R.val = 1024 * (R.val / 1024) + R.val % 1024; omega), v0_apply]
  have hh (j : Fin 2816) : actAt (hs m c t) (iblk m c 3 t) (iblk m c 4 t) (ix2 r j)
      = Ffn.hidden (xs m c) (gain m c) (up m c) (tap m c) (bias m c) ⟨R.val / 16384, by omega⟩ ⟨R.val % 16384, by omega⟩ j := by
    unfold actAt Ffn.hidden
    have e (j : Fin 5632) := conv_eq m c t r j ⟨R.val / 16384, by omega⟩ ⟨R.val % 16384, by omega⟩
      (by show R.val / 16384 = R.val / 1024 / 16; omega) (by show R.val % 16384 = R.val / 1024 % 16 * 1024 + R.val % 1024; omega)
    exact congrArg₂ Ffn.gate (e _) (e _)
  have h5 (j : Fin 2816) (k : Fin 1024) : iblk m c 5 t (ix2 j k) = m ((c : Thread nD τ).loc main_arg5) (ix2 j k) := by
    rw [iblk5_eq]; exact v5_apply m c j k
  have h6 (k : Fin 1024) : iblk m c 6 t (ix2 0 k) = m ((c : Thread nD τ).loc main_arg6) (ix1 k) := by
    rw [iblk6_eq]; exact v6_apply m c k
  simp only [hx, hh, h5, h6]

end Cert.KernelIdeal.Kern

end
-- ==== Proof.Ffn.Ref.lean ====
/-
  The reference's result: every element as the block's mathematics of the argument arrays.
-/
module

public import proofs.«01_k».proof.Proof.Gen.ReferenceIdeal.Read
public import proofs.«01_k».proof.Proof.Ffn.Spec

@[expose] public section

noncomputable section

namespace Cert.ReferenceIdeal.Ref

open Cert.ReferenceIdeal Cert.ReferenceIdeal.Read Idealize.ShloMosaic Idealize.ShloMosaic.TcCoe Idealize.SL.Sem

variable (x0 : (⟨S2x16384x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))
  (x6 : (⟨S1024, .f32⟩ : BufTy).Contents (Elt Ideal))

/-- The arguments by coordinates: the rows. -/
abbrev xs (n : Fin 2) (s : Fin 16384) (k : Fin 1024) : EReal := x0 (ix3 n s k)
/-- A gain. -/
abbrev row (k : Fin 1024) : EReal := x1 (ix1 k)
/-- The up projection's weights. -/
abbrev up (k : Fin 1024) (j : Fin 5632) : EReal := x2 (ix2 k j)
/-- The taps. -/
abbrev tap (d : Fin 3) (j : Fin 5632) : EReal := x3 (ix2 d j)
/-- The bias. -/
abbrev bias (j : Fin 5632) : EReal := x4 (ix1 j)

/-- The normed rows. -/
theorem v12_apply (n : Fin 2) (s : Fin 16384) (k : Fin 1024) :
    val_main_v12 x0 x1 (ix3 n s k) = Ffn.unit (xs x0 n s) (row x1) k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise [Ffn.unit, Ffn.scale]

/-- The up projection. -/
theorem v13_apply (n : Fin 2) (s : Fin 16384) (j : Fin 5632) :
    val_main_v13 x0 x1 x2 (ix3 n s j) = Ffn.proj (xs x0) (row x1) (up x2) n s j := by
  unfold val_main_v13
  pointwise
  simp only [v12_apply]
  rfl

/-- Two rows of zeros before each sequence. -/
theorem v14_apply (n : Fin 2) (s : Fin 16384) (j : Fin 5632) (d : Fin 3) (p : Fin 16386) (hp : p.val = s.val + d.val) :
    val_main_v14 x0 x1 x2 (ix3 n p j) = Ffn.past (xs x0) (row x1) (up x2) n s j d := by
  unfold val_main_v14 val_main_call0_v0 val_main_c
  pointwise
  unfold Ffn.past
  by_cases h : 2 ≤ s.val + d.val
  · rw [dif_pos (by omega), dif_pos h, ← v13_apply]
    have e : (⟨p.val - 2, by omega⟩ : Fin 16384) = ⟨s.val + d.val - 2, by omega⟩ := Fin.ext (show p.val - 2 = s.val + d.val - 2 by omega)
    rw [e]
  · rw [dif_neg (by omega), dif_neg h]
    show (((0#32 : BitVec 32).toInt : ℝ) : EReal) = 0
    simp

/-- The convolution. -/
theorem v37_apply (n : Fin 2) (s : Fin 16384) (j : Fin 5632) :
    val_main_v37 x0 x1 x2 x3 x4 (ix3 n s j) = Ffn.conv (xs x0) (row x1) (up x2) (tap x3) (bias x4) n s j := by
  have h0 := v14_apply x0 x1 x2 n s j 0 ⟨s.val, by omega⟩ rfl
  have h1 := v14_apply x0 x1 x2 n s j 1 ⟨s.val + 1, by omega⟩ rfl
  have h2 := v14_apply x0 x1 x2 n s j 2 ⟨s.val + 2, by omega⟩ rfl
  unfold val_main_v37 val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18
    val_main_v17 val_main_v16 val_main_v15
  generalize val_main_v14 x0 x1 x2 = y at h0 h1 h2
  pointwise [Ffn.conv, Ffn.taps]
  have e1 : (⟨1 + s.val, by omega⟩ : Fin 16386) = ⟨s.val + 1, by omega⟩ := Fin.ext (Nat.add_comm _ _)
  have e2 : (⟨2 + s.val, by omega⟩ : Fin 16386) = ⟨s.val + 2, by omega⟩ := Fin.ext (Nat.add_comm _ _)
  rw [e1, e2, h0, h1, h2, mul_comm _ (x3 _), mul_comm _ (x3 _), mul_comm _ (x3 _)]

/-- The gated activation. -/
theorem v41_apply (n : Fin 2) (s : Fin 16384) (j : Fin 2816) :
    val_main_v41 x0 x1 x2 x3 x4 (ix3 n s j) = Ffn.hidden (xs x0) (row x1) (up x2) (tap x3) (bias x4) n s j := by
  have h (j : Fin 5632) := v37_apply x0 x1 x2 x3 x4 n s j
  unfold val_main_v41 val_main_v40 val_main_v39 val_main_call1_v5 val_main_call1_v4 val_main_call1_v3 val_main_call1_v2
    val_main_call1_v1 val_main_call1_v0 val_main_call1_cst val_main_call1_cst_0 val_main_v38
  generalize val_main_v37 x0 x1 x2 x3 x4 = y at h
  pointwise [Ffn.hidden]
  rw [h, h, Ffn.gate_eq]

/-- The rows with the down projection added. -/
theorem v43_apply (n : Fin 2) (s : Fin 16384) (k : Fin 1024) : val_main_v43 x0 x1 x2 x3 x4 x5 (ix3 n s k)
    = x0 (ix3 n s k) + ∑ j, Ffn.hidden (xs x0) (row x1) (up x2) (tap x3) (bias x4) n s j * x5 (ix2 j k) := by
  have h (j : Fin 2816) := v41_apply x0 x1 x2 x3 x4 n s j
  unfold val_main_v43 val_main_v42
  generalize val_main_v41 x0 x1 x2 x3 x4 = y at h
  pointwise
  simp only [h]

/-- The result. -/
theorem v57_apply (R : Fin 32768) (k : Fin 1024) :
    val_main_v57 x0 x1 x2 x3 x4 x5 x6 (ix2 R k) = Ffn.result x0 x1 x2 x3 x4 x5 x6 R k := by
  have h (n : Fin 2) (s : Fin 16384) (k : Fin 1024) := v43_apply x0 x1 x2 x3 x4 x5 n s k
  unfold val_main_v57 val_main_v56 val_main_v55 val_main_v54 val_main_v53 val_main_v52 val_main_v51 val_main_v50 val_main_v49 val_main_v48
    val_main_v47 val_main_v46 val_main_v45 val_main_v44 val_main_cst_2 val_main_cst_3 val_main_cst_4
  generalize val_main_v43 x0 x1 x2 x3 x4 x5 = y at h
  pointwise [Ffn.result, Ffn.block, Ffn.added, Ffn.unit, Ffn.scale]
  simp only [h]

end Cert.ReferenceIdeal.Ref

end
-- ==== Proof.Ffn.Equation.lean ====
/-
  The equation between the two programs of the feed-forward block: both results are the block's mathematics of the arguments.
-/
module

public import proofs.«01_k».proof.Defs
public import proofs.«01_k».proof.Proof.Ffn.Kern
public import proofs.«01_k».proof.Proof.Ffn.Ref
public import proofs.«01_k».proof.Proof.Gen.ReferenceIdeal.Run

@[expose] public section

noncomputable section

namespace Cert.Ffn

open Idealize.ShloMosaic Idealize.SL.Sem

/-- From equal arguments both programs run and end in equal results, the arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => fun j => result (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))
    (m ((c.tc : Thread _ _).loc Cert.KernelIdeal.main_arg6)) (j 0) (j 1), ?_, ?_⟩
  · refine (θ_run (Cert.KernelIdeal.defs (F := Ideal)) _ _).mono (fun r h c => ?_) (Cert.KernelIdeal.Value.run_blocks m g)
    obtain ⟨hv, h⟩ := h c
    refine ⟨hv.trans (funext fun j => ?_), h⟩
    obtain ⟨R, k, rfl⟩ : ∃ (R : Fin 32768) (k : Fin 1024), j = ix2 R k := ⟨j 0, j 1, eq_ix2 j⟩
    exact Cert.KernelIdeal.Kern.result_apply m c R k
  · refine (θ_run (Cert.ReferenceIdeal.defs (F := Ideal)) _ _).mono (fun r h c => ?_) (Cert.ReferenceIdeal.Value.run m' g')
    obtain ⟨hv, h⟩ := h c
    refine ⟨hv.trans ?_, h⟩
    rw [Cert.ReferenceIdeal.Read.val_main_v57_eq]
    obtain ⟨a0, a1, a2, a3, a4, a5, a6⟩ := hargs c
    rw [a0, a1, a2, a3, a4, a5, a6]
    funext j
    obtain ⟨R, k, rfl⟩ : ∃ (R : Fin 32768) (k : Fin 1024), j = ix2 R k := ⟨j 0, j 1, eq_ix2 j⟩
    exact Cert.ReferenceIdeal.Ref.v57_apply _ _ _ _ _ _ _ R k

end Cert.Ffn

end
-- ==== Proof.Ffn.PlainTile.lean ====
/-
  One grid point of the kernel without the closing norm: what its stores leave in the result's tile, as the block's mathematics (`Spec`) of the
  tile's rows, the sixteen rows before it and the weights.
-/
module

public import proofs.«01_k».proof.Proof.Gen.Kernel8Ideal.Value
public import proofs.«01_k».proof.Proof.Ffn.Spec
public import Idealize.ShloMosaic.Lib.ValueIdx

@[expose] public section

noncomputable section

namespace Cert.Kernel8Ideal.Tile

open Cert.Kernel8Ideal Cert.Kernel8Ideal.Gen Idealize.ShloMosaic Idealize.ShloMosaic.TcCoe Idealize.SL.Sem
open Idealize.ShloMosaic.ValueIdx (idx2_lt0 idx2_lt1 select_one select_zero)

/-- Row `r` of the rows with their halo, times column `c` of the up projection. -/
def upAt (h : FVec Ideal S1040x1024 .bf16) (X : Vec Ideal S1024x5632 .bf16) (r : Fin 1040) (c : Fin 5632) : EReal :=
  ∑ k : Fin 1024, h (ix2 r k) * X (ix2 k c)

/-- The convolution of the up projection at tile row `r` and column `c`. -/
def convAt (h : FVec Ideal S1040x1024 .bf16) (X : Vec Ideal S1024x5632 .bf16) (K : Vec Ideal S4x5632 .f32)
    (r : Fin 1024) (c : Fin 5632) : EReal :=
  Ffn.taps (fun d => K (ix2 ⟨d.val, by omega⟩ c)) (fun d => upAt h X ⟨14 + d.val + r.val, by omega⟩ c) (K (ix2 3 c))

/-- The convolution's payload over a column chunk starting at `o`. -/
theorem conv_apply (h : FVec Ideal S1040x1024 .bf16) (X : Vec Ideal S1024x5632 .bf16) (K : Vec Ideal S4x5632 .f32) (o : ℕ)
    (hX : ∀ a, (![0, o] : Fin 2 → ℕ) a + (![1024, 256] : Fin 2 → ℕ) a ≤ S1024x5632.size a)
    (hK : ∀ a, (![0, o] : Fin 2 → ℕ) a + (![4, 256] : Fin 2 → ℕ) a ≤ S4x5632.size a) (r : Fin 1024) (c : Fin 256) (c' : Fin 5632)
    (hc : c'.val = o + c.val) :
    k0_pay14 h (View.ld X (Rect.unit (s := S1024x5632) ![0, o] ![1024, 256] hX)) (View.ld K (Rect.unit (s := S4x5632) ![0, o] ![4, 256] hK)) (ix2 r c)
      = convAt h X K r c' := by
  unfold_payloads
  pointwise
  have e (a b : ℕ) (h1) (h2) (hab : a = b) : upAt h X ⟨a, h1⟩ c' = ∑ k : Fin 1024, h (ix2 ⟨b, h2⟩ k) * X (ix2 k c') := by
    subst hab; rfl
  have hc' : (⟨o + c.val, hc ▸ c'.isLt⟩ : Fin 5632) = c' := Fin.ext hc.symm
  simp only [hc']
  unfold convAt Ffn.taps
  beta_reduce
  rw [e (14 + (0 : Fin 3).val + r.val) _ _ (Nat.mod_lt _ (by decide)) (show _ = (16 + r.val + 1040 - 2) % 1040 by simp; omega),
    e (14 + (1 : Fin 3).val + r.val) _ _ (Nat.mod_lt _ (by decide)) (show _ = (16 + r.val + 1040 - 1) % 1040 by simp; omega),
    e (14 + (2 : Fin 3).val + r.val) _ _ (by omega) (show _ = 16 + r.val by simp)]
  rfl

/-- The gated activation of two convolved chunks, as the kernel's operations. -/
def act (g v : FVec Ideal S1024x256 .f32) : FVec Ideal S1024x256 .bf16 :=
  shapeCast S1024x256 (truncf .bf16 (mulf (divf g (addf (broadcast S1024x256 (Scalar.ofBits .f32 0x3F800000#32))
    (exp (subf (broadcast S1024x256 (Scalar.ofBits .f32 0x00000000#32)) g)))) v) bitsLt_bf16_f32) shapeCasts_S1024x256_S1024x256

/-- It is the gate, element by element. -/
theorem act_apply (g v : FVec Ideal S1024x256 .f32) (r : Fin 1024) (c : Fin 256) :
    act g v (ix2 r c) = Ffn.gate (g (ix2 r c)) (v (ix2 r c)) := by
  pointwise [act, Ffn.gate]
  rw [zero_sub]

/-- The gated activation of the tile at row `r` and hidden column `c`. -/
def actAt (h : FVec Ideal S1040x1024 .bf16) (X : Vec Ideal S1024x5632 .bf16) (K : Vec Ideal S4x5632 .f32) : Vec Ideal S1024x2816 .bf16 :=
  fun j => Ffn.gate (convAt h X K (j 0) ⟨(j 1).val, by have := idx2_lt1 j; omega⟩)
    (convAt h X K (j 0) ⟨2816 + (j 1).val, by have := idx2_lt1 j; omega⟩)

/-- The chunk stored at column `o` agrees with `actAt`. -/
theorem chunk_apply (h : FVec Ideal S1040x1024 .bf16) (X : Vec Ideal S1024x5632 .bf16) (K : Vec Ideal S4x5632 .f32) (o o' : ℕ)
    (ho : o' = 2816 + o)
    (hX : ∀ a, (![0, o] : Fin 2 → ℕ) a + (![1024, 256] : Fin 2 → ℕ) a ≤ S1024x5632.size a)
    (hK : ∀ a, (![0, o] : Fin 2 → ℕ) a + (![4, 256] : Fin 2 → ℕ) a ≤ S4x5632.size a)
    (hX' : ∀ a, (![0, o'] : Fin 2 → ℕ) a + (![1024, 256] : Fin 2 → ℕ) a ≤ S1024x5632.size a)
    (hK' : ∀ a, (![0, o'] : Fin 2 → ℕ) a + (![4, 256] : Fin 2 → ℕ) a ≤ S4x5632.size a)
    (hA : ∀ a, (![0, o] : Fin 2 → ℕ) a + (![1024, 256] : Fin 2 → ℕ) a ≤ S1024x2816.size a) (x : S1024x256.Idx) :
    act (k0_pay14 h (View.ld X (Rect.unit (s := S1024x5632) ![0, o] ![1024, 256] hX)) (View.ld K (Rect.unit (s := S4x5632) ![0, o] ![4, 256] hK)))
        (k0_pay14 h (View.ld X (Rect.unit (s := S1024x5632) ![0, o'] ![1024, 256] hX')) (View.ld K (Rect.unit (s := S4x5632) ![0, o'] ![4, 256] hK'))) x
      = actAt h X K ((Rect.unit (s := S1024x2816) ![0, o] ![1024, 256] hA).emb x) := by
  have h1 : o + 256 ≤ 2816 := hA 1
  obtain ⟨r, c, rfl⟩ : ∃ (r : Fin 1024) (c : Fin 256), x = ix2 r c := ⟨x 0, x 1, eq_ix2 x⟩
  have e : (Rect.unit (s := S1024x2816) ![0, o] ![1024, 256] hA).emb (ix2 r c) = ix2 r (⟨o + c.val, by omega⟩ : Fin 2816) := by
    funext a
    fin_cases a
    · exact Fin.ext (show 0 + 1 * r.val = r.val by omega)
    · exact Fin.ext (show o + 1 * c.val = o + c.val by omega)
  rw [act_apply, e]
  unfold actAt
  rw [conv_apply h X K o hX hK r c ⟨o + c.val, by omega⟩ rfl,
    conv_apply h X K o' hX' hK' r c ⟨2816 + (o + c.val), by omega⟩ (by subst ho; show 2816 + (o + c.val) = _; omega)]
  rfl

/-- The normed rows of a tile under its halo. -/
def rows (i : grid0.Coords) (x0 : Vec Ideal S1024x1024 .f32) (x1 : Vec Ideal S16x1024 .f32) (x2 : Vec Ideal S1x1024 .f32) :
    FVec Ideal S1040x1024 .bf16 :=
  k0_pay7 (k0_pay3 x0) (k0_pay4 x2) (k0_pay5 i x2 x1) (k0_pay6 x0)

/-- Below the halo they are the tile's own rows, normed. -/
theorem rows_tile (i : grid0.Coords) (x0 : Vec Ideal S1024x1024 .f32) (x1 : Vec Ideal S16x1024 .f32) (x2 : Vec Ideal S1x1024 .f32)
    (r : Fin 1040) (k : Fin 1024) (hr : 16 ≤ r.val) :
    rows i x0 x1 x2 (ix2 r k) = Ffn.unit (fun k => x0 (ix2 ⟨r.val - 16, by omega⟩ k)) (fun k => x2 (ix2 0 k)) k := by
  unfold rows
  unfold_payloads
  pointwise [Ffn.unit, Ffn.scale]
  rw [dif_neg (by omega)]

/-- The kernel's word for "the tile is the first of its sequence". -/
def isFirst (n : BitVec 32) : BitVec 1 :=
  let m := Scalar.select (Scalar.cmpi .eq 16#32 0#32) 1#32 16#32
  let q := Scalar.remsi n m
  Scalar.cmpi .eq (Scalar.select (Scalar.andi (Scalar.xori (Scalar.cmpi .slt q 0#32) (Scalar.cmpi .slt m 0#32)) (Scalar.cmpi .ne q 0#32))
    (Scalar.addi q m) q) 0#32

/-- It is that, at each of the grid's points. -/
theorem isFirst_eq : ∀ n : Fin 32, isFirst (BitVec.ofNat 32 n.val) = if n.val % 16 = 0 then 1#1 else 0#1 := by decide

/-- The halo is the sixteen rows before the tile, normed; zero where the tile is a sequence's first. -/
theorem rows_halo (i : grid0.Coords) (x0 : Vec Ideal S1024x1024 .f32) (x1 : Vec Ideal S16x1024 .f32) (x2 : Vec Ideal S1x1024 .f32)
    (r : Fin 1040) (k : Fin 1024) (hr : r.val < 16) :
    rows i x0 x1 x2 (ix2 r k) = if (i 0).val % 16 = 0 then 0 else Ffn.unit (fun k => x1 (ix2 ⟨r.val, hr⟩ k)) (fun k => x2 (ix2 0 k)) k := by
  unfold rows
  unfold_payloads
  pointwise [Ffn.unit, Ffn.scale]
  have key := isFirst_eq (i 0)
  unfold isFirst at key
  rw [dif_pos hr]
  simp only [key]
  by_cases h0 : (i 0).val % 16 = 0
  · simp only [h0, if_true, select_one]
  · simp only [h0, if_false, select_zero]

set_option maxHeartbeats 4000000 in
/-- The kernel's output tile at a grid point: the tile's rows plus the down projection of the gated activation. -/
theorem out_apply (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S4x5632 .f32) (harg5 : arg5.IsWhole) (arg6 : Memref sig .tc .vmem S2816x1024 .bf16) (harg6 : arg6.IsWhole) (arg7 : Memref sig .tc .vmem S1024x1024 .f32) (harg7 : arg7.IsWhole) (arg8 : Memref sig .tc .vmem S1024x2816 .bf16) (harg8 : arg8.IsWhole)
    (x0 : Vec Ideal S1024x1024 .f32) (x1 : Vec Ideal S16x1024 .f32) (x2 : Vec Ideal S1x1024 .f32) (x3 : Vec Ideal S1024x5632 .bf16) (x4 : Vec Ideal S4x5632 .f32) (x5 : Vec Ideal S2816x1024 .bf16) (r k : Fin 1024) :
    out0_A_6 c i arg1 harg1 arg2 harg2 arg3 harg3 arg4 harg4 arg5 harg5 arg6 harg6 arg7 harg7 arg8 harg8 x0 x1 x2 x3 x4 x5 (ix2 r k)
      = x0 (ix2 r k) + ∑ j : Fin 2816, actAt (rows i x0 x1 x2) x3 x4 (ix2 r j) * x5 (ix2 j k) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, Memref.IsWhole.read_unread]
  rw [View.readCov_eq_canon_ld _ _ _ (fun y => View.cover_of_tiledL _ ![1024, 256] (by sl_kernel_rfl) y)]
  have z : (![0, 0] : Fin 2 → ℕ) = fun _ => 0 := by decide
  rw [View.canon_unit_zero (S := S1024x1024) z]
  rw [View.ld_unit_zero (S := S1024x1024) z, View.ld_unit_zero (S := S16x1024) z, View.ld_unit_zero (S := S1024x2816) z,
    View.ld_unit_zero (S := S2816x1024) z]
  simp only [View.ld_unit_zero (S := S1x1024) z]
  have hA : ∀ L : List (View.Piece (Elt Ideal) S1024x2816 .bf16), (∀ p ∈ L, ∀ x, p.2 x = actAt (rows i x0 x1 x2) x3 x4 (p.1.emb x)) → (∀ y, ∃ p ∈ L, y ∈ p.1.set) →
      View.canon L = actAt (rows i x0 x1 x2) x3 x4 := fun L h hc => funext fun y => View.canon_apply_of_pieces _ L h y (hc y)
  rw [hA _ ?_ (fun y => View.cover_of_tiledL _ ![1024, 256] (by sl_kernel_rfl) y)]
  · unfold_payloads
    pointwise
  · simp only [List.forall_mem_cons]
    refine ⟨fun x => ?_, fun x => ?_, fun x => ?_, fun x => ?_, fun x => ?_, fun x => ?_, fun x => ?_, fun x => ?_, fun x => ?_, fun x => ?_, fun x => ?_, by simp⟩
    all_goals exact chunk_apply _ _ _ _ _ (by norm_num) _ _ _ _ _ x

end Cert.Kernel8Ideal.Tile

end
-- ==== Proof.Ffn.PlainBlocks.lean ====
/-
  What the windows of the kernel without the closing norm hold at a grid point, and what the host operations before the call leave in their arrays: each
  element as an element of an argument.
-/
module

public import proofs.«01_k».proof.Proof.Gen.Kernel8Ideal.Value
public import Idealize.ShloMosaic.Lib.Pointwise

@[expose] public section

noncomputable section

namespace Cert.Kernel8Ideal.Blocks

open Cert.Kernel8Ideal Cert.Kernel8Ideal.Gen Idealize.ShloMosaic Idealize.ShloMosaic.TcCoe Idealize.SL.Sem

variable (m : (ℓ : Loc nD τ sig) → Buf (Elt Ideal) ℓ)

/-! ## The host operations before the call -/

/-- The rows of the batch, one sequence after the other. -/
theorem v0_apply (c : Dev nD) (R : Fin 32768) (k : Fin 1024) :
    V m c main_v0 (ix2 R k) = m ((c : Thread nD τ).loc main_arg0) (ix3 ⟨R.val / 16384, by omega⟩ ⟨R.val % 16384, by omega⟩ k) := by
  unfold_abbrev_sides
  after_results
  pointwise

/-- The taps over the bias, in one array. -/
theorem v2_apply (c : Dev nD) (d : Fin 4) (j : Fin 5632) :
    V m c main_v2 (ix2 d j) = if h : d.val < 3 then m ((c : Thread nD τ).loc main_arg3) (ix2 ⟨d.val, h⟩ j) else m ((c : Thread nD τ).loc main_arg4) (ix1 j) := by
  unfold_abbrev_sides
  after_results
  pointwise

/-- The first norm's gain as a row. -/
theorem v3_apply (c : Dev nD) (k : Fin 1024) : V m c main_v3 (ix2 0 k) = m ((c : Thread nD τ).loc main_arg1) (ix1 k) := by
  unfold_abbrev_sides
  after_results
  pointwise

/-- The up projection's weights. -/
theorem v4_apply (c : Dev nD) (k : Fin 1024) (j : Fin 5632) : V m c main_v4 (ix2 k j) = m ((c : Thread nD τ).loc main_arg2) (ix2 k j) := by
  unfold_abbrev_sides
  after_results
  pointwise

/-- The down projection's weights. -/
theorem v5_apply (c : Dev nD) (j : Fin 2816) (k : Fin 1024) : V m c main_v5 (ix2 j k) = m ((c : Thread nD τ).loc main_arg5) (ix2 j k) := by
  unfold_abbrev_sides
  after_results
  pointwise

/-! ## The windows' blocks -/

/-- The tile at grid point `t` is block `t` of the rows. -/
theorem idx0 : ∀ t : Fin cfg0.N, win0_0.index t = ![t.val, 0] :=
  (by decide +kernel : ∀ t : Fin grid0.N, win0_0.index t = ![t.val, 0])
/-- The halo is the block of sixteen rows before it. -/
theorem idx1 : ∀ t : Fin cfg0.N, win0_1.index t = ![64 * t.val - 1, 0] :=
  (by decide +kernel : ∀ t : Fin grid0.N, win0_1.index t = ![64 * t.val - 1, 0])
/-- The first gain's window stays at its array. -/
theorem idx2 : ∀ t : Fin cfg0.N, win0_2.index t = ![0, 0] := (by decide +kernel : ∀ t : Fin grid0.N, win0_2.index t = ![0, 0])
/-- So does the up projection's. -/
theorem idx3 : ∀ t : Fin cfg0.N, win0_3.index t = ![0, 0] := (by decide +kernel : ∀ t : Fin grid0.N, win0_3.index t = ![0, 0])
/-- So do the taps'. -/
theorem idx4 : ∀ t : Fin cfg0.N, win0_4.index t = ![0, 0] := (by decide +kernel : ∀ t : Fin grid0.N, win0_4.index t = ![0, 0])
/-- So does the down projection's. -/
theorem idx5 : ∀ t : Fin cfg0.N, win0_5.index t = ![0, 0] := (by decide +kernel : ∀ t : Fin grid0.N, win0_5.index t = ![0, 0])
/-- The result's tile is where the rows' tile is. -/
theorem idx6 : ∀ t : Fin cfg0.N, win0_6.index t = ![t.val, 0] :=
  (by decide +kernel : ∀ t : Fin grid0.N, win0_6.index t = ![t.val, 0])

/-- The grid point's one coordinate is its number. -/
theorem coords_val : ∀ t : Fin cfg0.N, (grid0.coords t 0).val = t.val :=
  (by decide +kernel : ∀ t : Fin grid0.N, (grid0.coords t 0).val = t.val)

/-- The tile's row `r` is row `1024 t + r` of the batch. -/
theorem iblk0_apply (c : Dev nD) (t : Fin cfg0.N) (r k : Fin 1024) (R : Fin 32768) (hR : R.val = 1024 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 1024 + 1 * r.val = R.val by rw [idx0]; show t.val * 1024 + _ = _; omega)
  | ⟨1, _⟩ => exact Fin.ext (show win0_0.index t (1 : Fin 2) * 1024 + 1 * k.val = k.val by rw [idx0]; show 0 * 1024 + _ = _; omega)

/-- Past the first tile the halo's row `r` is row `1024 t - 16 + r`. -/
theorem iblk1_apply (c : Dev nD) (t : Fin cfg0.N) (r : Fin 16) (k : Fin 1024) (R : Fin 32768) (ht : 0 < t.val)
    (hR : R.val + 16 = 1024 * t.val + r.val) : iblk m c 1 t (ix2 r k) = V m c main_v0 (ix2 R k) := by
  show V m c main_v0 (((cfg0.win 1).blk t).view.emb (ix2 r k)) = _
  congr 1
  funext a
  match a with
  | ⟨0, _⟩ => exact Fin.ext (show win0_1.index t (0 : Fin 2) * 16 + 1 * r.val = R.val by rw [idx1]; show (64 * t.val - 1) * 16 + _ = _; omega)
  | ⟨1, _⟩ => exact Fin.ext (show win0_1.index t (1 : Fin 2) * 1024 + 1 * k.val = k.val by rw [idx1]; show 0 * 1024 + _ = _; omega)

/-- The first gain's block is its array. -/
theorem iblk2_eq (c : Dev nD) (t : Fin cfg0.N) : iblk m c 2 t = V m c main_v3 := by
  funext j
  show V m c main_v3 (((cfg0.win 2).blk t).view.emb j) = _
  congr 1
  funext a
  match a with
  | ⟨0, _⟩ => exact Fin.ext (show win0_2.index t (0 : Fin 2) * 1 + 1 * (j 0).val = (j 0).val by rw [idx2]; show 0 * 1 + _ = _; omega)
  | ⟨1, _⟩ => exact Fin.ext (show win0_2.index t (1 : Fin 2) * 1024 + 1 * (j 1).val = (j 1).val by rw [idx2]; show 0 * 1024 + _ = _; omega)

/-- The up projection's block is its array. -/
theorem iblk3_eq (c : Dev nD) (t : Fin cfg0.N) : iblk m c 3 t = V m c main_v4 := by
  funext j
  show V m c main_v4 (((cfg0.win 3).blk t).view.emb j) = _
  congr 1
  funext a
  match a with
  | ⟨0, _⟩ => exact Fin.ext (show win0_3.index t (0 : Fin 2) * 1024 + 1 * (j 0).val = (j 0).val by rw [idx3]; show 0 * 1024 + _ = _; omega)
  | ⟨1, _⟩ => exact Fin.ext (show win0_3.index t (1 : Fin 2) * 5632 + 1 * (j 1).val = (j 1).val by rw [idx3]; show 0 * 5632 + _ = _; omega)

/-- The taps' block is their array. -/
theorem iblk4_eq (c : Dev nD) (t : Fin cfg0.N) : iblk m c 4 t = V m c main_v2 := by
  funext j
  show V m c main_v2 (((cfg0.win 4).blk t).view.emb j) = _
  congr 1
  funext a
  match a with
  | ⟨0, _⟩ => exact Fin.ext (show win0_4.index t (0 : Fin 2) * 4 + 1 * (j 0).val = (j 0).val by rw [idx4]; show 0 * 4 + _ = _; omega)
  | ⟨1, _⟩ => exact Fin.ext (show win0_4.index t (1 : Fin 2) * 5632 + 1 * (j 1).val = (j 1).val by rw [idx4]; show 0 * 5632 + _ = _; omega)

/-- The down projection's block is its array. -/
theorem iblk5_eq (c : Dev nD) (t : Fin cfg0.N) : iblk m c 5 t = V m c main_v5 := by
  funext j
  show V m c main_v5 (((cfg0.win 5).blk t).view.emb j) = _
  congr 1
  funext a
  match a with
  | ⟨0, _⟩ => exact Fin.ext (show win0_5.index t (0 : Fin 2) * 2816 + 1 * (j 0).val = (j 0).val by rw [idx5]; show 0 * 2816 + _ = _; omega)
  | ⟨1, _⟩ => exact Fin.ext (show win0_5.index t (1 : Fin 2) * 1024 + 1 * (j 1).val = (j 1).val by rw [idx5]; show 0 * 1024 + _ = _; omega)

/-- The result's tile at grid point `t`, row `r`, is row `1024 t + r` of the result. -/
theorem emb6 (t : Fin cfg0.N) (r k : Fin 1024) (R : Fin 32768) (hR : R.val = 1024 * t.val + r.val) :
    ((cfg0.win 6).blk t).view.emb (ix2 r k) = (ix2 R k : S32768x1024.Idx) := by
  funext a
  match a with
  | ⟨0, _⟩ => exact Fin.ext (show win0_6.index t (0 : Fin 2) * 1024 + 1 * r.val = R.val by rw [idx6]; show t.val * 1024 + _ = _; omega)
  | ⟨1, _⟩ => exact Fin.ext (show win0_6.index t (1 : Fin 2) * 1024 + 1 * k.val = k.val by rw [idx6]; show 0 * 1024 + _ = _; omega)

end Cert.Kernel8Ideal.Blocks

end
-- ==== Proof.Ffn.PlainKern.lean ====
/-
  The result array of the kernel without the closing norm: every element as the block's mathematics of the argument arrays.
-/
module

public import proofs.«01_k».proof.Proof.Ffn.PlainTile
public import proofs.«01_k».proof.Proof.Ffn.PlainBlocks

@[expose] public section

noncomputable section

namespace Cert.Kernel8Ideal.Kern

open Cert.Kernel8Ideal Cert.Kernel8Ideal.Gen Cert.Kernel8Ideal.Tile Cert.Kernel8Ideal.Blocks
open Idealize.ShloMosaic Idealize.ShloMosaic.TcCoe Idealize.SL.Sem

variable (m : (ℓ : Loc nD τ sig) → Buf (Elt Ideal) ℓ) (c : Dev nD)

/-- The arguments, by coordinates. -/
abbrev xs (n : Fin 2) (s : Fin 16384) (k : Fin 1024) : EReal := m ((c : Thread nD τ).loc main_arg0) (ix3 n s k)
/-- The first norm's gain. -/
abbrev gain (k : Fin 1024) : EReal := m ((c : Thread nD τ).loc main_arg1) (ix1 k)
/-- The up projection's weights. -/
abbrev up (k : Fin 1024) (j : Fin 5632) : EReal := m ((c : Thread nD τ).loc main_arg2) (ix2 k j)
/-- The convolution's taps. -/
abbrev tap (d : Fin 3) (j : Fin 5632) : EReal := m ((c : Thread nD τ).loc main_arg3) (ix2 d j)
/-- The convolution's bias. -/
abbrev bias (j : Fin 5632) : EReal := m ((c : Thread nD τ).loc main_arg4) (ix1 j)

/-- The tile's rows and its halo at grid point `t`, normed. -/
abbrev hs (t : Fin cfg0.N) : FVec Ideal S1040x1024 .bf16 := rows (grid0.coords t) (iblk m c 0 t) (iblk m c 1 t) (iblk m c 2 t)

/-- Row `14 + d + r` of them is the normed row `2 - d` positions before the tile's row `r`, or zero before the sequence's start. -/
theorem hs_apply (t : Fin cfg0.N) (r : Fin 1024) (d : Fin 3) (k : Fin 1024) (n : Fin 2) (s : Fin 16384) (hn : n.val = t.val / 16)
    (hs' : s.val = t.val % 16 * 1024 + r.val) :
    hs m c t (ix2 ⟨14 + d.val + r.val, by omega⟩ k)
      = if h : 2 ≤ s.val + d.val then Ffn.unit (xs m c n ⟨s.val + d.val - 2, by omega⟩) (gain m c) k else 0 := by
  have ht : t.val < 32 := t.isLt
  have hg : (fun k => iblk m c 2 t (ix2 0 k)) = gain m c := by
    funext k; rw [iblk2_eq]; exact v3_apply m c k
  have row (R : Fin 32768) (p : Fin 16384) (hR : R.val = 16384 * n.val + p.val) (k : Fin 1024) : V m c main_v0 (ix2 R k) = xs m c n p k := by
    rw [v0_apply]
    have e0 : (⟨R.val / 16384, by omega⟩ : Fin 2) = n := Fin.ext (show R.val / 16384 = n.val by omega)
    have e1 : (⟨R.val % 16384, by omega⟩ : Fin 16384) = p := Fin.ext (show R.val % 16384 = p.val by omega)
    rw [e0, e1]
  by_cases h16 : 16 ≤ 14 + d.val + r.val
  · refine (rows_tile _ _ _ _ ⟨14 + d.val + r.val, by omega⟩ k h16).trans ?_
    rw [dif_pos (by omega), hg]
    congr 1
    funext k
    rw [iblk0_apply m c t _ k ⟨1024 * t.val + (14 + d.val + r.val - 16), by omega⟩ rfl]
    exact row _ _ (by show 1024 * t.val + (14 + d.val + r.val - 16) = 16384 * n.val + (s.val + d.val - 2); omega) k
  · refine (rows_halo _ _ _ _ ⟨14 + d.val + r.val, by omega⟩ k (by show 14 + d.val + r.val < 16; omega)).trans ?_
    rw [coords_val, hg]
    by_cases h0 : t.val % 16 = 0
    · rw [if_pos h0, dif_neg (by omega)]
    · rw [if_neg h0, dif_pos (by omega)]
      congr 1
      funext k
      rw [iblk1_apply m c t _ k ⟨1024 * t.val + (d.val + r.val) - 2, by omega⟩ (by omega)
        (by show 1024 * t.val + (d.val + r.val) - 2 + 16 = 1024 * t.val + (14 + d.val + r.val); omega)]
      exact row _ _ (by show 1024 * t.val + (d.val + r.val) - 2 = 16384 * n.val + (s.val + d.val - 2); omega) k

/-- The tile's convolution is the sequence's. -/
theorem conv_eq (t : Fin cfg0.N) (r : Fin 1024) (j : Fin 5632) (n : Fin 2) (s : Fin 16384) (hn : n.val = t.val / 16)
    (hs' : s.val = t.val % 16 * 1024 + r.val) :
    convAt (hs m c t) (iblk m c 3 t) (iblk m c 4 t) r j = Ffn.conv (xs m c) (gain m c) (up m c) (tap m c) (bias m c) n s j := by
  have hK (d : Fin 3) : iblk m c 4 t (ix2 (⟨d.val, by omega⟩ : Fin 4) j) = tap m c d j := by
    rw [iblk4_eq, v2_apply, dif_pos d.isLt]
  have hB : iblk m c 4 t (ix2 (3 : Fin 4) j) = bias m c j := by
    rw [iblk4_eq, v2_apply, dif_neg (by decide)]
  have hU (d : Fin 3) : upAt (hs m c t) (iblk m c 3 t) ⟨14 + d.val + r.val, by omega⟩ j = Ffn.past (xs m c) (gain m c) (up m c) n s j d := by
    have hW (k : Fin 1024) : iblk m c 3 t (ix2 k j) = up m c k j := by rw [iblk3_eq]; exact v4_apply m c k j
    unfold upAt Ffn.past Ffn.proj
    simp only [hs_apply m c t r d _ n s hn hs', hW]
    by_cases h : 2 ≤ s.val + d.val
    · simp only [dif_pos h]
    · simp only [dif_neg h, zero_mul, Finset.sum_const_zero]
  unfold convAt Ffn.conv
  simp only [hK, hB, hU]

/-- The result array, element by element. -/
theorem result_apply (R : Fin 32768) (k : Fin 1024) : (dats m 0 c).arrAt 6 cfg0.N (ix2 R k)
    = Ffn.plainResult (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R k := by
  have hN : cfg0.N = 32 := by decide
  let t : Fin cfg0.N := ⟨R.val / 1024, by omega⟩
  let r : Fin 1024 := ⟨R.val % 1024, by omega⟩
  have b := congrFun (Value.blocks6 m c t (flush0_6 t)) (ix2 r k)
  rw [Value.flushed6_A] at b
  have b' : (dats m 0 c).arrAt 6 cfg0.N (((cfg0.win 6).blk t).view.emb (ix2 r k)) = _ := b
  rw [emb6 t r k R (by show R.val = 1024 * (R.val / 1024) + R.val % 1024; omega)] at b'
  refine b'.trans ((out_apply c _ _ _ _ _ _ _ _ _ _ _ _ _ _ _ _ _ _ _ _ _ _ _ r k).trans ?_)
  unfold Ffn.plainResult Ffn.added
  have hx (k : Fin 1024) : iblk m c 0 t (ix2 r k) = xs m c ⟨R.val / 16384, by omega⟩ ⟨R.val % 16384, by omega⟩ k := by
    rw [iblk0_apply m c t r k R (by show R.val = 1024 * (R.val / 1024) + R.val % 1024; omega), v0_apply]
  have hh (j : Fin 2816) : actAt (hs m c t) (iblk m c 3 t) (iblk m c 4 t) (ix2 r j)
      = Ffn.hidden (xs m c) (gain m c) (up m c) (tap m c) (bias m c) ⟨R.val / 16384, by omega⟩ ⟨R.val % 16384, by omega⟩ j := by
    unfold actAt Ffn.hidden
    have e (j : Fin 5632) := conv_eq m c t r j ⟨R.val / 16384, by omega⟩ ⟨R.val % 16384, by omega⟩
      (by show R.val / 16384 = R.val / 1024 / 16; omega) (by show R.val % 16384 = R.val / 1024 % 16 * 1024 + R.val % 1024; omega)
    exact congrArg₂ Ffn.gate (e _) (e _)
  have h5 (j : Fin 2816) (k : Fin 1024) : iblk m c 5 t (ix2 j k) = m ((c : Thread nD τ).loc main_arg5) (ix2 j k) := by
    rw [iblk5_eq]; exact v5_apply m c j k
  simp only [hx, hh, h5]

end Cert.Kernel8Ideal.Kern

end
-- ==== Proof.Ffn.PlainRef.lean ====
/-
  The result of the reference without the closing norm: every element as the block's mathematics of the argument arrays.
-/
module

public import proofs.«01_k».proof.Proof.Gen.Reference8Ideal.Read
public import proofs.«01_k».proof.Proof.Ffn.Spec

@[expose] public section

noncomputable section

namespace Cert.Reference8Ideal.Ref

open Cert.Reference8Ideal Cert.Reference8Ideal.Read Idealize.ShloMosaic Idealize.ShloMosaic.TcCoe Idealize.SL.Sem

variable (x0 : (⟨S2x16384x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))

/-- The arguments by coordinates: the rows. -/
abbrev xs (n : Fin 2) (s : Fin 16384) (k : Fin 1024) : EReal := x0 (ix3 n s k)
/-- A gain. -/
abbrev row (k : Fin 1024) : EReal := x1 (ix1 k)
/-- The up projection's weights. -/
abbrev up (k : Fin 1024) (j : Fin 5632) : EReal := x2 (ix2 k j)
/-- The taps. -/
abbrev tap (d : Fin 3) (j : Fin 5632) : EReal := x3 (ix2 d j)
/-- The bias. -/
abbrev bias (j : Fin 5632) : EReal := x4 (ix1 j)

/-- The normed rows. -/
theorem v12_apply (n : Fin 2) (s : Fin 16384) (k : Fin 1024) :
    val_main_v12 x0 x1 (ix3 n s k) = Ffn.unit (xs x0 n s) (row x1) k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise [Ffn.unit, Ffn.scale]

/-- The up projection. -/
theorem v13_apply (n : Fin 2) (s : Fin 16384) (j : Fin 5632) :
    val_main_v13 x0 x1 x2 (ix3 n s j) = Ffn.proj (xs x0) (row x1) (up x2) n s j := by
  unfold val_main_v13
  pointwise
  simp only [v12_apply]
  rfl

/-- Two rows of zeros before each sequence. -/
theorem v14_apply (n : Fin 2) (s : Fin 16384) (j : Fin 5632) (d : Fin 3) (p : Fin 16386) (hp : p.val = s.val + d.val) :
    val_main_v14 x0 x1 x2 (ix3 n p j) = Ffn.past (xs x0) (row x1) (up x2) n s j d := by
  unfold val_main_v14 val_main_call0_v0 val_main_c
  pointwise
  unfold Ffn.past
  by_cases h : 2 ≤ s.val + d.val
  · rw [dif_pos (by omega), dif_pos h, ← v13_apply]
    have e : (⟨p.val - 2, by omega⟩ : Fin 16384) = ⟨s.val + d.val - 2, by omega⟩ := Fin.ext (show p.val - 2 = s.val + d.val - 2 by omega)
    rw [e]
  · rw [dif_neg (by omega), dif_neg h]
    show (((0#32 : BitVec 32).toInt : ℝ) : EReal) = 0
    simp

/-- The convolution. -/
theorem v37_apply (n : Fin 2) (s : Fin 16384) (j : Fin 5632) :
    val_main_v37 x0 x1 x2 x3 x4 (ix3 n s j) = Ffn.conv (xs x0) (row x1) (up x2) (tap x3) (bias x4) n s j := by
  have h0 := v14_apply x0 x1 x2 n s j 0 ⟨s.val, by omega⟩ rfl
  have h1 := v14_apply x0 x1 x2 n s j 1 ⟨s.val + 1, by omega⟩ rfl
  have h2 := v14_apply x0 x1 x2 n s j 2 ⟨s.val + 2, by omega⟩ rfl
  unfold val_main_v37 val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19 val_main_v18
    val_main_v17 val_main_v16 val_main_v15
  generalize val_main_v14 x0 x1 x2 = y at h0 h1 h2
  pointwise [Ffn.conv, Ffn.taps]
  have e1 : (⟨1 + s.val, by omega⟩ : Fin 16386) = ⟨s.val + 1, by omega⟩ := Fin.ext (Nat.add_comm _ _)
  have e2 : (⟨2 + s.val, by omega⟩ : Fin 16386) = ⟨s.val + 2, by omega⟩ := Fin.ext (Nat.add_comm _ _)
  rw [e1, e2, h0, h1, h2, mul_comm _ (x3 _), mul_comm _ (x3 _), mul_comm _ (x3 _)]

/-- The gated activation. -/
theorem v41_apply (n : Fin 2) (s : Fin 16384) (j : Fin 2816) :
    val_main_v41 x0 x1 x2 x3 x4 (ix3 n s j) = Ffn.hidden (xs x0) (row x1) (up x2) (tap x3) (bias x4) n s j := by
  have h (j : Fin 5632) := v37_apply x0 x1 x2 x3 x4 n s j
  unfold val_main_v41 val_main_v40 val_main_v39 val_main_call1_v5 val_main_call1_v4 val_main_call1_v3 val_main_call1_v2
    val_main_call1_v1 val_main_call1_v0 val_main_call1_cst val_main_call1_cst_0 val_main_v38
  generalize val_main_v37 x0 x1 x2 x3 x4 = y at h
  pointwise [Ffn.hidden]
  rw [h, h, Ffn.gate_eq]

/-- The rows with the down projection added. -/
theorem v43_apply (n : Fin 2) (s : Fin 16384) (k : Fin 1024) : val_main_v43 x0 x1 x2 x3 x4 x5 (ix3 n s k)
    = x0 (ix3 n s k) + ∑ j, Ffn.hidden (xs x0) (row x1) (up x2) (tap x3) (bias x4) n s j * x5 (ix2 j k) := by
  have h (j : Fin 2816) := v41_apply x0 x1 x2 x3 x4 n s j
  unfold val_main_v43 val_main_v42
  generalize val_main_v41 x0 x1 x2 x3 x4 = y at h
  pointwise
  simp only [h]

/-- The result. -/
theorem v44_apply (R : Fin 32768) (k : Fin 1024) :
    val_main_v44 x0 x1 x2 x3 x4 x5 (ix2 R k) = Ffn.plainResult x0 x1 x2 x3 x4 x5 R k := by
  have h (n : Fin 2) (s : Fin 16384) (k : Fin 1024) := v43_apply x0 x1 x2 x3 x4 x5 n s k
  unfold val_main_v44
  generalize val_main_v43 x0 x1 x2 x3 x4 x5 = y at h
  pointwise [Ffn.plainResult, Ffn.added]
  simp only [h]

end Cert.Reference8Ideal.Ref

end
-- ==== Proof.Ffn.PlainEquation.lean ====
/-
  The equation between the two programs of the feed-forward block without the closing norm: both results are the block's mathematics of the arguments.
-/
module

public import proofs.«01_k».proof.Defs
public import proofs.«01_k».proof.Proof.Ffn.PlainKern
public import proofs.«01_k».proof.Proof.Ffn.PlainRef
public import proofs.«01_k».proof.Proof.Gen.Reference8Ideal.Run

@[expose] public section

noncomputable section

namespace Cert.Ffn

open Idealize.ShloMosaic Idealize.SL.Sem

/-- From equal arguments both programs run and end in equal results, the arguments unchanged. -/
theorem plain_algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => fun j => plainResult (m ((c.tc : Thread _ _).loc Cert.Kernel8Ideal.main_arg0)) (m ((c.tc : Thread _ _).loc Cert.Kernel8Ideal.main_arg1))
    (m ((c.tc : Thread _ _).loc Cert.Kernel8Ideal.main_arg2)) (m ((c.tc : Thread _ _).loc Cert.Kernel8Ideal.main_arg3))
    (m ((c.tc : Thread _ _).loc Cert.Kernel8Ideal.main_arg4)) (m ((c.tc : Thread _ _).loc Cert.Kernel8Ideal.main_arg5)) (j 0) (j 1), ?_, ?_⟩
  · refine (θ_run (Cert.Kernel8Ideal.defs (F := Ideal)) _ _).mono (fun r h c => ?_) (Cert.Kernel8Ideal.Value.run_blocks m g)
    obtain ⟨hv, h⟩ := h c
    refine ⟨hv.trans (funext fun j => ?_), h⟩
    obtain ⟨R, k, rfl⟩ : ∃ (R : Fin 32768) (k : Fin 1024), j = ix2 R k := ⟨j 0, j 1, eq_ix2 j⟩
    exact Cert.Kernel8Ideal.Kern.result_apply m c R k
  · refine (θ_run (Cert.Reference8Ideal.defs (F := Ideal)) _ _).mono (fun r h c => ?_) (Cert.Reference8Ideal.Value.run m' g')
    obtain ⟨hv, h⟩ := h c
    refine ⟨hv.trans ?_, h⟩
    rw [Cert.Reference8Ideal.Read.val_main_v44_eq]
    obtain ⟨a0, a1, a2, a3, a4, a5⟩ := hargs c
    rw [a0, a1, a2, a3, a4, a5]
    funext j
    obtain ⟨R, k, rfl⟩ : ∃ (R : Fin 32768) (k : Fin 1024), j = ix2 R k := ⟨j 0, j 1, eq_ix2 j⟩
    exact Cert.Reference8Ideal.Ref.v44_apply _ _ _ _ _ _ R k

end Cert.Ffn

end
-- ==== Proof.S5.Spec.lean ====
/-
  The mathematics of the diagonal linear recurrence, over the complex numbers: the hidden state after `n` positions, what a run of
  positions adds to it, the sums that doubling builds over the rows of a tile, and the matrices of one chunk of eight positions.
  The two programs hold a complex number as two extended reals, its real and its imaginary part.
-/
module

public import Idealize.ShloMosaic.PureOps.Ideal
public import Idealize.ShloMosaic.Lib.IdealHost
public import Idealize.ShloMosaic.Lib.Pointwise

@[expose] public section

noncomputable section

namespace Cert.S5

open Finset

/-- The hidden state after `n` positions: `h ↦ a h + v` from zero. -/
def hid (a : ℂ) (v : ℕ → ℂ) : ℕ → ℂ
  | 0 => 0
  | n + 1 => a * hid a v n + v n

/-- The state `m` positions on: the old state decayed, and each input decayed by the positions since. -/
theorem hid_add (a : ℂ) (v : ℕ → ℂ) (k m : ℕ) :
    hid a v (k + m) = a ^ m * hid a v k + ∑ s ∈ range m, a ^ (m - 1 - s) * v (k + s) := by
  induction m with
  | zero => simp
  | succ m ih =>
    show a * hid a v (k + m) + v (k + m) = _
    rw [ih, sum_range_succ, mul_add, mul_sum]
    have e : ∑ s ∈ range m, a * (a ^ (m - 1 - s) * v (k + s)) = ∑ s ∈ range m, a ^ (m + 1 - 1 - s) * v (k + s) := by
      refine sum_congr rfl fun s hs => ?_
      have hs' := mem_range.mp hs
      rw [← mul_assoc, ← pow_succ', show m + 1 - 1 - s = m - 1 - s + 1 by omega]
    rw [e, show m + 1 - 1 - m = 0 by omega]
    ring

/-- The sum over the last `m` rows up to row `ρ`, each decayed by the rows since. -/
def win (A : ℂ) (e : ℕ → ℂ) : ℕ → ℕ → ℂ
  | 0, _ => 0
  | m + 1, ρ => e ρ + (if 1 ≤ ρ then A * win A e m (ρ - 1) else 0)

/-- Doubling: a window of `k + m` rows is a window of `k` rows and, `k` rows up, a window of `m`. -/
theorem win_add (A : ℂ) (e : ℕ → ℂ) (k m ρ : ℕ) :
    win A e (k + m) ρ = win A e k ρ + A ^ k * (if k ≤ ρ then win A e m (ρ - k) else 0) := by
  induction k generalizing ρ with
  | zero => simp [win]
  | succ k ih =>
    rw [show k + 1 + m = (k + m) + 1 by omega]
    show e ρ + (if 1 ≤ ρ then A * win A e (k + m) (ρ - 1) else 0)
      = e ρ + (if 1 ≤ ρ then A * win A e k (ρ - 1) else 0) + A ^ (k + 1) * (if k + 1 ≤ ρ then win A e m (ρ - (k + 1)) else 0)
    by_cases h1 : 1 ≤ ρ
    · rw [if_pos h1, if_pos h1, ih]
      by_cases h2 : k + 1 ≤ ρ
      · rw [if_pos h2, if_pos (by omega : k ≤ ρ - 1), show ρ - 1 - k = ρ - (k + 1) by omega]
        ring
      · rw [if_neg h2, if_neg (by omega : ¬ k ≤ ρ - 1)]
        ring
    · rw [if_neg h1, if_neg h1, if_neg (by omega : ¬ k + 1 ≤ ρ)]
      ring

/-- A window that reaches the first row is the recurrence over the rows. -/
theorem win_eq_hid (A : ℂ) (e : ℕ → ℂ) (m ρ : ℕ) (h : ρ < m) : win A e m ρ = hid A e (ρ + 1) := by
  induction m generalizing ρ with
  | zero => omega
  | succ m ih =>
    show e ρ + (if 1 ≤ ρ then A * win A e m (ρ - 1) else 0) = A * hid A e ρ + e ρ
    by_cases h1 : 1 ≤ ρ
    · rw [if_pos h1, ih (ρ - 1) (by omega), show ρ - 1 + 1 = ρ by omega]
      ring
    · have h0 : ρ = 0 := by omega
      subst h0
      rw [if_neg h1]
      simp [hid]

/-- What one row of eight positions, the row `κ`, adds. -/
def rowSum (a : ℂ) (v : ℕ → ℂ) (κ : ℕ) : ℂ := ∑ t : Fin 8, a ^ (7 - t.val) * v (8 * κ + t.val)

/-- Eight positions on. -/
theorem hid_row (a : ℂ) (v : ℕ → ℂ) (κ : ℕ) : hid a v (8 * (κ + 1)) = a ^ 8 * hid a v (8 * κ) + rowSum a v κ := by
  rw [show 8 * (κ + 1) = 8 * κ + 8 by ring, hid_add, rowSum, Fin.sum_univ_eq_sum_range (fun t => a ^ (7 - t) * v (8 * κ + t)) 8]

/-- The recurrence over the rows of a tile that starts at row `κ`, its first row given the state before it. -/
theorem hid_tile (a : ℂ) (v : ℕ → ℂ) (κ : ℕ) (ρ : ℕ) :
    hid (a ^ 8) (fun ρ => rowSum a v (κ + ρ) + if ρ = 0 then a ^ 8 * hid a v (8 * κ) else 0) (ρ + 1) = hid a v (8 * (κ + ρ + 1)) := by
  induction ρ with
  | zero =>
    show a ^ 8 * 0 + (rowSum a v (κ + 0) + if 0 = 0 then a ^ 8 * hid a v (8 * κ) else 0) = _
    rw [if_pos rfl, add_zero, hid_row]
    ring
  | succ ρ ih =>
    show a ^ 8 * hid _ _ (ρ + 1) + (rowSum a v (κ + (ρ + 1)) + if ρ + 1 = 0 then a ^ 8 * hid a v (8 * κ) else 0) = _
    rw [ih, if_neg (by omega), add_zero, show κ + (ρ + 1) + 1 = (κ + ρ + 1) + 1 by omega, hid_row a v (κ + ρ + 1)]
    rfl

/-- Position `t` of row `κ`. -/
theorem hid_in_row (a : ℂ) (v : ℕ → ℂ) (κ : ℕ) (t : Fin 8) :
    hid a v (8 * κ + t.val + 1)
      = a ^ (t.val + 1) * hid a v (8 * κ) + ∑ s : Fin 8, if s.val ≤ t.val then a ^ (t.val - s.val) * v (8 * κ + s.val) else 0 := by
  rw [show 8 * κ + t.val + 1 = 8 * κ + (t.val + 1) by ring, hid_add]
  congr 1
  rw [Fin.sum_univ_eq_sum_range (fun s => if s ≤ t.val then a ^ (t.val - s) * v (8 * κ + s) else 0) 8,
    ← sum_filter]
  refine sum_congr ?_ fun s _ => by rw [show t.val + 1 - 1 - s = t.val - s by omega]
  ext s
  have := t.isLt
  simp only [mem_range, mem_filter]
  omega

/-- Two extended reals are the parts of a complex number. -/
def Is (x y : EReal) (z : ℂ) : Prop := x = ((z.re : ℝ) : EReal) ∧ y = ((z.im : ℝ) : EReal)

/-- A real as an extended real is finite. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [sum_insert hi, sum_insert hi, EReal.coe_add, ih]

/-- One level of the scan: `z + α w` by parts. -/
theorem Is.level {x y p q a b : EReal} {z w α : ℂ} (hz : Is x y z) (hw : Is p q w) (ha : Is a b α) :
    Is (x + a * p - b * q) (y + a * q + b * p) (z + α * w) := by
  obtain ⟨rfl, rfl⟩ := hz
  obtain ⟨rfl, rfl⟩ := hw
  obtain ⟨rfl, rfl⟩ := ha
  constructor
  · rw [← EReal.coe_mul, ← EReal.coe_mul, ← EReal.coe_add, ← EReal.coe_sub]
    congr 1
    simp only [Complex.add_re, Complex.mul_re]
    ring
  · rw [← EReal.coe_mul, ← EReal.coe_mul, ← EReal.coe_add, ← EReal.coe_add]
    congr 1
    simp only [Complex.add_im, Complex.mul_im]
    ring

/-- A product by parts. -/
theorem Is.mul {p q a b : EReal} {w α : ℂ} (ha : Is a b α) (hw : Is p q w) : Is (a * p - b * q) (a * q + b * p) (α * w) := by
  obtain ⟨rfl, rfl⟩ := hw
  obtain ⟨rfl, rfl⟩ := ha
  exact ⟨by rw [← EReal.coe_mul, ← EReal.coe_mul, ← EReal.coe_sub, Complex.mul_re],
    by rw [← EReal.coe_mul, ← EReal.coe_mul, ← EReal.coe_add, Complex.mul_im]⟩

/-- A sum by parts. -/
theorem Is.add {p q a b : EReal} {w α : ℂ} (ha : Is a b α) (hw : Is p q w) : Is (a + p) (b + q) (α + w) := by
  obtain ⟨rfl, rfl⟩ := hw
  obtain ⟨rfl, rfl⟩ := ha
  exact ⟨by rw [← EReal.coe_add, Complex.add_re], by rw [← EReal.coe_add, Complex.add_im]⟩

/-- Zero by parts. -/
theorem Is.zero : Is 0 0 0 := ⟨rfl, rfl⟩

/-- One of two by a condition. -/
theorem Is.ite {P : Prop} [Decidable P] {p q a b : EReal} {w α : ℂ} (ha : Is a b α) (hw : Is p q w) :
    Is (if P then a else p) (if P then b else q) (if P then α else w) := by
  by_cases h : P
  · rw [if_pos h, if_pos h, if_pos h]
    exact ha
  · rw [if_neg h, if_neg h, if_neg h]
    exact hw

/-- A finite number of sums by parts. -/
theorem Is.sum {ι : Type} (s : Finset ι) {f g : ι → EReal} {z : ι → ℂ} (h : ∀ i, Is (f i) (g i) (z i)) :
    Is (∑ i ∈ s, f i) (∑ i ∈ s, g i) (∑ i ∈ s, z i) := by
  constructor
  · rw [Complex.re_sum, coe_sum]
    exact sum_congr rfl fun i _ => (h i).1
  · rw [Complex.im_sum, coe_sum]
    exact sum_congr rfl fun i _ => (h i).2

/-- A real multiple by parts. -/
theorem Is.smul {a b : EReal} {α : ℂ} (x : ℝ) (ha : Is a b α) : Is ((x : EReal) * a) ((x : EReal) * b) ((x : ℂ) * α) := by
  obtain ⟨rfl, rfl⟩ := ha
  exact ⟨by rw [← EReal.coe_mul, Complex.re_ofReal_mul], by rw [← EReal.coe_mul, Complex.im_ofReal_mul]⟩

/-- A real factor goes over a sum of a real and any extended real. -/
theorem real_mul_add (x y : ℝ) (z : EReal) : (x : EReal) * ((y : EReal) + z) = ((x * y : ℝ) : EReal) + (x : EReal) * z := by
  induction z with
  | coe z => rw [← EReal.coe_add, ← EReal.coe_mul, ← EReal.coe_mul, ← EReal.coe_add, mul_add]
  | top =>
    rw [EReal.coe_add_top]
    rcases lt_trichotomy x 0 with h | h | h
    · rw [EReal.coe_mul_top_of_neg h, EReal.add_bot]
    · subst h; simp
    · rw [EReal.coe_mul_top_of_pos h, EReal.coe_add_top]
  | bot =>
    rw [EReal.add_bot]
    rcases lt_trichotomy x 0 with h | h | h
    · rw [EReal.coe_mul_bot_of_neg h, EReal.coe_add_top]
    · subst h; simp
    · rw [EReal.coe_mul_bot_of_pos h, EReal.add_bot]

/-- A sum over `m * n` places as a sum over rows of `n`. -/
theorem sum_split {M : Type} [AddCommMonoid M] (m n : ℕ) (f : Fin (m * n) → M) :
    ∑ k, f k = ∑ i : Fin m, ∑ j : Fin n, f ⟨i.val * n + j.val, by
      have := i.isLt; have := j.isLt
      calc i.val * n + j.val < i.val * n + n := by omega
        _ = (i.val + 1) * n := by ring
        _ ≤ m * n := Nat.mul_le_mul_right n (by omega)⟩ := by
  rw [← finProdFinEquiv.sum_comp, Fintype.sum_prod_type]
  refine sum_congr rfl fun i _ => sum_congr rfl fun j _ => congrArg f (Fin.ext ?_)
  show j.val + n * i.val = i.val * n + j.val
  ring

end Cert.S5

end
-- ==== Proof.S5.Scan.lean ====
/-
  The kernel's parallel scan over the rows of one tile: eight levels, each of which doubles the number of rows summed.
-/
module

public import proofs.«01_k».proof.Proof.Gen.Kernel2Ideal.Value
public import proofs.«01_k».proof.Proof.S5.Spec
public import Idealize.ShloMosaic.Lib.Pointwise
public import Idealize.ShloMosaic.Lib.ValueIdx
public import Idealize.ShloMosaic.Lib.KernelVsHost

@[expose] public section

noncomputable section

namespace Cert.S5.Scan

open Idealize.ShloMosaic Idealize.ShloMosaic.TcCoe
open Cert.Kernel2Ideal Cert.Kernel2Ideal.Gen

/-- Two real arrays are the parts of a complex one, by lane and row. -/
def Plane (x y : FVec Ideal S256x512 .f32) (f : Fin 512 → ℕ → ℂ) : Prop :=
  ∀ (ρ : Fin 256) (l : Fin 512), Is (x (ix2 ρ l)) (y (ix2 ρ l)) (f l ρ.val)

/-- The row's number, as a word. -/
abbrev rowWords : IVec S256x512 32 := iota .tc S256x512 32 [0] iota_S256x512_d0_w32

/-- An array moved down by `w` rows, with zeros from above. -/
def down (w : BitVec 32) (x : FVec Ideal S256x512 .f32) : FVec Ideal S256x512 .f32 :=
  select (cmpi .sge rowWords (broadcast S256x512 w)) (dynamicRotate 0 w none x rotates_S256x512_d0)
    (broadcast S256x512 (Scalar.ofBits .f32 0x00000000#32))

/-- The real part of a level. -/
def levelRe (w : BitVec 32) (ar ai : FVec Ideal S1x512 .f32) (x y : FVec Ideal S256x512 .f32) : FVec Ideal S256x512 .f32 :=
  subf (addf x (mulf (broadcastTo S256x512 ar broadcasts_S1x512_S256x512) (down w x)))
    (mulf (broadcastTo S256x512 ai broadcasts_S1x512_S256x512) (down w y))

/-- The imaginary part of a level. -/
def levelIm (w : BitVec 32) (ar ai : FVec Ideal S1x512 .f32) (x y : FVec Ideal S256x512 .f32) : FVec Ideal S256x512 .f32 :=
  addf (addf y (mulf (broadcastTo S256x512 ar broadcasts_S1x512_S256x512) (down w y)))
    (mulf (broadcastTo S256x512 ai broadcasts_S1x512_S256x512) (down w x))

/-- The rows from `d` on, by words. -/
theorem keep (d : Fin 256) (ρ : Fin 256) : IntOp.cmpi .sge (BitVec.ofNat 32 ρ.val) (BitVec.ofNat 32 d.val) = if d.val ≤ ρ.val then 1#1 else 0#1 := by
  have h : (BitVec.ofNat 32 d.val).sle (BitVec.ofNat 32 ρ.val) = decide (d.val ≤ ρ.val) := by
    rw [BitVec.sle_eq_decide]
    congr 1
    rw [BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact propext Nat.cast_le
  simp only [IntOp.cmpi, h]
  by_cases hd : d.val ≤ ρ.val
  · rw [if_pos hd, decide_eq_true hd]; rfl
  · rw [if_neg hd, decide_eq_false hd]; rfl

/-- An array moved down by `d` rows, at an element. -/
theorem down_apply (d : Fin 256) (x : FVec Ideal S256x512 .f32) (ρ : Fin 256) (l : Fin 512) :
    down (BitVec.ofNat 32 d.val) x (ix2 ρ l) = if d.val ≤ ρ.val then x (ix2 ⟨ρ.val - d.val, by omega⟩ l) else 0 := by
  have hk : rowWords (ix2 ρ l) = BitVec.ofNat 32 ρ.val := by
    pointwise
  show Scalar.select (IntOp.cmpi .sge (rowWords (ix2 ρ l)) (BitVec.ofNat 32 d.val))
    (dynamicRotate 0 (BitVec.ofNat 32 d.val) none x rotates_S256x512_d0 (ix2 ρ l)) _ = _
  rw [hk, keep]
  by_cases h : d.val ≤ ρ.val
  · rw [if_pos h, if_pos h, ValueIdx.select_one]
    refine dynamicRotate_apply 0 _ x _ _ (ix2 ⟨ρ.val - d.val, by omega⟩ l) ?_
    intro b
    match b with
    | ⟨0, _⟩ =>
      refine Eq.trans ?_ (if_pos (Fin.ext rfl)).symm
      show ρ.val - d.val = (ρ.val + 256 - (BitVec.ofNat 32 d.val).toNat % 256) % 256
      rw [BitVec.toNat_ofNat]
      omega
    | ⟨1, _⟩ =>
      rw [if_neg fun h => absurd (congrArg Fin.val h) (show (1 : ℕ) ≠ 0 by decide)]
      rfl
  · rw [if_neg h, if_neg h, ValueIdx.select_zero]
    exact Ideal.ofBits_zero .f32

/-- A level doubles the window. -/
theorem level (d : Fin 256) {x y : FVec Ideal S256x512 .f32} {ar ai : FVec Ideal S1x512 .f32} {A : Fin 512 → ℂ} {e : Fin 512 → ℕ → ℂ}
    (h : Plane x y fun l => win (A l) (e l) d.val) (ha : ∀ l, Is (ar (ix2 0 l)) (ai (ix2 0 l)) (A l ^ d.val)) :
    Plane (levelRe (BitVec.ofNat 32 d.val) ar ai x y) (levelIm (BitVec.ofNat 32 d.val) ar ai x y) fun l => win (A l) (e l) (d.val + d.val) := by
  intro ρ l
  have hw : Is (down (BitVec.ofNat 32 d.val) x (ix2 ρ l)) (down (BitVec.ofNat 32 d.val) y (ix2 ρ l))
      (if d.val ≤ ρ.val then win (A l) (e l) d.val (ρ.val - d.val) else 0) := by
    rw [down_apply, down_apply]
    exact Is.ite (h _ l) Is.zero
  have hb (v : FVec Ideal S1x512 .f32) : broadcastTo S256x512 v broadcasts_S1x512_S256x512 (ix2 ρ l) = v (ix2 0 l) := by
    pointwise
  have := Is.level (h ρ l) hw (ha l)
  beta_reduce
  rw [win_add]
  rw [← hb ar, ← hb ai] at this
  exact this

end Cert.S5.Scan
-- ==== Proof.S5.Levels.lean ====
/-
  The eight levels of the kernel's scan over a tile, one after another: together they are the recurrence over the tile's rows.
-/
module

public import proofs.«01_k».proof.Proof.S5.Scan

@[expose] public section

noncomputable section

namespace Cert.S5.Scan

open Idealize.ShloMosaic Idealize.ShloMosaic.TcCoe
open Cert.Kernel2Ideal Cert.Kernel2Ideal.Gen

section

variable (v23 v24 : FVec Ideal S256x512 .f32) (v25 : Vec Ideal S1x1024 .f32) (v31 : Vec Ideal S1x8x1024 .f32)

/-- The parts after the first level. -/
abbrev re1 : FVec Ideal S256x512 .f32 := k0_pay28 v23 v24 v25 v31
@[inherit_doc re1] abbrev im1 : FVec Ideal S256x512 .f32 := k0_pay29 v23 v24 v25 v31
/-- The parts after the third level. -/
abbrev re3 : FVec Ideal S256x512 .f32 := k0_pay42 rowWords (k0_pay18 v31) (re1 v23 v24 v25 v31) (im1 v23 v24 v25 v31) (k0_pay30 v31)
@[inherit_doc re3] abbrev im3 : FVec Ideal S256x512 .f32 := k0_pay43 rowWords (k0_pay18 v31) (re1 v23 v24 v25 v31) (im1 v23 v24 v25 v31) (k0_pay30 v31)
/-- The real part after the third level, turned. -/
abbrev turned3 : FVec Ideal S256x512 .f32 := k0_pay47 rowWords (k0_pay18 v31) (re1 v23 v24 v25 v31) (im1 v23 v24 v25 v31) (k0_pay30 v31)
/-- The parts after the fifth level. -/
abbrev re5 : FVec Ideal S256x512 .f32 := k0_pay57 rowWords (k0_pay18 v31) (re3 v23 v24 v25 v31) (im3 v23 v24 v25 v31) (k0_pay44 (k0_pay18 v31))
  (k0_pay45 (k0_pay18 v31)) (k0_pay46 rowWords) (turned3 v23 v24 v25 v31)
@[inherit_doc re5] abbrev im5 : FVec Ideal S256x512 .f32 := k0_pay58 rowWords (k0_pay18 v31) (re3 v23 v24 v25 v31) (im3 v23 v24 v25 v31) (k0_pay44 (k0_pay18 v31))
  (k0_pay45 (k0_pay18 v31)) (k0_pay46 rowWords) (turned3 v23 v24 v25 v31)
/-- The real part after the fifth level, moved down. -/
abbrev down5 : FVec Ideal S256x512 .f32 := k0_pay62 rowWords (k0_pay18 v31) (re3 v23 v24 v25 v31) (im3 v23 v24 v25 v31) (k0_pay44 (k0_pay18 v31))
  (k0_pay45 (k0_pay18 v31)) (k0_pay46 rowWords) (turned3 v23 v24 v25 v31)
/-- The imaginary part after the fifth level, turned. -/
abbrev turned5 : FVec Ideal S256x512 .f32 := k0_pay63 rowWords (k0_pay18 v31) (re3 v23 v24 v25 v31) (im3 v23 v24 v25 v31) (k0_pay44 (k0_pay18 v31))
  (k0_pay45 (k0_pay18 v31)) (k0_pay46 rowWords) (turned3 v23 v24 v25 v31)
/-- The sixth level's operands, then a payload over them. -/
abbrev over5 {α : Type} (f : IVec S256x512 32 → FVec Ideal S8x1024 .f32 → FVec Ideal S256x512 .f32 → FVec Ideal S256x512 .f32 → FVec Ideal S1x512 .f32 →
    FVec Ideal S1x512 .f32 → IVec S256x512 1 → FVec Ideal S256x512 .f32 → FVec Ideal S256x512 .f32 → Ideal .f32 → α) : α :=
  f rowWords (k0_pay18 v31) (re5 v23 v24 v25 v31) (im5 v23 v24 v25 v31) (k0_pay59 (k0_pay18 v31)) (k0_pay60 (k0_pay18 v31)) (k0_pay61 rowWords)
    (down5 v23 v24 v25 v31) (turned5 v23 v24 v25 v31) (Scalar.ofBits .f32 0x00000000#32)
/-- The imaginary part after the seventh level. -/
abbrev im7 : FVec Ideal S256x512 .f32 := over5 v23 v24 v25 v31 k0_pay73
/-- What the last level takes. -/
abbrev downRe7 : FVec Ideal S256x512 .f32 := over5 v23 v24 v25 v31 k0_pay77
@[inherit_doc downRe7] abbrev downIm7 : FVec Ideal S256x512 .f32 := over5 v23 v24 v25 v31 k0_pay78
@[inherit_doc downRe7] abbrev sum7 : FVec Ideal S256x512 .f32 := over5 v23 v24 v25 v31 k0_pay79
@[inherit_doc downRe7] abbrev row7 : FVec Ideal S1x512 .f32 := k0_pay74 (k0_pay18 v31)
@[inherit_doc downRe7] abbrev row7' : FVec Ideal S1x512 .f32 := k0_pay75 (k0_pay18 v31)
@[inherit_doc downRe7] abbrev wide7 : FVec Ideal S256x512 .f32 := k0_pay80 (k0_pay18 v31)

/-- The parts after all eight levels. -/
abbrev re8 : FVec Ideal S256x512 .f32 := k0_pay81 (downIm7 v23 v24 v25 v31) (sum7 v23 v24 v25 v31) (wide7 v31)
@[inherit_doc re8] abbrev im8 : FVec Ideal S256x512 .f32 :=
  k0_pay82 (im7 v23 v24 v25 v31) (row7 v31) (row7' v31) (downRe7 v23 v24 v25 v31) (downIm7 v23 v24 v25 v31)

end

variable {v23 v24 : FVec Ideal S256x512 .f32} {v25 : Vec Ideal S1x1024 .f32} {v31 : Vec Ideal S1x8x1024 .f32}
  {A h : Fin 512 → ℂ} {e : Fin 512 → ℕ → ℂ}

/-- The first row, by words. -/
theorem first (ρ : Fin 256) : IntOp.cmpi .eq (BitVec.ofNat 32 ρ.val) 0#32 = if ρ.val = 0 then 1#1 else 0#1 := by
  revert ρ
  decide +kernel

/-- A selection by a condition's word. -/
theorem pick {α : Type} (P : Prop) [Decidable P] (a b : α) : Scalar.select (if P then 1#1 else 0#1) a b = if P then a else b := by
  by_cases h : P
  · rw [if_pos h, if_pos h, ValueIdx.select_one]
  · rw [if_neg h, if_neg h, ValueIdx.select_zero]

/-- The state coming in is added to the first row. -/
theorem start_apply (he : Plane v23 v24 e) (hh : ∀ l : Fin 512, Is (v25 (ix2 0 (⟨l.val, by omega⟩ : Fin 1024))) (v25 (ix2 0 (⟨512 + l.val, by omega⟩ : Fin 1024))) (h l))
    (hA : ∀ (k : Fin 8) (l : Fin 512), Is (v31 (ix3 0 k (⟨l.val, by omega⟩ : Fin 1024))) (v31 (ix3 0 k (⟨512 + l.val, by omega⟩ : Fin 1024))) (A l ^ 2 ^ k.val)) :
    Plane (k0_pay21 v23 v25 v31) (k0_pay22 v24 v25 v31) fun l ρ => e l ρ + if ρ = 0 then A l * h l else 0 := by
  intro ρ l
  have h1 := hA 0 l
  rw [show (0 : Fin 8).val = 0 from rfl, pow_zero, pow_one] at h1
  refine Is.add (he ρ l) ?_
  have := Is.ite (P := ρ.val = 0) (Is.mul h1 (hh l)) Is.zero
  refine ⟨Eq.trans ?_ this.1, Eq.trans ?_ this.2⟩ <;>
  · show Scalar.select (k0_pay17 (ix2 ρ l)) _ _ = _
    unfold_payloads
    pointwise
    rw [first, pick]

/-- The rows of the scan's table, as each level takes them: level `k` has the decay to the power `2 ^ k`. -/
theorem rows_apply (hA : ∀ (k : Fin 8) (l : Fin 512), Is (v31 (ix3 0 k (⟨l.val, by omega⟩ : Fin 1024))) (v31 (ix3 0 k (⟨512 + l.val, by omega⟩ : Fin 1024))) (A l ^ 2 ^ k.val))
    (l : Fin 512) :
    (Is (k0_pay23 v31 (ix2 0 l)) (k0_pay24 v31 (ix2 0 l)) (A l ^ 1) ∧ Is (k0_pay30 v31 (ix2 0 l)) (k0_pay31 (k0_pay18 v31) (ix2 0 l)) (A l ^ 2)
      ∧ Is (k0_pay37 (k0_pay18 v31) (ix2 0 l)) (k0_pay38 (k0_pay18 v31) (ix2 0 l)) (A l ^ 4)
      ∧ Is (k0_pay44 (k0_pay18 v31) (ix2 0 l)) (k0_pay45 (k0_pay18 v31) (ix2 0 l)) (A l ^ 8))
    ∧ Is (k0_pay52 (k0_pay18 v31) (ix2 0 l)) (k0_pay53 (k0_pay18 v31) (ix2 0 l)) (A l ^ 16)
      ∧ Is (k0_pay59 (k0_pay18 v31) (ix2 0 l)) (k0_pay60 (k0_pay18 v31) (ix2 0 l)) (A l ^ 32)
      ∧ Is (k0_pay67 (k0_pay18 v31) (ix2 0 l)) (k0_pay68 (k0_pay18 v31) (ix2 0 l)) (A l ^ 64)
      ∧ Is (k0_pay74 (k0_pay18 v31) (ix2 0 l)) (k0_pay75 (k0_pay18 v31) (ix2 0 l)) (A l ^ 128) := by
  have r (k : Fin 8) (a b : FVec Ideal S1x512 .f32) (ha : a (ix2 0 l) = v31 (ix3 0 k (⟨l.val, by omega⟩ : Fin 1024)))
      (hb : b (ix2 0 l) = v31 (ix3 0 k (⟨512 + l.val, by omega⟩ : Fin 1024))) : Is (a (ix2 0 l)) (b (ix2 0 l)) (A l ^ 2 ^ k.val) := by
    rw [ha, hb]
    exact hA k l
  refine ⟨⟨r 0 _ _ ?_ ?_, r 1 _ _ ?_ ?_, r 2 _ _ ?_ ?_, r 3 _ _ ?_ ?_⟩, r 4 _ _ ?_ ?_, r 5 _ _ ?_ ?_, r 6 _ _ ?_ ?_, r 7 _ _ ?_ ?_⟩ <;>
  · unfold_payloads
    pointwise

/-- After the eight levels each row holds the recurrence's state after it. -/
theorem levels_apply (he : Plane v23 v24 e) (hh : ∀ l : Fin 512, Is (v25 (ix2 0 (⟨l.val, by omega⟩ : Fin 1024))) (v25 (ix2 0 (⟨512 + l.val, by omega⟩ : Fin 1024))) (h l))
    (hA : ∀ (k : Fin 8) (l : Fin 512), Is (v31 (ix3 0 k (⟨l.val, by omega⟩ : Fin 1024))) (v31 (ix3 0 k (⟨512 + l.val, by omega⟩ : Fin 1024))) (A l ^ 2 ^ k.val)) :
    Plane (re8 v23 v24 v25 v31) (im8 v23 v24 v25 v31) fun l ρ => hid (A l) (fun ρ => e l ρ + if ρ = 0 then A l * h l else 0) (ρ + 1) := by
  have hr := rows_apply hA
  have p0 : Plane (k0_pay21 v23 v25 v31) (k0_pay22 v24 v25 v31) fun l => win (A l) (fun ρ => e l ρ + if ρ = 0 then A l * h l else 0) 1 := by
    intro ρ l
    have := start_apply he hh hA ρ l
    have w1 (f : ℕ → ℂ) : win (A l) f 1 ρ.val = f ρ.val := by simp [win]
    beta_reduce at this ⊢
    rw [w1]
    exact this
  have p1 := level 1 p0 fun l => (hr l).1.1
  have p2 := level 2 p1 fun l => (hr l).1.2.1
  have p3 := level 4 p2 fun l => (hr l).1.2.2.1
  have p4 := level 8 p3 fun l => (hr l).1.2.2.2
  have p5 := level 16 p4 fun l => (hr l).2.1
  have p6 := level 32 p5 fun l => (hr l).2.2.1
  have p7 := level 64 p6 fun l => (hr l).2.2.2.1
  have p8 := level 128 p7 fun l => (hr l).2.2.2.2
  have p : Plane (re8 v23 v24 v25 v31) (im8 v23 v24 v25 v31) fun l => win (A l) (fun ρ => e l ρ + if ρ = 0 then A l * h l else 0) 256 := p8
  intro ρ l
  have := p ρ l
  beta_reduce at this ⊢
  rwa [win_eq_hid _ _ _ _ ρ.isLt] at this

end Cert.S5.Scan
-- ==== Proof.S5.Tile.lean ====
/-
  What one grid point of the kernel leaves: its tile of the result, the state after its last row and, where the tile is a
  lane block's first of a sequence, the expanded matrices.
-/
module

public import proofs.«01_k».proof.Proof.S5.Levels

@[expose] public section

noncomputable section

namespace Cert.S5.Tile

open Idealize.ShloMosaic Idealize.ShloMosaic.TcCoe Idealize.SL.Sem
open Cert.Kernel2Ideal Cert.Kernel2Ideal.Gen Cert.S5.Scan
open Idealize.ShloMosaic.ValueIdx (idx2_lt0 idx2_lt1 select_one select_zero)

/-- A payload over the eight positions of each row. -/
abbrev over {α : Type} (x0 : Vec Ideal S256x8x128 .f32) (f : (a b c d e f g h : Vec Ideal S256x1x128 .f32) → α) : α :=
  f (View.ld x0 (Rect.unit ![0, 0, 0] ![256, 1, 128] inb_S256x8x128_S256x1x128_0_0_0))
    (View.ld x0 (Rect.unit ![0, 1, 0] ![256, 1, 128] inb_S256x8x128_S256x1x128_0_1_0))
    (View.ld x0 (Rect.unit ![0, 2, 0] ![256, 1, 128] inb_S256x8x128_S256x1x128_0_2_0))
    (View.ld x0 (Rect.unit ![0, 3, 0] ![256, 1, 128] inb_S256x8x128_S256x1x128_0_3_0))
    (View.ld x0 (Rect.unit ![0, 4, 0] ![256, 1, 128] inb_S256x8x128_S256x1x128_0_4_0))
    (View.ld x0 (Rect.unit ![0, 5, 0] ![256, 1, 128] inb_S256x8x128_S256x1x128_0_5_0))
    (View.ld x0 (Rect.unit ![0, 6, 0] ![256, 1, 128] inb_S256x8x128_S256x1x128_0_6_0))
    (View.ld x0 (Rect.unit ![0, 7, 0] ![256, 1, 128] inb_S256x8x128_S256x1x128_0_7_0))

/-- The tile's rows, their eight positions side by side. -/
abbrev flat (x0 : Vec Ideal S256x8x128 .f32) : FVec Ideal S256x1024 .bf16 := over x0 k0_pay11

/-- The parts of what each row adds to the state. -/
abbrev addRe (x0 : Vec Ideal S256x8x128 .f32) (X2 : Vec Ideal S1024x1024 .bf16) : FVec Ideal S256x512 .f32 :=
  over x0 (fun a b c d e f g h => k0_pay13 a b c d e f g h X2)
@[inherit_doc addRe] abbrev addIm (x0 : Vec Ideal S256x8x128 .f32) (X2 : Vec Ideal S1024x1024 .bf16) : FVec Ideal S256x512 .f32 :=
  over x0 (fun a b c d e f g h => k0_pay14 a b c d e f g h X2)

/-- A payload over what the last level takes. -/
abbrev over7 {α : Type} (x0 : Vec Ideal S256x8x128 .f32) (x4 : Vec Ideal S1x8x1024 .f32) (h : Vec Ideal S1x1024 .f32) (X2 : Vec Ideal S1024x1024 .bf16)
    (f : FVec Ideal S256x512 .f32 → FVec Ideal S1x512 .f32 → FVec Ideal S1x512 .f32 → FVec Ideal S256x512 .f32 → FVec Ideal S256x512 .f32 →
      FVec Ideal S256x512 .f32 → FVec Ideal S256x512 .f32 → α) : α :=
  f (im7 (addRe x0 X2) (addIm x0 X2) h x4) (row7 x4) (row7' x4) (downRe7 (addRe x0 X2) (addIm x0 X2) h x4) (downIm7 (addRe x0 X2) (addIm x0 X2) h x4)
    (sum7 (addRe x0 X2) (addIm x0 X2) h x4) (wide7 x4)

/-- The state after the tile's last row. -/
abbrev newState (x0 : Vec Ideal S256x8x128 .f32) (x4 : Vec Ideal S1x8x1024 .f32) (h : Vec Ideal S1x1024 .f32) (X2 : Vec Ideal S1024x1024 .bf16) :
    FVec Ideal S1x1024 .f32 := over7 x0 x4 h X2 k0_pay83

/-- The tile of the result, its rows' eight positions side by side. -/
abbrev result (x0 : Vec Ideal S256x8x128 .f32) (x4 : Vec Ideal S1x8x1024 .f32) (h : Vec Ideal S1x1024 .f32) (X1 X2 X3 : Vec Ideal S1024x1024 .bf16) :
    FVec Ideal S256x1024 .f32 :=
  over7 x0 x4 h X2 (fun a b c d e f g => k0_pay84 (flat x0) (k0_pay15 h) (k0_pay16 h) k0_pay17 a b c d e f g X1 X3)

/-- The matrix that takes a row to its own positions' outputs, expanded over the lane block. -/
abbrev matrix1 (x1 : Vec Ideal S1x1024x128 .bf16) (x5 : Vec Ideal S128x1024 .bf16) (x7 : Vec Ideal S3x1024x1024 .bf16) : FVec Ideal S1024x1024 .bf16 :=
  k0_pay8 x1 x5 (View.ld x7 (Rect.unit ![0, 0, 0] ![1, 1024, 1024] inb_S3x1024x1024_S1x1024x1024_0_0_0))

/-- The matrix that takes a row to what it adds to the state, expanded over the lane block. -/
abbrev matrix2 (x2 : Vec Ideal S1x1024x128 .bf16) (x6 : Vec Ideal S128x1024 .bf16) (x7 : Vec Ideal S3x1024x1024 .bf16) : FVec Ideal S1024x1024 .bf16 :=
  k0_pay9 x2 x6 (View.ld x7 (Rect.unit ![1, 0, 0] ![1, 1024, 1024] inb_S3x1024x1024_S1x1024x1024_1_0_0))

/-- The matrix that reads the state out, expanded over the lane block. -/
abbrev matrix3 (x3 : Vec Ideal S1x1024x128 .bf16) (x5 : Vec Ideal S128x1024 .bf16) (x7 : Vec Ideal S3x1024x1024 .bf16) : FVec Ideal S1024x1024 .bf16 :=
  k0_pay10 x3 x5 (View.ld x7 (Rect.unit ![2, 0, 0] ![1, 1024, 1024] inb_S3x1024x1024_S1x1024x1024_2_0_0))

/-- Rows of eight positions side by side, as rows by positions. -/
def tile (Y : FVec Ideal S256x1024 .f32) : Vec Ideal S256x8x128 .f32 := fun y =>
  Y (ix2 (⟨(y 0).val, (y 0).isLt⟩ : Fin 256) (⟨(y 1).val * 128 + (y 2).val, by
    have h1 : (y 1).val < 8 := (y 1).isLt
    have h2 : (y 2).val < 128 := (y 2).isLt
    omega⟩ : Fin 1024))

/-- One position's columns agree with it. -/
theorem column_apply (Y : FVec Ideal S256x1024 .f32) (t o : ℕ) (hS : S256x1024.Slices ![0, o] S256x128) (ho : o = t * 128)
    (hc : S256x128.ShapeCasts S256x1x128) (hA : ∀ a, (![0, t, 0] : Fin 3 → ℕ) a + (![256, 1, 128] : Fin 3 → ℕ) a ≤ S256x8x128.size a) (x : S256x1x128.Idx) :
    shapeCast S256x1x128 (extractStridedSlice S256x128 ![0, o] Y hS) hc x
      = tile Y ((Rect.unit (s := S256x8x128) ![0, t, 0] ![256, 1, 128] hA).emb x) := by
  obtain ⟨r, u, l, rfl⟩ : ∃ (r : Fin 256) (u : Fin 1) (l : Fin 128), x = ix3 r u l := ⟨x 0, x 1, x 2, eq_ix3 x⟩
  have h1 : t + 1 ≤ 8 := hA 1
  have e : (Rect.unit (s := S256x8x128) ![0, t, 0] ![256, 1, 128] hA).emb (ix3 r u l) = ix3 r (⟨t, by omega⟩ : Fin 8) l := by
    funext a
    match a with
    | ⟨0, _⟩ => exact Fin.ext (show 0 + 1 * r.val = r.val by omega)
    | ⟨1, _⟩ => exact Fin.ext (show t + 1 * u.val = t by omega)
    | ⟨2, _⟩ => exact Fin.ext (show 0 + 1 * l.val = l.val by omega)
  rw [e]
  subst ho
  unfold tile
  pointwise

/-- The third position's columns, which the kernel names apart. -/
theorem column2_apply (v20 : FVec Ideal S256x1024 .bf16) (v26 v27 : FVec Ideal S1x512 .f32) (v30 : IVec S256x512 1) (v204 : FVec Ideal S256x512 .f32)
    (v205 v206 : FVec Ideal S1x512 .f32) (v211 v214 v217 v218 : FVec Ideal S256x512 .f32) (v243 v245 : Vec Ideal S1024x1024 .bf16)
    (hA : ∀ a, (![0, 2, 0] : Fin 3 → ℕ) a + (![256, 1, 128] : Fin 3 → ℕ) a ≤ S256x8x128.size a) (x : S256x1x128.Idx) :
    k0_pay1 (k0_pay87 v20 v26 v27 v30 v204 v205 v206 v211 v214 v217 v218 v243 v245) x
      = tile (k0_pay84 v20 v26 v27 v30 v204 v205 v206 v211 v214 v217 v218 v243 v245) ((Rect.unit (s := S256x8x128) ![0, 2, 0] ![256, 1, 128] hA).emb x) := by
  unfold k0_pay1 k0_pay87
  exact column_apply _ 2 256 _ rfl _ hA x

section

variable (c : Dev nD) (i : grid0.Coords) (arg3 : Memref sig .tc .vmem S256x8x128 .f32) (harg3 : arg3.IsWhole) (arg4 : Memref sig .tc .vmem S1x1024x128 .bf16)
  (harg4 : arg4.IsWhole) (arg5 : Memref sig .tc .vmem S1x1024x128 .bf16) (harg5 : arg5.IsWhole) (arg6 : Memref sig .tc .vmem S1x1024x128 .bf16)
  (harg6 : arg6.IsWhole) (arg7 : Memref sig .tc .vmem S1x8x1024 .f32) (harg7 : arg7.IsWhole) (arg8 : Memref sig .tc .vmem S128x1024 .bf16)
  (harg8 : arg8.IsWhole) (arg9 : Memref sig .tc .vmem S128x1024 .bf16) (harg9 : arg9.IsWhole) (arg10 : Memref sig .tc .vmem S3x1024x1024 .bf16)
  (harg10 : arg10.IsWhole) (arg11 : Memref sig .tc .vmem S256x8x128 .f32) (harg11 : arg11.IsWhole) (arg12 : Memref sig .tc .vmem S1x1024 .f32)
  (harg12 : arg12.IsWhole) (arg13 : Memref sig .tc .vmem S1024x1024 .bf16) (harg13 : arg13.IsWhole) (arg14 : Memref sig .tc .vmem S1024x1024 .bf16)
  (harg14 : arg14.IsWhole) (arg15 : Memref sig .tc .vmem S1024x1024 .bf16) (harg15 : arg15.IsWhole)
  (x0 : Vec Ideal S256x8x128 .f32) (x1 : Vec Ideal S1x1024x128 .bf16) (x2 : Vec Ideal S1x1024x128 .bf16) (x3 : Vec Ideal S1x1024x128 .bf16)
  (x4 : Vec Ideal S1x8x1024 .f32) (x5 : Vec Ideal S128x1024 .bf16) (x6 : Vec Ideal S128x1024 .bf16) (x7 : Vec Ideal S3x1024x1024 .bf16)
  (xs0 : Vec Ideal S1x1024 .f32) (xs1 : Vec Ideal S1024x1024 .bf16) (xs2 : Vec Ideal S1024x1024 .bf16) (xs3 : Vec Ideal S1024x1024 .bf16)

/-- A later tile leaves the state after its last row. -/
theorem later_state (hc0 : ¬cond0_0 i) :
    sout0_B_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 xs3 = newState x0 x4 xs0 xs2 := by
  have z : (![0, 0] : Fin 2 → ℕ) = fun _ => 0 := by decide
  have z' : (![0, 0, 0] : Fin 3 → ℕ) = fun _ => 0 := by decide
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 xs3)]
  unfold kernelRun0_B
  dsimp only
  sl_unfold_words
  simp only [View.readAt_eq_ld, Memref.IsWhole.read_unread]
  rw [View.canon_unit_zero (S := S1x1024) z]
  simp only [View.ld_unit_zero (S := S1x8x1024) z', View.ld_unit_zero (S := S1x1024x128) z', View.ld_unit_zero (S := S128x1024) z,
    View.ld_unit_zero (S := S1x1024) z, View.ld_unit_zero (S := S1024x1024) z]

/-- A first tile leaves the state after its last row, from zero. -/
theorem first_state (hc0 : cond0_0 i) :
    sout0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = newState x0 x4 (k0_pay7 (F := Ideal)) (matrix2 x2 x6 x7) := by
  have z : (![0, 0] : Fin 2 → ℕ) = fun _ => 0 := by decide
  have z' : (![0, 0, 0] : Fin 3 → ℕ) = fun _ => 0 := by decide
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  simp only [View.readAt_eq_ld, Memref.IsWhole.read_unread]
  rw [View.canon_cons_unit_zero (S := S1x1024) z]
  simp only [View.readCov_unit_zero (S := S1024x1024) _ z, View.readCov_unit_zero (S := S1x1024) _ z]
  simp only [View.ld_unit_zero (S := S1x8x1024) z', View.ld_unit_zero (S := S1x1024x128) z', View.ld_unit_zero (S := S128x1024) z,
    View.ld_unit_zero (S := S1x1024) z, View.ld_unit_zero (S := S1024x1024) z]

/-- A first tile leaves the expanded matrix. -/
theorem first_matrix1 (hc0 : cond0_0 i) :
    sout0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = matrix1 x1 x5 x7 := by
  have z : (![0, 0] : Fin 2 → ℕ) = fun _ => 0 := by decide
  have z' : (![0, 0, 0] : Fin 3 → ℕ) = fun _ => 0 := by decide
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  simp only [View.readAt_eq_ld, Memref.IsWhole.read_unread]
  rw [View.canon_unit_zero (S := S1024x1024) z]
  simp only [View.ld_unit_zero (S := S1x8x1024) z', View.ld_unit_zero (S := S1x1024x128) z', View.ld_unit_zero (S := S128x1024) z,
    View.ld_unit_zero (S := S1x1024) z, View.ld_unit_zero (S := S1024x1024) z]

/-- A first tile leaves the expanded matrix. -/
theorem first_matrix2 (hc0 : cond0_0 i) :
    sout0_A_2 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = matrix2 x2 x6 x7 := by
  have z : (![0, 0] : Fin 2 → ℕ) = fun _ => 0 := by decide
  have z' : (![0, 0, 0] : Fin 3 → ℕ) = fun _ => 0 := by decide
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  simp only [View.readAt_eq_ld, Memref.IsWhole.read_unread]
  rw [View.canon_unit_zero (S := S1024x1024) z]
  simp only [View.ld_unit_zero (S := S1x8x1024) z', View.ld_unit_zero (S := S1x1024x128) z', View.ld_unit_zero (S := S128x1024) z,
    View.ld_unit_zero (S := S1x1024) z, View.ld_unit_zero (S := S1024x1024) z]

/-- A first tile leaves the expanded matrix. -/
theorem first_matrix3 (hc0 : cond0_0 i) :
    sout0_A_3 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = matrix3 x3 x5 x7 := by
  have z : (![0, 0] : Fin 2 → ℕ) = fun _ => 0 := by decide
  have z' : (![0, 0, 0] : Fin 3 → ℕ) = fun _ => 0 := by decide
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  simp only [View.readAt_eq_ld, Memref.IsWhole.read_unread]
  rw [View.canon_unit_zero (S := S1024x1024) z]
  simp only [View.ld_unit_zero (S := S1x8x1024) z', View.ld_unit_zero (S := S1x1024x128) z', View.ld_unit_zero (S := S128x1024) z,
    View.ld_unit_zero (S := S1x1024) z, View.ld_unit_zero (S := S1024x1024) z]

/-- A later tile of the result. -/
theorem later_tile (hc0 : ¬cond0_0 i) :
    out0_B_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 xs3 = tile (result x0 x4 xs0 xs1 xs2 xs3) := by
  have z : (![0, 0] : Fin 2 → ℕ) = fun _ => 0 := by decide
  have z' : (![0, 0, 0] : Fin 3 → ℕ) = fun _ => 0 := by decide
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 xs1 xs2 xs3)]
  unfold kernelRun0_B
  dsimp only
  sl_unfold_words
  simp only [View.readAt_eq_ld, Memref.IsWhole.read_unread]
  simp only [View.ld_unit_zero (S := S1x8x1024) z', View.ld_unit_zero (S := S1x1024x128) z', View.ld_unit_zero (S := S128x1024) z,
    View.ld_unit_zero (S := S1x1024) z, View.ld_unit_zero (S := S1024x1024) z]
  refine funext fun y => View.canon_apply_of_pieces _ _ ?_ y (View.cover_of_tiledL _ ![256, 1, 128] (by sl_kernel_rfl) y)
  simp only [List.forall_mem_cons]
  exact ⟨fun x => column_apply _ 7 896 _ rfl _ _ x,
    fun x => column_apply _ 6 768 _ rfl _ _ x,
    fun x => column_apply _ 5 640 _ rfl _ _ x,
    fun x => column_apply _ 4 512 _ rfl _ _ x,
    fun x => column_apply _ 3 384 _ rfl _ _ x,
    fun x => column2_apply _ _ _ _ _ _ _ _ _ _ _ _ _ _ x,
    fun x => column_apply _ 1 128 _ rfl _ _ x,
    fun x => column_apply _ 0 0 _ rfl _ _ x, by simp⟩

/-- A first tile of the result. -/
theorem first_tile (hc0 : cond0_0 i) :
    out0_A_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = tile (result x0 x4 (k0_pay7 (F := Ideal)) (matrix1 x1 x5 x7) (matrix2 x2 x6 x7) (matrix3 x3 x5 x7)) := by
  have z : (![0, 0] : Fin 2 → ℕ) = fun _ => 0 := by decide
  have z' : (![0, 0, 0] : Fin 3 → ℕ) = fun _ => 0 := by decide
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  simp only [View.readAt_eq_ld, Memref.IsWhole.read_unread]
  simp only [View.readCov_unit_zero (S := S1024x1024) _ z, View.readCov_unit_zero (S := S1x1024) _ z]
  simp only [View.ld_unit_zero (S := S1x8x1024) z', View.ld_unit_zero (S := S1x1024x128) z', View.ld_unit_zero (S := S128x1024) z,
    View.ld_unit_zero (S := S1x1024) z, View.ld_unit_zero (S := S1024x1024) z]
  refine funext fun y => View.canon_apply_of_pieces _ _ ?_ y (View.cover_of_tiledL _ ![256, 1, 128] (by sl_kernel_rfl) y)
  simp only [List.forall_mem_cons]
  exact ⟨fun x => column_apply _ 7 896 _ rfl _ _ x,
    fun x => column_apply _ 6 768 _ rfl _ _ x,
    fun x => column_apply _ 5 640 _ rfl _ _ x,
    fun x => column_apply _ 4 512 _ rfl _ _ x,
    fun x => column_apply _ 3 384 _ rfl _ _ x,
    fun x => column2_apply _ _ _ _ _ _ _ _ _ _ _ _ _ _ x,
    fun x => column_apply _ 1 128 _ rfl _ _ x,
    fun x => column_apply _ 0 0 _ rfl _ _ x, by simp⟩

end

end Cert.S5.Tile
-- ==== Proof.S5.HostOps.lean ====
/-
  The operations that the kernel's host code uses and that read their operands by dimension numbers: the product that builds the
  chunk's matrix, the picks of a power by an index, and the addition of the skip to the matrix of distance zero.
-/
module

public import proofs.«01_k».proof.Proof.Gen.Kernel2Ideal.Frame
public import Idealize.ShloMosaic.Lib.Claim
public import Idealize.ShloMosaic.Lib.Routing.OpsOrder
public import Idealize.ShloMosaic.Lib.StableHlo.ReadAt
public import Idealize.ShloMosaic.Lib.Pointwise
public import Idealize.ShloMosaic.Lib.ValueIdx

@[expose] public section

noncomputable section

namespace Cert.S5.HostOps

open Idealize.ShloMosaic Idealize.ShloMosaic.TcCoe
open Cert.Kernel2Ideal Cert.Kernel2Ideal.Gen

/-- The product over the states. -/
theorem dot_apply (x : FVec Ideal S48x64x16 .f32) (y : FVec Ideal S9x48x16x64 .f32) (δ : Fin 9) (G : Fin 48) (p q : Fin 16) :
    Host.dotGeneral dot_S48x64x16_S9x48x16x64_S48x16x9x16_1_3_2_02_0_1 none x y (ix4 G q δ p) = ∑ n : Fin 64, x (ix3 G n q) * y (ix4 δ G p n) := by
  pointwise

/-- A pick of one table of rows by its index. -/
theorem pick_apply {α : Type} (x : S9x48x64.Idx → α) (i : IVec S8x1 32) (s : Fin 8) (G : Fin 48) (n : Fin 64) (k : Fin 9)
    (hk : (i (ix2 s 0)).toInt = k.val) : Host.gather gather_S9x48x64_S8x1_S8x48x64_12_0_n_n_0_1_14864 x i (ix3 s G n) = x (ix3 k G n) := by
  unfold Host.gather
  congr 1
  have hs : (gather_S9x48x64_S8x1_S8x48x64_12_0_n_n_0_1_14864.siIdx (ix3 s G n) ⟨0, by decide⟩) = ix2 s 0 := by
    funext b
    match b with
    | ⟨0, _⟩ => rfl
    | ⟨1, _⟩ => rfl
  funext a
  match a with
  | ⟨0, _⟩ =>
    refine Fin.ext ?_
    show min (i (gather_S9x48x64_S8x1_S8x48x64_12_0_n_n_0_1_14864.siIdx (ix3 s G n) ⟨0, by decide⟩)).toInt.toNat 8 + 0 + 0 = k.val
    rw [hs, hk]
    omega
  | ⟨1, _⟩ => exact Fin.ext (Nat.zero_add G.val)
  | ⟨2, _⟩ => exact Fin.ext (Nat.zero_add n.val)

/-- A pick of one matrix by its index. -/
theorem pick4_apply {α : Type} (x : S9x48x16x16.Idx → α) (i : IVec S8x8x1 32) (s t : Fin 8) (G : Fin 48) (p q : Fin 16) (k : Fin 9)
    (hk : (i (ix3 s t 0)).toInt = k.val) :
    Host.gather gather_S9x48x16x16_S8x8x1_S8x8x48x16x16_234_0_n_n_0_2_1481616 x i (ix5 s t G p q) = x (ix4 k G p q) := by
  unfold Host.gather
  congr 1
  have hs : (gather_S9x48x16x16_S8x8x1_S8x8x48x16x16_234_0_n_n_0_2_1481616.siIdx (ix5 s t G p q) ⟨0, by decide⟩) = ix3 s t 0 := by
    funext b
    match b with
    | ⟨0, _⟩ => rfl
    | ⟨1, _⟩ => rfl
    | ⟨2, _⟩ => rfl
  funext a
  match a with
  | ⟨0, _⟩ =>
    refine Fin.ext ?_
    show min (i (gather_S9x48x16x16_S8x8x1_S8x8x48x16x16_234_0_n_n_0_2_1481616.siIdx (ix5 s t G p q) ⟨0, by decide⟩)).toInt.toNat 8 + 0 + 0 = k.val
    rw [hs, hk]
    omega
  | ⟨1, _⟩ => exact Fin.ext (Nat.zero_add G.val)
  | ⟨2, _⟩ => exact Fin.ext (Nat.zero_add p.val)
  | ⟨3, _⟩ => exact Fin.ext (Nat.zero_add q.val)

/-- Where an update of the skip lands: in the matrix of distance zero. -/
theorem lands (i : IVec S1 32) (hi : i (ix1 0) = 0#32) (j : S48x16x16.Idx) :
    scatter_S9x48x16x16_S1_S48x16x16_012_0_0_0.resultIdx? j i = some (ix4 0 (j 0) (j 1) (j 2)) := by
  have hs : (scatter_S9x48x16x16_S1_S48x16x16_012_0_0_0.siIdx j ⟨0, by decide⟩) = ix1 0 := by
    funext b
    match b with
    | ⟨0, _⟩ => rfl
  have e0 : scatter_S9x48x16x16_S1_S48x16x16_012_0_0_0.start j i 0 = 0 := by
    show (i (scatter_S9x48x16x16_S1_S48x16x16_012_0_0_0.siIdx j ⟨0, by decide⟩)).toInt = 0
    rw [hs, hi]
    rfl
  have e (a : Fin 4) : scatter_S9x48x16x16_S1_S48x16x16_012_0_0_0.start j i a + scatter_S9x48x16x16_S1_S48x16x16_012_0_0_0.window j a
      = (((ix4 0 (j 0) (j 1) (j 2) : S9x48x16x16.Idx) a).val : ℤ) := by
    match a with
    | ⟨0, _⟩ => exact (congrArg (· + _) e0).trans rfl
    | ⟨1, _⟩ => exact Int.zero_add _
    | ⟨2, _⟩ => exact Int.zero_add _
    | ⟨3, _⟩ => exact Int.zero_add _
  unfold ScatterDims.resultIdx?
  rw [dif_pos fun a => by
    have h : ((ix4 0 (j 0) (j 1) (j 2) : S9x48x16x16.Idx) a).val < S9x48x16x16.size a := ((ix4 0 (j 0) (j 1) (j 2) : S9x48x16x16.Idx) a).isLt
    rw [e a]
    omega]
  congr 1
  funext a
  refine Fin.ext ?_
  show (scatter_S9x48x16x16_S1_S48x16x16_012_0_0_0.start j i a + scatter_S9x48x16x16_S1_S48x16x16_012_0_0_0.window j a).toNat = _
  rw [e a]
  rfl

/-- A fold that one element of the list changes. -/
theorem foldl_once {β : Type} {n : ℕ} (p : Fin n → Prop) [DecidablePred p] (g : Fin n → β → β) (k : Fin n) (hk : p k) (hu : ∀ i, p i → i = k) (x : β) :
    (List.finRange n).foldl (fun a i => if p i then g i a else a) x = g k x := by
  have none (L : List (Fin n)) (hL : ∀ i ∈ L, ¬ p i) (y : β) : L.foldl (fun a i => if p i then g i a else a) y = y := by
    induction L generalizing y with
    | nil => rfl
    | cons i L ih =>
      rw [List.foldl_cons, if_neg (hL i (List.mem_cons_self ..))]
      exact ih (fun i hi => hL i (List.mem_cons_of_mem _ hi)) y
  have once (L : List (Fin n)) (hL : L.Nodup) (hm : k ∈ L) (y : β) : L.foldl (fun a i => if p i then g i a else a) y = g k y := by
    induction L generalizing y with
    | nil => exact absurd hm List.not_mem_nil
    | cons i L ih =>
      rw [List.foldl_cons]
      by_cases h : p i
      · obtain rfl := hu i h
        rw [if_pos h]
        exact none L (fun i hi hp => (List.nodup_cons.1 hL).1 (hu i hp ▸ hi)) _
      · rw [if_neg h]
        exact ih (List.nodup_cons.1 hL).2 ((List.mem_cons.1 hm).resolve_left fun e => h (e ▸ hk)) y
  exact once _ (List.nodup_finRange n) (List.mem_finRange k) x

/-- The matrices with the skip added to the one of distance zero. -/
theorem addAt_apply (x : FVec Ideal S9x48x16x16 .f32) (i : IVec S1 32) (hi : i (ix1 0) = 0#32) (u : FVec Ideal S48x16x16 .f32)
    (δ : Fin 9) (G : Fin 48) (p q : Fin 16) :
    Host.scatter scatter_S9x48x16x16_S1_S48x16x16_012_0_0_0 FloatOps.addf x i u (ix4 δ G p q)
      = if δ = 0 then x (ix4 δ G p q) + u (ix3 G p q) else x (ix4 δ G p q) := by
  rw [← Routing.scatterIn_finRange, Routing.scatterIn_at]
  have inj (j : S48x16x16.Idx) (h : scatter_S9x48x16x16_S1_S48x16x16_012_0_0_0.resultIdx? j i = some (ix4 δ G p q)) : δ = 0 ∧ j = ix3 G p q := by
    have h := Option.some.inj ((lands i hi j).symm.trans h)
    refine ⟨(congrFun h 0).symm, ?_⟩
    rw [eq_ix3 j]
    have h1 : j 0 = G := congrFun h 1
    have h2 : j 1 = p := congrFun h 2
    have h3 : j 2 = q := congrFun h 3
    rw [h1, h2, h3]
  by_cases hδ : δ = 0
  · rw [if_pos hδ]
    subst hδ
    refine (foldl_once _ (fun n a => FloatOps.addf a (u (S48x16x16.rowMajor.symm n))) (S48x16x16.rowMajor (ix3 G p q)) ?_ ?_ _).trans ?_
    · rw [Equiv.symm_apply_apply]
      exact lands i hi _
    · intro n hn
      rw [← (inj _ hn).2, Equiv.apply_symm_apply]
    · rw [Equiv.symm_apply_apply]
      rfl
  · rw [if_neg hδ]
    have none (L : List (Fin S48x16x16.numel)) (y : EReal) : L.foldl (fun a n =>
        if scatter_S9x48x16x16_S1_S48x16x16_012_0_0_0.resultIdx? (S48x16x16.rowMajor.symm n) i = some (ix4 δ G p q)
        then FloatOps.addf (φ := .f32) a (u (S48x16x16.rowMajor.symm n)) else a) y = y := by
      induction L generalizing y with
      | nil => rfl
      | cons n L ih => rw [List.foldl_cons, if_neg fun h => hδ (inj _ h).1]; exact ih y
    exact none _ _

end Cert.S5.HostOps

end
-- ==== Proof.S5.Lines.lean ====
/-
  The kernel's host code cut at two places, so that what a window of the launch reads is stated over the few arrays it is made of.
-/
module

public import proofs.«01_k».proof.Proof.S5.HostOps

@[expose] public section

noncomputable section

namespace Cert.S5.Lines

open Idealize.ShloMosaic Idealize.ShloMosaic.TcCoe
open Cert.Kernel2Ideal Cert.Kernel2Ideal.Gen

/-- A line of operations followed by another. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons o l₁ ih => exact ih _

variable (m : (ℓ : Loc nD τ sig) → Buf (Elt Ideal) ℓ) (c : Dev nD)

/-- The buffers once the powers, the weights and the matrices for each distance are computed. -/
def W0 : Valuation τ sig (Elt Ideal) := StableHlo.after hostOps0 (fun b => m ((c : Dev nD), b))
/-- The buffers once the matrices for each pair of positions are picked. -/
def W1 : Valuation τ sig (Elt Ideal) := StableHlo.after (List.flatten [hostOps0_1, hostOps0_2, hostOps0_3]) (W0 m c)
/-- The buffers once the three arrays of matrices are laid out. -/
def W2 : Valuation τ sig (Elt Ideal) := StableHlo.after hostOps0_4 (W1 m c)
/-- The buffers once the numbers of chunks that a level of the doubling spans are computed. -/
def W3 : Valuation τ sig (Elt Ideal) :=
  StableHlo.after (List.flatten [hostOps0_5, hostOps0_6, hostOps0_7, hostOps0_8, hostOps0_9, hostOps0_10, hostOps0_11, hostOps0_12, hostOps0_13,
    hostOps0_14, hostOps0_15, hostOps0_16, hostOps0_17]) (W2 m c)

/-- What the launch reads. -/
theorem V_eq (b : Ref sig .tc) : V m c b = StableHlo.after hostOps0_18 (W3 m c) (Proc.devRef .tc b) := by
  unfold V W3 W2 W1 W0
  simp only [List.flatten_cons, List.flatten_nil, List.append_nil, after_append]

end Cert.S5.Lines

end
-- ==== Proof.S5.Params.lean ====
/-
  The recurrence's parameters as real and complex numbers: the step sizes, the discretised eigenvalues, the discretised input
  weights and the readout weights, and the programs' extended-real terms for them.
-/
module

public import proofs.«01_k».proof.Proof.S5.Spec

@[expose] public section

noncomputable section

namespace Cert.S5

open Idealize.ShloMosaic

/-- The inputs: the sequence's rows, the eigenvalues, the logarithmic steps, the input, readout and skip weights. All but the skip
    weights are real, and no eigenvalue is zero. -/
structure Par where
  u : Fin 32768 → Fin 768 → ℝ
  lr : Fin 48 → Fin 64 → ℝ
  li : Fin 48 → Fin 64 → ℝ
  ls : Fin 48 → ℝ
  br : Fin 48 → Fin 64 → Fin 16 → ℝ
  bi : Fin 48 → Fin 64 → Fin 16 → ℝ
  cr : Fin 48 → Fin 16 → Fin 64 → ℝ
  ci : Fin 48 → Fin 16 → Fin 64 → ℝ
  d : Fin 48 → Fin 16 → EReal
  nz : ∀ G n, lr G n * lr G n + li G n * li G n ≠ 0

namespace Par

variable (P : Par)

/-- The step of a group. -/
def dt (G : Fin 48) : ℝ := Real.exp (P.ls G)
/-- An eigenvalue. -/
def lam (G : Fin 48) (n : Fin 64) : ℂ := ⟨P.lr G n, P.li G n⟩
/-- A discretised eigenvalue. -/
def a (G : Fin 48) (n : Fin 64) : ℂ := Complex.exp (P.lam G n * (P.dt G : ℂ))
/-- The hold's factor. -/
def coef (G : Fin 48) (n : Fin 64) : ℂ := (P.a G n - 1) / P.lam G n
/-- A discretised input weight. -/
def bb (G : Fin 48) (n : Fin 64) (q : Fin 16) : ℂ := P.coef G n * ⟨P.br G n q, P.bi G n q⟩
/-- A readout weight. -/
def ct (G : Fin 48) (p : Fin 16) (n : Fin 64) : ℂ := ⟨P.cr G p n, P.ci G p n⟩
/-- The input of sequence `b` at position `t`, group `G`, lane `q`. -/
def x (b : Fin 2) (t : ℕ) (G : Fin 48) (q : Fin 16) : ℝ :=
  P.u ⟨(b.val * 16384 + t) % 32768, Nat.mod_lt _ (by decide)⟩ ⟨G.val * 16 + q.val, by omega⟩
/-- What position `t` adds to a state. -/
def v (b : Fin 2) (G : Fin 48) (n : Fin 64) (t : ℕ) : ℂ := ∑ q : Fin 16, ((P.x b t G q : ℝ) : ℂ) * P.bb G n q
/-- A state after `t` positions. -/
def h (b : Fin 2) (G : Fin 48) (n : Fin 64) (t : ℕ) : ℂ := hid (P.a G n) (P.v b G n) t
/-- The recurrence's readout at position `t`, without the skip. -/
def y (b : Fin 2) (t : ℕ) (G : Fin 48) (p : Fin 16) : ℝ := (∑ n : Fin 64, P.ct G p n * P.h b G n (t + 1)).re
/-- The result at position `t`. -/
def out (b : Fin 2) (t : ℕ) (G : Fin 48) (p : Fin 16) : EReal := ((P.y b t G p : ℝ) : EReal) + P.d G p * ((P.x b t G p : ℝ) : EReal)

/-- A power of a discretised eigenvalue, from its modulus and angle. -/
theorem pow_is (G : Fin 48) (n : Fin 64) (j : ℕ) :
    Is (Ideal.exp (((j : ℝ) : EReal) * ((P.lr G n : EReal) * Ideal.exp (P.ls G))) * Ideal.cos (((j : ℝ) : EReal) * ((P.li G n : EReal) * Ideal.exp (P.ls G))))
      (Ideal.exp (((j : ℝ) : EReal) * ((P.lr G n : EReal) * Ideal.exp (P.ls G))) * Ideal.sin (((j : ℝ) : EReal) * ((P.li G n : EReal) * Ideal.exp (P.ls G))))
      (P.a G n ^ j) := by
  have e : Ideal.exp ((P.ls G : ℝ) : EReal) = ((P.dt G : ℝ) : EReal) := rfl
  rw [e]
  have e1 : ((j : ℝ) : EReal) * ((P.lr G n : EReal) * (P.dt G : EReal)) = ((j * (P.lr G n * P.dt G) : ℝ) : EReal) := by
    rw [EReal.coe_mul, EReal.coe_mul]
  have e2 : ((j : ℝ) : EReal) * ((P.li G n : EReal) * (P.dt G : EReal)) = ((j * (P.li G n * P.dt G) : ℝ) : EReal) := by
    rw [EReal.coe_mul, EReal.coe_mul]
  rw [e1, e2]
  have e3 : P.a G n ^ j = Complex.exp ⟨j * (P.lr G n * P.dt G), j * (P.li G n * P.dt G)⟩ := by
    rw [a, ← Complex.exp_nat_mul]
    congr 1
    apply Complex.ext <;> simp [lam]
  rw [e3]
  constructor
  · rw [Complex.exp_re, EReal.coe_mul]
    rfl
  · rw [Complex.exp_im, EReal.coe_mul]
    rfl

/-- A discretised eigenvalue. -/
theorem a_is (G : Fin 48) (n : Fin 64) :
    Is (Ideal.exp ((P.lr G n : EReal) * Ideal.exp (P.ls G)) * Ideal.cos ((P.li G n : EReal) * Ideal.exp (P.ls G)))
      (Ideal.exp ((P.lr G n : EReal) * Ideal.exp (P.ls G)) * Ideal.sin ((P.li G n : EReal) * Ideal.exp (P.ls G))) (P.a G n) := by
  have h := P.pow_is G n 1
  simp only [Nat.cast_one, EReal.coe_one, one_mul, pow_one] at h
  exact h

/-- The hold's factor, from the eigenvalue and its discretisation. -/
theorem coef_is (G : Fin 48) (n : Fin 64) (p q : EReal) (h : Is p q (P.a G n)) :
    Is (Ideal.div ((p - 1) * (P.lr G n : EReal) + q * (P.li G n : EReal)) ((P.lr G n : EReal) * (P.lr G n : EReal) + (P.li G n : EReal) * (P.li G n : EReal)))
      (Ideal.div (q * (P.lr G n : EReal) - (p - 1) * (P.li G n : EReal)) ((P.lr G n : EReal) * (P.lr G n : EReal) + (P.li G n : EReal) * (P.li G n : EReal)))
      (P.coef G n) := by
  obtain ⟨rfl, rfl⟩ := h
  have hd := P.nz G n
  have ed : (P.lr G n : EReal) * (P.lr G n : EReal) + (P.li G n : EReal) * (P.li G n : EReal) = ((P.lr G n * P.lr G n + P.li G n * P.li G n : ℝ) : EReal) := by
    rw [EReal.coe_add, EReal.coe_mul, EReal.coe_mul]
  have e0 : ((P.lr G n * P.lr G n + P.li G n * P.li G n : ℝ) : EReal) ≠ 0 := by
    rw [Ne, EReal.coe_eq_zero]; exact hd
  rw [ed]
  unfold Ideal.div
  rw [if_neg e0, if_neg e0, ← EReal.coe_inv, ← EReal.coe_one, ← EReal.coe_sub]
  simp only [← EReal.coe_mul, ← EReal.coe_add, ← EReal.coe_sub]
  unfold coef
  constructor <;> congr 1
  · rw [Complex.div_re, Complex.normSq_apply]
    simp only [lam, Complex.sub_re, Complex.sub_im, Complex.one_re, Complex.one_im]
    field_simp
    ring
  · rw [Complex.div_im, Complex.normSq_apply]
    simp only [lam, Complex.sub_re, Complex.sub_im, Complex.one_re, Complex.one_im]
    field_simp
    ring

/-- A discretised input weight, from the hold's factor. -/
theorem bb_is (G : Fin 48) (n : Fin 64) (q : Fin 16) (r s : EReal) (h : Is r s (P.coef G n)) :
    Is (r * (P.br G n q : EReal) - s * (P.bi G n q : EReal)) (r * (P.bi G n q : EReal) + s * (P.br G n q : EReal)) (P.bb G n q) :=
  Is.mul h ⟨rfl, rfl⟩

/-- A readout weight. -/
theorem ct_is (G : Fin 48) (p : Fin 16) (n : Fin 64) : Is (P.cr G p n) (P.ci G p n) (P.ct G p n) := ⟨rfl, rfl⟩

end Par

end Cert.S5

end
-- ==== Proof.S5.Held.lean ====
/-
  What it means that the programs' argument arrays are the recurrence's inputs, and that arrays of finite numbers with no zero
  eigenvalue are the arrays of some inputs.
-/
module

public import proofs.«01_k».proof.Proof.S5.Params

@[expose] public section

noncomputable section

namespace Cert.S5

open Idealize.ShloMosaic

/-- The nine argument arrays hold the inputs `P`. -/
structure Held (P : Par) (x0 : Vec Ideal ⟨2, ![32768, 768]⟩ .f32) (x1 x2 : Vec Ideal ⟨2, ![48, 64]⟩ .f32) (x3 : Vec Ideal ⟨1, ![48]⟩ .f32)
    (x4 x5 : Vec Ideal ⟨3, ![48, 64, 16]⟩ .f32) (x6 x7 : Vec Ideal ⟨3, ![48, 16, 64]⟩ .f32) (x8 : Vec Ideal ⟨2, ![48, 16]⟩ .f32) : Prop where
  u : ∀ r l, x0 (ix2 r l) = ((P.u r l : ℝ) : EReal)
  lr : ∀ G n, x1 (ix2 G n) = ((P.lr G n : ℝ) : EReal)
  li : ∀ G n, x2 (ix2 G n) = ((P.li G n : ℝ) : EReal)
  ls : ∀ G, x3 (ix1 G) = ((P.ls G : ℝ) : EReal)
  br : ∀ G n q, x4 (ix3 G n q) = ((P.br G n q : ℝ) : EReal)
  bi : ∀ G n q, x5 (ix3 G n q) = ((P.bi G n q : ℝ) : EReal)
  cr : ∀ G p n, x6 (ix3 G p n) = ((P.cr G p n : ℝ) : EReal)
  ci : ∀ G p n, x7 (ix3 G p n) = ((P.ci G p n : ℝ) : EReal)
  d : ∀ G p, x8 (ix2 G p) = P.d G p

/-- The readout of a state by parts is the real part of the complex readout. -/
theorem readout_re {N : ℕ} (f g c e : Fin N → EReal) (z w : Fin N → ℂ) (hz : ∀ n, Is (f n) (g n) (z n)) (hw : ∀ n, Is (c n) (e n) (w n)) :
    ∑ n, f n * c n - ∑ n, g n * e n = (((∑ n, w n * z n).re : ℝ) : EReal) := by
  have e1 : ∑ n, f n * c n = ((∑ n, (z n).re * (w n).re : ℝ) : EReal) := by
    rw [coe_sum]
    exact Finset.sum_congr rfl fun n _ => by rw [(hz n).1, (hw n).1, EReal.coe_mul]
  have e2 : ∑ n, g n * e n = ((∑ n, (z n).im * (w n).im : ℝ) : EReal) := by
    rw [coe_sum]
    exact Finset.sum_congr rfl fun n _ => by rw [(hz n).2, (hw n).2, EReal.coe_mul]
  rw [e1, e2, ← EReal.coe_sub, ← Finset.sum_sub_distrib, Complex.re_sum]
  congr 1
  exact Finset.sum_congr rfl fun n _ => by rw [Complex.mul_re]; ring

end Cert.S5

end
-- ==== Proof.S5.Weights.lean ====
/-
  The kernel's host code, first part: the powers of the discretised eigenvalues, the discretised input weights, and the matrices that
  join two positions of a chunk.
-/
module

public import proofs.«01_k».proof.Proof.S5.Lines
public import proofs.«01_k».proof.Proof.S5.Held

@[expose] public section

noncomputable section

namespace Cert.S5.Weights

open Idealize.ShloMosaic Idealize.ShloMosaic.TcCoe
open Cert.Kernel2Ideal Cert.Kernel2Ideal.Gen Cert.S5.Lines

/-- The kernel's arguments hold the inputs `P`. -/
def HeldBy (P : Par) (m : (ℓ : Loc nD τ sig) → Buf (Elt Ideal) ℓ) (c : Dev nD) : Prop :=
  Held P (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8))

/-- An array of the host code read as extended reals. -/
abbrev el {s : Shape} (x : FVec Ideal s .f32) (i : s.Idx) : EReal := x i

/-- A small number as a word and back. -/
theorem number (j : ℕ) (hj : j < 2 ^ 31) : (FloatOps.sitofp (F := Ideal) .f32 (BitVec.ofNat 32 j) : EReal) = ((j : ℝ) : EReal) := by
  show (((BitVec.ofNat 32 j).toInt : ℝ) : EReal) = _
  have e : (BitVec.ofNat 32 j).toInt = j := by rw [BitVec.toInt_ofNat', Int.bmod_def]; omega
  rw [e, Int.cast_natCast]

variable (m : (ℓ : Loc nD τ sig) → Buf (Elt Ideal) ℓ) (c : Dev nD) (P : Par) (H : HeldBy P m c)

include H

/-- The powers. -/
theorem pow_is (j : Fin 9) (G : Fin 48) (n : Fin 64) :
    Is (W0 m c (Proc.devRef .tc main_v57) (ix3 j G n)) (W0 m c (Proc.devRef .tc main_v65) (ix3 j G n)) (P.a G n ^ j.val) := by
  have h := P.pow_is G n j.val
  rw [← H.lr, ← H.li, ← H.ls, ← number j.val (by omega)] at h
  refine ⟨Eq.trans ?_ h.1, Eq.trans ?_ h.2⟩
  all_goals
    unfold W0
    after_reads_at

/-- The discretised input weights. -/
theorem bb_is (G : Fin 48) (n : Fin 64) (q : Fin 16) :
    Is (W0 m c (Proc.devRef .tc main_v32) (ix3 G n q)) (W0 m c (Proc.devRef .tc main_v39) (ix3 G n q)) (P.bb G n q) := by
  have h := P.bb_is G n q _ _ (P.coef_is G n _ _ (P.a_is G n))
  rw [← H.lr, ← H.li, ← H.ls, ← H.br, ← H.bi] at h
  refine ⟨Eq.trans ?_ h.1, Eq.trans ?_ h.2⟩
  all_goals
    unfold W0
    after_reads_at

/-- The matrices before the skip, over the arrays they are made of. -/
theorem chunk_eq (δ : Fin 9) (G : Fin 48) (p q : Fin 16) : el (W0 m c (Proc.devRef .tc main_v96)) (ix4 δ G p q)
    = (∑ n : Fin 64, el (W0 m c (Proc.devRef .tc main_v32)) (ix3 G n q) * (((P.cr G p n : ℝ) : EReal) * el (W0 m c (Proc.devRef .tc main_v57)) (ix3 δ G n)))
      - (∑ n : Fin 64, el (W0 m c (Proc.devRef .tc main_v39)) (ix3 G n q) * (((P.cr G p n : ℝ) : EReal) * el (W0 m c (Proc.devRef .tc main_v65)) (ix3 δ G n)))
      - (∑ n : Fin 64, el (W0 m c (Proc.devRef .tc main_v39)) (ix3 G n q) * (((P.ci G p n : ℝ) : EReal) * el (W0 m c (Proc.devRef .tc main_v57)) (ix3 δ G n)))
      - (∑ n : Fin 64, el (W0 m c (Proc.devRef .tc main_v32)) (ix3 G n q) * (((P.ci G p n : ℝ) : EReal) * el (W0 m c (Proc.devRef .tc main_v65)) (ix3 δ G n))) := by
  simp only [← H.cr, ← H.ci]
  unfold el W0
  after_reads_at

omit H in
/-- The matrices that join positions at distance `δ`. -/
def cb (δ : ℕ) (G : Fin 48) (p q : Fin 16) : ℝ := (∑ n : Fin 64, P.ct G p n * (P.a G n ^ δ * P.bb G n q)).re

/-- The matrices before the skip. -/
theorem chunk_apply (δ : Fin 9) (G : Fin 48) (p q : Fin 16) : el (W0 m c (Proc.devRef .tc main_v96)) (ix4 δ G p q) = ((cb P δ.val G p q : ℝ) : EReal) := by
  have hp := pow_is m c P H δ G
  have hb := fun n => bb_is m c P H G n q
  rw [chunk_eq m c P H]
  have e1 (n : Fin 64) : el (W0 m c (Proc.devRef .tc main_v57)) (ix3 δ G n) = (((P.a G n ^ δ.val).re : ℝ) : EReal) := (hp n).1
  have e2 (n : Fin 64) : el (W0 m c (Proc.devRef .tc main_v65)) (ix3 δ G n) = (((P.a G n ^ δ.val).im : ℝ) : EReal) := (hp n).2
  have e3 (n : Fin 64) : el (W0 m c (Proc.devRef .tc main_v32)) (ix3 G n q) = (((P.bb G n q).re : ℝ) : EReal) := (hb n).1
  have e4 (n : Fin 64) : el (W0 m c (Proc.devRef .tc main_v39)) (ix3 G n q) = (((P.bb G n q).im : ℝ) : EReal) := (hb n).2
  simp only [e1, e2, e3, e4, ← EReal.coe_mul, ← coe_sum, ← EReal.coe_sub]
  congr 1
  unfold cb
  rw [Complex.re_sum, ← Finset.sum_sub_distrib, ← Finset.sum_sub_distrib, ← Finset.sum_sub_distrib]
  refine Finset.sum_congr rfl fun n _ => ?_
  simp only [Complex.mul_re, Complex.mul_im]
  show _ = P.cr G p n * _ - P.ci G p n * _
  ring

omit H in
/-- The unit matrix of the skip. -/
theorem eye_apply (p q : Fin 16) :
    (FloatOps.uitofp (F := Ideal) .f32 (IntOp.cmpi .eq (IntOp.addi (BitVec.ofNat 32 p.val) 0#32) (BitVec.ofNat 32 q.val)) : EReal) = if p = q then 1 else 0 := by
  have e : IntOp.cmpi .eq (IntOp.addi (BitVec.ofNat 32 p.val) 0#32) (BitVec.ofNat 32 q.val) = if p = q then 1#1 else 0#1 := by
    revert p q
    decide
  rw [e]
  by_cases h : p = q
  · rw [if_pos h, if_pos h]
    show (((1#1).toNat : ℝ) : EReal) = 1
    simp
  · rw [if_neg h, if_neg h]
    show (((0#1).toNat : ℝ) : EReal) = 0
    simp

/-- The skip as a matrix. -/
theorem skip_apply (G : Fin 48) (p q : Fin 16) : el (W0 m c (Proc.devRef .tc main_v107)) (ix3 G p q) = if p = q then P.d G p else 0 := by
  have e : el (W0 m c (Proc.devRef .tc main_v107)) (ix3 G p q) = el (m (c, Proc.devRef .tc main_arg8)) (ix2 G p)
      * FloatOps.uitofp (F := Ideal) .f32 (IntOp.cmpi .eq (IntOp.addi (BitVec.ofNat 32 p.val) 0#32) (BitVec.ofNat 32 q.val)) := by
    unfold el W0
    after_reads_at
  rw [e, eye_apply, show el (m (c, Proc.devRef .tc main_arg8)) (ix2 G p) = P.d G p from H.d G p]
  by_cases h : p = q
  · rw [if_pos h, if_pos h, mul_one]
  · rw [if_neg h, if_neg h, mul_zero]

omit H in
/-- The skip is added to the matrix of distance zero. -/
theorem added_eq : W0 m c (Proc.devRef .tc main_v109) = Host.scatter scatter_S9x48x16x16_S1_S48x16x16_012_0_0_0 (FloatOps.addf (F := Ideal) (φ := .f32))
    (W0 m c (Proc.devRef .tc main_v96)) (broadcastInDim S1 ![] bcast_S_S1 (constantI S_ 32 0#32)) (W0 m c (Proc.devRef .tc main_v107)) := by
  unfold W0
  after_reads_simp

/-- The matrices with the skip. -/
theorem added_apply (δ : Fin 9) (G : Fin 48) (p q : Fin 16) : el (W0 m c (Proc.devRef .tc main_v109)) (ix4 δ G p q)
    = ((cb P δ.val G p q : ℝ) : EReal) + if δ = 0 ∧ p = q then P.d G p else 0 := by
  have h1 := chunk_apply m c P H δ G p q
  have h2 := skip_apply m c P H G p q
  unfold el at *
  rw [added_eq, HostOps.addAt_apply _ _ rfl, h1, h2]
  by_cases h : δ = 0
  · rw [if_pos h]
    by_cases h' : p = q
    · rw [if_pos h', if_pos ⟨h, h'⟩]
    · rw [if_neg h', if_neg fun e => h' e.2]
  · rw [if_neg h, if_neg fun e => h e.1, add_zero]

end Cert.S5.Weights

end
-- ==== Proof.S5.Layout.lean ====
/-
  The kernel's host code, second part: the three arrays of matrices as the kernel takes them, entry by entry.
-/
module

public import proofs.«01_k».proof.Proof.S5.Weights

@[expose] public section

noncomputable section

namespace Cert.S5.Layout

open Idealize.ShloMosaic Idealize.ShloMosaic.TcCoe
open Cert.Kernel2Ideal Cert.Kernel2Ideal.Gen Cert.S5.Lines Cert.S5.Weights

/-- The distance of two positions, limited to the positions of a chunk, as an index. -/
theorem distance (s t : Fin 8) : (Scalar.select (IntOp.cmpi .slt (IntOp.minsi 7#32 (IntOp.maxsi 0#32 (IntOp.subi (BitVec.ofNat 32 t.val) (BitVec.ofNat 32 s.val)))) 0#32)
    (IntOp.addi (IntOp.minsi 7#32 (IntOp.maxsi 0#32 (IntOp.subi (BitVec.ofNat 32 t.val) (BitVec.ofNat 32 s.val)))) 9#32)
    (IntOp.minsi 7#32 (IntOp.maxsi 0#32 (IntOp.subi (BitVec.ofNat 32 t.val) (BitVec.ofNat 32 s.val))))).toInt = ((t.val - s.val : ℕ) : ℤ) := by
  revert s t
  decide

/-- Whether a position is not after another. -/
theorem order (s t : Fin 8) : IntOp.cmpi .sge (BitVec.ofNat 32 t.val) (BitVec.ofNat 32 s.val) = if s ≤ t then 1#1 else 0#1 := by
  revert s t
  decide

/-- The distance of a position from the end of the chunk, as an index. -/
theorem remaining (s : Fin 8) : (Scalar.select (IntOp.cmpi .slt (IntOp.subi 7#32 (BitVec.ofNat 32 s.val)) 0#32)
    (IntOp.addi (IntOp.subi 7#32 (BitVec.ofNat 32 s.val)) 9#32) (IntOp.subi 7#32 (BitVec.ofNat 32 s.val))).toInt = ((7 - s.val : ℕ) : ℤ) := by
  revert s
  decide

/-- The pick of a matrix for two positions, over any buffers before it. -/
theorem picked_of (W : Valuation τ sig (Elt Ideal)) (s t : Fin 8) (G : Fin 48) (p q : Fin 16)
    (h1 : (W (Proc.devRef .tc main_v113) : S1x8.Idx → BitVec 32) (ix2 0 t) = BitVec.ofNat 32 t.val)
    (h2 : (W (Proc.devRef .tc main_v111) : S8x1.Idx → BitVec 32) (ix2 s 0) = BitVec.ofNat 32 s.val)
    (h3 : (W (Proc.devRef .tc main_v116) : S8x8.Idx → BitVec 32) (ix2 s t) = IntOp.subi (BitVec.ofNat 32 t.val) (BitVec.ofNat 32 s.val))
    (h4 : (W (Proc.devRef .tc main_c_1) : S_.Idx → BitVec 32) ix0 = 0#32) (h5 : (W (Proc.devRef .tc main_c_2) : S_.Idx → BitVec 32) ix0 = 7#32) :
    el (StableHlo.after (List.flatten [hostOps0_1, hostOps0_2, hostOps0_3]) W (Proc.devRef .tc main_v129)) (ix5 s t G p q)
      = if s ≤ t then el (W (Proc.devRef .tc main_v109)) (ix4 ⟨t.val - s.val, by omega⟩ G p q) else 0 := by
  unfold el
  after_reads_at
  rw [h1, h2, order, HostOps.pick4_apply (k := ⟨t.val - s.val, by omega⟩)]
  · by_cases h : s ≤ t
    · rw [if_pos h, if_pos h]
      rfl
    · rw [if_neg h, if_neg h]
      exact Ideal.ofBits_zero .f32
  · rw [← distance s t]
    pointwise [id]
    rw [h3, h4, h5]

/-- The powers in the order of the positions that remain. -/
def back (x : FVec Ideal S9x48x64 .f32) : FVec Ideal S8x48x64 .f32 :=
  Host.gather gather_S9x48x64_S8x1_S8x48x64_12_0_n_n_0_1_14864 x
    (broadcastInDim S8x1 ![0] bcast_S8_S8x1_0
      (select
        (cmpi .slt (subi (broadcastInDim S8 ![] bcast_S_S8 (constantI S_ 32 7#32)) (iotaInDim S8 32 0))
          (broadcastInDim S8 ![] bcast_S_S8 (constantI S_ 32 0#32)))
        (addi (subi (broadcastInDim S8 ![] bcast_S_S8 (constantI S_ 32 7#32)) (iotaInDim S8 32 0))
          (broadcastInDim S8 ![] bcast_S_S8 (constantI S_ 32 9#32)))
        (subi (broadcastInDim S8 ![] bcast_S_S8 (constantI S_ 32 7#32)) (iotaInDim S8 32 0))))

/-- A power in the order of the positions that remain. -/
theorem back_apply (x : FVec Ideal S9x48x64 .f32) (s : Fin 8) (G : Fin 48) (n : Fin 64) : back x (ix3 s G n) = x (ix3 ⟨7 - s.val, by omega⟩ G n) := by
  unfold back
  rw [HostOps.pick_apply (k := ⟨7 - s.val, by omega⟩)]
  pointwise
  exact remaining s

section Buffers

variable (W : Valuation τ sig (Elt Ideal))

/-- The array that adds a chunk to the state, in its real columns. -/
theorem inject_re (j : Fin 6) (r : Fin 1024) (l : Fin 128) (hl : l.val / 64 < 1) :
    el (StableHlo.after hostOps0_4 W (Proc.devRef .tc main_v180)) (ix3 j r l)
      = el (back (W (Proc.devRef .tc main_v57))) (ix3 ⟨r.val / 128, by omega⟩ ⟨j.val * 8 + r.val / 16 % 8, by omega⟩ ⟨l.val % 64, by omega⟩) * el (W (Proc.devRef .tc main_v32)) (ix3 ⟨j.val * 8 + r.val / 16 % 8, by omega⟩ ⟨l.val % 64, by omega⟩ ⟨r.val % 16, by omega⟩)
        - el (back (W (Proc.devRef .tc main_v65))) (ix3 ⟨r.val / 128, by omega⟩ ⟨j.val * 8 + r.val / 16 % 8, by omega⟩ ⟨l.val % 64, by omega⟩) * el (W (Proc.devRef .tc main_v39)) (ix3 ⟨j.val * 8 + r.val / 16 % 8, by omega⟩ ⟨l.val % 64, by omega⟩ ⟨r.val % 16, by omega⟩) := by
  unfold el
  after_reads_at
  rw [dif_pos hl]
  after_reads_at
  rfl

/-- The array that adds a chunk to the state, in its imaginary columns. -/
theorem inject_im (j : Fin 6) (r : Fin 1024) (l : Fin 128) (hl : ¬ l.val / 64 < 1) :
    el (StableHlo.after hostOps0_4 W (Proc.devRef .tc main_v180)) (ix3 j r l)
      = el (back (W (Proc.devRef .tc main_v57))) (ix3 ⟨r.val / 128, by omega⟩ ⟨j.val * 8 + r.val / 16 % 8, by omega⟩ ⟨l.val % 64, by omega⟩) * el (W (Proc.devRef .tc main_v39)) (ix3 ⟨j.val * 8 + r.val / 16 % 8, by omega⟩ ⟨l.val % 64, by omega⟩ ⟨r.val % 16, by omega⟩)
        + el (back (W (Proc.devRef .tc main_v65))) (ix3 ⟨r.val / 128, by omega⟩ ⟨j.val * 8 + r.val / 16 % 8, by omega⟩ ⟨l.val % 64, by omega⟩) * el (W (Proc.devRef .tc main_v32)) (ix3 ⟨j.val * 8 + r.val / 16 % 8, by omega⟩ ⟨l.val % 64, by omega⟩ ⟨r.val % 16, by omega⟩) := by
  unfold el
  after_reads_at
  rw [dif_neg hl]
  after_reads_at
  rfl

/-- The array that reads the state, in its real rows. -/
theorem readout_re (j : Fin 6) (r : Fin 1024) (l : Fin 128) (hl : r.val / 512 < 1) :
    el (StableHlo.after hostOps0_4 W (Proc.devRef .tc main_v211)) (ix3 j r l)
      = (el (W (Proc.devRef .tc main_arg6)) (ix3 ⟨j.val * 8 + r.val / 64 % 8, by omega⟩ ⟨l.val % 16, by omega⟩ ⟨r.val % 64, by omega⟩) * el (W (Proc.devRef .tc main_v57)) (ix3 ⟨1 + l.val / 16, by omega⟩ ⟨j.val * 8 + r.val / 64 % 8, by omega⟩ ⟨r.val % 64, by omega⟩)
        - el (W (Proc.devRef .tc main_arg7)) (ix3 ⟨j.val * 8 + r.val / 64 % 8, by omega⟩ ⟨l.val % 16, by omega⟩ ⟨r.val % 64, by omega⟩) * el (W (Proc.devRef .tc main_v65)) (ix3 ⟨1 + l.val / 16, by omega⟩ ⟨j.val * 8 + r.val / 64 % 8, by omega⟩ ⟨r.val % 64, by omega⟩)) := by
  unfold el
  after_reads_at
  rw [dif_pos hl]
  after_reads_at

/-- The array that reads the state, in its imaginary rows. -/
theorem readout_im (j : Fin 6) (r : Fin 1024) (l : Fin 128) (hl : ¬ r.val / 512 < 1) :
    el (StableHlo.after hostOps0_4 W (Proc.devRef .tc main_v211)) (ix3 j r l)
      = -(el (W (Proc.devRef .tc main_arg6)) (ix3 ⟨j.val * 8 + r.val / 64 % 8, by omega⟩ ⟨l.val % 16, by omega⟩ ⟨r.val % 64, by omega⟩) * el (W (Proc.devRef .tc main_v65)) (ix3 ⟨1 + l.val / 16, by omega⟩ ⟨j.val * 8 + r.val / 64 % 8, by omega⟩ ⟨r.val % 64, by omega⟩)
        + el (W (Proc.devRef .tc main_arg7)) (ix3 ⟨j.val * 8 + r.val / 64 % 8, by omega⟩ ⟨l.val % 16, by omega⟩ ⟨r.val % 64, by omega⟩) * el (W (Proc.devRef .tc main_v57)) (ix3 ⟨1 + l.val / 16, by omega⟩ ⟨j.val * 8 + r.val / 64 % 8, by omega⟩ ⟨r.val % 64, by omega⟩)) := by
  unfold el
  after_reads_at
  rw [dif_neg hl]
  after_reads_at

end Buffers

variable (m : (ℓ : Loc nD τ sig) → Buf (Elt Ideal) ℓ) (c : Dev nD) (P : Par) (H : HeldBy P m c)

include H

/-- The matrix for two positions of a chunk. -/
theorem picked_apply (s t : Fin 8) (G : Fin 48) (p q : Fin 16) : el (W1 m c (Proc.devRef .tc main_v129)) (ix5 s t G p q)
    = if s ≤ t then ((cb P (t.val - s.val) G p q : ℝ) : EReal) + (if s = t ∧ p = q then P.d G p else 0) else 0 := by
  unfold W1
  rw [picked_of]
  · by_cases h : s ≤ t
    · rw [if_pos h, if_pos h, added_apply m c P H]
      have e : ((⟨t.val - s.val, by omega⟩ : Fin 9) = 0 ∧ p = q) ↔ (s = t ∧ p = q) :=
        and_congr_left fun _ => ⟨fun h' => Fin.ext (by have := congrArg Fin.val h'; simp at this; have : s.val ≤ t.val := h; omega),
          fun h' => Fin.ext (by subst h'; simp)⟩
      simp only [e]
    · rw [if_neg h, if_neg h]
  all_goals
    unfold W0
    after_reads_at

/-- The array that joins the positions of a chunk. -/
theorem intra_apply (j : Fin 6) (r : Fin 1024) (l : Fin 128) : el (W2 m c (Proc.devRef .tc main_v132)) (ix3 j r l)
    = el (W1 m c (Proc.devRef .tc main_v129)) (ix5 ⟨r.val / 128, by omega⟩ ⟨l.val / 16, by omega⟩ ⟨j.val * 8 + r.val / 16 % 8, by omega⟩
        ⟨l.val % 16, by omega⟩ ⟨r.val % 16, by omega⟩) := by
  unfold W2 el
  after_reads_at

/-- The array that adds a chunk to the state. -/
theorem inject_apply (j : Fin 6) (r : Fin 1024) (l : Fin 128) (G : Fin 48) (hG : G.val = j.val * 8 + r.val / 16 % 8) (n : Fin 64) (hn : n.val = l.val % 64)
    (q : Fin 16) (hq : q.val = r.val % 16) : el (W2 m c (Proc.devRef .tc main_v180)) (ix3 j r l)
      = (((if l.val / 64 < 1 then (P.a G n ^ (7 - r.val / 128) * P.bb G n q).re else (P.a G n ^ (7 - r.val / 128) * P.bb G n q).im : ℝ)) : EReal) := by
  obtain ⟨n, _⟩ := n
  dsimp only at hn
  subst hn
  obtain ⟨q, _⟩ := q
  dsimp only at hq
  subst hq
  have k1 (b : Ref sig .tc) (hb : b = main_v57 ∨ b = main_v65 ∨ b = main_v32 ∨ b = main_v39) : W1 m c (Proc.devRef .tc b) = W0 m c (Proc.devRef .tc b) := by
    rcases hb with rfl | rfl | rfl | rfl
    all_goals
      unfold W1
      after_reads_simp
  have h := Is.mul (pow_is m c P H ⟨7 - r.val / 128, by omega⟩ G ⟨l.val % 64, by omega⟩) (bb_is m c P H G ⟨l.val % 64, by omega⟩ ⟨r.val % 16, by omega⟩)
  obtain ⟨G, _⟩ := G
  dsimp only at hG
  subst hG
  unfold W2
  by_cases hl : l.val / 64 < 1
  · rw [inject_re _ _ _ _ hl, if_pos hl, k1 _ (.inl rfl), k1 _ (.inr (.inl rfl)), k1 _ (.inr (.inr (.inl rfl))), k1 _ (.inr (.inr (.inr rfl)))]
    unfold el
    rw [back_apply, back_apply]
    exact h.1
  · rw [inject_im _ _ _ _ hl, if_neg hl, k1 _ (.inl rfl), k1 _ (.inr (.inl rfl)), k1 _ (.inr (.inr (.inl rfl))), k1 _ (.inr (.inr (.inr rfl)))]
    unfold el
    rw [back_apply, back_apply]
    exact h.2

/-- The array that reads the state. -/
theorem readout_apply (j : Fin 6) (r : Fin 1024) (l : Fin 128) (G : Fin 48) (hG : G.val = j.val * 8 + r.val / 64 % 8) (n : Fin 64) (hn : n.val = r.val % 64)
    (p : Fin 16) (hp : p.val = l.val % 16) : el (W2 m c (Proc.devRef .tc main_v211)) (ix3 j r l)
      = (((if r.val / 512 < 1 then (P.ct G p n * P.a G n ^ (1 + l.val / 16)).re else -(P.ct G p n * P.a G n ^ (1 + l.val / 16)).im : ℝ)) : EReal) := by
  obtain ⟨n, _⟩ := n
  dsimp only at hn
  subst hn
  obtain ⟨p, _⟩ := p
  dsimp only at hp
  subst hp
  have k1 (b : Ref sig .tc) (hb : b = main_v57 ∨ b = main_v65) : W1 m c (Proc.devRef .tc b) = W0 m c (Proc.devRef .tc b) := by
    rcases hb with rfl | rfl
    all_goals
      unfold W1
      after_reads_simp
  have k2 (b : Ref sig .tc) (hb : b = main_arg6 ∨ b = main_arg7) : W1 m c (Proc.devRef .tc b) = m (c, Proc.devRef .tc b) := by
    rcases hb with rfl | rfl
    all_goals
      unfold W1 W0
      after_reads_simp
  have h := Is.mul (α := P.ct G ⟨l.val % 16, by omega⟩ ⟨r.val % 64, by omega⟩)
    ⟨H.cr G ⟨l.val % 16, by omega⟩ ⟨r.val % 64, by omega⟩, H.ci G ⟨l.val % 16, by omega⟩ ⟨r.val % 64, by omega⟩⟩
    (pow_is m c P H ⟨1 + l.val / 16, by omega⟩ G ⟨r.val % 64, by omega⟩)
  obtain ⟨G, _⟩ := G
  dsimp only at hG
  subst hG
  unfold W2
  by_cases hl : r.val / 512 < 1
  · rw [readout_re _ _ _ _ hl, if_pos hl, k1 _ (.inl rfl), k1 _ (.inr rfl), k2 _ (.inl rfl), k2 _ (.inr rfl)]
    exact h.1
  · rw [readout_im _ _ _ _ hl, if_neg hl, k1 _ (.inl rfl), k1 _ (.inr rfl), k2 _ (.inl rfl), k2 _ (.inr rfl), EReal.coe_neg]
    exact congrArg Neg.neg h.2

end Cert.S5.Layout

end
-- ==== Proof.S5.Words.lean ====
/-
  The integer words by which the kernel's host code lays out its constants.
-/
module

public import proofs.«01_k».proof.Proof.S5.Weights

@[expose] public section

noncomputable section

namespace Cert.S5.Words

open Idealize.ShloMosaic

/-- The quotient of a small word. -/
theorem quot (k : Fin 1024) : IntOp.divsi .host (BitVec.ofNat 32 k.val) 128#32 = BitVec.ofNat 32 (k.val / 128)
    ∧ IntOp.divsi .host (BitVec.ofNat 32 k.val) 512#32 = BitVec.ofNat 32 (k.val / 512)
    ∧ IntOp.divsi .host (BitVec.ofNat 32 k.val) 16#32 = BitVec.ofNat 32 (k.val / 16)
    ∧ IntOp.divsi .host (BitVec.ofNat 32 k.val) 64#32 = BitVec.ofNat 32 (k.val / 64) := by
  revert k
  decide +kernel

/-- The remainder of a small word. -/
theorem rest (k : Fin 1024) : IntOp.remsi .host (BitVec.ofNat 32 k.val) 128#32 = BitVec.ofNat 32 (k.val % 128)
    ∧ IntOp.remsi .host (BitVec.ofNat 32 k.val) 512#32 = BitVec.ofNat 32 (k.val % 512)
    ∧ IntOp.remsi .host (BitVec.ofNat 32 k.val) 16#32 = BitVec.ofNat 32 (k.val % 16)
    ∧ IntOp.remsi .host (BitVec.ofNat 32 k.val) 64#32 = BitVec.ofNat 32 (k.val % 64) := by
  revert k
  decide +kernel

/-- The comparison of two small words. -/
theorem same (a b : ℕ) (ha : a < 2 ^ 32) (hb : b < 2 ^ 32) :
    (FloatOps.uitofp (F := Ideal) .f32 (IntOp.cmpi .eq (BitVec.ofNat 32 a) (BitVec.ofNat 32 b)) : EReal) = if a = b then 1 else 0 := by
  have e : IntOp.cmpi .eq (BitVec.ofNat 32 a) (BitVec.ofNat 32 b) = if a = b then 1#1 else 0#1 := by
    by_cases h : a = b
    · rw [if_pos h, h]
      simp [IntOp.cmpi]
    · rw [if_neg h]
      have : BitVec.ofNat 32 a ≠ BitVec.ofNat 32 b := fun h' => h (by
        have := congrArg BitVec.toNat h'
        rw [BitVec.toNat_ofNat, BitVec.toNat_ofNat, Nat.mod_eq_of_lt ha, Nat.mod_eq_of_lt hb] at this
        exact this)
      simp [IntOp.cmpi, beq_eq_false_iff_ne.2 this]
  rw [e]
  by_cases h : a = b
  · rw [if_pos h, if_pos h]
    show (((1#1).toNat : ℝ) : EReal) = 1
    simp
  · rw [if_neg h, if_neg h]
    show (((0#1).toNat : ℝ) : EReal) = 0
    simp

/-- A sum of a multiple and a rest, as a word. -/
theorem affine (a b d : ℕ) : IntOp.addi (IntOp.muli (BitVec.ofNat 32 a) (BitVec.ofNat 32 d)) (BitVec.ofNat 32 b) = BitVec.ofNat 32 (a * d + b) := by
  show BitVec.ofNat 32 a * BitVec.ofNat 32 d + BitVec.ofNat 32 b = _
  rw [← BitVec.ofNat_mul, ← BitVec.ofNat_add]

end Cert.S5.Words

end
-- ==== Proof.S5.Arrays.lean ====
/-
  The arrays that the kernel's launch reads, entry by entry.
-/
module

public import proofs.«01_k».proof.Proof.S5.Layout
public import proofs.«01_k».proof.Proof.S5.Words

@[expose] public section

noncomputable section

namespace Cert.S5.Arrays

open Idealize.ShloMosaic Idealize.ShloMosaic.TcCoe
open Cert.Kernel2Ideal Cert.Kernel2Ideal.Gen Cert.S5.Lines Cert.S5.Weights

section Buffers

variable (W : Valuation τ sig (Elt Ideal))

set_option maxRecDepth 100000 in
/-- The number of chunks that a level of the doubling spans. -/
theorem span_of (k : Fin 8) (h1 : (W (Proc.devRef .tc main_v212) : S8.Idx → BitVec 32) (ix1 k) = BitVec.ofNat 32 k.val)
    (h2 : (W (Proc.devRef .tc main_v217) : S8.Idx → BitVec 1) (ix1 k) = IntOp.andi (IntOp.cmpi .eq 2#32 0#32) (IntOp.cmpi .ne (BitVec.ofNat 32 k.val) 0#32))
    (h3 : (W (Proc.devRef .tc main_c_15) : S_.Idx → BitVec 32) ix0 = 0#32) (h4 : (W (Proc.devRef .tc main_c_16) : S_.Idx → BitVec 32) ix0 = 1#32) :
    (StableHlo.after (List.flatten [hostOps0_5, hostOps0_6, hostOps0_7, hostOps0_8, hostOps0_9, hostOps0_10, hostOps0_11, hostOps0_12, hostOps0_13,
      hostOps0_14, hostOps0_15, hostOps0_16, hostOps0_17]) W (Proc.devRef .tc main_v263) : S8.Idx → BitVec 32) (ix1 k) = BitVec.ofNat 32 (2 ^ k.val) := by
  after_reads_at
  rw [h1, h2, h3, h4]
  clear h1 h2 h3 h4
  revert k
  decide +kernel

/-- The constant that copies a column of the joining matrices to each group. -/
theorem spread_tp_of (i : Fin 128) (k : Fin 1024) :
    el (StableHlo.after hostOps0_18 W (Proc.devRef .tc main_v359)) (ix2 i k) = if i.val = k.val / 128 * 16 + k.val % 16 then 1 else 0 := by
  rw [← Words.same _ _ (by omega) (by omega), ← Words.affine, ← (Words.quot k).1, ← (Words.rest k).2.2.1]
  unfold el
  after_reads_at

/-- The constant that copies a column of the state's matrices to each group. -/
theorem spread_cn_of (i : Fin 128) (k : Fin 1024) :
    el (StableHlo.after hostOps0_18 W (Proc.devRef .tc main_v361)) (ix2 i k) = if i.val = k.val / 512 * 64 + k.val % 64 then 1 else 0 := by
  rw [← Words.same _ _ (by omega) (by omega), ← Words.affine, ← (Words.quot k).2.1, ← (Words.rest k).2.2.2]
  unfold el
  after_reads_at

/-- Which entries of the joining matrix stay within a group. -/
theorem mask0_of (k l : Fin 1024) : el (StableHlo.after hostOps0_18 W (Proc.devRef .tc main_v363)) (ix3 0 k l) = if k.val % 128 / 16 = l.val % 128 / 16 then 1 else 0 := by
  rw [← Words.same _ _ (by omega) (by omega), ← (Words.quot ⟨k.val % 128, by omega⟩).2.2.1, ← (Words.rest k).1, ← (Words.quot ⟨l.val % 128, by omega⟩).2.2.1, ← (Words.rest l).1]
  unfold el
  after_reads_at
  after_reads_at

/-- Which entries of the matrix into the state stay within a group. -/
theorem mask1_of (k l : Fin 1024) : el (StableHlo.after hostOps0_18 W (Proc.devRef .tc main_v363)) (ix3 1 k l) = if k.val % 128 / 16 = l.val % 512 / 64 then 1 else 0 := by
  rw [← Words.same _ _ (by omega) (by omega), ← (Words.quot ⟨k.val % 128, by omega⟩).2.2.1, ← (Words.rest k).1, ← (Words.quot ⟨l.val % 512, by omega⟩).2.2.2, ← (Words.rest l).2.1]
  unfold el
  after_reads_at
  after_reads_at

/-- Which entries of the matrix out of the state stay within a group. -/
theorem mask2_of (k l : Fin 1024) : el (StableHlo.after hostOps0_18 W (Proc.devRef .tc main_v363)) (ix3 2 k l) = if k.val % 512 / 64 = l.val % 128 / 16 then 1 else 0 := by
  rw [← Words.same _ _ (by omega) (by omega), ← (Words.quot ⟨k.val % 512, by omega⟩).2.2.2, ← (Words.rest k).2.1, ← (Words.quot ⟨l.val % 128, by omega⟩).2.2.1, ← (Words.rest l).1]
  unfold el
  after_reads_at
  after_reads_at

/-- The powers for the levels of the doubling, in their real lanes. -/
theorem scan_re (j : Fin 6) (k : Fin 8) (l : Fin 1024) (hl : l.val / 512 < 1) :
    el (StableHlo.after hostOps0_18 W (Proc.devRef .tc main_v299)) (ix3 j k l)
      = Ideal.exp (FloatOps.sitofp (F := Ideal) .f32 (IntOp.muli 8#32 ((W (Proc.devRef .tc main_v263) : S8.Idx → BitVec 32) (ix1 k)))
          * (el (W (Proc.devRef .tc main_arg1)) (ix2 ⟨j.val * 8 + l.val % 512 / 64, by omega⟩ ⟨l.val % 512 % 64, by omega⟩)
            * el (W (Proc.devRef .tc main_v1)) (ix2 ⟨j.val * 8 + l.val % 512 / 64, by omega⟩ 0)))
        * Ideal.cos (FloatOps.sitofp (F := Ideal) .f32 (IntOp.muli 8#32 ((W (Proc.devRef .tc main_v263) : S8.Idx → BitVec 32) (ix1 k)))
          * (el (W (Proc.devRef .tc main_arg2)) (ix2 ⟨j.val * 8 + l.val % 512 / 64, by omega⟩ ⟨l.val % 512 % 64, by omega⟩)
            * el (W (Proc.devRef .tc main_v1)) (ix2 ⟨j.val * 8 + l.val % 512 / 64, by omega⟩ 0))) := by
  unfold el
  after_reads_at
  rw [dif_pos hl]
  after_reads_at

/-- The powers for the levels of the doubling, in their imaginary lanes. -/
theorem scan_im (j : Fin 6) (k : Fin 8) (l : Fin 1024) (hl : ¬ l.val / 512 < 1) :
    el (StableHlo.after hostOps0_18 W (Proc.devRef .tc main_v299)) (ix3 j k l)
      = Ideal.exp (FloatOps.sitofp (F := Ideal) .f32 (IntOp.muli 8#32 ((W (Proc.devRef .tc main_v263) : S8.Idx → BitVec 32) (ix1 k)))
          * (el (W (Proc.devRef .tc main_arg1)) (ix2 ⟨j.val * 8 + l.val % 512 / 64, by omega⟩ ⟨l.val % 512 % 64, by omega⟩)
            * el (W (Proc.devRef .tc main_v1)) (ix2 ⟨j.val * 8 + l.val % 512 / 64, by omega⟩ 0)))
        * Ideal.sin (FloatOps.sitofp (F := Ideal) .f32 (IntOp.muli 8#32 ((W (Proc.devRef .tc main_v263) : S8.Idx → BitVec 32) (ix1 k)))
          * (el (W (Proc.devRef .tc main_arg2)) (ix2 ⟨j.val * 8 + l.val % 512 / 64, by omega⟩ ⟨l.val % 512 % 64, by omega⟩)
            * el (W (Proc.devRef .tc main_v1)) (ix2 ⟨j.val * 8 + l.val % 512 / 64, by omega⟩ 0))) := by
  unfold el
  after_reads_at
  rw [dif_neg hl]
  after_reads_at

end Buffers

variable (m : (ℓ : Loc nD τ sig) → Buf (Elt Ideal) ℓ) (c : Dev nD) (P : Par) (H : HeldBy P m c)

/-- The number of chunks that a level spans. -/
theorem span_apply (k : Fin 8) : (W3 m c (Proc.devRef .tc main_v263) : S8.Idx → BitVec 32) (ix1 k) = BitVec.ofNat 32 (2 ^ k.val) := by
  unfold W3
  refine span_of _ k ?_ ?_ ?_ ?_
  all_goals
    unfold W2
    after_reads_at

include H

/-- The powers for the levels of the doubling. -/
theorem scan_apply (j : Fin 6) (k : Fin 8) (l : Fin 1024) (G : Fin 48) (hG : G.val = j.val * 8 + l.val % 512 / 64) (n : Fin 64) (hn : n.val = l.val % 512 % 64) :
    el (V m c main_v299) (ix3 j k l)
      = (((if l.val / 512 < 1 then (P.a G n ^ (8 * 2 ^ k.val)).re else (P.a G n ^ (8 * 2 ^ k.val)).im : ℝ)) : EReal) := by
  have h := P.pow_is G n (8 * 2 ^ k.val)
  have hk : 2 ^ k.val ≤ 2 ^ 7 := Nat.pow_le_pow_right (by decide) (by omega)
  have ew : FloatOps.sitofp (F := Ideal) .f32 (IntOp.muli 8#32 (BitVec.ofNat 32 (2 ^ k.val))) = (((8 * 2 ^ k.val : ℕ) : ℝ) : EReal) := by
    rw [← number _ (by omega), BitVec.ofNat_mul]
    rfl
  have e1 (b : Ref sig .tc) (hb : b = main_arg1 ∨ b = main_arg2) : W3 m c (Proc.devRef .tc b) = m (c, Proc.devRef .tc b) := by
    rcases hb with rfl | rfl
    all_goals
      unfold W3 W2 W1 W0
      after_reads_simp
  have e2 : el (W3 m c (Proc.devRef .tc main_v1)) (ix2 G 0) = Ideal.exp (el (m (c, Proc.devRef .tc main_arg3)) (ix1 G)) := by
    unfold el W3 W2 W1 W0
    after_reads_at
  rw [← H.lr, ← H.li, ← H.ls, ← ew] at h
  obtain ⟨G, _⟩ := G
  dsimp only at hG
  subst hG
  obtain ⟨n, _⟩ := n
  dsimp only at hn
  subst hn
  rw [V_eq]
  by_cases hl : l.val / 512 < 1
  · rw [scan_re _ _ _ _ hl, if_pos hl, e1 _ (.inl rfl), e1 _ (.inr rfl), e2, span_apply]
    exact h.1
  · rw [scan_im _ _ _ _ hl, if_neg hl, e1 _ (.inl rfl), e1 _ (.inr rfl), e2, span_apply]
    exact h.2

omit H in
/-- The three arrays of matrices as the launch reads them. -/
theorem matrices (j : Fin 6) (r : Fin 1024) (l : Fin 128) :
    el (V m c main_v300) (ix3 j r l) = el (W2 m c (Proc.devRef .tc main_v132)) (ix3 j r l)
      ∧ el (V m c main_v301) (ix3 j r l) = el (W2 m c (Proc.devRef .tc main_v180)) (ix3 j r l)
      ∧ el (V m c main_v302) (ix3 j r l) = el (W2 m c (Proc.devRef .tc main_v211)) (ix3 j r l) := by
  rw [V_eq, V_eq, V_eq]
  unfold el W3
  refine ⟨?_, ?_, ?_⟩
  all_goals after_reads_at

/-- The input rows in chunks. -/
theorem rows_apply (κ : Fin 4096) (t : Fin 8) (l : Fin 768) (G : Fin 48) (hG : G.val = l.val / 16) (q : Fin 16) (hq : q.val = l.val % 16) :
    el (V m c main_v303) (ix3 κ t l) = ((P.x ⟨κ.val / 2048, by omega⟩ (κ.val % 2048 * 8 + t.val) G q : ℝ) : EReal) := by
  have e : el (V m c main_v303) (ix3 κ t l) = el (m (c, Proc.devRef .tc main_arg0)) (ix2 ⟨κ.val * 8 + t.val, by omega⟩ l) := by
    rw [V_eq]
    unfold el W3 W2 W1 W0
    after_reads_at
  rw [e]
  refine (H.u _ _).trans ?_
  unfold Par.x
  congr 2
  · refine Fin.ext ?_
    show κ.val * 8 + t.val = (κ.val / 2048 * 16384 + (κ.val % 2048 * 8 + t.val)) % 32768
    omega
  · refine Fin.ext ?_
    show l.val = G.val * 16 + q.val
    omega

end Cert.S5.Arrays

end
-- ==== Proof.S5.Reads.lean ====
/-
  The kernel's operations on a tile, element by element: products as sums over a row's places, over the state's lanes, and the
  expansion of a compact matrix over a lane block.
-/
module

public import proofs.«01_k».proof.Proof.S5.Tile

@[expose] public section

noncomputable section

namespace Cert.S5.Tile

open Idealize.ShloMosaic Idealize.ShloMosaic.TcCoe Idealize.SL.Sem Finset
open Cert.Kernel2Ideal Cert.Kernel2Ideal.Gen Cert.S5.Scan

/-- The place in a row of position `t`, group `g` of the block, lane `q`. -/
abbrev place (t g : Fin 8) (q : Fin 16) : Fin 1024 := ⟨t.val * 128 + (g.val * 16 + q.val), by omega⟩
/-- The place of a state's real part; -/
abbrev lo (l : Fin 512) : Fin 1024 := ⟨l.val, by omega⟩
/-- and of its imaginary part. -/
abbrev hi (l : Fin 512) : Fin 1024 := ⟨512 + l.val, by omega⟩
/-- The lane of state `n` of group `g` of the block. -/
abbrev lane (g : Fin 8) (n : Fin 64) : Fin 512 := ⟨g.val * 64 + n.val, by omega⟩

/-- A sum over a row's places. -/
theorem sum_place (f : Fin 1024 → EReal) : ∑ k, f k = ∑ t : Fin 8, ∑ g : Fin 8, ∑ q : Fin 16, f (place t g q) := by
  rw [show ∑ k, f k = ∑ t : Fin 8, ∑ l : Fin 128, f ⟨t.val * 128 + l.val, by omega⟩ from sum_split 8 128 f]
  refine sum_congr rfl fun t _ => ?_
  exact sum_split 8 16 fun l => f ⟨t.val * 128 + l.val, by omega⟩

/-- A sum over the state's lanes. -/
theorem sum_lane (f : Fin 512 → EReal) : ∑ l, f l = ∑ g : Fin 8, ∑ n : Fin 64, f (lane g n) := sum_split 8 64 f

/-- Eight arrays side by side. -/
theorem side_apply (a b c d e f g h : Vec Ideal S256x1x128 .f32) (ρ : Fin 256) (t : Fin 8) (l : Fin 128) :
    k0_pay11 a b c d e f g h (ix2 ρ (⟨t.val * 128 + l.val, by omega⟩ : Fin 1024)) = (![a, b, c, d, e, f, g, h] t) (ix3 ρ 0 l) := by
  have same (x : Vec Ideal S256x1x128 .f32) (z : Fin 128) (hz : z.val = l.val) : x (ix3 ρ 0 z) = x (ix3 ρ 0 l) := by rw [Fin.ext hz]
  unfold k0_pay11
  fin_cases t <;>
  · dsimp only
    pointwise
    all_goals
      repeat first | rw [dif_pos (by omega)] | rw [dif_neg (by omega)]
    all_goals exact same _ _ (by simp only; omega)

/-- The tile's rows, side by side. -/
theorem flat_apply (x0 : Vec Ideal S256x8x128 .f32) (ρ : Fin 256) (t g : Fin 8) (q : Fin 16) :
    flat x0 (ix2 ρ (place t g q)) = x0 (ix3 ρ t (⟨g.val * 16 + q.val, by omega⟩ : Fin 128)) := by
  have h (l : Fin 128) : flat x0 (ix2 ρ (⟨t.val * 128 + l.val, by omega⟩ : Fin 1024)) = x0 (ix3 ρ t l) := by
    unfold flat over
    rw [side_apply]
    fin_cases t <;>
    · dsimp only
      pointwise
  exact h ⟨g.val * 16 + q.val, by omega⟩

/-- What a row adds to the state, as a sum over its places. -/
theorem add_apply (x0 : Vec Ideal S256x8x128 .f32) (X2 : Vec Ideal S1024x1024 .bf16) (ρ : Fin 256) (l : Fin 512) :
    addRe x0 X2 (ix2 ρ l) = ∑ k, flat x0 (ix2 ρ k) * X2 (ix2 k (lo l)) ∧ addIm x0 X2 (ix2 ρ l) = ∑ k, flat x0 (ix2 ρ k) * X2 (ix2 k (hi l)) := by
  constructor
  · unfold addRe over k0_pay13 k0_pay12
    pointwise
  · unfold addIm over k0_pay14 k0_pay12
    pointwise

/-- The state after a tile, from the scan's last row. -/
theorem newState_apply (x0 : Vec Ideal S256x8x128 .f32) (x4 : Vec Ideal S1x8x1024 .f32) (h : Vec Ideal S1x1024 .f32) (X2 : Vec Ideal S1024x1024 .bf16)
    (l : Fin 512) : newState x0 x4 h X2 (ix2 0 (lo l)) = re8 (addRe x0 X2) (addIm x0 X2) h x4 (ix2 255 l)
      ∧ newState x0 x4 h X2 (ix2 0 (hi l)) = im8 (addRe x0 X2) (addIm x0 X2) h x4 (ix2 255 l) := by
  have e (v204 : FVec Ideal S256x512 .f32) (v205 v206 : FVec Ideal S1x512 .f32) (v211 v214 v217 v218 : FVec Ideal S256x512 .f32) :
      k0_pay83 v204 v205 v206 v211 v214 v217 v218 (ix2 0 (lo l)) = k0_pay81 v214 v217 v218 (ix2 255 l)
        ∧ k0_pay83 v204 v205 v206 v211 v214 v217 v218 (ix2 0 (hi l)) = k0_pay82 v204 v205 v206 v211 v214 (ix2 255 l) := by
    unfold k0_pay83
    constructor
    · pointwise
    · pointwise
  exact e _ _ _ _ _ _ _

/-- The states before each row: the state coming in, then those after the rows. -/
def beforeRe (x0 : Vec Ideal S256x8x128 .f32) (x4 : Vec Ideal S1x8x1024 .f32) (h : Vec Ideal S1x1024 .f32) (X2 : Vec Ideal S1024x1024 .bf16)
    (ρ : Fin 256) (l : Fin 512) : EReal := if ρ.val = 0 then h (ix2 0 (lo l)) else re8 (addRe x0 X2) (addIm x0 X2) h x4 (ix2 ⟨(ρ.val + 256 - 1) % 256, by omega⟩ l)
@[inherit_doc beforeRe]
def beforeIm (x0 : Vec Ideal S256x8x128 .f32) (x4 : Vec Ideal S1x8x1024 .f32) (h : Vec Ideal S1x1024 .f32) (X2 : Vec Ideal S1024x1024 .bf16)
    (ρ : Fin 256) (l : Fin 512) : EReal := if ρ.val = 0 then h (ix2 0 (hi l)) else im8 (addRe x0 X2) (addIm x0 X2) h x4 (ix2 ⟨(ρ.val + 256 - 1) % 256, by omega⟩ l)

/-- The words of the first row's condition. -/
theorem first_apply (ρ : Fin 256) (l : Fin 512) : k0_pay17 (ix2 ρ l) = if ρ.val = 0 then 1#1 else 0#1 := by
  show IntOp.cmpi .eq (rowWords (ix2 ρ l)) 0#32 = _
  rw [show rowWords (ix2 ρ l) = BitVec.ofNat 32 ρ.val by pointwise]
  exact first ρ

/-- A row's result: its own places and the state before it, each through its matrix. -/
theorem result_apply (x0 : Vec Ideal S256x8x128 .f32) (x4 : Vec Ideal S1x8x1024 .f32) (h : Vec Ideal S1x1024 .f32) (X1 X2 X3 : Vec Ideal S1024x1024 .bf16)
    (ρ : Fin 256) (k : Fin 1024) : result x0 x4 h X1 X2 X3 (ix2 ρ k)
      = ∑ i, flat x0 (ix2 ρ i) * X1 (ix2 i k)
        + (∑ l, beforeRe x0 x4 h X2 ρ l * X3 (ix2 (lo l) k) + ∑ l, beforeIm x0 x4 h X2 ρ l * X3 (ix2 (hi l) k)) := by
  have e (a : FVec Ideal S256x1024 .bf16) (h1 h2 : FVec Ideal S1x512 .f32) (v204 : FVec Ideal S256x512 .f32)
      (v205 v206 : FVec Ideal S1x512 .f32) (v211 v214 v217 v218 : FVec Ideal S256x512 .f32) :
      k0_pay84 a h1 h2 k0_pay17 v204 v205 v206 v211 v214 v217 v218 X1 X3 (ix2 ρ k)
        = ∑ i, a (ix2 ρ i) * X1 (ix2 i k)
          + (∑ l : Fin 512, (if ρ.val = 0 then h1 (ix2 0 l) else k0_pay81 v214 v217 v218 (ix2 ⟨(ρ.val + 256 - 1) % 256, by omega⟩ l)) * X3 (ix2 (lo l) k)
            + ∑ l : Fin 512, (if ρ.val = 0 then h2 (ix2 0 l) else k0_pay82 v204 v205 v206 v211 v214 (ix2 ⟨(ρ.val + 256 - 1) % 256, by omega⟩ l)) * X3 (ix2 (hi l) k)) := by
    unfold k0_pay84
    pointwise
    simp only [first_apply, pick]
  have h1 (l : Fin 512) : k0_pay15 h (ix2 0 l) = h (ix2 0 (lo l)) := by
    unfold k0_pay15
    pointwise
  have h2 (l : Fin 512) : k0_pay16 h (ix2 0 l) = h (ix2 0 (hi l)) := by
    unfold k0_pay16
    pointwise
  have := e (flat x0) (k0_pay15 h) (k0_pay16 h) (im7 (addRe x0 X2) (addIm x0 X2) h x4) (row7 x4) (row7' x4) (downRe7 (addRe x0 X2) (addIm x0 X2) h x4)
    (downIm7 (addRe x0 X2) (addIm x0 X2) h x4) (sum7 (addRe x0 X2) (addIm x0 X2) h x4) (wide7 x4)
  simp only [h1, h2] at this
  exact this

/-- An expanded matrix: the compact matrix's column that the spread picks, under the mask. -/
theorem matrix_apply (x : Vec Ideal S1x1024x128 .bf16) (s : Vec Ideal S128x1024 .bf16) (x7 : Vec Ideal S3x1024x1024 .bf16) (i k : Fin 1024) (z : Fin 128)
    (hs : ∀ y : Fin 128, s (ix2 y k) = if y = z then 1 else 0) :
    matrix1 x s x7 (ix2 i k) = x (ix3 0 i z) * x7 (ix3 0 i k) ∧ matrix2 x s x7 (ix2 i k) = x (ix3 0 i z) * x7 (ix3 1 i k)
      ∧ matrix3 x s x7 (ix2 i k) = x (ix3 0 i z) * x7 (ix3 2 i k) := by
  have e : ∑ y : Fin 128, x (ix3 0 i y) * s (ix2 y k) = x (ix3 0 i z) := by
    rw [sum_eq_single z]
    · rw [hs, if_pos rfl, mul_one]
    · intro y _ hy
      rw [hs, if_neg hy, mul_zero]
    · intro hz
      exact absurd (mem_univ z) hz
  refine ⟨?_, ?_, ?_⟩
  · rw [← e]
    unfold matrix1 k0_pay8
    pointwise
  · rw [← e]
    unfold matrix2 k0_pay9
    pointwise
  · rw [← e]
    unfold matrix3 k0_pay10
    pointwise

end Cert.S5.Tile
-- ==== Proof.S5.Row.lean ====
/-
  One row of eight positions: the readout at each of its positions, from the state before the row and the row's own inputs.
-/
module

public import proofs.«01_k».proof.Proof.S5.Weights

@[expose] public section

noncomputable section

namespace Cert.S5

open Idealize.ShloMosaic Finset

namespace Par

variable (P : Par)

/-- The readout at a position of a row: the state before the row, and the row's inputs up to the position. -/
theorem y_row (b : Fin 2) (κ : ℕ) (t : Fin 8) (G : Fin 48) (p : Fin 16) :
    P.y b (8 * κ + t.val) G p = (∑ n, P.ct G p n * P.a G n ^ (1 + t.val) * P.h b G n (8 * κ)).re
      + ∑ s : Fin 8, ∑ q : Fin 16, if s ≤ t then P.x b (8 * κ + s.val) G q * Weights.cb P (t.val - s.val) G p q else 0 := by
  have e : ∑ n, P.ct G p n * P.h b G n (8 * κ + t.val + 1) = ∑ n, P.ct G p n * P.a G n ^ (1 + t.val) * P.h b G n (8 * κ)
      + ∑ s : Fin 8, ∑ q : Fin 16, if s ≤ t then ((P.x b (8 * κ + s.val) G q : ℝ) : ℂ) * ∑ n, P.ct G p n * (P.a G n ^ (t.val - s.val) * P.bb G n q) else 0 := by
    have e2 : ∑ s : Fin 8, ∑ q : Fin 16, (if s ≤ t then ((P.x b (8 * κ + s.val) G q : ℝ) : ℂ) * ∑ n, P.ct G p n * (P.a G n ^ (t.val - s.val) * P.bb G n q) else 0)
        = ∑ n, P.ct G p n * ∑ s : Fin 8, if s.val ≤ t.val then P.a G n ^ (t.val - s.val) * P.v b G n (8 * κ + s.val) else 0 := by
      simp only [mul_sum]
      rw [sum_comm (s := univ) (t := univ) (f := fun (n : Fin 64) (s : Fin 8) => P.ct G p n * if s.val ≤ t.val then P.a G n ^ (t.val - s.val) * P.v b G n (8 * κ + s.val) else 0)]
      refine sum_congr rfl fun s _ => ?_
      by_cases h : s ≤ t
      · have h' : s.val ≤ t.val := h
        simp only [if_pos h, if_pos h']
        rw [sum_comm]
        refine sum_congr rfl fun n _ => ?_
        rw [v, mul_sum, mul_sum]
        refine sum_congr rfl fun q _ => ?_
        ring
      · have h' : ¬ s.val ≤ t.val := h
        simp only [if_neg h, if_neg h', sum_const_zero, mul_zero]
    rw [e2, ← sum_add_distrib]
    refine sum_congr rfl fun n _ => ?_
    show _ * hid _ _ _ = _ * _ * hid _ _ _ + _
    rw [hid_in_row, mul_add, add_comm 1 t.val, mul_assoc]
  rw [y, e, Complex.add_re]
  congr 1
  rw [Complex.re_sum]
  refine sum_congr rfl fun s _ => ?_
  rw [Complex.re_sum]
  refine sum_congr rfl fun q _ => ?_
  by_cases h : s ≤ t
  · rw [if_pos h, if_pos h, Complex.re_ofReal_mul]
    rfl
  · rw [if_neg h, if_neg h, Complex.zero_re]

end Par

end Cert.S5
-- ==== Proof.S5.Block.lean ====
/-
  One grid point of the kernel in the recurrence's terms: from the state before a tile of rows it leaves the state after it, and
  the results at the tile's positions.
-/
module

public import proofs.«01_k».proof.Proof.S5.Reads
public import proofs.«01_k».proof.Proof.S5.Row

@[expose] public section

noncomputable section

namespace Cert.S5.Tile

open Idealize.ShloMosaic Idealize.ShloMosaic.TcCoe Idealize.SL.Sem Finset
open Cert.Kernel2Ideal Cert.Kernel2Ideal.Gen Cert.S5.Scan Cert.S5.Weights

/-- A group of lane block `j`. -/
abbrev grp (j : Fin 6) (g : Fin 8) : Fin 48 := ⟨j.val * 8 + g.val, by omega⟩
/-- The group of a state's lane; -/
abbrev laneG (j : Fin 6) (l : Fin 512) : Fin 48 := ⟨j.val * 8 + l.val / 64, by omega⟩
/-- and the state's number in it. -/
abbrev laneN (l : Fin 512) : Fin 64 := ⟨l.val % 64, by omega⟩

/-- The lane of a state is the state's. -/
theorem laneG_lane (j : Fin 6) (g : Fin 8) (n : Fin 64) : laneG j (lane g n) = grp j g ∧ laneN (lane g n) = n := by
  constructor
  · exact Fin.ext (show j.val * 8 + (g.val * 64 + n.val) / 64 = j.val * 8 + g.val by omega)
  · exact Fin.ext (show (g.val * 64 + n.val) % 64 = n.val by omega)

variable (P : Par) (b : Fin 2) (j : Fin 6) (κ : ℕ)

/-- The scratch state is the recurrence's before row `κ`. -/
def HoldsState (h : Vec Ideal S1x1024 .f32) : Prop :=
  ∀ l, Is (h (ix2 0 (lo l))) (h (ix2 0 (hi l))) (P.h b (laneG j l) (laneN l) (8 * κ))

/-- The tile's rows are the sequence's from row `κ`. -/
def HoldsRows (x0 : Vec Ideal S256x8x128 .f32) : Prop :=
  ∀ (ρ : Fin 256) (t g : Fin 8) (q : Fin 16), x0 (ix3 ρ t (⟨g.val * 16 + q.val, by omega⟩ : Fin 128)) = ((P.x b (8 * (κ + ρ.val) + t.val) (grp j g) q : ℝ) : EReal)

/-- The scan's table has the powers of a row's decay. -/
def HoldsScan (x4 : Vec Ideal S1x8x1024 .f32) : Prop :=
  ∀ (k : Fin 8) (l : Fin 512), Is (x4 (ix3 0 k (lo l))) (x4 (ix3 0 k (hi l))) ((P.a (laneG j l) (laneN l) ^ 8) ^ 2 ^ k.val)

/-- The expanded matrices: a row's inputs to its results, a row's inputs to the state, the state to a row's results. -/
structure HoldsMatrices (X1 X2 X3 : Vec Ideal S1024x1024 .bf16) : Prop where
  own : ∀ (s g : Fin 8) (q : Fin 16) (t g' : Fin 8) (p : Fin 16), X1 (ix2 (place s g q) (place t g' p))
    = if g = g' then (if s ≤ t then ((cb P (t.val - s.val) (grp j g) p q : ℝ) : EReal) + (if s = t ∧ p = q then P.d (grp j g) p else 0) else 0) else 0
  add : ∀ (t g : Fin 8) (q : Fin 16) (l : Fin 512), Is (X2 (ix2 (place t g q) (lo l))) (X2 (ix2 (place t g q) (hi l)))
    (if g.val = l.val / 64 then P.a (laneG j l) (laneN l) ^ (7 - t.val) * P.bb (laneG j l) (laneN l) q else 0)
  out : ∀ (g : Fin 8) (n : Fin 64) (t g' : Fin 8) (p : Fin 16),
    X3 (ix2 (lo (lane g n)) (place t g' p)) = ((if g = g' then (P.ct (grp j g) p n * P.a (grp j g) n ^ (1 + t.val)).re else 0 : ℝ) : EReal)
    ∧ X3 (ix2 (hi (lane g n)) (place t g' p)) = ((if g = g' then -(P.ct (grp j g) p n * P.a (grp j g) n ^ (1 + t.val)).im else 0 : ℝ) : EReal)

variable {P b j κ} {x0 : Vec Ideal S256x8x128 .f32} {x4 : Vec Ideal S1x8x1024 .f32} {h : Vec Ideal S1x1024 .f32} {X1 X2 X3 : Vec Ideal S1024x1024 .bf16}

/-- What each row adds to the state. -/
theorem add_is (hx : HoldsRows P b j κ x0) (hm : HoldsMatrices P j X1 X2 X3) :
    Plane (addRe x0 X2) (addIm x0 X2) fun l ρ => rowSum (P.a (laneG j l) (laneN l)) (P.v b (laneG j l) (laneN l)) (κ + ρ) := by
  intro ρ l
  rw [(add_apply x0 X2 ρ l).1, (add_apply x0 X2 ρ l).2, sum_place, sum_place]
  have e : rowSum (P.a (laneG j l) (laneN l)) (P.v b (laneG j l) (laneN l)) (κ + ρ.val)
      = ∑ t : Fin 8, ∑ g : Fin 8, ∑ q : Fin 16, ((P.x b (8 * (κ + ρ.val) + t.val) (grp j g) q : ℝ) : ℂ)
        * (if g.val = l.val / 64 then P.a (laneG j l) (laneN l) ^ (7 - t.val) * P.bb (laneG j l) (laneN l) q else 0) := by
    refine sum_congr rfl fun t _ => ?_
    rw [sum_eq_single (⟨l.val / 64, by omega⟩ : Fin 8)]
    · rw [Par.v, mul_sum]
      refine sum_congr rfl fun q _ => ?_
      rw [if_pos rfl]
      ring
    · intro g _ hg
      refine sum_eq_zero fun q _ => ?_
      rw [if_neg fun h => hg (Fin.ext h), mul_zero]
    · intro hz
      exact absurd (mem_univ _) hz
  beta_reduce
  rw [e]
  refine Is.sum _ fun t => Is.sum _ fun g => Is.sum _ fun q => ?_
  rw [flat_apply, hx ρ t g q]
  exact Is.smul _ (hm.add t g q l)

/-- The state after each row. -/
theorem after_is (hx : HoldsRows P b j κ x0) (hs : HoldsScan P j x4) (hh : HoldsState P b j κ h) (hm : HoldsMatrices P j X1 X2 X3) :
    Plane (re8 (addRe x0 X2) (addIm x0 X2) h x4) (im8 (addRe x0 X2) (addIm x0 X2) h x4)
      fun l ρ => P.h b (laneG j l) (laneN l) (8 * (κ + ρ + 1)) := by
  have := levels_apply (A := fun l => P.a (laneG j l) (laneN l) ^ 8) (add_is hx hm) hh hs
  intro ρ l
  have := this ρ l
  beta_reduce at this
  rw [Par.h, hid_tile] at this
  exact this

/-- The state after the tile. -/
theorem state_is (hx : HoldsRows P b j κ x0) (hs : HoldsScan P j x4) (hh : HoldsState P b j κ h) (hm : HoldsMatrices P j X1 X2 X3) :
    HoldsState P b j (κ + 256) (newState x0 x4 h X2) := by
  intro l
  rw [(newState_apply x0 x4 h X2 l).1, (newState_apply x0 x4 h X2 l).2]
  exact after_is hx hs hh hm 255 l

/-- The state before each row. -/
theorem before_is (hx : HoldsRows P b j κ x0) (hs : HoldsScan P j x4) (hh : HoldsState P b j κ h) (hm : HoldsMatrices P j X1 X2 X3) (ρ : Fin 256) (l : Fin 512) :
    Is (beforeRe x0 x4 h X2 ρ l) (beforeIm x0 x4 h X2 ρ l) (P.h b (laneG j l) (laneN l) (8 * (κ + ρ.val))) := by
  unfold beforeRe beforeIm
  by_cases hρ : ρ.val = 0
  · rw [if_pos hρ, if_pos hρ, hρ]
    exact hh l
  · rw [if_neg hρ, if_neg hρ]
    have := after_is hx hs hh hm ⟨(ρ.val + 256 - 1) % 256, by omega⟩ l
    beta_reduce at this
    rwa [show κ + (ρ.val + 256 - 1) % 256 + 1 = κ + ρ.val by omega] at this

/-- A row's own inputs in its results. -/
theorem own_is (hx : HoldsRows P b j κ x0) (hm : HoldsMatrices P j X1 X2 X3) (ρ : Fin 256) (t g : Fin 8) (p : Fin 16) :
    ∑ i, flat x0 (ix2 ρ i) * X1 (ix2 i (place t g p))
      = ((∑ s : Fin 8, ∑ q : Fin 16, if s ≤ t then P.x b (8 * (κ + ρ.val) + s.val) (grp j g) q * cb P (t.val - s.val) (grp j g) p q else 0 : ℝ) : EReal)
        + ((P.x b (8 * (κ + ρ.val) + t.val) (grp j g) p : ℝ) : EReal) * P.d (grp j g) p := by
  rw [sum_place]
  have e (s : Fin 8) (q : Fin 16) : ((P.x b (8 * (κ + ρ.val) + s.val) (grp j g) q : ℝ) : EReal)
      * (if s ≤ t then ((cb P (t.val - s.val) (grp j g) p q : ℝ) : EReal) + (if s = t ∧ p = q then P.d (grp j g) p else 0) else 0)
      = ((if s ≤ t then P.x b (8 * (κ + ρ.val) + s.val) (grp j g) q * cb P (t.val - s.val) (grp j g) p q else 0 : ℝ) : EReal)
        + if s = t ∧ p = q then ((P.x b (8 * (κ + ρ.val) + s.val) (grp j g) q : ℝ) : EReal) * P.d (grp j g) p else 0 := by
    by_cases hs : s ≤ t
    · rw [if_pos hs, if_pos hs, real_mul_add, mul_ite, mul_zero]
    · rw [if_neg hs, if_neg hs, if_neg fun h => hs h.1.le, mul_zero, EReal.coe_zero, add_zero]
  have e1 : ∀ s : Fin 8, ∑ g' : Fin 8, ∑ q : Fin 16, flat x0 (ix2 ρ (place s g' q)) * X1 (ix2 (place s g' q) (place t g p))
      = ∑ q : Fin 16, (((if s ≤ t then P.x b (8 * (κ + ρ.val) + s.val) (grp j g) q * cb P (t.val - s.val) (grp j g) p q else 0 : ℝ) : EReal)
        + if s = t ∧ p = q then ((P.x b (8 * (κ + ρ.val) + s.val) (grp j g) q : ℝ) : EReal) * P.d (grp j g) p else 0) := by
    intro s
    rw [sum_eq_single g]
    · refine sum_congr rfl fun q _ => ?_
      rw [flat_apply, hx, hm.own, if_pos rfl, e]
    · intro g' _ hg
      refine sum_eq_zero fun q _ => ?_
      rw [hm.own, if_neg hg, mul_zero]
    · intro hz
      exact absurd (mem_univ _) hz
  rw [sum_congr rfl fun s _ => e1 s]
  simp only [sum_add_distrib, coe_sum]
  congr 1
  rw [sum_eq_single t, sum_eq_single p]
  · rw [if_pos ⟨rfl, rfl⟩]
  · intro q _ hq
    rw [if_neg fun h => hq h.2.symm]
  · intro hz
    exact absurd (mem_univ _) hz
  · intro s _ hs
    refine sum_eq_zero fun q _ => ?_
    rw [if_neg fun h => hs h.1]
  · intro hz
    exact absurd (mem_univ _) hz

/-- The state before a row in its results. -/
theorem out_is (hx : HoldsRows P b j κ x0) (hs : HoldsScan P j x4) (hh : HoldsState P b j κ h) (hm : HoldsMatrices P j X1 X2 X3) (ρ : Fin 256) (t g : Fin 8) (p : Fin 16) :
    ∑ l, beforeRe x0 x4 h X2 ρ l * X3 (ix2 (lo l) (place t g p)) + ∑ l, beforeIm x0 x4 h X2 ρ l * X3 (ix2 (hi l) (place t g p))
      = (((∑ n, P.ct (grp j g) p n * P.a (grp j g) n ^ (1 + t.val) * P.h b (grp j g) n (8 * (κ + ρ.val))).re : ℝ) : EReal) := by
  rw [sum_lane, sum_lane, sum_eq_single g, sum_eq_single g, Complex.re_sum, coe_sum, ← sum_add_distrib]
  · refine sum_congr rfl fun n _ => ?_
    have hb := before_is hx hs hh hm ρ (lane g n)
    rw [(laneG_lane j g n).1, (laneG_lane j g n).2] at hb
    rw [(hm.out g n t g p).1, (hm.out g n t g p).2, if_pos rfl, if_pos rfl, hb.1, hb.2, ← EReal.coe_mul, ← EReal.coe_mul, ← EReal.coe_add,
      Complex.mul_re (_ * _)]
    congr 1
    ring
  · intro g' _ hg
    refine sum_eq_zero fun n _ => ?_
    rw [(hm.out g' n t g p).2, if_neg hg, EReal.coe_zero, mul_zero]
  · intro hz
    exact absurd (mem_univ _) hz
  · intro g' _ hg
    refine sum_eq_zero fun n _ => ?_
    rw [(hm.out g' n t g p).1, if_neg hg, EReal.coe_zero, mul_zero]
  · intro hz
    exact absurd (mem_univ _) hz

/-- The tile's results. -/
theorem result_is (hx : HoldsRows P b j κ x0) (hs : HoldsScan P j x4) (hh : HoldsState P b j κ h) (hm : HoldsMatrices P j X1 X2 X3) (ρ : Fin 256) (t g : Fin 8) (p : Fin 16) :
    result x0 x4 h X1 X2 X3 (ix2 ρ (place t g p)) = P.out b (8 * (κ + ρ.val) + t.val) (grp j g) p := by
  rw [result_apply, own_is hx hm, out_is hx hs hh hm, Par.out, Par.y_row, EReal.coe_add, mul_comm (P.d _ _)]
  rw [add_right_comm, add_comm (((∑ n, _ : ℂ).re : ℝ) : EReal)]

end Cert.S5.Tile
-- ==== Proof.S5.Blocks.lean ====
/-
  What the kernel's windows hold at a grid point: the rows of one tile, and the matrices of one block of lanes.
-/
module

public import proofs.«01_k».proof.Proof.Gen.Kernel2Ideal.Value
public import proofs.«01_k».proof.Proof.S5.Arrays
public import proofs.«01_k».proof.Proof.S5.Block

@[expose] public section

noncomputable section

namespace Cert.S5.Blocks

open Idealize.ShloMosaic Idealize.ShloMosaic.TcCoe Idealize.SL.Sem
open Cert.Kernel2Ideal Cert.Kernel2Ideal.Gen Cert.S5.Lines Cert.S5.Weights Cert.S5.Arrays Cert.S5.Tile

/-! ## Where the windows are -/

/-- The tile of rows. -/
theorem idx0 : ∀ t : Fin cfg0.N, win0_0.index t = ![t.val / 48 * 8 + t.val % 8, 0, t.val / 8 % 6] :=
  (by decide +kernel : ∀ t : Fin grid0.N, win0_0.index t = ![t.val / 48 * 8 + t.val % 8, 0, t.val / 8 % 6])
/-- The joining matrix's block of lanes; -/
theorem idx1 : ∀ t : Fin cfg0.N, win0_1.index t = ![t.val / 8 % 6, 0, 0] :=
  (by decide +kernel : ∀ t : Fin grid0.N, win0_1.index t = ![t.val / 8 % 6, 0, 0])
/-- so the matrix into the state's, -/
theorem idx2 : ∀ t : Fin cfg0.N, win0_2.index t = ![t.val / 8 % 6, 0, 0] :=
  (by decide +kernel : ∀ t : Fin grid0.N, win0_2.index t = ![t.val / 8 % 6, 0, 0])
/-- the matrix out of it, -/
theorem idx3 : ∀ t : Fin cfg0.N, win0_3.index t = ![t.val / 8 % 6, 0, 0] :=
  (by decide +kernel : ∀ t : Fin grid0.N, win0_3.index t = ![t.val / 8 % 6, 0, 0])
/-- and the powers'. -/
theorem idx4 : ∀ t : Fin cfg0.N, win0_4.index t = ![t.val / 8 % 6, 0, 0] :=
  (by decide +kernel : ∀ t : Fin grid0.N, win0_4.index t = ![t.val / 8 % 6, 0, 0])
/-- The three constants stay. -/
theorem idx5 : ∀ t : Fin cfg0.N, win0_5.index t = ![0, 0] := (by decide +kernel : ∀ t : Fin grid0.N, win0_5.index t = ![0, 0])
@[inherit_doc idx5] theorem idx6 : ∀ t : Fin cfg0.N, win0_6.index t = ![0, 0] := (by decide +kernel : ∀ t : Fin grid0.N, win0_6.index t = ![0, 0])
@[inherit_doc idx5] theorem idx7 : ∀ t : Fin cfg0.N, win0_7.index t = ![0, 0, 0] := (by decide +kernel : ∀ t : Fin grid0.N, win0_7.index t = ![0, 0, 0])
/-- The result's tile is where the rows' tile is. -/
theorem idx8 : ∀ t : Fin cfg0.N, win0_8.index t = ![t.val / 48 * 8 + t.val % 8, 0, t.val / 8 % 6] :=
  (by decide +kernel : ∀ t : Fin grid0.N, win0_8.index t = ![t.val / 48 * 8 + t.val % 8, 0, t.val / 8 % 6])

/-- A grid point's block of lanes; -/
abbrev lanes (t : Fin cfg0.N) : Fin 6 := ⟨t.val / 8 % 6, by omega⟩
/-- its sequence; -/
abbrev seq (t : Fin cfg0.N) : Fin 2 := ⟨t.val / 48, by have : cfg0.N = 96 := by decide
                                                       omega⟩
/-- and its first row. -/
abbrev start (t : Fin cfg0.N) : ℕ := 256 * (t.val % 8)

/-- An entry of the result's tile in the result. -/
theorem emb8 (t : Fin cfg0.N) (ρ : Fin 256) (s : Fin 8) (l : Fin 128) (R : Fin 4096) (hR : R.val = t.val / 48 * 2048 + 256 * (t.val % 8) + ρ.val) (L : Fin 768)
    (hL : L.val = t.val / 8 % 6 * 128 + l.val) : ((cfg0.win 8).blk t).view.emb (ix3 ρ s l) = ix3 R s L := by
  funext a
  match a with
  | ⟨0, _⟩ => exact Fin.ext (show win0_8.index t (0 : Fin 3) * 256 + 1 * ρ.val = R.val by rw [idx8]; show (t.val / 48 * 8 + t.val % 8) * 256 + _ = _; omega)
  | ⟨1, _⟩ => exact Fin.ext (show win0_8.index t (1 : Fin 3) * 8 + 1 * s.val = s.val by rw [idx8]; show 0 * 8 + _ = _; omega)
  | ⟨2, _⟩ => exact Fin.ext (show win0_8.index t (2 : Fin 3) * 128 + 1 * l.val = L.val by rw [idx8]; show t.val / 8 % 6 * 128 + _ = _; omega)

variable (m : (ℓ : Loc nD τ sig) → Buf (Elt Ideal) ℓ) (c : Dev nD)

/-- An entry of the tile of rows. -/
theorem iblk0_apply (t : Fin cfg0.N) (ρ : Fin 256) (s : Fin 8) (l : Fin 128) (R : Fin 4096) (hR : R.val = t.val / 48 * 2048 + 256 * (t.val % 8) + ρ.val) (L : Fin 768)
    (hL : L.val = t.val / 8 % 6 * 128 + l.val) : iblk m c 0 t (ix3 ρ s l) = V m c main_v303 (ix3 R s L) := by
  show V m c main_v303 (((cfg0.win 0).blk t).view.emb (ix3 ρ s l)) = _
  congr 1
  funext a
  match a with
  | ⟨0, _⟩ => exact Fin.ext (show win0_0.index t (0 : Fin 3) * 256 + 1 * ρ.val = R.val by rw [idx0]; show (t.val / 48 * 8 + t.val % 8) * 256 + _ = _; omega)
  | ⟨1, _⟩ => exact Fin.ext (show win0_0.index t (1 : Fin 3) * 8 + 1 * s.val = s.val by rw [idx0]; show 0 * 8 + _ = _; omega)
  | ⟨2, _⟩ => exact Fin.ext (show win0_0.index t (2 : Fin 3) * 128 + 1 * l.val = L.val by rw [idx0]; show t.val / 8 % 6 * 128 + _ = _; omega)

/-- An entry of the joining matrix's block; -/
theorem iblk1_apply (t : Fin cfg0.N) (i : Fin 1024) (z : Fin 128) : iblk m c 1 t (ix3 0 i z) = V m c main_v300 (ix3 (lanes t) i z) := by
  show V m c main_v300 (((cfg0.win 1).blk t).view.emb (ix3 0 i z)) = _
  congr 1
  funext a
  match a with
  | ⟨0, _⟩ => exact Fin.ext (show win0_1.index t (0 : Fin 3) * 1 + 1 * 0 = t.val / 8 % 6 by rw [idx1]; show t.val / 8 % 6 * 1 + _ = _; omega)
  | ⟨1, _⟩ => exact Fin.ext (show win0_1.index t (1 : Fin 3) * 1024 + 1 * i.val = i.val by rw [idx1]; show 0 * 1024 + _ = _; omega)
  | ⟨2, _⟩ => exact Fin.ext (show win0_1.index t (2 : Fin 3) * 128 + 1 * z.val = z.val by rw [idx1]; show 0 * 128 + _ = _; omega)

/-- of the block of the matrix into the state; -/
theorem iblk2_apply (t : Fin cfg0.N) (i : Fin 1024) (z : Fin 128) : iblk m c 2 t (ix3 0 i z) = V m c main_v301 (ix3 (lanes t) i z) := by
  show V m c main_v301 (((cfg0.win 2).blk t).view.emb (ix3 0 i z)) = _
  congr 1
  funext a
  match a with
  | ⟨0, _⟩ => exact Fin.ext (show win0_2.index t (0 : Fin 3) * 1 + 1 * 0 = t.val / 8 % 6 by rw [idx2]; show t.val / 8 % 6 * 1 + _ = _; omega)
  | ⟨1, _⟩ => exact Fin.ext (show win0_2.index t (1 : Fin 3) * 1024 + 1 * i.val = i.val by rw [idx2]; show 0 * 1024 + _ = _; omega)
  | ⟨2, _⟩ => exact Fin.ext (show win0_2.index t (2 : Fin 3) * 128 + 1 * z.val = z.val by rw [idx2]; show 0 * 128 + _ = _; omega)

/-- of the block of the matrix out of it; -/
theorem iblk3_apply (t : Fin cfg0.N) (i : Fin 1024) (z : Fin 128) : iblk m c 3 t (ix3 0 i z) = V m c main_v302 (ix3 (lanes t) i z) := by
  show V m c main_v302 (((cfg0.win 3).blk t).view.emb (ix3 0 i z)) = _
  congr 1
  funext a
  match a with
  | ⟨0, _⟩ => exact Fin.ext (show win0_3.index t (0 : Fin 3) * 1 + 1 * 0 = t.val / 8 % 6 by rw [idx3]; show t.val / 8 % 6 * 1 + _ = _; omega)
  | ⟨1, _⟩ => exact Fin.ext (show win0_3.index t (1 : Fin 3) * 1024 + 1 * i.val = i.val by rw [idx3]; show 0 * 1024 + _ = _; omega)
  | ⟨2, _⟩ => exact Fin.ext (show win0_3.index t (2 : Fin 3) * 128 + 1 * z.val = z.val by rw [idx3]; show 0 * 128 + _ = _; omega)

/-- of the powers' block. -/
theorem iblk4_apply (t : Fin cfg0.N) (k : Fin 8) (l : Fin 1024) : iblk m c 4 t (ix3 0 k l) = V m c main_v299 (ix3 (lanes t) k l) := by
  show V m c main_v299 (((cfg0.win 4).blk t).view.emb (ix3 0 k l)) = _
  congr 1
  funext a
  match a with
  | ⟨0, _⟩ => exact Fin.ext (show win0_4.index t (0 : Fin 3) * 1 + 1 * 0 = t.val / 8 % 6 by rw [idx4]; show t.val / 8 % 6 * 1 + _ = _; omega)
  | ⟨1, _⟩ => exact Fin.ext (show win0_4.index t (1 : Fin 3) * 8 + 1 * k.val = k.val by rw [idx4]; show 0 * 8 + _ = _; omega)
  | ⟨2, _⟩ => exact Fin.ext (show win0_4.index t (2 : Fin 3) * 1024 + 1 * l.val = l.val by rw [idx4]; show 0 * 1024 + _ = _; omega)

/-- The three constants are their arrays. -/
theorem iblk5_apply (t : Fin cfg0.N) (i : Fin 128) (k : Fin 1024) : iblk m c 5 t (ix2 i k) = V m c main_v359 (ix2 i k) := by
  show V m c main_v359 (((cfg0.win 5).blk t).view.emb (ix2 i k)) = _
  congr 1
  funext a
  match a with
  | ⟨0, _⟩ => exact Fin.ext (show win0_5.index t (0 : Fin 2) * 128 + 1 * i.val = i.val by rw [idx5]; show 0 * 128 + _ = _; omega)
  | ⟨1, _⟩ => exact Fin.ext (show win0_5.index t (1 : Fin 2) * 1024 + 1 * k.val = k.val by rw [idx5]; show 0 * 1024 + _ = _; omega)
@[inherit_doc iblk5_apply]
theorem iblk6_apply (t : Fin cfg0.N) (i : Fin 128) (k : Fin 1024) : iblk m c 6 t (ix2 i k) = V m c main_v361 (ix2 i k) := by
  show V m c main_v361 (((cfg0.win 6).blk t).view.emb (ix2 i k)) = _
  congr 1
  funext a
  match a with
  | ⟨0, _⟩ => exact Fin.ext (show win0_6.index t (0 : Fin 2) * 128 + 1 * i.val = i.val by rw [idx6]; show 0 * 128 + _ = _; omega)
  | ⟨1, _⟩ => exact Fin.ext (show win0_6.index t (1 : Fin 2) * 1024 + 1 * k.val = k.val by rw [idx6]; show 0 * 1024 + _ = _; omega)
@[inherit_doc iblk5_apply]
theorem iblk7_apply (t : Fin cfg0.N) (x : Fin 3) (i k : Fin 1024) : iblk m c 7 t (ix3 x i k) = V m c main_v363 (ix3 x i k) := by
  show V m c main_v363 (((cfg0.win 7).blk t).view.emb (ix3 x i k)) = _
  congr 1
  funext a
  match a with
  | ⟨0, _⟩ => exact Fin.ext (show win0_7.index t (0 : Fin 3) * 3 + 1 * x.val = x.val by rw [idx7]; show 0 * 3 + _ = _; omega)
  | ⟨1, _⟩ => exact Fin.ext (show win0_7.index t (1 : Fin 3) * 1024 + 1 * i.val = i.val by rw [idx7]; show 0 * 1024 + _ = _; omega)
  | ⟨2, _⟩ => exact Fin.ext (show win0_7.index t (2 : Fin 3) * 1024 + 1 * k.val = k.val by rw [idx7]; show 0 * 1024 + _ = _; omega)

end Cert.S5.Blocks
-- ==== Proof.S5.Points.lean ====
/-
  At each grid point the kernel's windows hold the recurrence's inputs, powers and matrices.
-/
module

public import proofs.«01_k».proof.Proof.S5.Blocks

@[expose] public section

noncomputable section

namespace Cert.S5.Points

open Idealize.ShloMosaic Idealize.ShloMosaic.TcCoe Idealize.SL.Sem
open Cert.Kernel2Ideal Cert.Kernel2Ideal.Gen Cert.S5.Lines Cert.S5.Weights Cert.S5.Arrays Cert.S5.Tile Cert.S5.Blocks Cert.S5.Layout

/-- The state the kernel starts a sequence from is the recurrence's. -/
theorem zero_state (P : Par) (b : Fin 2) (j : Fin 6) : HoldsState P b j 0 (k0_pay7 (F := Ideal)) := by
  have e (l : Fin 1024) : k0_pay7 (F := Ideal) (ix2 0 l) = 0 := by
    unfold k0_pay7
    pointwise
    try exact Ideal.ofBits_zero .f32
  intro l
  rw [e, e]
  exact Is.zero

variable (m : (ℓ : Loc nD τ sig) → Buf (Elt Ideal) ℓ) (c : Dev nD) (P : Par) (H : HeldBy P m c) (t : Fin cfg0.N)
include H

/-- The tile of rows. -/
theorem rows_hold : HoldsRows P (seq t) (lanes t) (start t) (iblk m c 0 t) := by
  have hN : t.val < 96 := t.isLt
  intro ρ s g q
  rw [iblk0_apply m c t ρ s _ ⟨t.val / 48 * 2048 + 256 * (t.val % 8) + ρ.val, by omega⟩ rfl ⟨t.val / 8 % 6 * 128 + (g.val * 16 + q.val), by omega⟩ rfl]
  refine (rows_apply m c P H _ _ _ (grp (lanes t) g) (by show t.val / 8 % 6 * 8 + g.val = (t.val / 8 % 6 * 128 + (g.val * 16 + q.val)) / 16; omega) q
    (by show q.val = (t.val / 8 % 6 * 128 + (g.val * 16 + q.val)) % 16; omega)).trans ?_
  refine congrArg₂ (fun b n => ((P.x b n (grp (lanes t) g) q : ℝ) : EReal)) (Fin.ext ?_) ?_
  · show (t.val / 48 * 2048 + 256 * (t.val % 8) + ρ.val) / 2048 = t.val / 48
    omega
  · show (t.val / 48 * 2048 + 256 * (t.val % 8) + ρ.val) % 2048 * 8 + s.val = 8 * (256 * (t.val % 8) + ρ.val) + s.val
    omega

/-- The powers. -/
theorem scan_holds : HoldsScan P (lanes t) (iblk m c 4 t) := by
  intro k l
  rw [iblk4_apply, iblk4_apply, ← pow_mul]
  constructor
  · refine (scan_apply m c P H _ _ _ (laneG (lanes t) l) (by show _ + l.val / 64 = _ + l.val % 512 / 64; omega) (laneN l) (by show l.val % 64 = l.val % 512 % 64; omega)).trans ?_
    rw [if_pos (show l.val / 512 < 1 by omega)]
  · refine (scan_apply m c P H _ _ _ (laneG (lanes t) l) (by show _ + l.val / 64 = _ + (512 + l.val) % 512 / 64; omega) (laneN l)
      (by show l.val % 64 = (512 + l.val) % 512 % 64; omega)).trans ?_
    rw [if_neg (show ¬(512 + l.val) / 512 < 1 by omega)]

/-- The joining matrix. -/
theorem own_holds (s g : Fin 8) (q : Fin 16) (s' g' : Fin 8) (p : Fin 16) :
    matrix1 (iblk m c 1 t) (iblk m c 5 t) (iblk m c 7 t) (ix2 (place s g q) (place s' g' p))
      = if g = g' then (if s ≤ s' then ((cb P (s'.val - s.val) (grp (lanes t) g) p q : ℝ) : EReal) + (if s = s' ∧ p = q then P.d (grp (lanes t) g) p else 0) else 0) else 0 := by
  rw [(matrix_apply _ _ _ _ _ (⟨s'.val * 16 + p.val, by omega⟩ : Fin 128) fun y => ?_).1]
  · rw [iblk1_apply, iblk7_apply]
    have e1 : V m c main_v300 (ix3 (lanes t) (place s g q) (⟨s'.val * 16 + p.val, by omega⟩ : Fin 128)) = _ :=
      (matrices m c _ _ _).1.trans ((intra_apply m c P H _ _ _).trans (picked_apply m c P H _ _ _ _ _))
    have e2 : V m c main_v363 (ix3 0 (place s g q) (place s' g' p)) = _ := (congrArg (fun x => el x _) (V_eq m c main_v363)).trans (mask0_of _ _ _)
    have i1 : (⟨(place s g q).val / 128, by omega⟩ : Fin 8) = s := Fin.ext (show (s.val * 128 + (g.val * 16 + q.val)) / 128 = s.val by omega)
    have i2 : (⟨(s'.val * 16 + p.val) / 16, by omega⟩ : Fin 8) = s' := Fin.ext (show (s'.val * 16 + p.val) / 16 = s'.val by omega)
    have i3 : (⟨(lanes t).val * 8 + (place s g q).val / 16 % 8, by omega⟩ : Fin 48) = grp (lanes t) g :=
      Fin.ext (show (lanes t).val * 8 + (s.val * 128 + (g.val * 16 + q.val)) / 16 % 8 = (lanes t).val * 8 + g.val by omega)
    have i4 : (⟨(s'.val * 16 + p.val) % 16, by omega⟩ : Fin 16) = p := Fin.ext (show (s'.val * 16 + p.val) % 16 = p.val by omega)
    have i5 : (⟨(place s g q).val % 16, by omega⟩ : Fin 16) = q := Fin.ext (show (s.val * 128 + (g.val * 16 + q.val)) % 16 = q.val by omega)
    rw [e1, e2, i1, i2, i3, i4, i5]
    by_cases hg : g = g'
    · subst hg
      rw [if_pos (show (s.val * 128 + (g.val * 16 + q.val)) % 128 / 16 = (s'.val * 128 + (g.val * 16 + p.val)) % 128 / 16 by omega), mul_one, if_pos rfl]
    · have hg' : g.val ≠ g'.val := fun h => hg (Fin.ext h)
      rw [if_neg (show ¬(s.val * 128 + (g.val * 16 + q.val)) % 128 / 16 = (s'.val * 128 + (g'.val * 16 + p.val)) % 128 / 16 by omega), mul_zero, if_neg hg]
  · rw [iblk5_apply]
    refine ((congrArg (fun x => el x _) (V_eq m c main_v359)).trans (spread_tp_of _ _ _)).trans (if_congr ?_ rfl rfl)
    rw [Fin.ext_iff]
    show y.val = (s'.val * 128 + (g'.val * 16 + p.val)) / 128 * 16 + (s'.val * 128 + (g'.val * 16 + p.val)) % 16 ↔ y.val = s'.val * 16 + p.val
    omega

/-- An entry of the matrix into the state. -/
theorem add_entry (s g : Fin 8) (q : Fin 16) (l : Fin 512) (L : Fin 1024) (hL : L.val % 512 = l.val) :
    matrix2 (iblk m c 2 t) (iblk m c 6 t) (iblk m c 7 t) (ix2 (place s g q) L)
      = ((if L.val / 512 < 1 then (if g.val = l.val / 64 then P.a (laneG (lanes t) l) (laneN l) ^ (7 - s.val) * P.bb (laneG (lanes t) l) (laneN l) q else 0).re
        else (if g.val = l.val / 64 then P.a (laneG (lanes t) l) (laneN l) ^ (7 - s.val) * P.bb (laneG (lanes t) l) (laneN l) q else 0).im : ℝ) : EReal) := by
  rw [(matrix_apply _ _ _ _ _ (⟨L.val / 512 * 64 + L.val % 64, by omega⟩ : Fin 128) fun y => ?_).2.1]
  · rw [iblk2_apply, iblk7_apply]
    have e1 : V m c main_v301 (ix3 (lanes t) (place s g q) (⟨L.val / 512 * 64 + L.val % 64, by omega⟩ : Fin 128)) = _ :=
      (matrices m c _ _ _).2.1.trans (inject_apply m c P H _ _ _ (grp (lanes t) g)
        (by show (lanes t).val * 8 + g.val = (lanes t).val * 8 + (s.val * 128 + (g.val * 16 + q.val)) / 16 % 8; omega) (laneN l)
        (by show l.val % 64 = (L.val / 512 * 64 + L.val % 64) % 64; omega) q (by show q.val = (s.val * 128 + (g.val * 16 + q.val)) % 16; omega))
    have e2 : V m c main_v363 (ix3 1 (place s g q) L) = _ := (congrArg (fun x => el x _) (V_eq m c main_v363)).trans (mask1_of _ _ _)
    have i1 : (place s g q).val / 128 = s.val := by show (s.val * 128 + (g.val * 16 + q.val)) / 128 = s.val; omega
    have i2 : (L.val / 512 * 64 + L.val % 64) / 64 < 1 ↔ L.val / 512 < 1 := by omega
    have i3 : (place s g q).val % 128 / 16 = L.val % 512 / 64 ↔ g.val = l.val / 64 := by
      show (s.val * 128 + (g.val * 16 + q.val)) % 128 / 16 = L.val % 512 / 64 ↔ g.val = l.val / 64
      omega
    rw [e1, e2, i1, if_congr i2 rfl rfl, if_congr i3 rfl rfl]
    by_cases hg : g.val = l.val / 64
    · have hG : grp (lanes t) g = laneG (lanes t) l := Fin.ext (show _ + g.val = _ + l.val / 64 by omega)
      rw [if_pos hg, if_pos hg, mul_one, hG]
    · rw [if_neg hg, if_neg hg, mul_zero, Complex.zero_re, Complex.zero_im, ite_self, EReal.coe_zero]
  · rw [iblk6_apply]
    refine ((congrArg (fun x => el x _) (V_eq m c main_v361)).trans (spread_cn_of _ _ _)).trans (if_congr ?_ rfl rfl)
    rw [Fin.ext_iff]

/-- An entry of the matrix out of the state. -/
theorem out_entry (g : Fin 8) (n : Fin 64) (L : Fin 1024) (hL : L.val % 512 = g.val * 64 + n.val) (s g' : Fin 8) (p : Fin 16) :
    matrix3 (iblk m c 3 t) (iblk m c 5 t) (iblk m c 7 t) (ix2 L (place s g' p))
      = ((if g = g' then (if L.val / 512 < 1 then (P.ct (grp (lanes t) g) p n * P.a (grp (lanes t) g) n ^ (1 + s.val)).re
          else -(P.ct (grp (lanes t) g) p n * P.a (grp (lanes t) g) n ^ (1 + s.val)).im) else 0 : ℝ) : EReal) := by
  rw [(matrix_apply _ _ _ _ _ (⟨s.val * 16 + p.val, by omega⟩ : Fin 128) fun y => ?_).2.2]
  · rw [iblk3_apply, iblk7_apply]
    have e1 : V m c main_v302 (ix3 (lanes t) L (⟨s.val * 16 + p.val, by omega⟩ : Fin 128)) = _ :=
      (matrices m c _ _ _).2.2.trans (readout_apply m c P H _ _ _ (grp (lanes t) g)
        (by show (lanes t).val * 8 + g.val = (lanes t).val * 8 + L.val / 64 % 8; omega) n (by omega) p (by show p.val = (s.val * 16 + p.val) % 16; omega))
    have e2 : V m c main_v363 (ix3 2 L (place s g' p)) = _ := (congrArg (fun x => el x _) (V_eq m c main_v363)).trans (mask2_of _ _ _)
    have i1 : (s.val * 16 + p.val) / 16 = s.val := by omega
    have i3 : L.val % 512 / 64 = (place s g' p).val % 128 / 16 ↔ g = g' := by
      rw [Fin.ext_iff]
      show L.val % 512 / 64 = (s.val * 128 + (g'.val * 16 + p.val)) % 128 / 16 ↔ g.val = g'.val
      omega
    rw [e1, e2, i1, if_congr i3 rfl rfl]
    by_cases hg : g = g'
    · rw [if_pos hg, if_pos hg, mul_one]
    · rw [if_neg hg, if_neg hg, mul_zero, EReal.coe_zero]
  · rw [iblk5_apply]
    refine ((congrArg (fun x => el x _) (V_eq m c main_v359)).trans (spread_tp_of _ _ _)).trans (if_congr ?_ rfl rfl)
    rw [Fin.ext_iff]
    show y.val = (s.val * 128 + (g'.val * 16 + p.val)) / 128 * 16 + (s.val * 128 + (g'.val * 16 + p.val)) % 16 ↔ y.val = s.val * 16 + p.val
    omega

/-- The three matrices. -/
theorem matrices_hold : HoldsMatrices P (lanes t) (matrix1 (iblk m c 1 t) (iblk m c 5 t) (iblk m c 7 t)) (matrix2 (iblk m c 2 t) (iblk m c 6 t) (iblk m c 7 t))
    (matrix3 (iblk m c 3 t) (iblk m c 5 t) (iblk m c 7 t)) where
  own := own_holds m c P H t
  add := fun s g q l => ⟨(add_entry m c P H t s g q l (lo l) (by show l.val % 512 = l.val; omega)).trans (by rw [if_pos (show l.val / 512 < 1 by omega)]),
    (add_entry m c P H t s g q l (hi l) (by show (512 + l.val) % 512 = l.val; omega)).trans (by rw [if_neg (show ¬(512 + l.val) / 512 < 1 by omega)])⟩
  out := fun g n s g' p => ⟨(out_entry m c P H t g n (lo (lane g n)) (by show (g.val * 64 + n.val) % 512 = _; omega) s g' p).trans
      (by rw [if_pos (show (g.val * 64 + n.val) / 512 < 1 by omega)]),
    (out_entry m c P H t g n (hi (lane g n)) (by show (512 + (g.val * 64 + n.val)) % 512 = _; omega) s g' p).trans
      (by rw [if_neg (show ¬(512 + (g.val * 64 + n.val)) / 512 < 1 by omega)])⟩

end Cert.S5.Points
-- ==== Proof.S5.Kern.lean ====
/-
  The kernel's result: tile by tile the scratch holds the matrices of its block of lanes and the recurrence's state, and each
  entry of the result is the recurrence's output.
-/
module

public import proofs.«01_k».proof.Proof.S5.Tile
public import proofs.«01_k».proof.Proof.S5.Points

@[expose] public section

noncomputable section

namespace Cert.S5.Kern

open Idealize.ShloMosaic Idealize.ShloMosaic.TcCoe Idealize.SL.Sem
open Cert.Kernel2Ideal Cert.Kernel2Ideal.Gen Cert.S5.Weights Cert.S5.Tile Cert.S5.Blocks Cert.S5.Points

/-- What a grid point leaves: the state after its rows, the matrices of its lanes, and its rows' outputs. -/
structure Good (P : Par) (t : Fin cfg0.N) (o : Vec Ideal S256x8x128 .f32 × Vec Ideal S1x1024 .f32 × Vec Ideal S1024x1024 .bf16
    × Vec Ideal S1024x1024 .bf16 × Vec Ideal S1024x1024 .bf16) : Prop where
  state : HoldsState P (seq t) (lanes t) (start t + 256) o.2.1
  matrices : HoldsMatrices P (lanes t) o.2.2.1 o.2.2.2.1 o.2.2.2.2
  rows : ∀ (ρ : Fin 256) (s g : Fin 8) (p : Fin 16), o.1 (ix3 ρ s (⟨g.val * 16 + p.val, by omega⟩ : Fin 128))
    = P.out (seq t) (8 * (start t + ρ.val) + s.val) (grp (lanes t) g) p

/-- An entry of a tile. -/
theorem tile_apply (Y : Vec Ideal S256x1024 .f32) (ρ : Fin 256) (s g : Fin 8) (p : Fin 16) :
    tile Y (ix3 ρ s (⟨g.val * 16 + p.val, by omega⟩ : Fin 128)) = Y (ix2 ρ (place s g p)) := rfl

variable (m : (ℓ : Loc nD τ sig) → Buf (Elt Ideal) ℓ) (c : Dev nD) (P : Par) (H : HeldBy P m c)
include H

/-- A sequence's first tile. -/
theorem good_first (t : Fin cfg0.N) (h0 : t.val % 8 = 0) : Good P t (outsAt0 m c t.val t.isLt) := by
  have hx := rows_hold m c P H t
  have hs := scan_holds m c P H t
  have hm := matrices_hold m c P H t
  have hz : start t = 0 := by show 256 * (t.val % 8) = 0; omega
  have hh : HoldsState P (seq t) (lanes t) (start t) (k0_pay7 (F := Ideal)) := by rw [hz]; exact zero_state P _ _
  rw [outsAt0_A m c t h0]
  constructor
  · dsimp only
    rw [first_state]
    exact state_is hx hs hh hm
  · dsimp only
    rw [first_matrix1, first_matrix2, first_matrix3]
    exact hm
  · intro ρ s g p
    dsimp only
    rw [first_tile, tile_apply]
    exact result_is hx hs hh hm ρ s g p

/-- A later tile, from the tile before. -/
theorem good_later (t t' : Fin cfg0.N) (ht : t'.val = t.val - 1) (h0 : ¬t.val % 8 = 0) (hg : Good P t' (outsAt0 m c (t.val - 1) (Nat.lt_of_le_of_lt (Nat.sub_le _ _) t.isLt))) :
    Good P t (outsAt0 m c t.val t.isLt) := by
  have hx := rows_hold m c P H t
  have hs := scan_holds m c P H t
  have el : lanes t' = lanes t := Fin.ext (show t'.val / 8 % 6 = t.val / 8 % 6 by omega)
  have eb : seq t' = seq t := Fin.ext (show t'.val / 48 = t.val / 48 by omega)
  have ek : start t' + 256 = start t := by show 256 * (t'.val % 8) + 256 = 256 * (t.val % 8); omega
  obtain ⟨hh, hm, -⟩ := hg
  rw [el, eb, ek] at hh
  rw [el] at hm
  rw [outsAt0_B m c t h0]
  generalize outsAt0 m c (t.val - 1) (Nat.lt_of_le_of_lt (Nat.sub_le _ _) t.isLt) = o at hh hm
  constructor
  · dsimp only
    rw [later_state]
    exact state_is hx hs hh hm
  · exact hm
  · intro ρ s g p
    dsimp only
    rw [later_tile, tile_apply]
    exact result_is hx hs hh hm ρ s g p

/-- Every grid point. -/
theorem good : ∀ (n : ℕ) (hn : n < cfg0.N), Good P ⟨n, hn⟩ (outsAt0 m c n hn)
  | 0, hn => good_first m c P H ⟨0, hn⟩ rfl
  | n + 1, hn => by
    by_cases h0 : (n + 1) % 8 = 0
    · exact good_first m c P H ⟨n + 1, hn⟩ h0
    · exact good_later m c P H ⟨n + 1, hn⟩ ⟨n, Nat.lt_of_succ_lt hn⟩ rfl h0 (good n _)

/-- The result, entry by entry. -/
theorem result_apply (R : Fin 4096) (s : Fin 8) (L : Fin 768) : (dats m 0 c).arrAt 8 cfg0.N (ix3 R s L)
    = P.out ⟨R.val / 2048, by omega⟩ (R.val % 2048 * 8 + s.val) ⟨L.val / 16, by omega⟩ ⟨L.val % 16, by omega⟩ := by
  have hN : cfg0.N = 96 := by decide
  let t : Fin cfg0.N := ⟨R.val / 2048 * 48 + L.val / 128 * 8 + R.val % 2048 / 256, by omega⟩
  let ρ : Fin 256 := ⟨R.val % 256, by omega⟩
  let g : Fin 8 := ⟨L.val % 128 / 16, by omega⟩
  let p : Fin 16 := ⟨L.val % 16, by omega⟩
  have b := congrFun (Value.blocks8 m c t (flush0_8 t)) (ix3 ρ s ⟨g.val * 16 + p.val, by omega⟩)
  rw [Value.flushed8] at b
  have b' : (dats m 0 c).arrAt 8 cfg0.N (((cfg0.win 8).blk t).view.emb (ix3 ρ s ⟨g.val * 16 + p.val, by omega⟩)) = _ := b
  have ht : t.val = R.val / 2048 * 48 + L.val / 128 * 8 + R.val % 2048 / 256 := rfl
  rw [emb8 t ρ s _ R (by show R.val = t.val / 48 * 2048 + 256 * (t.val % 8) + R.val % 256; omega) L
    (by show L.val = t.val / 8 % 6 * 128 + (L.val % 128 / 16 * 16 + L.val % 16); omega)] at b'
  refine b'.trans (((good m c P H t.val t.isLt).rows ρ s g p).trans ?_)
  have e1 : seq t = ⟨R.val / 2048, by omega⟩ := Fin.ext (show t.val / 48 = R.val / 2048 by omega)
  have e2 : 8 * (start t + ρ.val) + s.val = R.val % 2048 * 8 + s.val := by show 8 * (256 * (t.val % 8) + R.val % 256) + s.val = _; omega
  have e3 : grp (lanes t) g = ⟨L.val / 16, by omega⟩ := Fin.ext (show t.val / 8 % 6 * 8 + L.val % 128 / 16 = L.val / 16 by omega)
  rw [← e1, ← e2, ← e3]

end Cert.S5.Kern
-- ==== Proof.S5.StepRun.lean ====
/-
  The reference's recurrence as a sequence of states: what the loop carries before trip `n` is the `n`-th state of the sequence
  that starts from the set-up values and goes on by one trip's step, and the result is read off state 16384.
-/
module

public import proofs.«01_k».proof.Proof.Gen.Reference2Ideal.Run
public import proofs.«01_k».proof.Proof.Gen.Reference2Ideal.Step

@[expose] public section

noncomputable section

namespace Cert.S5.StepRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step

variable {F : FTy → Type} [FloatOps F]

variable (V0 : Valuation τ sig (Elt F)) (s : State F) (j : ℕ)

/-- The buffers hold the state, the set-up values and the trip's number. -/
structure Holds : Prop where
  f_9 : V0 (Proc.devRef .tc main_v45_9) = s.main_v45_9
  f_10 : V0 (Proc.devRef .tc main_v45_10) = s.main_v45_10
  f_11 : V0 (Proc.devRef .tc main_v45_11) = s.main_v45_11
  f_0 : V0 (Proc.devRef .tc main_v45_0) = s.main_v45_0
  f_1 : V0 (Proc.devRef .tc main_v45_1) = s.main_v45_1
  f_2 : V0 (Proc.devRef .tc main_v45_2) = s.main_v45_2
  f_3 : V0 (Proc.devRef .tc main_v45_3) = s.main_v45_3
  f_4 : V0 (Proc.devRef .tc main_v45_4) = s.main_v45_4
  f_5 : V0 (Proc.devRef .tc main_v45_5) = s.main_v45_5
  f_6 : V0 (Proc.devRef .tc main_v45_6) = s.main_v45_6
  f_7 : V0 (Proc.devRef .tc main_v45_7) = s.main_v45_7
  n_8 : V0 (Proc.devRef .tc main_v45_8) = constantI S_ 32 (BitVec.ofNat 32 j)

variable {V0 s j}

/-- One trip's new real parts. -/
theorem step_9 (h : Holds V0 s j) : Value.step_main_v45_9 V0 = (step j s).main_v45_9 := by
  rw [Cert.Reference2Ideal.Step.step_main_v45_9]
  unfold Value.step_main_v45_9
  show res_main_while0b_v60 V0 = _
  unfold res_main_while0b_v60 res_main_while0b_v48
  rw [h.f_0, h.f_1, h.f_3, h.f_4, h.f_9, h.f_10, h.n_8]
  rfl

/-- One trip's new imaginary parts. -/
theorem step_10 (h : Holds V0 s j) : Value.step_main_v45_10 V0 = (step j s).main_v45_10 := by
  rw [Cert.Reference2Ideal.Step.step_main_v45_10]
  unfold Value.step_main_v45_10
  show res_main_while0b_v68 V0 = _
  unfold res_main_while0b_v68 res_main_while0b_v48
  rw [h.f_0, h.f_2, h.f_3, h.f_4, h.f_9, h.f_10, h.n_8]
  rfl

/-- One trip's rows with the new row written. -/
theorem step_11 (h : Holds V0 s j) : Value.step_main_v45_11 V0 = (step j s).main_v45_11 := by
  rw [Cert.Reference2Ideal.Step.step_main_v45_11]
  unfold Value.step_main_v45_11
  unfold res_main_while0b_v60 res_main_while0b_v68 res_main_while0b_v48
  rw [h.f_0, h.f_1, h.f_2, h.f_3, h.f_4, h.f_5, h.f_6, h.f_7, h.f_9, h.f_10, h.f_11, h.n_8]
  rfl

/-- The counter steps to the next number. -/
theorem step_8 (h : Holds V0 s j) : Value.step_main_v45_8 V0 = constantI S_ 32 (BitVec.ofNat 32 (j + 1)) := by
  unfold Value.step_main_v45_8
  rw [h.n_8]
  funext i
  show BitVec.ofNat 32 j + 1#32 = BitVec.ofNat 32 (j + 1)
  simp only [BitVec.ofNat_add]

set_option maxRecDepth 8192 in
/-- The result is read off the state. -/
theorem out_main_v47_holds (h : Holds V0 s j) : out_main_v47 V0 = R_main_v47 s := by
  unfold out_main_v47 R_main_v47
  rw [h.f_11]
  try rfl

/-- One trip keeps the valuation holding: `step` of the state, the same set-up values, the next number. -/
theorem holds_step (h : Holds V0 s j) : Holds (STEP V0) (step j s) (j + 1) where
  f_9 := (STEP_main_v45_9 V0).trans (step_9 h)
  f_10 := (STEP_main_v45_10 V0).trans (step_10 h)
  f_11 := (STEP_main_v45_11 V0).trans (step_11 h)
  n_8 := (STEP_main_v45_8 V0).trans (step_8 h)
  f_0 := (STEP_main_v45_0 V0).trans h.f_0
  f_1 := (STEP_main_v45_1 V0).trans h.f_1
  f_2 := (STEP_main_v45_2 V0).trans h.f_2
  f_3 := (STEP_main_v45_3 V0).trans h.f_3
  f_4 := (STEP_main_v45_4 V0).trans h.f_4
  f_5 := (STEP_main_v45_5 V0).trans h.f_5
  f_6 := (STEP_main_v45_6 V0).trans h.f_6
  f_7 := (STEP_main_v45_7 V0).trans h.f_7

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg7)) (m ((c.tc : Thread nD τ).loc main_arg8)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 16384 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v47) = R_main_v47 (it c 16384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 16384
    ⟨(h c).1.trans (out_main_v47_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.S5.StepRun

end
-- ==== Proof.S5.Ref.lean ====
/-
  The reference: the state its loop carries before trip `n` is the recurrence's state after `n` positions with the rows read out so
  far, so its result is the recurrence's result.
-/
module

public import proofs.«01_k».proof.Proof.S5.StepRun
public import proofs.«01_k».proof.Proof.S5.Held
public import Idealize.ShloMosaic.Lib.ValueIdx

@[expose] public section

noncomputable section

namespace Cert.S5.Ref

open Idealize.ShloMosaic Idealize.ShloMosaic.TcCoe
open Cert.Reference2Ideal Cert.Reference2Ideal.Gen Cert.Reference2Ideal.Step

/-- The loop's constants hold the recurrence's parameters. -/
structure Consts (P : Par) (s : State Ideal) : Prop where
  x : ∀ (t : Fin 16384) b G q, s.main_v45_0 (ix4 t b G q) = ((P.x b t.val G q : ℝ) : EReal)
  bb : ∀ G n q, Is (s.main_v45_1 (ix3 G n q)) (s.main_v45_2 (ix3 G n q)) (P.bb G n q)
  a : ∀ G n, Is (s.main_v45_3 (ix2 G n)) (s.main_v45_4 (ix2 G n)) (P.a G n)
  ct : ∀ G p n, Is (s.main_v45_5 (ix3 G p n)) (s.main_v45_6 (ix3 G p n)) (P.ct G p n)
  d : ∀ G p, s.main_v45_7 (ix2 G p) = P.d G p

/-- The state before trip `n`. -/
structure At (P : Par) (n : ℕ) (s : State Ideal) : Prop where
  consts : Consts P s
  h : ∀ b G k, Is (s.main_v45_9 (ix3 b G k)) (s.main_v45_10 (ix3 b G k)) (P.h b G k n)
  y : ∀ (t : Fin 16384) b G p, t.val < n → s.main_v45_11 (ix4 t b G p) = P.out b t.val G p

section Init

variable (x0 : (⟨S32768x768, .f32⟩ : BufTy).Contents (Elt Ideal)) (x1 x2 : (⟨S48x64, .f32⟩ : BufTy).Contents (Elt Ideal))
  (x3 : (⟨S48, .f32⟩ : BufTy).Contents (Elt Ideal)) (x4 x5 : (⟨S48x64x16, .f32⟩ : BufTy).Contents (Elt Ideal))
  (x6 x7 : (⟨S48x16x64, .f32⟩ : BufTy).Contents (Elt Ideal)) (x8 : (⟨S48x16, .f32⟩ : BufTy).Contents (Elt Ideal))
  (P : Par) (H : Held P x0 x1 x2 x3 x4 x5 x6 x7 x8)

include H

/-- The discretised eigenvalues as the set-up computes them. -/
theorem a_is (G : Fin 48) (n : Fin 64) :
    Is (A_main_v9 x0 x1 x2 x3 x4 x5 (ix2 G n)) (A_main_v13 x0 x1 x2 x3 x4 x5 (ix2 G n)) (P.a G n) := by
  have e := P.a_is G n
  unfold A_main_v9 A_main_v13 A_main_v12 A_main_v11 A_main_v10 A_main_v8 A_main_v7 A_main_v6 A_main_v5 A_main_v4 A_main_v3 A_main_v2 A_main_v1
  pointwise
  simp only [H.lr, H.li, H.ls]
  exact e

/-- The hold's factors as the set-up computes them. -/
theorem coef_is (G : Fin 48) (n : Fin 64) :
    Is (A_main_v22 x0 x1 x2 x3 x4 x5 (ix2 G n)) (A_main_v26 x0 x1 x2 x3 x4 x5 (ix2 G n)) (P.coef G n) := by
  have e := P.coef_is G n _ _ (a_is x0 x1 x2 x3 x4 x5 x6 x7 x8 P H G n)
  unfold A_main_v22 A_main_v26 A_main_v25 A_main_v24 A_main_v23 A_main_v21 A_main_v20 A_main_v19 A_main_v18 A_main_v16 A_main_v15 A_main_v14 K_main_v17 K_main_cst
  generalize A_main_v9 x0 x1 x2 x3 x4 x5 = y at e ⊢
  generalize A_main_v13 x0 x1 x2 x3 x4 x5 = z at e ⊢
  pointwise
  simp only [H.lr, H.li]
  exact e

/-- The discretised input weights as the set-up computes them. -/
theorem bb_is (G : Fin 48) (n : Fin 64) (q : Fin 16) :
    Is (A_main_v33 x0 x1 x2 x3 x4 x5 (ix3 G n q)) (A_main_v40 x0 x1 x2 x3 x4 x5 (ix3 G n q)) (P.bb G n q) := by
  have e := P.bb_is G n q _ _ (coef_is x0 x1 x2 x3 x4 x5 x6 x7 x8 P H G n)
  unfold A_main_v33 A_main_v40 A_main_v39 A_main_v38 A_main_v37 A_main_v36 A_main_v35 A_main_v34 A_main_v32 A_main_v31 A_main_v30 A_main_v29 A_main_v28 A_main_v27
  generalize A_main_v22 x0 x1 x2 x3 x4 x5 = y at e ⊢
  generalize A_main_v26 x0 x1 x2 x3 x4 x5 = z at e ⊢
  pointwise
  simp only [H.br, H.bi]
  exact e

/-- The first state. -/
theorem init_at : At P 0 (init x6 x7 x8 x0 x1 x2 x3 x4 x5) where
  consts :=
    { x := fun t b G q => by
        show A_main_v43 x0 x1 x2 x3 x4 x5 (ix4 t b G q) = _
        unfold A_main_v43 A_main_v0
        pointwise
        rw [H.u]
        unfold Par.x
        have e : (b.val * 16384 + t.val) % 32768 = b.val * 16384 + t.val := Nat.mod_eq_of_lt (by omega)
        simp only [e]
      bb := bb_is x0 x1 x2 x3 x4 x5 x6 x7 x8 P H
      a := a_is x0 x1 x2 x3 x4 x5 x6 x7 x8 P H
      ct := fun G p n => ⟨H.cr G p n, H.ci G p n⟩
      d := H.d }
  h := fun b G k => by
    show Is (K_main_v41 (F := Ideal) (ix3 b G k)) (K_main_v42 (F := Ideal) (ix3 b G k)) 0
    unfold K_main_v41 K_main_v42 K_main_cst_0 K_main_cst_1
    pointwise
    exact Is.zero
  y := fun t b G p ht => absurd ht (Nat.not_lt_zero _)

end Init

section Step

variable (P : Par) (s : State Ideal) (j : ℕ) (hj : j < 16384)

include hj in
/-- The trip's row of the sequence. -/
theorem row_apply (b : Fin 2) (G : Fin 48) (q : Fin 16) : b4 j s (ix3 b G q) = s.main_v45_0 (ix4 ⟨j, hj⟩ b G q) := by
  unfold b4 b3 b2 b1 b0
  pointwise
  have c0 := Host.clampedStart_of_le (s := S16384x2x48x16) (t := S1x2x48x16) rfl (fun k => BitVec.toInt ((![constantI S_ 32 (BitVec.ofNat 32 j), constantI S_ 32 0#32,
    constantI S_ 32 0#32, constantI S_ 32 0#32] : Fin 4 → (⟨S_, .i32⟩ : BufTy).Contents (Elt Ideal)) k (Shape.Idx.first h_S_))) 0 j (by
      show (BitVec.ofNat 32 j).toInt = j
      rw [BitVec.toInt_ofNat', Int.bmod_def]; omega) (by show j + 1 ≤ 16384; omega)
  have c1 (a : Fin 4) (ha : a ≠ 0) := Host.clampedStart_of_le (s := S16384x2x48x16) (t := S1x2x48x16) rfl (fun k => BitVec.toInt ((![constantI S_ 32 (BitVec.ofNat 32 j), constantI S_ 32 0#32,
    constantI S_ 32 0#32, constantI S_ 32 0#32] : Fin 4 → (⟨S_, .i32⟩ : BufTy).Contents (Elt Ideal)) k (Shape.Idx.first h_S_))) a 0
      (by fin_cases a; · exact absurd rfl ha
          all_goals rfl) (by fin_cases a; · exact absurd rfl ha
                             all_goals decide)
  simp only [c0, c1 1 (by decide), c1 2 (by decide), c1 3 (by decide), Nat.zero_add]

include hj in
/-- The rows after the trip: the trip's own is the new one, the others stand. -/
theorem rows_apply (t : Fin 16384) (b : Fin 2) (G : Fin 48) (p : Fin 16) :
    b38 j s (ix4 t b G p) = if t.val = j then b33 j s (ix3 b G p) else s.main_v45_11 (ix4 t b G p) := by
  unfold b38 b37 b36 b35 b34
  generalize b33 j s = w
  pointwise
  have c0 := Host.clampedStart_of_le (s := S16384x2x48x16) (t := S1x2x48x16) rfl (fun k => BitVec.toInt ((![constantI S_ 32 (BitVec.ofNat 32 j), constantI S_ 32 0#32,
    constantI S_ 32 0#32, constantI S_ 32 0#32] : Fin 4 → (⟨S_, .i32⟩ : BufTy).Contents (Elt Ideal)) k (Shape.Idx.first h_S_))) 0 j (by
      show (BitVec.ofNat 32 j).toInt = j
      rw [BitVec.toInt_ofNat', Int.bmod_def]; omega) (by show j + 1 ≤ 16384; omega)
  have c1 (a : Fin 4) (ha : a ≠ 0) := Host.clampedStart_of_le (s := S16384x2x48x16) (t := S1x2x48x16) rfl (fun k => BitVec.toInt ((![constantI S_ 32 (BitVec.ofNat 32 j), constantI S_ 32 0#32,
    constantI S_ 32 0#32, constantI S_ 32 0#32] : Fin 4 → (⟨S_, .i32⟩ : BufTy).Contents (Elt Ideal)) k (Shape.Idx.first h_S_))) a 0
      (by fin_cases a; · exact absurd rfl ha
          all_goals rfl) (by fin_cases a; · exact absurd rfl ha
                             all_goals decide)
  simp only [c0, c1 1 (by decide), c1 2 (by decide), c1 3 (by decide), Nat.sub_zero]
  by_cases h : t.val = j
  · rw [if_pos h, dif_pos ⟨⟨by omega, by omega⟩, by omega, by omega, by omega⟩]
  · rw [if_neg h, dif_neg (by rintro ⟨⟨h1, h2⟩, -⟩; omega)]

/-- What a trip adds to the states. -/
theorem input_is (hc : Consts P s) (b : Fin 2) (G : Fin 48) (n : Fin 64) (hj : j < 16384) :
    Is (b6 j s (ix3 b G n)) (b8 j s (ix3 b G n)) (P.v b G n j) := by
  unfold b8 b7 b6 b5
  have hr := row_apply s j hj
  generalize b4 j s = y at hr ⊢
  pointwise
  simp only [hr, hc.x, mul_comm (s.main_v45_1 _), mul_comm (s.main_v45_2 _)]
  exact Is.sum _ fun q => Is.smul (P.x b j G q) (hc.bb G n q)

include hj in
/-- The states after a trip. -/
theorem state_is (hs : At P j s) (b : Fin 2) (G : Fin 48) (n : Fin 64) : Is (b16 j s (ix3 b G n)) (b24 j s (ix3 b G n)) (P.h b G n (j + 1)) := by
  have hv := input_is P s j hs.consts b G n hj
  have hm := Is.mul (hs.consts.a G n) (hs.h b G n)
  unfold b24 b23 b22 b21 b20 b19 b18 b17 b16 b15 b14 b13 b12 b11 b10 b9
  generalize b6 j s = y at hv ⊢
  generalize b8 j s = z at hv ⊢
  pointwise
  exact Is.add hm hv

include hj in
/-- The row a trip reads out. -/
theorem readout_apply (hs : At P j s) (b : Fin 2) (G : Fin 48) (p : Fin 16) : b33 j s (ix3 b G p) = P.out b j G p := by
  have hh := state_is P s j hj hs b G
  have hr := row_apply s j hj
  unfold b33 b32 b31 b30 b29 b28 b27 b26 b25
  generalize b16 j s = y at hh ⊢
  generalize b24 j s = z at hh ⊢
  generalize b4 j s = w at hr ⊢
  pointwise
  rw [hr, hs.consts.x, hs.consts.d, readout_re (fun n => y (ix3 b G n)) (fun n => z (ix3 b G n)) (fun n => s.main_v45_5 (ix3 G p n)) (fun n => s.main_v45_6 (ix3 G p n)) _ _ hh (hs.consts.ct G p)]
  rfl

include hj in
/-- One trip. -/
theorem step_at (hs : At P j s) : At P (j + 1) (step j s) where
  consts := ⟨hs.consts.x, hs.consts.bb, hs.consts.a, hs.consts.ct, hs.consts.d⟩
  h := state_is P s j hj hs
  y := fun t b G p ht => by
    rw [step_main_v45_11, rows_apply s j hj]
    by_cases h : t.val = j
    · rw [if_pos h, readout_apply P s j hj hs, h]
    · rw [if_neg h]
      exact hs.y t b G p (by omega)

end Step

/-- The states of the whole loop. -/
def iter (s : State Ideal) : ℕ → State Ideal
  | 0 => s
  | n + 1 => step n (iter s n)

/-- After `n` trips. -/
theorem iter_at (P : Par) (s : State Ideal) (h : At P 0 s) (n : ℕ) (hn : n ≤ 16384) : At P n (iter s n) := by
  induction n with
  | zero => exact h
  | succ n ih => exact step_at P _ n (by omega) (ih (by omega))

/-- The result read off the last state. -/
theorem result_apply (P : Par) (s : State Ideal) (hs : At P 16384 s) (r : Fin 4096) (t : Fin 8) (l : Fin 768) :
    R_main_v47 s (ix3 r t l) = P.out ⟨r.val / 2048, by omega⟩ (r.val % 2048 * 8 + t.val) ⟨l.val / 16, by omega⟩ ⟨l.val % 16, by omega⟩ := by
  unfold R_main_v47
  pointwise
  exact hs.y _ _ _ _ (show r.val % 2048 * 8 + t.val < 16384 by omega)

end Cert.S5.Ref

end
-- ==== Proof.S5.Pre.lean ====
/-
  The precondition: arrays of finite numbers, with no zero eigenvalue, hold some real inputs.
-/
module

public import proofs.«01_k».proof.Proof.Gen.Pre_finite_and_nonzero
public import proofs.«01_k».proof.Proof.S5.Held

@[expose] public section

noncomputable section

namespace Cert.S5.Pre

open Idealize.ShloMosaic

/-- The pattern of infinity. -/
theorem infinity : Ideal.ofBits .f32 0x7F800000#32 = (⊤ : EReal) := by
  simp [Ideal.ofBits, Ideal.ieee]

/-- A number whose absolute value is under infinity is real. -/
theorem real_of (x : EReal) (h : Ideal.cmp .olt (max x (-x)) (Ideal.ofBits .f32 0x7F800000#32) = 1#1) : x = ((x.toReal : ℝ) : EReal) := by
  have h' : max x (-x) < ⊤ := by
    rw [infinity] at h
    by_contra hn
    simp only [Ideal.cmp, decide_eq_false hn] at h
    exact absurd h (by decide)
  refine (EReal.coe_toReal (fun e => ?_) (fun e => ?_)).symm
  · rw [e] at h'
    exact absurd (lt_of_le_of_lt (le_max_left _ _) h') (lt_irrefl _)
  · rw [e, EReal.neg_bot] at h'
    exact absurd (lt_of_le_of_lt (le_max_right _ _) h') (lt_irrefl _)

/-- A squared modulus above zero is not zero. -/
theorem pos_of (x y : ℝ) (h : Ideal.cmp .ogt ((x : EReal) * (x : EReal) + (y : EReal) * (y : EReal)) (Ideal.ofBits .f32 0x00000000#32) = 1#1) : x * x + y * y ≠ 0 := by
  rw [Ideal.ofBits_zero .f32, ← EReal.coe_mul, ← EReal.coe_mul, ← EReal.coe_add] at h
  intro e
  rw [e, EReal.coe_zero] at h
  simp only [Ideal.cmp, lt_irrefl, decide_false] at h
  exact absurd h (by decide)

variable (x0 : Vec Ideal ⟨2, ![32768, 768]⟩ .f32) (x1 x2 : Vec Ideal ⟨2, ![48, 64]⟩ .f32) (x3 : Vec Ideal ⟨1, ![48]⟩ .f32)
  (x4 x5 : Vec Ideal ⟨3, ![48, 64, 16]⟩ .f32) (x6 x7 : Vec Ideal ⟨3, ![48, 16, 64]⟩ .f32) (x8 : Vec Ideal ⟨2, ![48, 16]⟩ .f32)

/-- The precondition of the nine arrays. -/
abbrev Ok : Prop :=
  let f := Cert.Pre_finite_and_nonzero.fn (F := Ideal) x0 x1 x2 x3 x4 x5 x6 x7 x8
  (f.1 = fun _ => 1#1) ∧ (f.2.1 = fun _ => 1#1) ∧ (f.2.2.1 = fun _ => 1#1) ∧ (f.2.2.2.1 = fun _ => 1#1) ∧ (f.2.2.2.2.1 = fun _ => 1#1)
    ∧ (f.2.2.2.2.2.1 = fun _ => 1#1) ∧ (f.2.2.2.2.2.2.1 = fun _ => 1#1) ∧ (f.2.2.2.2.2.2.2.1 = fun _ => 1#1) ∧ (f.2.2.2.2.2.2.2.2 = fun _ => 1#1)

/-- Arrays that meet the precondition hold some inputs. -/
theorem held_of (h : Ok x0 x1 x2 x3 x4 x5 x6 x7 x8) : ∃ P : Par, Held P x0 x1 x2 x3 x4 x5 x6 x7 x8 := by
  obtain ⟨h0, h1, h2, h3, h4, h5, h6, h7, h8⟩ := h
  have e0 r l : x0 (ix2 r l) = _ := real_of _ (congrFun h0 (ix2 r l))
  have e1 G n : x1 (ix2 G n) = _ := real_of _ (congrFun h1 (ix2 G n))
  have e2 G n : x2 (ix2 G n) = _ := real_of _ (congrFun h2 (ix2 G n))
  have e3 G : x3 (ix1 G) = _ := real_of _ (congrFun h3 (ix1 G))
  have e4 G n q : x4 (ix3 G n q) = _ := real_of _ (congrFun h4 (ix3 G n q))
  have e5 G n q : x5 (ix3 G n q) = _ := real_of _ (congrFun h5 (ix3 G n q))
  have e6 G p n : x6 (ix3 G p n) = _ := real_of _ (congrFun h6 (ix3 G p n))
  have e7 G p n : x7 (ix3 G p n) = _ := real_of _ (congrFun h7 (ix3 G p n))
  have e8 G n := pos_of _ _ ((congrArg₂ (fun a b : EReal => Ideal.cmp .ogt (a * a + b * b) (Ideal.ofBits .f32 0x00000000#32)) (e1 G n) (e2 G n)).symm.trans (congrFun h8 (ix2 G n)))
  exact ⟨⟨fun r l => EReal.toReal (x0 (ix2 r l)), fun G n => EReal.toReal (x1 (ix2 G n)), fun G n => EReal.toReal (x2 (ix2 G n)), fun G => EReal.toReal (x3 (ix1 G)),
    fun G n q => EReal.toReal (x4 (ix3 G n q)), fun G n q => EReal.toReal (x5 (ix3 G n q)), fun G p n => EReal.toReal (x6 (ix3 G p n)),
    fun G p n => EReal.toReal (x7 (ix3 G p n)), fun G p => x8 (ix2 G p), e8⟩, ⟨e0, e1, e2, e3, e4, e5, e6, e7, fun _ _ => rfl⟩⟩

end Cert.S5.Pre
-- ==== Proof.S5.Equation.lean ====
/-
  The equation between the two programs of the recurrence: under the precondition both results are the recurrence's outputs.
-/
module

public import proofs.«01_k».proof.Defs
public import proofs.«01_k».proof.Proof.S5.Kern
public import proofs.«01_k».proof.Proof.S5.Ref
public import proofs.«01_k».proof.Proof.S5.StepRun
public import proofs.«01_k».proof.Proof.S5.Pre

@[expose] public section

noncomputable section

namespace Cert.S5

open Idealize.ShloMosaic Idealize.SL.Sem

/-- The recurrence's states from a memory, trip after trip. -/
abbrev states (m : (ℓ : Loc Cert.Reference2Ideal.nD Cert.Reference2Ideal.τ Cert.Reference2Ideal.sig) → Buf (Elt Ideal) ℓ) (c : Dev Cert.Reference2Ideal.nD) :
    ℕ → Cert.Reference2Ideal.Step.State Ideal := Ref.iter (StepRun.initState m c)

/-- From equal arguments that meet the precondition both programs run and end in equal results, the arguments unchanged. -/
theorem algebraic : Cert.algebraic_Kernel2Ideal_Reference2Ideal_pre_finite_and_nonzero (hKernel2Ideal := Cert.Kernel2Ideal.Gen.facts)
    (hReference2Ideal := Cert.Reference2Ideal.Gen.facts) (hPre_finite_and_nonzero := Cert.Pre_finite_and_nonzero.Gen.facts) := by
  intro m g m' g' hpre hargs
  have hP (c : Dev Cert.Kernel2Ideal.nD) := Pre.held_of _ _ _ _ _ _ _ _ _ (hpre c)
  choose P H using hP
  refine ⟨fun c => fun i => (P c).out ⟨(i 0).val / 2048, by have : (i 0).val < 4096 := (i 0).isLt
                                                            omega⟩ ((i 0).val % 2048 * 8 + (i 1).val)
    ⟨(i 2).val / 16, by have : (i 2).val < 768 := (i 2).isLt
                        omega⟩ ⟨(i 2).val % 16, by omega⟩, ?_, ?_⟩
  · refine (θ_run (Cert.Kernel2Ideal.defs (F := Ideal)) _ _).mono (fun r h c => ?_) (Cert.Kernel2Ideal.Value.run_blocks m g)
    obtain ⟨hv, h⟩ := h c
    refine ⟨hv.trans (funext fun i => ?_), h⟩
    obtain ⟨R, s, L, rfl⟩ : ∃ (R : Fin 4096) (s : Fin 8) (L : Fin 768), i = ix3 R s L := ⟨i 0, i 1, i 2, eq_ix3 i⟩
    exact Kern.result_apply m c (P c) (H c) R s L
  · refine (θ_run (Cert.Reference2Ideal.defs (F := Ideal)) _ _).mono (fun r h c => ?_) (StepRun.run_iter m' g' (states m') (fun _ => rfl) fun _ _ => rfl)
    obtain ⟨hv, h⟩ := h c
    refine ⟨hv.trans (funext fun i => ?_), h⟩
    obtain ⟨R, s, L, rfl⟩ : ∃ (R : Fin 4096) (s : Fin 8) (L : Fin 768), i = ix3 R s L := ⟨i 0, i 1, i 2, eq_ix3 i⟩
    have Hc := H c
    obtain ⟨a0, a1, a2, a3, a4, a5, a6, a7, a8⟩ := hargs c
    rw [← a0, ← a1, ← a2, ← a3, ← a4, ← a5, ← a6, ← a7, ← a8] at Hc
    exact Ref.result_apply (P c) _ (Ref.iter_at (P c) _ (Ref.init_at _ _ _ _ _ _ _ _ _ (P c) Hc) 16384 le_rfl) R s L

end Cert.S5

end
-- ==== Proof.Mix.Blocks.lean ====
/-
  What the windows of the gated mixer call hold at a grid point, each element as an element of an argument.
-/
module

public import proofs.«01_k».proof.Proof.Gen.Kernel3Ideal.Value
public import Idealize.ShloMosaic.Lib.Pointwise

@[expose] public section

noncomputable section

namespace Cert.Mix.Blocks

open Cert.Kernel3Ideal Cert.Kernel3Ideal.Gen Idealize.ShloMosaic Idealize.ShloMosaic.TcCoe Idealize.SL.Sem

variable (m : (ℓ : Loc nD τ sig) → Buf (Elt Ideal) ℓ)

/-! ## The host operations before the call -/

/-- The layer's rows, one sequence after the other. -/
theorem v0_apply (c : Dev nD) (R : Fin 32768) (k : Fin 1024) : V m c main_v0 (ix2 R k) = m ((c : Thread nD τ).loc main_arg0) (ix3 ⟨R.val / 16384, by omega⟩ ⟨R.val % 16384, by omega⟩ k) := by
  unfold_abbrev_sides
  after_results
  pointwise

/-- The mixer's rows. -/
theorem v1_apply (c : Dev nD) (R : Fin 32768) (k : Fin 768) : V m c main_v1 (ix2 R k) = m ((c : Thread nD τ).loc main_arg1) (ix3 ⟨R.val / 16384, by omega⟩ ⟨R.val % 16384, by omega⟩ k) := by
  unfold_abbrev_sides
  after_results
  pointwise

/-- The memory's queries. -/
theorem v3_apply (c : Dev nD) (R : Fin 32768) (k : Fin 256) : V m c main_v3 (ix2 R k) = m ((c : Thread nD τ).loc main_arg2) (ix3 ⟨R.val / 16384, by omega⟩ ⟨R.val % 16384, by omega⟩ k) := by
  unfold_abbrev_sides
  after_results
  pointwise

/-- The memory's keys and values. -/
theorem v5_apply (c : Dev nD) (Y : Fin 512) (j : Fin 512) : V m c main_v5 (ix2 Y j) = m ((c : Thread nD τ).loc main_arg3) (ix3 ⟨Y.val / 256, by omega⟩ ⟨Y.val % 256, by omega⟩ j) := by
  unfold_abbrev_sides
  after_results
  pointwise

/-- The gate's weights. -/
theorem v6_apply (c : Dev nD) (k j : Fin 768) : V m c main_v6 (ix2 k j) = m ((c : Thread nD τ).loc main_arg4) (ix2 k j) := by
  unfold_abbrev_sides
  after_results
  pointwise

/-- The output projection's weights. -/
theorem v7_apply (c : Dev nD) (j k : Fin 1024) : V m c main_v7 (ix2 j k) = m ((c : Thread nD τ).loc main_arg5) (ix2 j k) := by
  unfold_abbrev_sides
  after_results
  pointwise

/-! ## The windows -/

/-- The layer's tile of rows; -/
theorem idx0 : ∀ t : Fin cfg0.N, win0_0.index t = ![t.val, 0] :=
  (by decide +kernel : ∀ t : Fin grid0.N, win0_0.index t = ![t.val, 0])
/-- the mixer's; -/
theorem idx1 : ∀ t : Fin cfg0.N, win0_1.index t = ![t.val, 0] :=
  (by decide +kernel : ∀ t : Fin grid0.N, win0_1.index t = ![t.val, 0])
/-- the queries'; -/
theorem idx2 : ∀ t : Fin cfg0.N, win0_2.index t = ![t.val, 0] :=
  (by decide +kernel : ∀ t : Fin grid0.N, win0_2.index t = ![t.val, 0])
/-- the sequence's keys; -/
theorem idx3 : ∀ t : Fin cfg0.N, win0_3.index t = ![t.val / 16, 0] :=
  (by decide +kernel : ∀ t : Fin grid0.N, win0_3.index t = ![t.val / 16, 0])
/-- its values; -/
theorem idx4 : ∀ t : Fin cfg0.N, win0_4.index t = ![t.val / 16, 1] :=
  (by decide +kernel : ∀ t : Fin grid0.N, win0_4.index t = ![t.val / 16, 1])
/-- the gate's weights; -/
theorem idx5 : ∀ t : Fin cfg0.N, win0_5.index t = ![0, 0] :=
  (by decide +kernel : ∀ t : Fin grid0.N, win0_5.index t = ![0, 0])
/-- the output projection's weights; -/
theorem idx6 : ∀ t : Fin cfg0.N, win0_6.index t = ![0, 0] :=
  (by decide +kernel : ∀ t : Fin grid0.N, win0_6.index t = ![0, 0])
/-- and the result's tile. -/
theorem idx7 : ∀ t : Fin cfg0.N, win0_7.index t = ![t.val, 0] :=
  (by decide +kernel : ∀ t : Fin grid0.N, win0_7.index t = ![t.val, 0])

/-- Row `r` of the tile is row `1024 t + r`: the layer's, -/
theorem iblk0_apply (c : Dev nD) (t : Fin cfg0.N) (r : Fin 1024) (k : Fin 1024) (R : Fin 32768) (hR : R.val = 1024 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 1024 + 1 * r.val = R.val by rw [idx0]; show t.val * 1024 + _ = _; omega)
  | ⟨1, _⟩ => exact Fin.ext (show win0_0.index t (1 : Fin 2) * 1024 + 1 * k.val = k.val by rw [idx0]; show 0 * 1024 + _ = _; omega)

/-- the mixer's, -/
theorem iblk1_apply (c : Dev nD) (t : Fin cfg0.N) (r : Fin 1024) (k : Fin 768) (R : Fin 32768) (hR : R.val = 1024 * t.val + r.val) :
    iblk m c 1 t (ix2 r k) = V m c main_v1 (ix2 R k) := by
  show V m c main_v1 (((cfg0.win 1).blk t).view.emb (ix2 r k)) = _
  congr 1
  funext a
  match a with
  | ⟨0, _⟩ => exact Fin.ext (show win0_1.index t (0 : Fin 2) * 1024 + 1 * r.val = R.val by rw [idx1]; show t.val * 1024 + _ = _; omega)
  | ⟨1, _⟩ => exact Fin.ext (show win0_1.index t (1 : Fin 2) * 768 + 1 * k.val = k.val by rw [idx1]; show 0 * 768 + _ = _; omega)

/-- and the queries'. -/
theorem iblk2_apply (c : Dev nD) (t : Fin cfg0.N) (r : Fin 1024) (k : Fin 256) (R : Fin 32768) (hR : R.val = 1024 * t.val + r.val) :
    iblk m c 2 t (ix2 r k) = V m c main_v3 (ix2 R k) := by
  show V m c main_v3 (((cfg0.win 2).blk t).view.emb (ix2 r k)) = _
  congr 1
  funext a
  match a with
  | ⟨0, _⟩ => exact Fin.ext (show win0_2.index t (0 : Fin 2) * 1024 + 1 * r.val = R.val by rw [idx2]; show t.val * 1024 + _ = _; omega)
  | ⟨1, _⟩ => exact Fin.ext (show win0_2.index t (1 : Fin 2) * 256 + 1 * k.val = k.val by rw [idx2]; show 0 * 256 + _ = _; omega)

/-- The keys are the first half of the sequence's memory, -/
theorem iblk3_apply (c : Dev nD) (t : Fin cfg0.N) (y k : Fin 256) (Y : Fin 512) (hY : Y.val = 256 * (t.val / 16) + y.val) :
    iblk m c 3 t (ix2 y k) = V m c main_v5 (ix2 Y ⟨k.val, by omega⟩) := by
  show V m c main_v5 (((cfg0.win 3).blk t).view.emb (ix2 y k)) = _
  congr 1
  funext a
  match a with
  | ⟨0, _⟩ => exact Fin.ext (show win0_3.index t (0 : Fin 2) * 256 + 1 * y.val = Y.val by rw [idx3]; show t.val / 16 * 256 + _ = _; omega)
  | ⟨1, _⟩ => exact Fin.ext (show win0_3.index t (1 : Fin 2) * 256 + 1 * k.val = k.val by rw [idx3]; show 0 * 256 + _ = _; omega)

/-- the values the second. -/
theorem iblk4_apply (c : Dev nD) (t : Fin cfg0.N) (y k : Fin 256) (Y : Fin 512) (hY : Y.val = 256 * (t.val / 16) + y.val) :
    iblk m c 4 t (ix2 y k) = V m c main_v5 (ix2 Y ⟨256 + k.val, by omega⟩) := by
  show V m c main_v5 (((cfg0.win 4).blk t).view.emb (ix2 y k)) = _
  congr 1
  funext a
  match a with
  | ⟨0, _⟩ => exact Fin.ext (show win0_4.index t (0 : Fin 2) * 256 + 1 * y.val = Y.val by rw [idx4]; show t.val / 16 * 256 + _ = _; omega)
  | ⟨1, _⟩ => exact Fin.ext (show win0_4.index t (1 : Fin 2) * 256 + 1 * k.val = 256 + k.val by rw [idx4]; show 1 * 256 + _ = _; omega)

/-- The gate's weights are whole; -/
theorem iblk5_eq (c : Dev nD) (t : Fin cfg0.N) : iblk m c 5 t = V m c main_v6 := by
  funext j
  show V m c main_v6 (((cfg0.win 5).blk t).view.emb j) = _
  congr 1
  funext a
  match a with
  | ⟨0, _⟩ => exact Fin.ext (show win0_5.index t (0 : Fin 2) * 768 + 1 * (j 0).val = (j 0).val by rw [idx5]; show 0 * 768 + _ = _; omega)
  | ⟨1, _⟩ => exact Fin.ext (show win0_5.index t (1 : Fin 2) * 768 + 1 * (j 1).val = (j 1).val by rw [idx5]; show 0 * 768 + _ = _; omega)

/-- the output projection's weights are whole. -/
theorem iblk6_eq (c : Dev nD) (t : Fin cfg0.N) : iblk m c 6 t = V m c main_v7 := by
  funext j
  show V m c main_v7 (((cfg0.win 6).blk t).view.emb j) = _
  congr 1
  funext a
  match a with
  | ⟨0, _⟩ => exact Fin.ext (show win0_6.index t (0 : Fin 2) * 1024 + 1 * (j 0).val = (j 0).val by rw [idx6]; show 0 * 1024 + _ = _; omega)
  | ⟨1, _⟩ => exact Fin.ext (show win0_6.index t (1 : Fin 2) * 1024 + 1 * (j 1).val = (j 1).val by rw [idx6]; show 0 * 1024 + _ = _; omega)

/-- Row `r` of the result's tile is row `1024 t + r` of the result. -/
theorem emb7 (t : Fin cfg0.N) (r : Fin 1024) (k : Fin 1024) (R : Fin 32768) (hR : R.val = 1024 * t.val + r.val) :
    ((cfg0.win 7).blk t).view.emb (ix2 r k) = (ix2 R k : S32768x1024.Idx) := by
  funext a
  match a with
  | ⟨0, _⟩ => exact Fin.ext (show win0_7.index t (0 : Fin 2) * 1024 + 1 * r.val = R.val by rw [idx7]; show t.val * 1024 + _ = _; omega)
  | ⟨1, _⟩ => exact Fin.ext (show win0_7.index t (1 : Fin 2) * 1024 + 1 * k.val = k.val by rw [idx7]; show 0 * 1024 + _ = _; omega)

end Cert.Mix.Blocks

end
-- ==== Proof.Mix.Spec.lean ====
/-
  The mathematics of the mixers' closing call on one row, in extended reals: attention over the memory in four heads, the gate after
  the recurrence, and the output projection of the two side by side.
-/
module

public import Idealize.ShloMosaic.PureOps.Ideal
public import Idealize.ShloMosaic.Lib.IdealHost
public import Idealize.ShloMosaic.Lib.Pointwise

@[expose] public section

noncomputable section

namespace Cert.Mix

open Idealize.ShloMosaic

/-- The scores' scale, an eighth, as the programs' constant. -/
abbrev eighth : EReal := Ideal.ofBits .f32 0x3E000000#32
/-- Minus infinity, where the maximum starts. -/
abbrev low : EReal := Ideal.ofBits .f32 0xFF800000#32

/-- The greatest of the scores. -/
def top (s : Fin 256 → EReal) : EReal := Finset.fold max low s Finset.univ

/-- The maximum does not fall below where it starts. -/
theorem max_low_top (s : Fin 256 → EReal) : max low (top s) = top s :=
  max_eq_right (by unfold top; exact (Finset.le_fold_max low).2 (Or.inl le_rfl))

/-- The scores' softmax. -/
def soft (s : Fin 256 → EReal) (j : Fin 256) : EReal := Ideal.div (Ideal.exp (s j - top s)) (∑ x, Ideal.exp (s x - top s))

/-- A query's scores against the keys, scaled. -/
def scores (q : Fin 64 → EReal) (k : Fin 256 → Fin 64 → EReal) (j : Fin 256) : EReal := (∑ d, q d * k j d) * eighth

/-- The values' mean under the scores' softmax, in one column. -/
def attend (q : Fin 64 → EReal) (k : Fin 256 → Fin 64 → EReal) (v : Fin 256 → EReal) : EReal := ∑ j, soft (scores q k) j * v j

/-- Lane `d` of the head that lane `j` lies in. -/
def mate (j : Fin 256) (d : Fin 64) : Fin 256 := ⟨j.val / 64 * 64 + d.val, by omega⟩

/-- The memory attention of a row in lane `j`. -/
def memory (q : Fin 256 → EReal) (k v : Fin 256 → Fin 256 → EReal) (j : Fin 256) : EReal :=
  attend (fun d => q (mate j d)) (fun x d => k x (mate j d)) (fun x => v x j)

/-- The smooth rectifier, by the hyperbolic tangent. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The gate after the recurrence. -/
def gated (y : Fin 768 → EReal) (w : Fin 768 → Fin 768 → EReal) (j : Fin 768) : EReal :=
  Ideal.div (gelu (y j)) (1 + Ideal.exp (-∑ k, gelu (y k) * w k j))

/-- The mixer's lanes and the memory's side by side. -/
def beside (a : Fin 768 → EReal) (b : Fin 256 → EReal) (j : Fin 1024) : EReal :=
  if h : j.val < 768 then a ⟨j.val, h⟩ else b ⟨j.val - 768, by omega⟩

/-- The output projection of both, added to the row. -/
def out (x : Fin 1024 → EReal) (a : Fin 768 → EReal) (b : Fin 256 → EReal) (w : Fin 1024 → Fin 1024 → EReal) (k : Fin 1024) : EReal :=
  x k + ∑ j, beside a b j * w j k

/-- The memory attention of row `s` of sequence `n`: keys in the first 256 lanes of the memory's array, values in the others. -/
def recall (q : Fin 2 → Fin 16384 → Fin 256 → EReal) (kv : Fin 2 → Fin 256 → Fin 512 → EReal) (n : Fin 2) (s : Fin 16384) : Fin 256 → EReal :=
  memory (q n s) (fun y j => kv n y ⟨j.val, by omega⟩) fun y j => kv n y ⟨256 + j.val, by omega⟩

/-- Row `R` of the call that closes the recurrence's layer. -/
def gatedResult (x : Fin 2 → Fin 16384 → Fin 1024 → EReal) (y : Fin 2 → Fin 16384 → Fin 768 → EReal) (q : Fin 2 → Fin 16384 → Fin 256 → EReal)
    (kv : Fin 2 → Fin 256 → Fin 512 → EReal) (g : Fin 768 → Fin 768 → EReal) (w : Fin 1024 → Fin 1024 → EReal) (R : Fin 32768) : Fin 1024 → EReal :=
  out (x ⟨R.val / 16384, by omega⟩ ⟨R.val % 16384, by omega⟩) (gated (y ⟨R.val / 16384, by omega⟩ ⟨R.val % 16384, by omega⟩) g)
    (recall q kv ⟨R.val / 16384, by omega⟩ ⟨R.val % 16384, by omega⟩) w

/-- Row `R` of the call that closes the attention's layer: no gate. -/
def plainResult (x : Fin 2 → Fin 16384 → Fin 1024 → EReal) (y : Fin 2 → Fin 16384 → Fin 768 → EReal) (q : Fin 2 → Fin 16384 → Fin 256 → EReal)
    (kv : Fin 2 → Fin 256 → Fin 512 → EReal) (w : Fin 1024 → Fin 1024 → EReal) (R : Fin 32768) : Fin 1024 → EReal :=
  out (x ⟨R.val / 16384, by omega⟩ ⟨R.val % 16384, by omega⟩) (y ⟨R.val / 16384, by omega⟩ ⟨R.val % 16384, by omega⟩)
    (recall q kv ⟨R.val / 16384, by omega⟩ ⟨R.val % 16384, by omega⟩) w

/-! ## Sums over a pair of heads, one of them masked -/

/-- The upper half masked. -/
theorem sum_lower (f g : Fin 128 → EReal) :
    ∑ x : Fin 128, (if x.val < 64 then f x else 0) * g x = ∑ d : Fin 64, f ⟨d.val, by omega⟩ * g ⟨d.val, by omega⟩ := by
  refine (Fin.sum_univ_add (a := 64) (b := 64) fun x : Fin 128 => (if x.val < 64 then f x else 0) * g x).trans ?_
  refine (congrArg₂ (· + ·) (Finset.sum_congr rfl fun d _ => ?_) (Finset.sum_eq_zero fun d _ => ?_)).trans (add_zero _)
  · rw [if_pos (show (Fin.castAdd 64 d).val < 64 from d.isLt)]; rfl
  · rw [if_neg (show ¬(Fin.natAdd 64 d).val < 64 by simp), zero_mul]

/-- The lower half masked. -/
theorem sum_upper (f g : Fin 128 → EReal) :
    ∑ x : Fin 128, (if x.val < 64 then 0 else f x) * g x = ∑ d : Fin 64, f ⟨64 + d.val, by omega⟩ * g ⟨64 + d.val, by omega⟩ := by
  refine (Fin.sum_univ_add (a := 64) (b := 64) fun x : Fin 128 => (if x.val < 64 then 0 else f x) * g x).trans ?_
  refine (congrArg₂ (· + ·) (Finset.sum_eq_zero fun d _ => ?_) (Finset.sum_congr rfl fun d _ => ?_)).trans (zero_add _)
  · rw [if_pos (show (Fin.castAdd 64 d).val < 64 from d.isLt), zero_mul]
  · rw [if_neg (show ¬(Fin.natAdd 64 d).val < 64 by simp)]; rfl

end Cert.Mix

end
-- ==== Proof.Mix.Heads.lean ====
/-
  The kernel's memory attention on a tile of rows: two heads lie side by side in 128 lanes, and each is read by masking the other's
  lanes out of the queries.
-/
module

public import proofs.«01_k».proof.Proof.Gen.Kernel3Ideal.Value
public import proofs.«01_k».proof.Proof.Mix.Spec
public import Idealize.ShloMosaic.Lib.ValueIdx

@[expose] public section

noncomputable section

namespace Cert.Mix

open Cert.Kernel3Ideal Cert.Kernel3Ideal.Gen Idealize.ShloMosaic Idealize.ShloMosaic.TcCoe Idealize.SL.Sem
open Idealize.ShloMosaic.ValueIdx (select_one select_zero)

/-- The softmax along the rows, as the kernel's operations. -/
def softOps (s : FVec Ideal S1024x256 .f32) : FVec Ideal S1024x256 .f32 :=
  let e := exp (subf s (broadcastTo S1024x256 (shapeCast S1024x1 (multiReduction .maximumf [1] S1024 s 0xFF800000#32
    reduces_S1024x256_S1024 (.inl rfl) rfl) shapeCasts_S1024_S1024x1) broadcasts_S1024x1_S1024x256))
  divf e (broadcastTo S1024x256 (shapeCast S1024x1 (multiReduction .add [1] S1024 e 0x00000000#32 reduces_S1024x256_S1024 (.inl rfl) rfl)
    shapeCasts_S1024_S1024x1) broadcasts_S1024x1_S1024x256)

/-- It is the softmax of each row. -/
theorem softOps_apply (s : FVec Ideal S1024x256 .f32) (r : Fin 1024) (j : Fin 256) : softOps s (ix2 r j) = soft (fun x => s (ix2 r x)) j := by
  unfold softOps
  dsimp only
  pointwise [soft, top]

/-- The scaled scores of 128 lanes, as the kernel's operations. -/
def scoreOps (q : FVec Ideal S1024x128 .bf16) (k : FVec Ideal S256x128 .bf16) : FVec Ideal S1024x256 .f32 :=
  mulf (matmul dot_S1024x128_S256x128_S1024x256_1_1_0_0_n_n none q k (constant S1024x256 .f32 0x00000000#32))
    (broadcast S1024x256 (Scalar.ofBits .f32 0x3E000000#32))

/-- They are the products over all the lanes. -/
theorem scoreOps_apply (q : FVec Ideal S1024x128 .bf16) (k : FVec Ideal S256x128 .bf16) (r : Fin 1024) (j : Fin 256) :
    scoreOps q k (ix2 r j) = (∑ x : Fin 128, q (ix2 r x) * k (ix2 j x)) * eighth := by
  unfold scoreOps
  pointwise

/-- Attention over 128 lanes, as the kernel's operations. -/
def headOps (q : FVec Ideal S1024x128 .bf16) (k v : FVec Ideal S256x128 .bf16) : FVec Ideal S1024x128 .f32 :=
  matmul dot_S1024x256_S256x128_S1024x128_1_0_0_1_n_n none (truncf .bf16 (softOps (scoreOps q k)) bitsLt_bf16_f32) v
    (constant S1024x128 .f32 0x00000000#32)

/-- It is the values' mean under the softmax. -/
theorem headOps_apply (q : FVec Ideal S1024x128 .bf16) (k v : FVec Ideal S256x128 .bf16) (r : Fin 1024) (c : Fin 128) :
    headOps q k v (ix2 r c) = ∑ j : Fin 256, soft (fun j => (∑ x : Fin 128, q (ix2 r x) * k (ix2 j x)) * eighth) j * v (ix2 j c) := by
  have h (j : Fin 256) := softOps_apply (scoreOps q k) r j
  simp only [scoreOps_apply] at h
  unfold headOps
  generalize softOps (scoreOps q k) = s at h
  pointwise
  simp only [h]

/-- The lanes of the lower head, as the kernel's mask. -/
def lowerOps : IVec S1024x128 1 := cmpi .slt (iota .tc S1024x128 32 [1] iota_S1024x128_d1_w32) (broadcast S1024x128 64#32)

/-- The word for "the lane is in the lower head". -/
theorem isLower : ∀ j : Fin 128, IntOp.cmpi .slt (BitVec.ofNat 32 j.val) 64#32 = if j.val < 64 then 1#1 else 0#1 := by decide

/-- A choice by the mask. -/
theorem select_lower {φ : FTy} (a b : FVec Ideal S1024x128 φ) (r : Fin 1024) (c : Fin 128) :
    select lowerOps a b (ix2 r c) = if c.val < 64 then a (ix2 r c) else b (ix2 r c) := by
  unfold lowerOps
  pointwise
  rw [isLower c]
  by_cases h : c.val < 64
  · simp only [h, if_true, select_one]
  · simp only [h, if_false, select_zero]

/-- A choice by the mask's complement. -/
theorem select_upper {φ : FTy} (a b : FVec Ideal S1024x128 φ) (r : Fin 1024) (c : Fin 128) :
    select (xori lowerOps (constantI S1024x128 1 1#1)) a b (ix2 r c) = if c.val < 64 then b (ix2 r c) else a (ix2 r c) := by
  unfold lowerOps
  pointwise
  rw [isLower c]
  by_cases h : c.val < 64
  · simp only [h, if_true]
    exact select_zero _ _
  · simp only [h, if_false]
    exact select_one _ _

/-- Zeros in the masked lanes. -/
def zeroOps : FVec Ideal S1024x128 .bf16 := broadcast S1024x128 (Scalar.ofBits .bf16 0x0000#16)

/-- A pair of heads, as the kernel's operations. -/
def pairOps (q : FVec Ideal S1024x128 .bf16) (k v : FVec Ideal S256x128 .bf16) : FVec Ideal S1024x128 .f32 :=
  select lowerOps (headOps (select lowerOps q zeroOps) k v) (headOps (select (xori lowerOps (constantI S1024x128 1 1#1)) q zeroOps) k v)

/-- Lane `d` of the head, of a pair, that lane `c` lies in. -/
def half (c : Fin 128) (d : Fin 64) : Fin 128 := ⟨c.val / 64 * 64 + d.val, by omega⟩

/-- Each lane attends within its own head. -/
theorem pairOps_apply (q : FVec Ideal S1024x128 .bf16) (k v : FVec Ideal S256x128 .bf16) (r : Fin 1024) (c : Fin 128) :
    pairOps q k v (ix2 r c) = attend (fun d => q (ix2 r (half c d))) (fun j d => k (ix2 j (half c d))) (fun j => v (ix2 j c)) := by
  have z (x : Fin 128) : zeroOps (ix2 r x) = 0 := by
    unfold zeroOps
    pointwise
  unfold pairOps
  rw [select_lower, headOps_apply, headOps_apply]
  simp only [select_lower, select_upper, z]
  unfold attend
  by_cases h : c.val < 64
  · rw [if_pos h]
    have e (d : Fin 64) : half c d = ⟨d.val, by omega⟩ := Fin.ext (show c.val / 64 * 64 + d.val = d.val by omega)
    simp only [e]
    have s : (fun j => (∑ x : Fin 128, (if x.val < 64 then q (ix2 r x) else 0) * k (ix2 j x)) * eighth)
        = scores (fun d => q (ix2 r ⟨d.val, by omega⟩)) fun j d => k (ix2 j ⟨d.val, by omega⟩) :=
      funext fun j => congrArg (· * eighth) (sum_lower (fun x => q (ix2 r x)) fun x => k (ix2 j x))
    rw [s]
  · rw [if_neg h]
    have e (d : Fin 64) : half c d = ⟨64 + d.val, by omega⟩ := Fin.ext (show c.val / 64 * 64 + d.val = 64 + d.val by omega)
    simp only [e]
    have s : (fun j => (∑ x : Fin 128, (if x.val < 64 then 0 else q (ix2 r x)) * k (ix2 j x)) * eighth)
        = scores (fun d => q (ix2 r ⟨64 + d.val, by omega⟩)) fun j d => k (ix2 j ⟨64 + d.val, by omega⟩) :=
      funext fun j => congrArg (· * eighth) (sum_upper (fun x => q (ix2 r x)) fun x => k (ix2 j x))
    rw [s]

/-- The first pair's 128 lanes of an array of 256. -/
def leftQ (q : Vec Ideal S1024x256 .bf16) : FVec Ideal S1024x128 .bf16 :=
  extractStridedSlice S1024x128 ![0, 0] (shapeCast S1024x256 q shapeCasts_S1024x256_S1024x256) slices_S1024x256_o0_0_S1024x128
/-- The second pair's. -/
def rightQ (q : Vec Ideal S1024x256 .bf16) : FVec Ideal S1024x128 .bf16 :=
  extractStridedSlice S1024x128 ![0, 128] (shapeCast S1024x256 q shapeCasts_S1024x256_S1024x256) slices_S1024x256_o0_128_S1024x128
/-- The first pair's of the keys or values. -/
def leftK (k : Vec Ideal S256x256 .bf16) : FVec Ideal S256x128 .bf16 :=
  extractStridedSlice S256x128 ![0, 0] (shapeCast S256x256 k shapeCasts_S256x256_S256x256) slices_S256x256_o0_0_S256x128
/-- The second pair's. -/
def rightK (k : Vec Ideal S256x256 .bf16) : FVec Ideal S256x128 .bf16 :=
  extractStridedSlice S256x128 ![0, 128] (shapeCast S256x256 k shapeCasts_S256x256_S256x256) slices_S256x256_o0_128_S256x128

/-- The memory attention of the four heads, as the kernel's operations. -/
def memOps (q : Vec Ideal S1024x256 .bf16) (k v : Vec Ideal S256x256 .bf16) : FVec Ideal S1024x256 .bf16 :=
  truncf .bf16 (concatenate S1024x256 1 [⟨S1024x128, pairOps (leftQ q) (leftK k) (leftK v)⟩,
    ⟨S1024x128, pairOps (rightQ q) (rightK k) (rightK v)⟩] concatenates_S1024x128_S1024x128_S1024x256_d1) bitsLt_bf16_f32

/-- It is the memory attention of each row. -/
theorem memOps_apply (q : Vec Ideal S1024x256 .bf16) (k v : Vec Ideal S256x256 .bf16) (r : Fin 1024) (j : Fin 256) :
    memOps q k v (ix2 r j) = memory (fun x => q (ix2 r x)) (fun y x => k (ix2 y x)) (fun y x => v (ix2 y x)) j := by
  have l (c : Fin 128) := pairOps_apply (leftQ q) (leftK k) (leftK v) r c
  have u (c : Fin 128) := pairOps_apply (rightQ q) (rightK k) (rightK v) r c
  have lq (c : Fin 128) : leftQ q (ix2 r c) = q (ix2 r ⟨c.val, by omega⟩) := by unfold leftQ; pointwise
  have uq (c : Fin 128) : rightQ q (ix2 r c) = q (ix2 r ⟨128 + c.val, by omega⟩) := by unfold rightQ; pointwise
  have lk (k : Vec Ideal S256x256 .bf16) (y : Fin 256) (c : Fin 128) : leftK k (ix2 y c) = k (ix2 y ⟨c.val, by omega⟩) := by unfold leftK; pointwise
  have uk (k : Vec Ideal S256x256 .bf16) (y : Fin 256) (c : Fin 128) : rightK k (ix2 y c) = k (ix2 y ⟨128 + c.val, by omega⟩) := by
    unfold rightK; pointwise
  simp only [lq, lk] at l
  simp only [uq, uk] at u
  unfold memOps
  generalize pairOps (leftQ q) (leftK k) (leftK v) = a at l
  generalize pairOps (rightQ q) (rightK k) (rightK v) = b at u
  pointwise
  unfold memory
  by_cases h : j.val < 128
  · rw [dif_pos h, l]
    have e (d : Fin 64) : (⟨(half ⟨j.val, h⟩ d).val, by omega⟩ : Fin 256) = mate j d := rfl
    simp only [e]
  · rw [dif_neg h, u]
    have e (d : Fin 64) : (⟨128 + (half ⟨j.val - 128, by omega⟩ d).val, by omega⟩ : Fin 256) = mate j d :=
      Fin.ext (show 128 + ((j.val - 128) / 64 * 64 + d.val) = j.val / 64 * 64 + d.val by omega)
    have e' : (⟨128 + (j.val - 128), by omega⟩ : Fin 256) = j := Fin.ext (by show 128 + (j.val - 128) = j.val; omega)
    simp only [e, e']

/-- The output projection of mixer and memory, added to the rows, as the kernel's operations. -/
def outOps (x : Vec Ideal S1024x1024 .f32) (a : FVec Ideal S1024x768 .bf16) (b : FVec Ideal S1024x256 .bf16) (w : Vec Ideal S1024x1024 .bf16) :
    FVec Ideal S1024x1024 .f32 :=
  addf (shapeCast S1024x1024 x shapeCasts_S1024x1024_S1024x1024) (matmul (φ₂ := .bf16) dot_S1024x1024_S1024x1024_S1024x1024_1_0_0_1_n_n none
    (concatenate S1024x1024 1 [⟨S1024x768, a⟩, ⟨S1024x256, b⟩] concatenates_S1024x768_S1024x256_S1024x1024_d1)
    (shapeCast S1024x1024 w shapeCasts_S1024x1024_S1024x1024) (constant S1024x1024 .f32 0x00000000#32))

/-- It is that of each row. -/
theorem outOps_apply (x : Vec Ideal S1024x1024 .f32) (a : FVec Ideal S1024x768 .bf16) (b : FVec Ideal S1024x256 .bf16)
    (w : Vec Ideal S1024x1024 .bf16) (r k : Fin 1024) :
    outOps x a b w (ix2 r k) = out (fun k => x (ix2 r k)) (fun j => a (ix2 r j)) (fun j => b (ix2 r j)) (fun j k => w (ix2 j k)) k := by
  unfold outOps
  pointwise [out, beside]

end Cert.Mix

end
-- ==== Proof.Mix.Kern.lean ====
/-
  The gated mixer call's result array, element by element as the mathematics of its arguments.
-/
module

public import proofs.«01_k».proof.Proof.Mix.Blocks
public import proofs.«01_k».proof.Proof.Mix.Heads

@[expose] public section

noncomputable section

namespace Cert.Mix.Kern

open Cert.Kernel3Ideal Cert.Kernel3Ideal.Gen Cert.Mix.Blocks Cert.Mix
open Idealize.ShloMosaic Idealize.ShloMosaic.TcCoe Idealize.SL.Sem

/-- The gate after the recurrence, as the kernel's operations. -/
theorem gate_apply (y : Vec Ideal S1024x768 .f32) (w : Vec Ideal S768x768 .bf16) (r : Fin 1024) (j : Fin 768) :
    k0_pay2 y w (ix2 r j) = gated (fun j => y (ix2 r j)) (fun k j => w (ix2 k j)) j := by
  unfold_payloads
  pointwise [gated, gelu]
  simp only [mul_assoc, sub_eq_add_neg, zero_add]

/-- What the body leaves in the result's window. -/
theorem out_eq (x0 : Vec Ideal S1024x1024 .f32) (x1 : Vec Ideal S1024x768 .f32) (x2 : Vec Ideal S1024x256 .bf16) (x3 x4 : Vec Ideal S256x256 .bf16)
    (x5 : Vec Ideal S768x768 .bf16) (x6 : Vec Ideal S1024x1024 .bf16) :
    out0_7 x0 x1 x2 x3 x4 x5 x6 = outOps x0 (k0_pay2 x1 x5) (memOps x2 x3 x4) x6 := by
  have z : (![0, 0] : Fin 2 → ℕ) = fun _ => 0 := by decide
  unfold out0_7 k0_pay20 k0_pay19 k0_pay18
  rw [View.canon_unit_zero (S := S1024x1024) z]
  simp only [View.ld_unit_zero (S := S1024x1024) z, View.ld_unit_zero (S := S1024x768) z, View.ld_unit_zero (S := S1024x256) z,
    View.ld_unit_zero (S := S256x256) z, View.ld_unit_zero (S := S768x768) z]
  rfl

variable (m : (ℓ : Loc nD τ sig) → Buf (Elt Ideal) ℓ) (c : Dev nD)

/-- The result array. -/
theorem result_apply (R : Fin 32768) (k : Fin 1024) : (dats m 0 c).arrAt 7 cfg0.N (ix2 R k)
    = gatedResult (fun n s k => m ((c : Thread nD τ).loc main_arg0) (ix3 n s k))
      (fun n s k => m ((c : Thread nD τ).loc main_arg1) (ix3 n s k))
      (fun n s k => m ((c : Thread nD τ).loc main_arg2) (ix3 n s k))
      (fun n s k => m ((c : Thread nD τ).loc main_arg3) (ix3 n s k))
      (fun j k => m ((c : Thread nD τ).loc main_arg4) (ix2 j k))
      (fun j k => m ((c : Thread nD τ).loc main_arg5) (ix2 j k)) R k := by
  have hN : cfg0.N = 32 := by decide
  let t : Fin cfg0.N := ⟨R.val / 1024, by omega⟩
  let r : Fin 1024 := ⟨R.val % 1024, by omega⟩
  have hR : R.val = 1024 * t.val + r.val := by show R.val = 1024 * (R.val / 1024) + R.val % 1024; omega
  have b := congrFun (Value.blocks7 m c t (flush0_7 t)) (ix2 r k)
  rw [Value.flushed7] at b
  have b' : (dats m 0 c).arrAt 7 cfg0.N (((cfg0.win 7).blk t).view.emb (ix2 r k)) = _ := b
  rw [emb7 t r k R hR] at b'
  refine b'.trans ((congrFun (out_eq (iblk m c 0 t) (iblk m c 1 t) (iblk m c 2 t) (iblk m c 3 t) (iblk m c 4 t) (iblk m c 5 t) (iblk m c 6 t)) (ix2 r k)).trans ?_)
  rw [outOps_apply]
  have h0 (k : Fin 1024) : iblk m c 0 t (ix2 r k) = m ((c : Thread nD τ).loc main_arg0) (ix3 ⟨R.val / 16384, by omega⟩ ⟨R.val % 16384, by omega⟩ k) := by
    rw [iblk0_apply m c t r k R hR]; exact v0_apply m c R k
  have h1 (k : Fin 768) : iblk m c 1 t (ix2 r k) = m ((c : Thread nD τ).loc main_arg1) (ix3 ⟨R.val / 16384, by omega⟩ ⟨R.val % 16384, by omega⟩ k) := by
    rw [iblk1_apply m c t r k R hR]; exact v1_apply m c R k
  have h2 (k : Fin 256) : iblk m c 2 t (ix2 r k) = m ((c : Thread nD τ).loc main_arg2) (ix3 ⟨R.val / 16384, by omega⟩ ⟨R.val % 16384, by omega⟩ k) := by
    rw [iblk2_apply m c t r k R hR]; exact v3_apply m c R k
  have at' (y : Fin 256) (j : Fin 512) : V m c main_v5 (ix2 (⟨256 * (t.val / 16) + y.val, by omega⟩ : Fin 512) j)
      = m ((c : Thread nD τ).loc main_arg3) (ix3 ⟨R.val / 16384, by omega⟩ y j) := by
    rw [v5_apply]
    have e0 : (⟨(256 * (t.val / 16) + y.val) / 256, by omega⟩ : Fin 2) = ⟨R.val / 16384, by omega⟩ :=
      Fin.ext (show (256 * (R.val / 1024 / 16) + y.val) / 256 = R.val / 16384 by omega)
    have e1 : (⟨(256 * (t.val / 16) + y.val) % 256, by omega⟩ : Fin 256) = y := Fin.ext (show (256 * (t.val / 16) + y.val) % 256 = y.val by omega)
    exact congrArg₂ (fun a b => m ((c : Thread nD τ).loc main_arg3) (ix3 a b j)) e0 e1
  have h3 (y k : Fin 256) := (iblk3_apply m c t y k ⟨256 * (t.val / 16) + y.val, by omega⟩ rfl).trans (at' y _)
  have h4 (y k : Fin 256) := (iblk4_apply m c t y k ⟨256 * (t.val / 16) + y.val, by omega⟩ rfl).trans (at' y _)
  have h5 (k j : Fin 768) : iblk m c 5 t (ix2 k j) = m ((c : Thread nD τ).loc main_arg4) (ix2 k j) := by
    rw [iblk5_eq]; exact v6_apply m c k j
  have ha (j : Fin 768) : k0_pay2 (iblk m c 1 t) (iblk m c 5 t) (ix2 r j) = gated (fun j => m ((c : Thread nD τ).loc main_arg1)
      (ix3 ⟨R.val / 16384, by omega⟩ ⟨R.val % 16384, by omega⟩ j)) (fun k j => m ((c : Thread nD τ).loc main_arg4) (ix2 k j)) j := by
    rw [gate_apply]
    simp only [h1, h5]
  have hw (j k : Fin 1024) : iblk m c 6 t (ix2 j k) = m ((c : Thread nD τ).loc main_arg5) (ix2 j k) := by
    rw [iblk6_eq]; exact v7_apply m c j k
  have hb (j : Fin 256) : memOps (iblk m c 2 t) (iblk m c 3 t) (iblk m c 4 t) (ix2 r j) = recall (fun n s k => m ((c : Thread nD τ).loc main_arg2) (ix3 n s k))
      (fun n s k => m ((c : Thread nD τ).loc main_arg3) (ix3 n s k)) ⟨R.val / 16384, by omega⟩ ⟨R.val % 16384, by omega⟩ j := by
    rw [memOps_apply]
    unfold recall
    simp only [h2, h3, h4]
  unfold gatedResult
  simp only [h0, ha, hb, hw]

end Cert.Mix.Kern

end
-- ==== Proof.Mix.Ref.lean ====
/-
  The gated mixer call's reference, element by element as the mathematics of its arguments.
-/
module

public import proofs.«01_k».proof.Proof.Gen.Reference3Ideal.Read
public import proofs.«01_k».proof.Proof.Ffn.Spec
public import proofs.«01_k».proof.Proof.Mix.Spec

@[expose] public section

noncomputable section

namespace Cert.Mix.Ref

open Cert.Reference3Ideal Cert.Reference3Ideal.Gen Cert.Reference3Ideal.Read Idealize.ShloMosaic Idealize.ShloMosaic.TcCoe Idealize.SL.Sem

variable (x0 : (⟨S2x16384x1024, .f32⟩ : BufTy).Contents (Elt Ideal)) (x1 : (⟨S2x16384x768, .f32⟩ : BufTy).Contents (Elt Ideal))
  (x2 : (⟨S2x16384x256, .f32⟩ : BufTy).Contents (Elt Ideal)) (x3 : (⟨S2x256x512, .f32⟩ : BufTy).Contents (Elt Ideal))
  (x4 : (⟨S768x768, .f32⟩ : BufTy).Contents (Elt Ideal)) (x5 : (⟨S1024x1024, .f32⟩ : BufTy).Contents (Elt Ideal))

/-- Head `h`'s scores of row `s` against the keys. -/
def headScores (n : Fin 2) (h : Fin 4) (s : Fin 16384) : Fin 256 → EReal :=
  scores (fun d => x2 (ix3 n s ⟨h.val * 64 + d.val, by omega⟩)) fun j d => x3 (ix3 n j ⟨h.val * 64 + d.val, by omega⟩)

/-- The scaled scores. -/
theorem v28_apply (n : Fin 2) (h : Fin 4) (s : Fin 16384) (j : Fin 256) :
    val_main_v28 x2 x3 (ix4 n h s j) = headScores x2 x3 n h s j := by
  unfold val_main_v28 val_main_v27 val_main_v26 val_main_v25 val_main_v22 val_main_v21 val_main_cst_5
  pointwise [headScores, scores]

/-- Their maximum, folded from minus infinity. -/
theorem fold_apply (y : FVec Ideal S2x4x16384x256 .f32) (a : S2x4x16384x256.ReducesTo [3] S2x4x16384) (u : 0 < S_.numel)
    (n : Fin 2) (h : Fin 4) (s : Fin 16384) : Host.reduce FloatOps.maximumf y (constant (F := Ideal) S_ .f32 0xFF800000#32) a u (ix3 n h s)
      = top fun j => y (ix4 n h s j) := by
  have h' : S2x4x16384x256.Reduces [3] S2x4x16384 := by decide
  rw [Host.reduce_eq_fold_single FloatOps.maximumf y _ a h' u]
  refine congrArg (fun f => Finset.fold max low f (Finset.univ : Finset (Fin 256))) (funext fun k => congrArg y (funext fun a => ?_))
  match a with
  | ⟨0, _⟩ => rfl
  | ⟨1, _⟩ => rfl
  | ⟨2, _⟩ => rfl
  | ⟨3, _⟩ => rfl

/-- The scores' maximum. -/
theorem v29_apply (n : Fin 2) (h : Fin 4) (s : Fin 16384) : val_main_v29 x2 x3 (ix3 n h s) = top (headScores x2 x3 n h s) := by
  unfold val_main_v29 val_main_cst_6
  rw [fold_apply]
  simp only [v28_apply]

/-- The maximum the softmax subtracts. -/
theorem v31_apply (n : Fin 2) (h : Fin 4) (s : Fin 16384) : val_main_v31 x2 x3 (ix3 n h s) = top (headScores x2 x3 n h s) := by
  rw [val_main_v31_apply, val_main_v30_apply, val_main_cst_7_apply, v29_apply]
  exact max_low_top _

/-- The exponentials. -/
theorem v35_apply (n : Fin 2) (h : Fin 4) (s : Fin 16384) (j : Fin 256) : val_main_v35 x2 x3 (ix4 n h s j)
    = Ideal.exp (headScores x2 x3 n h s j - top (headScores x2 x3 n h s)) := by
  have e := v28_apply x2 x3 n h s j
  have e' := v31_apply x2 x3 n h s
  unfold val_main_v35 val_main_v34 val_main_v33 val_main_v32
  generalize val_main_v28 x2 x3 = y at e
  generalize val_main_v31 x2 x3 = z at e'
  pointwise
  rw [e, e']

/-- The softmax. -/
theorem v39_apply (n : Fin 2) (h : Fin 4) (s : Fin 16384) (j : Fin 256) : val_main_v39 x2 x3 (ix4 n h s j) = soft (headScores x2 x3 n h s) j := by
  have e (j : Fin 256) := v35_apply x2 x3 n h s j
  unfold val_main_v39 val_main_v38 val_main_v37 val_main_v36 val_main_cst_8
  generalize val_main_v35 x2 x3 = y at e
  pointwise
  simp only [e]
  rfl

/-- The memory attention. -/
theorem v42_apply (n : Fin 2) (s : Fin 16384) (j : Fin 256) : val_main_v42 x2 x3 (ix3 n s j)
    = recall (fun n s j => x2 (ix3 n s j)) (fun n y j => x3 (ix3 n y j)) n s j := by
  have e (h : Fin 4) (k : Fin 256) := v39_apply x2 x3 n h s k
  unfold val_main_v42 val_main_v41 val_main_v40 val_main_v24 val_main_v23
  generalize val_main_v39 x2 x3 = y at e
  pointwise
  simp only [e]
  unfold recall memory attend headScores mate
  exact Finset.sum_congr rfl fun k _ => mul_comm _ _

/-- The rectified rows. -/
theorem v12_apply (n : Fin 2) (s : Fin 16384) (j : Fin 768) : val_main_v12 x1 (ix3 n s j) = gelu (x1 (ix3 n s j)) := by
  unfold val_main_v12 val_main_v11 val_main_v10 val_main_v9 val_main_v8 val_main_v7 val_main_v6 val_main_v5 val_main_v4 val_main_v3 val_main_v2
    val_main_v1 val_main_v0 val_main_cst val_main_cst_0 val_main_cst_1 val_main_cst_2
  pointwise [gelu]

/-- The gated rows. -/
theorem v20_apply (n : Fin 2) (s : Fin 16384) (j : Fin 768) :
    val_main_v20 x1 x4 (ix3 n s j) = gated (fun j => x1 (ix3 n s j)) (fun k j => x4 (ix2 k j)) j := by
  have e (j : Fin 768) := v12_apply x1 n s j
  unfold val_main_v20 val_main_v19 val_main_v18 val_main_v17 val_main_v16 val_main_v15 val_main_v14 val_main_v13 val_main_cst_3 val_main_cst_4
  generalize val_main_v12 x1 = y at e
  pointwise
  simp only [e]
  exact Ideal.mul_one_div (Ffn.one_add_exp_ne_zero _)

/-- The result. -/
theorem v46_apply (R : Fin 32768) (k : Fin 1024) : val_main_v46 x0 x1 x2 x3 x4 x5 (ix2 R k)
    = gatedResult (fun n s k => x0 (ix3 n s k)) (fun n s j => x1 (ix3 n s j)) (fun n s j => x2 (ix3 n s j)) (fun n y j => x3 (ix3 n y j))
      (fun k j => x4 (ix2 k j)) (fun j k => x5 (ix2 j k)) R k := by
  have a (n : Fin 2) (s : Fin 16384) (j : Fin 768) := v20_apply x1 x4 n s j
  have b (n : Fin 2) (s : Fin 16384) (j : Fin 256) := v42_apply x2 x3 n s j
  unfold val_main_v46 val_main_v45 val_main_v44 val_main_v43
  generalize val_main_v20 x1 x4 = y at a
  generalize val_main_v42 x2 x3 = z at b
  pointwise [gatedResult, out, beside]
  simp only [a, b]

end Cert.Mix.Ref

end
-- ==== Proof.Mix.Equation.lean ====
/-
  The equation between the two programs of the gated mixer call: both results are its mathematics of the arguments.
-/
module

public import proofs.«01_k».proof.Defs
public import proofs.«01_k».proof.Proof.Mix.Kern
public import proofs.«01_k».proof.Proof.Mix.Ref
public import proofs.«01_k».proof.Proof.Gen.Reference3Ideal.Run

@[expose] public section

noncomputable section

namespace Cert.Mix

open Idealize.ShloMosaic Idealize.SL.Sem

/-- From equal arguments both programs run and end in equal results, the arguments unchanged. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => fun j => Cert.Mix.gatedResult (fun n s k => m ((c.tc : Thread _ _).loc Cert.Kernel3Ideal.main_arg0) (ix3 n s k))
    (fun n s k => m ((c.tc : Thread _ _).loc Cert.Kernel3Ideal.main_arg1) (ix3 n s k))
    (fun n s k => m ((c.tc : Thread _ _).loc Cert.Kernel3Ideal.main_arg2) (ix3 n s k))
    (fun n s k => m ((c.tc : Thread _ _).loc Cert.Kernel3Ideal.main_arg3) (ix3 n s k))
    (fun j k => m ((c.tc : Thread _ _).loc Cert.Kernel3Ideal.main_arg4) (ix2 j k))
    (fun j k => m ((c.tc : Thread _ _).loc Cert.Kernel3Ideal.main_arg5) (ix2 j k)) (j 0) (j 1), ?_, ?_⟩
  · refine (θ_run (Cert.Kernel3Ideal.defs (F := Ideal)) _ _).mono (fun r h c => ?_) (Cert.Kernel3Ideal.Value.run_blocks m g)
    obtain ⟨hv, h⟩ := h c
    refine ⟨hv.trans (funext fun j => ?_), h⟩
    obtain ⟨R, k, rfl⟩ : ∃ (R : Fin 32768) (k : Fin 1024), j = ix2 R k := ⟨j 0, j 1, eq_ix2 j⟩
    exact Cert.Mix.Kern.result_apply m c R k
  · refine (θ_run (Cert.Reference3Ideal.defs (F := Ideal)) _ _).mono (fun r h c => ?_) (Cert.Reference3Ideal.Value.run m' g')
    obtain ⟨hv, h⟩ := h c
    refine ⟨hv.trans ?_, h⟩
    rw [Cert.Reference3Ideal.Read.val_main_v46_eq]
    obtain ⟨a0, a1, a2, a3, a4, a5⟩ := hargs c
    rw [a0, a1, a2, a3, a4, a5]
    funext j
    obtain ⟨R, k, rfl⟩ : ∃ (R : Fin 32768) (k : Fin 1024), j = ix2 R k := ⟨j 0, j 1, eq_ix2 j⟩
    exact Cert.Mix.Ref.v46_apply _ _ _ _ _ _ R k

end Cert.Mix

end
-- ==== Proof.Mix.PlainBlocks.lean ====
/-
  What the windows of the plain mixer call hold at a grid point, each element as an element of an argument.
-/
module

public import proofs.«01_k».proof.Proof.Gen.Kernel4Ideal.Value
public import Idealize.ShloMosaic.Lib.Pointwise

@[expose] public section

noncomputable section

namespace Cert.Mix.Plain.Blocks

open Cert.Kernel4Ideal Cert.Kernel4Ideal.Gen Idealize.ShloMosaic Idealize.ShloMosaic.TcCoe Idealize.SL.Sem

variable (m : (ℓ : Loc nD τ sig) → Buf (Elt Ideal) ℓ)

/-! ## The host operations before the call -/

/-- The layer's rows, one sequence after the other. -/
theorem v0_apply (c : Dev nD) (R : Fin 32768) (k : Fin 1024) : V m c main_v0 (ix2 R k) = m ((c : Thread nD τ).loc main_arg0) (ix3 ⟨R.val / 16384, by omega⟩ ⟨R.val % 16384, by omega⟩ k) := by
  unfold_abbrev_sides
  after_results
  pointwise

/-- The mixer's rows. -/
theorem v2_apply (c : Dev nD) (R : Fin 32768) (k : Fin 768) : V m c main_v2 (ix2 R k) = m ((c : Thread nD τ).loc main_arg1) (ix3 ⟨R.val / 16384, by omega⟩ ⟨R.val % 16384, by omega⟩ k) := by
  unfold_abbrev_sides
  after_results
  pointwise

/-- The memory's queries. -/
theorem v4_apply (c : Dev nD) (R : Fin 32768) (k : Fin 256) : V m c main_v4 (ix2 R k) = m ((c : Thread nD τ).loc main_arg2) (ix3 ⟨R.val / 16384, by omega⟩ ⟨R.val % 16384, by omega⟩ k) := by
  unfold_abbrev_sides
  after_results
  pointwise

/-- The memory's keys and values. -/
theorem v6_apply (c : Dev nD) (Y : Fin 512) (j : Fin 512) : V m c main_v6 (ix2 Y j) = m ((c : Thread nD τ).loc main_arg3) (ix3 ⟨Y.val / 256, by omega⟩ ⟨Y.val % 256, by omega⟩ j) := by
  unfold_abbrev_sides
  after_results
  pointwise

/-- The output projection's weights. -/
theorem v7_apply (c : Dev nD) (j k : Fin 1024) : V m c main_v7 (ix2 j k) = m ((c : Thread nD τ).loc main_arg4) (ix2 j k) := by
  unfold_abbrev_sides
  after_results
  pointwise

/-! ## The windows -/

/-- The layer's tile of rows; -/
theorem idx0 : ∀ t : Fin cfg0.N, win0_0.index t = ![t.val, 0] :=
  (by decide +kernel : ∀ t : Fin grid0.N, win0_0.index t = ![t.val, 0])
/-- the mixer's; -/
theorem idx1 : ∀ t : Fin cfg0.N, win0_1.index t = ![t.val, 0] :=
  (by decide +kernel : ∀ t : Fin grid0.N, win0_1.index t = ![t.val, 0])
/-- the queries'; -/
theorem idx2 : ∀ t : Fin cfg0.N, win0_2.index t = ![t.val, 0] :=
  (by decide +kernel : ∀ t : Fin grid0.N, win0_2.index t = ![t.val, 0])
/-- the sequence's keys; -/
theorem idx3 : ∀ t : Fin cfg0.N, win0_3.index t = ![t.val / 16, 0] :=
  (by decide +kernel : ∀ t : Fin grid0.N, win0_3.index t = ![t.val / 16, 0])
/-- its values; -/
theorem idx4 : ∀ t : Fin cfg0.N, win0_4.index t = ![t.val / 16, 1] :=
  (by decide +kernel : ∀ t : Fin grid0.N, win0_4.index t = ![t.val / 16, 1])
/-- the output projection's weights; -/
theorem idx5 : ∀ t : Fin cfg0.N, win0_5.index t = ![0, 0] :=
  (by decide +kernel : ∀ t : Fin grid0.N, win0_5.index t = ![0, 0])
/-- and the result's tile. -/
theorem idx6 : ∀ t : Fin cfg0.N, win0_6.index t = ![t.val, 0] :=
  (by decide +kernel : ∀ t : Fin grid0.N, win0_6.index t = ![t.val, 0])

/-- Row `r` of the tile is row `1024 t + r`: the layer's, -/
theorem iblk0_apply (c : Dev nD) (t : Fin cfg0.N) (r : Fin 1024) (k : Fin 1024) (R : Fin 32768) (hR : R.val = 1024 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 1024 + 1 * r.val = R.val by rw [idx0]; show t.val * 1024 + _ = _; omega)
  | ⟨1, _⟩ => exact Fin.ext (show win0_0.index t (1 : Fin 2) * 1024 + 1 * k.val = k.val by rw [idx0]; show 0 * 1024 + _ = _; omega)

/-- the mixer's, -/
theorem iblk1_apply (c : Dev nD) (t : Fin cfg0.N) (r : Fin 1024) (k : Fin 768) (R : Fin 32768) (hR : R.val = 1024 * t.val + r.val) :
    iblk m c 1 t (ix2 r k) = V m c main_v2 (ix2 R k) := by
  show V m c main_v2 (((cfg0.win 1).blk t).view.emb (ix2 r k)) = _
  congr 1
  funext a
  match a with
  | ⟨0, _⟩ => exact Fin.ext (show win0_1.index t (0 : Fin 2) * 1024 + 1 * r.val = R.val by rw [idx1]; show t.val * 1024 + _ = _; omega)
  | ⟨1, _⟩ => exact Fin.ext (show win0_1.index t (1 : Fin 2) * 768 + 1 * k.val = k.val by rw [idx1]; show 0 * 768 + _ = _; omega)

/-- and the queries'. -/
theorem iblk2_apply (c : Dev nD) (t : Fin cfg0.N) (r : Fin 1024) (k : Fin 256) (R : Fin 32768) (hR : R.val = 1024 * t.val + r.val) :
    iblk m c 2 t (ix2 r k) = V m c main_v4 (ix2 R k) := by
  show V m c main_v4 (((cfg0.win 2).blk t).view.emb (ix2 r k)) = _
  congr 1
  funext a
  match a with
  | ⟨0, _⟩ => exact Fin.ext (show win0_2.index t (0 : Fin 2) * 1024 + 1 * r.val = R.val by rw [idx2]; show t.val * 1024 + _ = _; omega)
  | ⟨1, _⟩ => exact Fin.ext (show win0_2.index t (1 : Fin 2) * 256 + 1 * k.val = k.val by rw [idx2]; show 0 * 256 + _ = _; omega)

/-- The keys are the first half of the sequence's memory, -/
theorem iblk3_apply (c : Dev nD) (t : Fin cfg0.N) (y k : Fin 256) (Y : Fin 512) (hY : Y.val = 256 * (t.val / 16) + y.val) :
    iblk m c 3 t (ix2 y k) = V m c main_v6 (ix2 Y ⟨k.val, by omega⟩) := by
  show V m c main_v6 (((cfg0.win 3).blk t).view.emb (ix2 y k)) = _
  congr 1
  funext a
  match a with
  | ⟨0, _⟩ => exact Fin.ext (show win0_3.index t (0 : Fin 2) * 256 + 1 * y.val = Y.val by rw [idx3]; show t.val / 16 * 256 + _ = _; omega)
  | ⟨1, _⟩ => exact Fin.ext (show win0_3.index t (1 : Fin 2) * 256 + 1 * k.val = k.val by rw [idx3]; show 0 * 256 + _ = _; omega)

/-- the values the second. -/
theorem iblk4_apply (c : Dev nD) (t : Fin cfg0.N) (y k : Fin 256) (Y : Fin 512) (hY : Y.val = 256 * (t.val / 16) + y.val) :
    iblk m c 4 t (ix2 y k) = V m c main_v6 (ix2 Y ⟨256 + k.val, by omega⟩) := by
  show V m c main_v6 (((cfg0.win 4).blk t).view.emb (ix2 y k)) = _
  congr 1
  funext a
  match a with
  | ⟨0, _⟩ => exact Fin.ext (show win0_4.index t (0 : Fin 2) * 256 + 1 * y.val = Y.val by rw [idx4]; show t.val / 16 * 256 + _ = _; omega)
  | ⟨1, _⟩ => exact Fin.ext (show win0_4.index t (1 : Fin 2) * 256 + 1 * k.val = 256 + k.val by rw [idx4]; show 1 * 256 + _ = _; omega)

/-- the output projection's weights are whole. -/
theorem iblk5_eq (c : Dev nD) (t : Fin cfg0.N) : iblk m c 5 t = V m c main_v7 := by
  funext j
  show V m c main_v7 (((cfg0.win 5).blk t).view.emb j) = _
  congr 1
  funext a
  match a with
  | ⟨0, _⟩ => exact Fin.ext (show win0_5.index t (0 : Fin 2) * 1024 + 1 * (j 0).val = (j 0).val by rw [idx5]; show 0 * 1024 + _ = _; omega)
  | ⟨1, _⟩ => exact Fin.ext (show win0_5.index t (1 : Fin 2) * 1024 + 1 * (j 1).val = (j 1).val by rw [idx5]; show 0 * 1024 + _ = _; omega)

/-- Row `r` of the result's tile is row `1024 t + r` of the result. -/
theorem emb6 (t : Fin cfg0.N) (r : Fin 1024) (k : Fin 1024) (R : Fin 32768) (hR : R.val = 1024 * t.val + r.val) :
    ((cfg0.win 6).blk t).view.emb (ix2 r k) = (ix2 R k : S32768x1024.Idx) := by
  funext a
  match a with
  | ⟨0, _⟩ => exact Fin.ext (show win0_6.index t (0 : Fin 2) * 1024 + 1 * r.val = R.val by rw [idx6]; show t.val * 1024 + _ = _; omega)
  | ⟨1, _⟩ => exact Fin.ext (show win0_6.index t (1 : Fin 2) * 1024 + 1 * k.val = k.val by rw [idx6]; show 0 * 1024 + _ = _; omega)

end Cert.Mix.Plain.Blocks

end
-- ==== Proof.Mix.PlainKern.lean ====
/-
  The plain mixer call's result array, element by element as the mathematics of its arguments.
-/
module

public import proofs.«01_k».proof.Proof.Mix.PlainBlocks
public import proofs.«01_k».proof.Proof.Mix.Heads

@[expose] public section

noncomputable section

namespace Cert.Mix.Plain.Kern

open Cert.Kernel4Ideal Cert.Kernel4Ideal.Gen Cert.Mix.Plain.Blocks Cert.Mix
open Idealize.ShloMosaic Idealize.ShloMosaic.TcCoe Idealize.SL.Sem

/-- What the body leaves in the result's window. -/
theorem out_eq (x0 : Vec Ideal S1024x1024 .f32) (x1 : Vec Ideal S1024x768 .bf16) (x2 : Vec Ideal S1024x256 .bf16) (x3 x4 : Vec Ideal S256x256 .bf16)
    (x5 : Vec Ideal S1024x1024 .bf16) : out0_6 x0 x1 x2 x3 x4 x5 = outOps x0 (k0_pay2 x1) (memOps x2 x3 x4) x5 := by
  have z : (![0, 0] : Fin 2 → ℕ) = fun _ => 0 := by decide
  unfold out0_6
  rw [View.canon_unit_zero (S := S1024x1024) z]
  simp only [View.ld_unit_zero (S := S1024x1024) z, View.ld_unit_zero (S := S1024x768) z, View.ld_unit_zero (S := S1024x256) z,
    View.ld_unit_zero (S := S256x256) z]
  rfl

variable (m : (ℓ : Loc nD τ sig) → Buf (Elt Ideal) ℓ) (c : Dev nD)

/-- The result array. -/
theorem result_apply (R : Fin 32768) (k : Fin 1024) : (dats m 0 c).arrAt 6 cfg0.N (ix2 R k)
    = plainResult (fun n s k => m ((c : Thread nD τ).loc main_arg0) (ix3 n s k))
      (fun n s k => m ((c : Thread nD τ).loc main_arg1) (ix3 n s k))
      (fun n s k => m ((c : Thread nD τ).loc main_arg2) (ix3 n s k))
      (fun n s k => m ((c : Thread nD τ).loc main_arg3) (ix3 n s k))
      (fun j k => m ((c : Thread nD τ).loc main_arg4) (ix2 j k)) R k := by
  have hN : cfg0.N = 32 := by decide
  let t : Fin cfg0.N := ⟨R.val / 1024, by omega⟩
  let r : Fin 1024 := ⟨R.val % 1024, by omega⟩
  have hR : R.val = 1024 * t.val + r.val := by show R.val = 1024 * (R.val / 1024) + R.val % 1024; omega
  have b := congrFun (Value.blocks6 m c t (flush0_6 t)) (ix2 r k)
  rw [Value.flushed6] at b
  have b' : (dats m 0 c).arrAt 6 cfg0.N (((cfg0.win 6).blk t).view.emb (ix2 r k)) = _ := b
  rw [emb6 t r k R hR] at b'
  refine b'.trans ((congrFun (out_eq (iblk m c 0 t) (iblk m c 1 t) (iblk m c 2 t) (iblk m c 3 t) (iblk m c 4 t) (iblk m c 5 t)) (ix2 r k)).trans ?_)
  rw [outOps_apply]
  have h0 (k : Fin 1024) : iblk m c 0 t (ix2 r k) = m ((c : Thread nD τ).loc main_arg0) (ix3 ⟨R.val / 16384, by omega⟩ ⟨R.val % 16384, by omega⟩ k) := by
    rw [iblk0_apply m c t r k R hR]; exact v0_apply m c R k
  have h1 (k : Fin 768) : iblk m c 1 t (ix2 r k) = m ((c : Thread nD τ).loc main_arg1) (ix3 ⟨R.val / 16384, by omega⟩ ⟨R.val % 16384, by omega⟩ k) := by
    rw [iblk1_apply m c t r k R hR]; exact v2_apply m c R k
  have h2 (k : Fin 256) : iblk m c 2 t (ix2 r k) = m ((c : Thread nD τ).loc main_arg2) (ix3 ⟨R.val / 16384, by omega⟩ ⟨R.val % 16384, by omega⟩ k) := by
    rw [iblk2_apply m c t r k R hR]; exact v4_apply m c R k
  have at' (y : Fin 256) (j : Fin 512) : V m c main_v6 (ix2 (⟨256 * (t.val / 16) + y.val, by omega⟩ : Fin 512) j)
      = m ((c : Thread nD τ).loc main_arg3) (ix3 ⟨R.val / 16384, by omega⟩ y j) := by
    rw [v6_apply]
    have e0 : (⟨(256 * (t.val / 16) + y.val) / 256, by omega⟩ : Fin 2) = ⟨R.val / 16384, by omega⟩ :=
      Fin.ext (show (256 * (R.val / 1024 / 16) + y.val) / 256 = R.val / 16384 by omega)
    have e1 : (⟨(256 * (t.val / 16) + y.val) % 256, by omega⟩ : Fin 256) = y := Fin.ext (show (256 * (t.val / 16) + y.val) % 256 = y.val by omega)
    exact congrArg₂ (fun a b => m ((c : Thread nD τ).loc main_arg3) (ix3 a b j)) e0 e1
  have h3 (y k : Fin 256) := (iblk3_apply m c t y k ⟨256 * (t.val / 16) + y.val, by omega⟩ rfl).trans (at' y _)
  have h4 (y k : Fin 256) := (iblk4_apply m c t y k ⟨256 * (t.val / 16) + y.val, by omega⟩ rfl).trans (at' y _)
  have ha (j : Fin 768) : k0_pay2 (iblk m c 1 t) (ix2 r j) = m ((c : Thread nD τ).loc main_arg1)
      (ix3 ⟨R.val / 16384, by omega⟩ ⟨R.val % 16384, by omega⟩ j) := by
    refine Eq.trans ?_ (h1 j)
    unfold_payloads
    pointwise
  have hw (j k : Fin 1024) : iblk m c 5 t (ix2 j k) = m ((c : Thread nD τ).loc main_arg4) (ix2 j k) := by
    rw [iblk5_eq]; exact v7_apply m c j k
  have hb (j : Fin 256) : memOps (iblk m c 2 t) (iblk m c 3 t) (iblk m c 4 t) (ix2 r j) = recall (fun n s k => m ((c : Thread nD τ).loc main_arg2) (ix3 n s k))
      (fun n s k => m ((c : Thread nD τ).loc main_arg3) (ix3 n s k)) ⟨R.val / 16384, by omega⟩ ⟨R.val % 16384, by omega⟩ j := by
    rw [memOps_apply]
    unfold recall
    simp only [h2, h3, h4]
  unfold plainResult
  simp only [h0, ha, hb, hw]

end Cert.Mix.Plain.Kern

end
-- ==== Proof.Mix.PlainRef.lean ====
/-
  The plain mixer call's reference, element by element as the mathematics of its arguments.
-/
module

public import proofs.«01_k».proof.Proof.Gen.Reference4Ideal.Read
public import proofs.«01_k».proof.Proof.Mix.Ref

@[expose] public section

noncomputable section

namespace Cert.Mix.PlainRef

open Cert.Reference4Ideal Cert.Reference4Ideal.Read Idealize.ShloMosaic Idealize.ShloMosaic.TcCoe Idealize.SL.Sem

variable (x0 : (⟨S2x16384x1024, .f32⟩ : BufTy).Contents (Elt Ideal)) (x1 : (⟨S2x16384x768, .f32⟩ : BufTy).Contents (Elt Ideal))
  (x2 : (⟨S2x16384x256, .f32⟩ : BufTy).Contents (Elt Ideal)) (x3 : (⟨S2x256x512, .f32⟩ : BufTy).Contents (Elt Ideal))
  (x4 : (⟨S1024x1024, .f32⟩ : BufTy).Contents (Elt Ideal))

/-- Its memory attention is the gated call's. -/
theorem v21_eq : val_main_v21 x2 x3 = Cert.Reference3Ideal.Read.val_main_v42 x2 x3 := rfl

/-- The result. -/
theorem v25_apply (R : Fin 32768) (k : Fin 1024) : val_main_v25 x0 x1 x2 x3 x4 (ix2 R k)
    = plainResult (fun n s k => x0 (ix3 n s k)) (fun n s j => x1 (ix3 n s j)) (fun n s j => x2 (ix3 n s j)) (fun n y j => x3 (ix3 n y j))
      (fun j k => x4 (ix2 j k)) R k := by
  have b (n : Fin 2) (s : Fin 16384) (j : Fin 256) := Ref.v42_apply x2 x3 n s j
  rw [← v21_eq] at b
  unfold val_main_v25 val_main_v24 val_main_v23 val_main_v22
  generalize val_main_v21 x2 x3 = z at b
  pointwise [plainResult, out, beside]
  simp only [b]

end Cert.Mix.PlainRef

end
-- ==== Proof.Mix.PlainEquation.lean ====
/-
  The equation between the two programs of the plain mixer call: both results are its mathematics of the arguments.
-/
module

public import proofs.«01_k».proof.Defs
public import proofs.«01_k».proof.Proof.Mix.PlainKern
public import proofs.«01_k».proof.Proof.Mix.PlainRef
public import proofs.«01_k».proof.Proof.Gen.Reference4Ideal.Run

@[expose] public section

noncomputable section

namespace Cert.Mix.Plain

open Idealize.ShloMosaic Idealize.SL.Sem

/-- From equal arguments both programs run and end in equal results, the arguments unchanged. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => fun j => Cert.Mix.plainResult (fun n s k => m ((c.tc : Thread _ _).loc Cert.Kernel4Ideal.main_arg0) (ix3 n s k))
    (fun n s k => m ((c.tc : Thread _ _).loc Cert.Kernel4Ideal.main_arg1) (ix3 n s k))
    (fun n s k => m ((c.tc : Thread _ _).loc Cert.Kernel4Ideal.main_arg2) (ix3 n s k))
    (fun n s k => m ((c.tc : Thread _ _).loc Cert.Kernel4Ideal.main_arg3) (ix3 n s k))
    (fun j k => m ((c.tc : Thread _ _).loc Cert.Kernel4Ideal.main_arg4) (ix2 j k)) (j 0) (j 1), ?_, ?_⟩
  · refine (θ_run (Cert.Kernel4Ideal.defs (F := Ideal)) _ _).mono (fun r h c => ?_) (Cert.Kernel4Ideal.Value.run_blocks m g)
    obtain ⟨hv, h⟩ := h c
    refine ⟨hv.trans (funext fun j => ?_), h⟩
    obtain ⟨R, k, rfl⟩ : ∃ (R : Fin 32768) (k : Fin 1024), j = ix2 R k := ⟨j 0, j 1, eq_ix2 j⟩
    exact Cert.Mix.Plain.Kern.result_apply m c R k
  · refine (θ_run (Cert.Reference4Ideal.defs (F := Ideal)) _ _).mono (fun r h c => ?_) (Cert.Reference4Ideal.Value.run m' g')
    obtain ⟨hv, h⟩ := h c
    refine ⟨hv.trans ?_, h⟩
    rw [Cert.Reference4Ideal.Read.val_main_v25_eq]
    obtain ⟨a0, a1, a2, a3, a4⟩ := hargs c
    rw [a0, a1, a2, a3, a4]
    funext j
    obtain ⟨R, k, rfl⟩ : ∃ (R : Fin 32768) (k : Fin 1024), j = ix2 R k := ⟨j 0, j 1, eq_ix2 j⟩
    exact Cert.Mix.PlainRef.v25_apply _ _ _ _ _ R k

end Cert.Mix.Plain

end
-- ==== Proof.Inproj.Blocks.lean ====
/-
  What the windows of the input projection hold at a grid point, each element as an element of an argument.
-/
module

public import proofs.«01_k».proof.Proof.Gen.Kernel5Ideal.Value
public import Idealize.ShloMosaic.Lib.Pointwise

@[expose] public section

noncomputable section

namespace Cert.Inproj.Blocks

open Cert.Kernel5Ideal Cert.Kernel5Ideal.Gen Idealize.ShloMosaic Idealize.ShloMosaic.TcCoe Idealize.SL.Sem

variable (m : (ℓ : Loc nD τ sig) → Buf (Elt Ideal) ℓ)

/-! ## The host operations before the call -/

/-- The layer's rows, one sequence after the other. -/
theorem v0_apply (c : Dev nD) (R : Fin 32768) (k : Fin 1024) : V m c main_v0 (ix2 R k) = m ((c : Thread nD τ).loc main_arg0) (ix3 ⟨R.val / 16384, by omega⟩ ⟨R.val % 16384, by omega⟩ k) := by
  unfold_abbrev_sides
  after_results
  pointwise

/-- The gain as a row. -/
theorem v2_apply (c : Dev nD) (k : Fin 1024) : V m c main_v2 (ix2 0 k) = m ((c : Thread nD τ).loc main_arg1) (ix1 k) := by
  unfold_abbrev_sides
  after_results
  pointwise

/-- The weights. -/
theorem v1_apply (c : Dev nD) (k j : Fin 1024) : V m c main_v1 (ix2 k j) = m ((c : Thread nD τ).loc main_arg2) (ix2 k j) := by
  unfold_abbrev_sides
  after_results
  pointwise

/-! ## The windows -/

/-- The tile of rows; -/
theorem idx0 : ∀ t : Fin cfg0.N, win0_0.index t = ![t.val, 0] :=
  (by decide +kernel : ∀ t : Fin grid0.N, win0_0.index t = ![t.val, 0])
/-- the gain; -/
theorem idx1 : ∀ t : Fin cfg0.N, win0_1.index t = ![0, 0] :=
  (by decide +kernel : ∀ t : Fin grid0.N, win0_1.index t = ![0, 0])
/-- the weights; -/
theorem idx2 : ∀ t : Fin cfg0.N, win0_2.index t = ![0, 0] :=
  (by decide +kernel : ∀ t : Fin grid0.N, win0_2.index t = ![0, 0])
/-- the first result's tile; -/
theorem idx3 : ∀ t : Fin cfg0.N, win0_3.index t = ![t.val, 0] :=
  (by decide +kernel : ∀ t : Fin grid0.N, win0_3.index t = ![t.val, 0])
/-- and the second's. -/
theorem idx4 : ∀ t : Fin cfg0.N, win0_4.index t = ![t.val, 0] :=
  (by decide +kernel : ∀ t : Fin grid0.N, win0_4.index t = ![t.val, 0])

/-- Row `r` of the tile is row `1024 t + r`. -/
theorem iblk0_apply (c : Dev nD) (t : Fin cfg0.N) (r : Fin 1024) (k : Fin 1024) (R : Fin 32768) (hR : R.val = 1024 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 1024 + 1 * r.val = R.val by rw [idx0]; show t.val * 1024 + _ = _; omega)
  | ⟨1, _⟩ => exact Fin.ext (show win0_0.index t (1 : Fin 2) * 1024 + 1 * k.val = k.val by rw [idx0]; show 0 * 1024 + _ = _; omega)

/-- The gain is whole; -/
theorem iblk1_eq (c : Dev nD) (t : Fin cfg0.N) : iblk m c 1 t = V m c main_v2 := by
  funext j
  show V m c main_v2 (((cfg0.win 1).blk t).view.emb j) = _
  congr 1
  funext a
  match a with
  | ⟨0, _⟩ => exact Fin.ext (show win0_1.index t (0 : Fin 2) * 1 + 1 * (j 0).val = (j 0).val by rw [idx1]; show 0 * 1 + _ = _; omega)
  | ⟨1, _⟩ => exact Fin.ext (show win0_1.index t (1 : Fin 2) * 1024 + 1 * (j 1).val = (j 1).val by rw [idx1]; show 0 * 1024 + _ = _; omega)

/-- the weights are whole. -/
theorem iblk2_eq (c : Dev nD) (t : Fin cfg0.N) : iblk m c 2 t = V m c main_v1 := by
  funext j
  show V m c main_v1 (((cfg0.win 2).blk t).view.emb j) = _
  congr 1
  funext a
  match a with
  | ⟨0, _⟩ => exact Fin.ext (show win0_2.index t (0 : Fin 2) * 1024 + 1 * (j 0).val = (j 0).val by rw [idx2]; show 0 * 1024 + _ = _; omega)
  | ⟨1, _⟩ => exact Fin.ext (show win0_2.index t (1 : Fin 2) * 1024 + 1 * (j 1).val = (j 1).val by rw [idx2]; show 0 * 1024 + _ = _; omega)

/-- Row `r` of the first result's tile is row `1024 t + r` of it; -/
theorem emb3 (t : Fin cfg0.N) (r : Fin 1024) (k : Fin 768) (R : Fin 32768) (hR : R.val = 1024 * t.val + r.val) :
    ((cfg0.win 3).blk t).view.emb (ix2 r k) = (ix2 R k : S32768x768.Idx) := by
  funext a
  match a with
  | ⟨0, _⟩ => exact Fin.ext (show win0_3.index t (0 : Fin 2) * 1024 + 1 * r.val = R.val by rw [idx3]; show t.val * 1024 + _ = _; omega)
  | ⟨1, _⟩ => exact Fin.ext (show win0_3.index t (1 : Fin 2) * 768 + 1 * k.val = k.val by rw [idx3]; show 0 * 768 + _ = _; omega)

/-- so of the second's. -/
theorem emb4 (t : Fin cfg0.N) (r : Fin 1024) (k : Fin 256) (R : Fin 32768) (hR : R.val = 1024 * t.val + r.val) :
    ((cfg0.win 4).blk t).view.emb (ix2 r k) = (ix2 R k : S32768x256.Idx) := by
  funext a
  match a with
  | ⟨0, _⟩ => exact Fin.ext (show win0_4.index t (0 : Fin 2) * 1024 + 1 * r.val = R.val by rw [idx4]; show t.val * 1024 + _ = _; omega)
  | ⟨1, _⟩ => exact Fin.ext (show win0_4.index t (1 : Fin 2) * 256 + 1 * k.val = k.val by rw [idx4]; show 0 * 256 + _ = _; omega)

end Cert.Inproj.Blocks

end
-- ==== Proof.Inproj.Spec.lean ====
/-
  The mathematics of the recurrence layer's input projection: the normed rows times the weights, the first 768 lanes one result and the
  other 256 the second.
-/
module

public import proofs.«01_k».proof.Proof.Ffn.Spec

@[expose] public section

noncomputable section

namespace Cert.Inproj

open Idealize.ShloMosaic

/-- Column `j` of row `R`, normed and projected. -/
def project (x : Fin 2 → Fin 16384 → Fin 1024 → EReal) (g : Fin 1024 → EReal) (w : Fin 1024 → Fin 1024 → EReal) (R : Fin 32768) (j : Fin 1024) : EReal :=
  ∑ k, Ffn.unit (x ⟨R.val / 16384, by omega⟩ ⟨R.val % 16384, by omega⟩) g k * w k j

/-- The recurrence's input. -/
def own (x : Fin 2 → Fin 16384 → Fin 1024 → EReal) (g : Fin 1024 → EReal) (w : Fin 1024 → Fin 1024 → EReal) (R : Fin 32768) (j : Fin 768) : EReal :=
  project x g w R ⟨j.val, by omega⟩

/-- The memory's queries. -/
def queries (x : Fin 2 → Fin 16384 → Fin 1024 → EReal) (g : Fin 1024 → EReal) (w : Fin 1024 → Fin 1024 → EReal) (R : Fin 32768) (j : Fin 256) : EReal :=
  project x g w R ⟨768 + j.val, by omega⟩

end Cert.Inproj

end
-- ==== Proof.Inproj.Kern.lean ====
/-
  The input projection's two result arrays, element by element as the mathematics of its arguments.
-/
module

public import proofs.«01_k».proof.Proof.Inproj.Blocks
public import proofs.«01_k».proof.Proof.Inproj.Spec

@[expose] public section

noncomputable section

namespace Cert.Inproj.Kern

open Cert.Kernel5Ideal Cert.Kernel5Ideal.Gen Cert.Inproj.Blocks
open Idealize.ShloMosaic Idealize.ShloMosaic.TcCoe Idealize.SL.Sem

/-- A tile's rows, normed and projected. -/
def tile (x : Vec Ideal S1024x1024 .f32) (g : Vec Ideal S1x1024 .f32) (w : Vec Ideal S1024x1024 .bf16) (r j : Fin 1024) : EReal :=
  ∑ k : Fin 1024, Ffn.unit (fun k => x (ix2 r k)) (fun k => g (ix2 0 k)) k * w (ix2 k j)

/-- What the body leaves in the first result's window. -/
theorem out3_apply (x : Vec Ideal S1024x1024 .f32) (g : Vec Ideal S1x1024 .f32) (w : Vec Ideal S1024x1024 .bf16) (r : Fin 1024) (j : Fin 768) :
    out0_3 x g w (ix2 r j) = tile x g w r ⟨j.val, by omega⟩ := by
  have z : (![0, 0] : Fin 2 → ℕ) = fun _ => 0 := by decide
  unfold out0_3
  rw [View.canon_unit_zero (S := S1024x768) z]
  simp only [View.ld_unit_zero (S := S1024x1024) z, View.ld_unit_zero (S := S1x1024) z]
  unfold_payloads
  pointwise [tile, Ffn.unit, Ffn.scale]

/-- What the body leaves in the second result's window. -/
theorem out4_apply (x : Vec Ideal S1024x1024 .f32) (g : Vec Ideal S1x1024 .f32) (w : Vec Ideal S1024x1024 .bf16) (r : Fin 1024) (j : Fin 256) :
    out0_4 x g w (ix2 r j) = tile x g w r ⟨768 + j.val, by omega⟩ := by
  have z : (![0, 0] : Fin 2 → ℕ) = fun _ => 0 := by decide
  unfold out0_4
  rw [View.canon_unit_zero (S := S1024x256) z]
  simp only [View.ld_unit_zero (S := S1024x1024) z, View.ld_unit_zero (S := S1x1024) z]
  unfold_payloads
  pointwise [tile, Ffn.unit, Ffn.scale]

variable (m : (ℓ : Loc nD τ sig) → Buf (Elt Ideal) ℓ) (c : Dev nD)

/-- The tile's rows are the batch's. -/
theorem tile_eq (t : Fin cfg0.N) (r : Fin 1024) (R : Fin 32768) (hR : R.val = 1024 * t.val + r.val) (j : Fin 1024) :
    tile (iblk m c 0 t) (iblk m c 1 t) (iblk m c 2 t) r j
      = project (fun n s k => m ((c : Thread nD τ).loc main_arg0) (ix3 n s k)) (fun k => m ((c : Thread nD τ).loc main_arg1) (ix1 k))
        (fun k j => m ((c : Thread nD τ).loc main_arg2) (ix2 k j)) R j := by
  have h0 (k : Fin 1024) : iblk m c 0 t (ix2 r k) = m ((c : Thread nD τ).loc main_arg0) (ix3 ⟨R.val / 16384, by omega⟩ ⟨R.val % 16384, by omega⟩ k) := by
    rw [iblk0_apply m c t r k R hR]; exact v0_apply m c R k
  have h1 (k : Fin 1024) : iblk m c 1 t (ix2 0 k) = m ((c : Thread nD τ).loc main_arg1) (ix1 k) := by
    rw [iblk1_eq]; exact v2_apply m c k
  have h2 (k j : Fin 1024) : iblk m c 2 t (ix2 k j) = m ((c : Thread nD τ).loc main_arg2) (ix2 k j) := by
    rw [iblk2_eq]; exact v1_apply m c k j
  unfold tile project
  simp only [h0, h1, h2]

/-- The first result array. -/
theorem own_apply (R : Fin 32768) (j : Fin 768) : (dats m 0 c).arrAt 3 cfg0.N (ix2 R j)
    = own (fun n s k => m ((c : Thread nD τ).loc main_arg0) (ix3 n s k)) (fun k => m ((c : Thread nD τ).loc main_arg1) (ix1 k))
      (fun k j => m ((c : Thread nD τ).loc main_arg2) (ix2 k j)) R j := by
  have hN : cfg0.N = 32 := by decide
  let t : Fin cfg0.N := ⟨R.val / 1024, by omega⟩
  let r : Fin 1024 := ⟨R.val % 1024, by omega⟩
  have hR : R.val = 1024 * t.val + r.val := by show R.val = 1024 * (R.val / 1024) + R.val % 1024; omega
  have b := congrFun (Value.blocks3 m c t (flush0_3 t)) (ix2 r j)
  rw [Value.flushed3] at b
  have b' : (dats m 0 c).arrAt 3 cfg0.N (((cfg0.win 3).blk t).view.emb (ix2 r j)) = _ := b
  rw [emb3 t r j R hR] at b'
  refine b'.trans ((out3_apply (iblk m c 0 t) (iblk m c 1 t) (iblk m c 2 t) r j).trans ?_)
  exact tile_eq m c t r R hR _

/-- The second result array. -/
theorem queries_apply (R : Fin 32768) (j : Fin 256) : (dats m 0 c).arrAt 4 cfg0.N (ix2 R j)
    = queries (fun n s k => m ((c : Thread nD τ).loc main_arg0) (ix3 n s k)) (fun k => m ((c : Thread nD τ).loc main_arg1) (ix1 k))
      (fun k j => m ((c : Thread nD τ).loc main_arg2) (ix2 k j)) R j := by
  have hN : cfg0.N = 32 := by decide
  let t : Fin cfg0.N := ⟨R.val / 1024, by omega⟩
  let r : Fin 1024 := ⟨R.val % 1024, by omega⟩
  have hR : R.val = 1024 * t.val + r.val := by show R.val = 1024 * (R.val / 1024) + R.val % 1024; omega
  have b := congrFun (Value.blocks4 m c t (flush0_4 t)) (ix2 r j)
  rw [Value.flushed4] at b
  have b' : (dats m 0 c).arrAt 4 cfg0.N (((cfg0.win 4).blk t).view.emb (ix2 r j)) = _ := b
  rw [emb4 t r j R hR] at b'
  refine b'.trans ((out4_apply (iblk m c 0 t) (iblk m c 1 t) (iblk m c 2 t) r j).trans ?_)
  exact tile_eq m c t r R hR _

end Cert.Inproj.Kern

end
-- ==== Proof.Inproj.Ref.lean ====
/-
  The input projection's reference, element by element as the mathematics of its arguments.
-/
module

public import proofs.«01_k».proof.Proof.Gen.Reference5Ideal.Read
public import proofs.«01_k».proof.Proof.Inproj.Spec

@[expose] public section

noncomputable section

namespace Cert.Inproj.Ref

open Cert.Reference5Ideal Cert.Reference5Ideal.Read Idealize.ShloMosaic Idealize.ShloMosaic.TcCoe Idealize.SL.Sem

variable (x0 : (⟨S2x16384x1024, .f32⟩ : BufTy).Contents (Elt Ideal)) (x1 : (⟨S1024, .f32⟩ : BufTy).Contents (Elt Ideal))
  (x2 : (⟨S1024x1024, .f32⟩ : BufTy).Contents (Elt Ideal))

/-- The normed rows. -/
theorem v12_apply (n : Fin 2) (s : Fin 16384) (k : Fin 1024) :
    val_main_v12 x0 x1 (ix3 n s k) = Ffn.unit (fun k => x0 (ix3 n s k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise [Ffn.unit, Ffn.scale]

/-- The recurrence's input. -/
theorem v16_apply (R : Fin 32768) (j : Fin 768) : val_main_v16 x0 x1 x2 (ix2 R j)
    = own (fun n s k => x0 (ix3 n s k)) (fun k => x1 (ix1 k)) (fun k j => x2 (ix2 k j)) R j := by
  have h (n : Fin 2) (s : Fin 16384) (k : Fin 1024) := v12_apply x0 x1 n s k
  unfold val_main_v16 val_main_v14 val_main_v13
  generalize val_main_v12 x0 x1 = y at h
  pointwise [own, project]
  simp only [h]

/-- The memory's queries. -/
theorem v18_apply (R : Fin 32768) (j : Fin 256) : val_main_v18 x0 x1 x2 (ix2 R j)
    = queries (fun n s k => x0 (ix3 n s k)) (fun k => x1 (ix1 k)) (fun k j => x2 (ix2 k j)) R j := by
  have h (n : Fin 2) (s : Fin 16384) (k : Fin 1024) := v12_apply x0 x1 n s k
  unfold val_main_v18 val_main_v17 val_main_v15 val_main_v13
  generalize val_main_v12 x0 x1 = y at h
  pointwise [queries, project]
  simp only [h]

end Cert.Inproj.Ref

end
-- ==== Proof.Inproj.Equation.lean ====
/-
  The equation between the two programs of the input projection: both their results are its mathematics of the arguments.
-/
module

public import proofs.«01_k».proof.Defs
public import proofs.«01_k».proof.Proof.Inproj.Kern
public import proofs.«01_k».proof.Proof.Inproj.Ref
public import proofs.«01_k».proof.Proof.Gen.Reference5Ideal.Run

@[expose] public section

noncomputable section

namespace Cert.Inproj

open Idealize.ShloMosaic Idealize.SL.Sem

/-- From equal arguments both programs run and end in equal results, the arguments unchanged. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => fun j => own (fun n s k => m ((c.tc : Thread _ _).loc Cert.Kernel5Ideal.main_arg0) (ix3 n s k))
    (fun k => m ((c.tc : Thread _ _).loc Cert.Kernel5Ideal.main_arg1) (ix1 k)) (fun k j => m ((c.tc : Thread _ _).loc Cert.Kernel5Ideal.main_arg2) (ix2 k j))
    (j 0) (j 1),
    fun c => fun j => queries (fun n s k => m ((c.tc : Thread _ _).loc Cert.Kernel5Ideal.main_arg0) (ix3 n s k))
    (fun k => m ((c.tc : Thread _ _).loc Cert.Kernel5Ideal.main_arg1) (ix1 k)) (fun k j => m ((c.tc : Thread _ _).loc Cert.Kernel5Ideal.main_arg2) (ix2 k j))
    (j 0) (j 1), ?_, ?_⟩
  · refine (θ_run (Cert.Kernel5Ideal.defs (F := Ideal)) _ _).mono (fun r h c => ?_) (Cert.Kernel5Ideal.Value.run_blocks m g)
    obtain ⟨hv, hq, h⟩ := h c
    refine ⟨hv.trans (funext fun j => ?_), hq.trans (funext fun j => ?_), h⟩
    · obtain ⟨R, k, rfl⟩ : ∃ (R : Fin 32768) (k : Fin 768), j = ix2 R k := ⟨j 0, j 1, eq_ix2 j⟩
      exact Kern.own_apply m c R k
    · obtain ⟨R, k, rfl⟩ : ∃ (R : Fin 32768) (k : Fin 256), j = ix2 R k := ⟨j 0, j 1, eq_ix2 j⟩
      exact Kern.queries_apply m c R k
  · refine (θ_run (Cert.Reference5Ideal.defs (F := Ideal)) _ _).mono (fun r h c => ?_) (Cert.Reference5Ideal.Value.run m' g')
    obtain ⟨hv, hq, h⟩ := h c
    obtain ⟨a0, a1, a2⟩ := hargs c
    rw [Cert.Reference5Ideal.Read.val_main_v16_eq, a0, a1, a2] at hv
    rw [Cert.Reference5Ideal.Read.val_main_v18_eq, a0, a1, a2] at hq
    refine ⟨hv.trans (funext fun j => ?_), hq.trans (funext fun j => ?_), h⟩
    · obtain ⟨R, k, rfl⟩ : ∃ (R : Fin 32768) (k : Fin 768), j = ix2 R k := ⟨j 0, j 1, eq_ix2 j⟩
      exact Ref.v16_apply _ _ _ R k
    · obtain ⟨R, k, rfl⟩ : ∃ (R : Fin 32768) (k : Fin 256), j = ix2 R k := ⟨j 0, j 1, eq_ix2 j⟩
      exact Ref.v18_apply _ _ _ R k

end Cert.Inproj

end
-- ==== Proof.Memory.Blocks.lean ====
/-
  What the windows of the memory's projection hold at a grid point, each element as an element of an argument.
-/
module

public import proofs.«01_k».proof.Proof.Gen.Kernel6Ideal.Value
public import Idealize.ShloMosaic.Lib.Pointwise

@[expose] public section

noncomputable section

namespace Cert.Memory.Blocks

open Cert.Kernel6Ideal Cert.Kernel6Ideal.Gen Idealize.ShloMosaic Idealize.ShloMosaic.TcCoe Idealize.SL.Sem

variable (m : (ℓ : Loc nD τ sig) → Buf (Elt Ideal) ℓ)

/-! ## The host operations before the call -/

/-- The memory's rows, one sequence after the other. -/
theorem v0_apply (c : Dev nD) (R : Fin 512) (k : Fin 1024) : V m c main_v0 (ix2 R k) = m ((c : Thread nD τ).loc main_arg0) (ix3 ⟨R.val / 256, by omega⟩ ⟨R.val % 256, by omega⟩ k) := by
  unfold_abbrev_sides
  after_results
  pointwise

/-- The gain as a row. -/
theorem v2_apply (c : Dev nD) (k : Fin 1024) : V m c main_v2 (ix2 0 k) = m ((c : Thread nD τ).loc main_arg1) (ix1 k) := by
  unfold_abbrev_sides
  after_results
  pointwise

/-- The weights. -/
theorem v1_apply (c : Dev nD) (k : Fin 1024) (j : Fin 512) : V m c main_v1 (ix2 k j) = m ((c : Thread nD τ).loc main_arg2) (ix2 k j) := by
  unfold_abbrev_sides
  after_results
  pointwise

/-! ## The windows -/

/-- The tile of rows; -/
theorem idx0 : ∀ t : Fin cfg0.N, win0_0.index t = ![t.val, 0] :=
  (by decide +kernel : ∀ t : Fin grid0.N, win0_0.index t = ![t.val, 0])
/-- the gain; -/
theorem idx1 : ∀ t : Fin cfg0.N, win0_1.index t = ![0, 0] :=
  (by decide +kernel : ∀ t : Fin grid0.N, win0_1.index t = ![0, 0])
/-- the weights; -/
theorem idx2 : ∀ t : Fin cfg0.N, win0_2.index t = ![0, 0] :=
  (by decide +kernel : ∀ t : Fin grid0.N, win0_2.index t = ![0, 0])
/-- the result's tile. -/
theorem idx3 : ∀ t : Fin cfg0.N, win0_3.index t = ![t.val, 0] :=
  (by decide +kernel : ∀ t : Fin grid0.N, win0_3.index t = ![t.val, 0])

/-- Row `r` of the tile is row `256 t + r`. -/
theorem iblk0_apply (c : Dev nD) (t : Fin cfg0.N) (r : Fin 256) (k : Fin 1024) (R : Fin 512) (hR : R.val = 256 * t.val + r.val) :
    iblk m c 0 t (ix2 r k) = V m c main_v0 (ix2 R k) := by
  show V m c main_v0 (((cfg0.win 0).blk t).view.emb (ix2 r k)) = _
  congr 1
  funext a
  match a with
  | ⟨0, _⟩ => exact Fin.ext (show win0_0.index t (0 : Fin 2) * 256 + 1 * r.val = R.val by rw [idx0]; show t.val * 256 + _ = _; omega)
  | ⟨1, _⟩ => exact Fin.ext (show win0_0.index t (1 : Fin 2) * 1024 + 1 * k.val = k.val by rw [idx0]; show 0 * 1024 + _ = _; omega)

/-- The gain is whole; -/
theorem iblk1_eq (c : Dev nD) (t : Fin cfg0.N) : iblk m c 1 t = V m c main_v2 := by
  funext j
  show V m c main_v2 (((cfg0.win 1).blk t).view.emb j) = _
  congr 1
  funext a
  match a with
  | ⟨0, _⟩ => exact Fin.ext (show win0_1.index t (0 : Fin 2) * 1 + 1 * (j 0).val = (j 0).val by rw [idx1]; show 0 * 1 + _ = _; omega)
  | ⟨1, _⟩ => exact Fin.ext (show win0_1.index t (1 : Fin 2) * 1024 + 1 * (j 1).val = (j 1).val by rw [idx1]; show 0 * 1024 + _ = _; omega)

/-- the weights are whole. -/
theorem iblk2_eq (c : Dev nD) (t : Fin cfg0.N) : iblk m c 2 t = V m c main_v1 := by
  funext j
  show V m c main_v1 (((cfg0.win 2).blk t).view.emb j) = _
  congr 1
  funext a
  match a with
  | ⟨0, _⟩ => exact Fin.ext (show win0_2.index t (0 : Fin 2) * 1024 + 1 * (j 0).val = (j 0).val by rw [idx2]; show 0 * 1024 + _ = _; omega)
  | ⟨1, _⟩ => exact Fin.ext (show win0_2.index t (1 : Fin 2) * 512 + 1 * (j 1).val = (j 1).val by rw [idx2]; show 0 * 512 + _ = _; omega)

/-- Row `r` of the result's tile is row `256 t + r` of it. -/
theorem emb3 (t : Fin cfg0.N) (r : Fin 256) (k : Fin 512) (R : Fin 512) (hR : R.val = 256 * t.val + r.val) :
    ((cfg0.win 3).blk t).view.emb (ix2 r k) = (ix2 R k : S512x512.Idx) := by
  funext a
  match a with
  | ⟨0, _⟩ => exact Fin.ext (show win0_3.index t (0 : Fin 2) * 256 + 1 * r.val = R.val by rw [idx3]; show t.val * 256 + _ = _; omega)
  | ⟨1, _⟩ => exact Fin.ext (show win0_3.index t (1 : Fin 2) * 512 + 1 * k.val = k.val by rw [idx3]; show 0 * 512 + _ = _; omega)

end Cert.Memory.Blocks

end
-- ==== Proof.Memory.Spec.lean ====
/-
  The mathematics of the memory's projection: the normed rows times the weights.
-/
module

public import proofs.«01_k».proof.Proof.Ffn.Spec

@[expose] public section

noncomputable section

namespace Cert.Memory

open Idealize.ShloMosaic

/-- Column `j` of row `R`, normed and projected. -/
def project (x : Fin 2 → Fin 256 → Fin 1024 → EReal) (g : Fin 1024 → EReal) (w : Fin 1024 → Fin 512 → EReal) (R j : Fin 512) : EReal :=
  ∑ k, Ffn.unit (x ⟨R.val / 256, by omega⟩ ⟨R.val % 256, by omega⟩) g k * w k j

end Cert.Memory

end
-- ==== Proof.Memory.Kern.lean ====
/-
  The memory's projection's result array, element by element as the mathematics of its arguments.
-/
module

public import proofs.«01_k».proof.Proof.Memory.Blocks
public import proofs.«01_k».proof.Proof.Memory.Spec

@[expose] public section

noncomputable section

namespace Cert.Memory.Kern

open Cert.Kernel6Ideal Cert.Kernel6Ideal.Gen Cert.Memory.Blocks
open Idealize.ShloMosaic Idealize.ShloMosaic.TcCoe Idealize.SL.Sem

/-- What the body leaves in the result's window. -/
theorem out3_apply (x : Vec Ideal S256x1024 .f32) (g : Vec Ideal S1x1024 .f32) (w : Vec Ideal S1024x512 .bf16) (r : Fin 256) (j : Fin 512) :
    out0_3 x g w (ix2 r j) = ∑ k : Fin 1024, Ffn.unit (fun k => x (ix2 r k)) (fun k => g (ix2 0 k)) k * w (ix2 k j) := by
  have z : (![0, 0] : Fin 2 → ℕ) = fun _ => 0 := by decide
  unfold out0_3
  rw [View.canon_unit_zero (S := S256x512) z]
  simp only [View.ld_unit_zero (S := S256x1024) z, View.ld_unit_zero (S := S1x1024) z, View.ld_unit_zero (S := S1024x512) z]
  unfold_payloads
  pointwise [Ffn.unit, Ffn.scale]

variable (m : (ℓ : Loc nD τ sig) → Buf (Elt Ideal) ℓ) (c : Dev nD)

/-- The result array. -/
theorem result_apply (R j : Fin 512) : (dats m 0 c).arrAt 3 cfg0.N (ix2 R j)
    = project (fun n s k => m ((c : Thread nD τ).loc main_arg0) (ix3 n s k)) (fun k => m ((c : Thread nD τ).loc main_arg1) (ix1 k))
      (fun k j => m ((c : Thread nD τ).loc main_arg2) (ix2 k j)) R j := by
  have hN : cfg0.N = 2 := by decide
  let t : Fin cfg0.N := ⟨R.val / 256, by omega⟩
  let r : Fin 256 := ⟨R.val % 256, by omega⟩
  have hR : R.val = 256 * t.val + r.val := by show R.val = 256 * (R.val / 256) + R.val % 256; omega
  have h0 (k : Fin 1024) : iblk m c 0 t (ix2 r k) = m ((c : Thread nD τ).loc main_arg0) (ix3 ⟨R.val / 256, by omega⟩ ⟨R.val % 256, by omega⟩ k) := by
    rw [iblk0_apply m c t r k R hR]; exact v0_apply m c R k
  have h1 (k : Fin 1024) : iblk m c 1 t (ix2 0 k) = m ((c : Thread nD τ).loc main_arg1) (ix1 k) := by
    rw [iblk1_eq]; exact v2_apply m c k
  have h2 (k : Fin 1024) (j : Fin 512) : iblk m c 2 t (ix2 k j) = m ((c : Thread nD τ).loc main_arg2) (ix2 k j) := by
    rw [iblk2_eq]; exact v1_apply m c k j
  have b := congrFun (Value.blocks3 m c t (flush0_3 t)) (ix2 r j)
  rw [Value.flushed3] at b
  have b' : (dats m 0 c).arrAt 3 cfg0.N (((cfg0.win 3).blk t).view.emb (ix2 r j)) = _ := b
  rw [emb3 t r j R hR] at b'
  refine b'.trans ((out3_apply (iblk m c 0 t) (iblk m c 1 t) (iblk m c 2 t) r j).trans ?_)
  unfold project
  simp only [h0, h1, h2]

end Cert.Memory.Kern

end
-- ==== Proof.Memory.Ref.lean ====
/-
  The memory's projection's reference, element by element as the mathematics of its arguments.
-/
module

public import proofs.«01_k».proof.Proof.Gen.Reference6Ideal.Read
public import proofs.«01_k».proof.Proof.Memory.Spec

@[expose] public section

noncomputable section

namespace Cert.Memory.Ref

open Cert.Reference6Ideal Cert.Reference6Ideal.Read Idealize.ShloMosaic Idealize.ShloMosaic.TcCoe Idealize.SL.Sem

variable (x0 : (⟨S2x256x1024, .f32⟩ : BufTy).Contents (Elt Ideal)) (x1 : (⟨S1024, .f32⟩ : BufTy).Contents (Elt Ideal))
  (x2 : (⟨S1024x512, .f32⟩ : BufTy).Contents (Elt Ideal))

/-- The normed rows. -/
theorem v12_apply (n : Fin 2) (s : Fin 256) (k : Fin 1024) :
    val_main_v12 x0 x1 (ix3 n s k) = Ffn.unit (fun k => x0 (ix3 n s k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise [Ffn.unit, Ffn.scale]

/-- The result. -/
theorem v15_apply (R j : Fin 512) : val_main_v15 x0 x1 x2 (ix2 R j)
    = project (fun n s k => x0 (ix3 n s k)) (fun k => x1 (ix1 k)) (fun k j => x2 (ix2 k j)) R j := by
  have h (n : Fin 2) (s : Fin 256) (k : Fin 1024) := v12_apply x0 x1 n s k
  unfold val_main_v15 val_main_v14 val_main_v13
  generalize val_main_v12 x0 x1 = y at h
  pointwise [project]
  simp only [h]

end Cert.Memory.Ref

end
-- ==== Proof.Memory.Equation.lean ====
/-
  The equation between the two programs of the memory's projection: both their results are its mathematics of the arguments.
-/
module

public import proofs.«01_k».proof.Defs
public import proofs.«01_k».proof.Proof.Memory.Kern
public import proofs.«01_k».proof.Proof.Memory.Ref
public import proofs.«01_k».proof.Proof.Gen.Reference6Ideal.Run

@[expose] public section

noncomputable section

namespace Cert.Memory

open Idealize.ShloMosaic Idealize.SL.Sem

/-- From equal arguments both programs run and end in equal results, the arguments unchanged. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => fun j => project (fun n s k => m ((c.tc : Thread _ _).loc Cert.Kernel6Ideal.main_arg0) (ix3 n s k))
    (fun k => m ((c.tc : Thread _ _).loc Cert.Kernel6Ideal.main_arg1) (ix1 k)) (fun k j => m ((c.tc : Thread _ _).loc Cert.Kernel6Ideal.main_arg2) (ix2 k j))
    (j 0) (j 1), ?_, ?_⟩
  · refine (θ_run (Cert.Kernel6Ideal.defs (F := Ideal)) _ _).mono (fun r h c => ?_) (Cert.Kernel6Ideal.Value.run_blocks m g)
    obtain ⟨hv, h⟩ := h c
    refine ⟨hv.trans (funext fun j => ?_), h⟩
    obtain ⟨R, k, rfl⟩ : ∃ (R k : Fin 512), j = ix2 R k := ⟨j 0, j 1, eq_ix2 j⟩
    exact Kern.result_apply m c R k
  · refine (θ_run (Cert.Reference6Ideal.defs (F := Ideal)) _ _).mono (fun r h c => ?_) (Cert.Reference6Ideal.Value.run m' g')
    obtain ⟨hv, h⟩ := h c
    obtain ⟨a0, a1, a2⟩ := hargs c
    rw [Cert.Reference6Ideal.Read.val_main_v15_eq, a0, a1, a2] at hv
    refine ⟨hv.trans (funext fun j => ?_), h⟩
    obtain ⟨R, k, rfl⟩ : ∃ (R k : Fin 512), j = ix2 R k := ⟨j 0, j 1, eq_ix2 j⟩
    exact Ref.v15_apply _ _ _ R k

end Cert.Memory

end
-- ==== Proof.Moba.Spec.lean ====
/-
  The mathematics of the second layer's input projection: rotary queries, the memory's queries, rotary keys beside their block's mark,
  values, and the blocks' mean keys.
-/
module

public import proofs.«01_k».proof.Proof.Ffn.Spec

@[expose] public section

noncomputable section

namespace Cert.Moba

open Idealize.ShloMosaic

/-- The queries' scale, an eighth times the binary logarithm of e, as the programs' constant. -/
abbrev queryScale : EReal := Ideal.ofBits .f32 0x3E38AA3B#32
/-- The block length as the programs' constant. -/
abbrev blockLen : EReal := Ideal.ofBits .f32 0x43800000#32

/-- A position's angle at a frequency: the position times ten thousand to the power of minus twice the frequency's number over 64. -/
def angle (p : Fin 16384) (f : Fin 32) : EReal :=
  FloatOps.sitofp (F := Ideal) .f32 (BitVec.ofNat 32 p.val) * Ideal.pow (Ideal.ofBits .f32 0x461C4000#32)
    (Ideal.div (-(Ideal.ofBits .f32 0x40000000#32 * FloatOps.sitofp (F := Ideal) .f32 (BitVec.ofNat 32 f.val))) (Ideal.ofBits .f32 0x42800000#32))

/-- Its cosine, -/
def cosines (p : Fin 16384) (f : Fin 32) : EReal := Ideal.cos (angle p f)

/-- and its sine. -/
def sines (p : Fin 16384) (f : Fin 32) : EReal := Ideal.sin (angle p f)

/-- A row of twelve heads turned by an angle per lane: of each head the first 32 lanes with the second. -/
def turn (c s : Fin 32 → EReal) (y : Fin 768 → EReal) (j : Fin 768) : EReal :=
  if j.val % 64 < 32 then y j * c ⟨j.val % 32, by omega⟩ - y ⟨(j.val + 32) % 768, by omega⟩ * s ⟨j.val % 32, by omega⟩
  else y ⟨(j.val + 736) % 768, by omega⟩ * s ⟨j.val % 32, by omega⟩ + y j * c ⟨j.val % 32, by omega⟩

/-- A pair of heads' 256 lanes: each head's 64 keys, and beside them a one at the block's number among 64. -/
def marked (block : ℕ) (k : Fin 768 → EReal) (pair : Fin 6) (l : Fin 256) : EReal :=
  if h : l.val % 128 < 64 then k ⟨128 * pair.val + 64 * (l.val / 128) + l.val % 128, by omega⟩
  else if l.val % 128 - 64 = block then 1 else 0

/-- Column `j` of a row, normed and projected. -/
def project {n : ℕ} (x g : Fin 1024 → EReal) (w : Fin 1024 → Fin n → EReal) (j : Fin n) : EReal := ∑ k, Ffn.unit x g k * w k j

section Results

variable (x : Fin 2 → Fin 16384 → Fin 1024 → EReal) (g : Fin 1024 → EReal)

/-- Row `R` of the batch. -/
def row (R : Fin 32768) : Fin 1024 → EReal := x ⟨R.val / 16384, by omega⟩ ⟨R.val % 16384, by omega⟩

/-- A row's first 768 projected columns, turned by the row's position. -/
def turned {n : ℕ} (h : 768 ≤ n) (w : Fin 1024 → Fin n → EReal) (R : Fin 32768) (j : Fin 768) : EReal :=
  turn (cosines ⟨R.val % 16384, by omega⟩) (sines ⟨R.val % 16384, by omega⟩) (fun j => project (row x R) g w ⟨j.val, by omega⟩) j

/-- The queries. -/
def queries (w : Fin 1024 → Fin 1024 → EReal) (R : Fin 32768) (j : Fin 768) : EReal := turned x g (by decide) w R j * queryScale

/-- The memory's queries. -/
def memQueries (w : Fin 1024 → Fin 1024 → EReal) (R : Fin 32768) (j : Fin 256) : EReal := project (row x R) g w ⟨768 + j.val, by omega⟩

/-- The keys, a pair of heads after the other, with their marks. -/
def keys (w : Fin 1024 → Fin 1536 → EReal) (a : Fin 12) (s : Fin 16384) (l : Fin 256) : EReal :=
  marked (s.val / 256) (turned x g (by decide) w ⟨a.val / 6 * 16384 + s.val, by omega⟩) ⟨a.val % 6, by omega⟩ l

/-- The values, transposed within a block. -/
def values (w : Fin 1024 → Fin 1536 → EReal) (n : Fin 128) (j : Fin 768) (r : Fin 256) : EReal :=
  project (row x ⟨n.val * 256 + r.val, by omega⟩) g w ⟨768 + j.val, by omega⟩

/-- The blocks' mean keys. -/
def means (w : Fin 1024 → Fin 1536 → EReal) (n : Fin 128) (j : Fin 768) : EReal :=
  Ideal.div (∑ r : Fin 256, turned x g (by decide) w ⟨n.val * 256 + r.val, by omega⟩ j) blockLen

end Results

end Cert.Moba

end
-- ==== Proof.Moba.Blocks.lean ====
/-
  What the windows of the second layer's input projection hold at a grid point, each element as an element of an argument or an angle's
  cosine or sine.
-/
module

public import proofs.«01_k».proof.Proof.Gen.Kernel7Ideal.Value
public import proofs.«01_k».proof.Proof.Moba.Spec
public import Idealize.ShloMosaic.Lib.Pointwise

@[expose] public section

noncomputable section

namespace Cert.Moba.Blocks

open Cert.Kernel7Ideal Cert.Kernel7Ideal.Gen Idealize.ShloMosaic Idealize.ShloMosaic.TcCoe Idealize.SL.Sem

variable (m : (ℓ : Loc nD τ sig) → Buf (Elt Ideal) ℓ)

/-! ## The host operations before the call -/

/-- The layer's rows, one sequence after the other. -/
theorem v27_apply (c : Dev nD) (R : Fin 32768) (k : Fin 1024) : V m c main_v27 (ix2 R k) = m ((c : Thread nD τ).loc main_arg0) (ix3 ⟨R.val / 16384, by omega⟩ ⟨R.val % 16384, by omega⟩ k) := by
  unfold_abbrev_sides
  after_results
  pointwise

/-- The queries' gain as a row; -/
theorem v30_apply (c : Dev nD) (k : Fin 1024) : V m c main_v30 (ix2 0 k) = m ((c : Thread nD τ).loc main_arg1) (ix1 k) := by
  unfold_abbrev_sides
  after_results
  pointwise

/-- the keys' gain as a row. -/
theorem v31_apply (c : Dev nD) (k : Fin 1024) : V m c main_v31 (ix2 0 k) = m ((c : Thread nD τ).loc main_arg2) (ix1 k) := by
  unfold_abbrev_sides
  after_results
  pointwise

/-- The queries' weights; -/
theorem v28_apply (c : Dev nD) (k j : Fin 1024) : V m c main_v28 (ix2 k j) = m ((c : Thread nD τ).loc main_arg3) (ix2 k j) := by
  unfold_abbrev_sides
  after_results
  pointwise

/-- the keys' and values' weights. -/
theorem v29_apply (c : Dev nD) (k : Fin 1024) (j : Fin 1536) : V m c main_v29 (ix2 k j) = m ((c : Thread nD τ).loc main_arg4) (ix2 k j) := by
  unfold_abbrev_sides
  after_results
  pointwise

/-- The lanes' cosines: a head's second half repeats its first; -/
theorem v21_apply (c : Dev nD) (p : Fin 16384) (l : Fin 128) : (V m c main_v21 (ix2 p l) : EReal) = cosines p ⟨l.val % 32, by omega⟩ := by
  unfold_abbrev_sides
  after_results
  pointwise [cosines, angle]
  by_cases h : l.val % 64 < 32
  · rw [dif_pos h, show l.val % 64 = l.val % 32 by omega]
  · rw [dif_neg h, show l.val % 64 - 32 = l.val % 32 by omega]

/-- the lanes' sines: its first half takes them negated. -/
theorem v26_apply (c : Dev nD) (p : Fin 16384) (l : Fin 128) : (V m c main_v26 (ix2 p l) : EReal)
    = if l.val % 64 < 32 then -sines p ⟨l.val % 32, by omega⟩ else sines p ⟨l.val % 32, by omega⟩ := by
  unfold_abbrev_sides
  after_results
  pointwise [sines, angle]
  by_cases h : l.val % 64 < 32
  · rw [dif_pos h, if_pos h, show l.val % 64 = l.val % 32 by omega]
  · rw [dif_neg h, if_neg h, show l.val % 64 - 32 = l.val % 32 by omega]

/-! ## The windows -/

/-- The grid's one coordinate. -/
theorem coord : ∀ t : Fin cfg0.N, (grid0.coords t 0).val = t.val :=
  (by decide +kernel : ∀ t : Fin grid0.N, (grid0.coords t 0).val = t.val)

/-- The tile of rows. -/
theorem idx0 : ∀ t : Fin cfg0.N, win0_0.index t = ![t.val, 0] :=
  (by decide +kernel : ∀ t : Fin grid0.N, win0_0.index t = ![t.val, 0])

/-- The queries' gain. -/
theorem idx1 : ∀ t : Fin cfg0.N, win0_1.index t = ![0, 0] :=
  (by decide +kernel : ∀ t : Fin grid0.N, win0_1.index t = ![0, 0])

/-- The keys' gain. -/
theorem idx2 : ∀ t : Fin cfg0.N, win0_2.index t = ![0, 0] :=
  (by decide +kernel : ∀ t : Fin grid0.N, win0_2.index t = ![0, 0])

/-- The queries' weights. -/
theorem idx3 : ∀ t : Fin cfg0.N, win0_3.index t = ![0, 0] :=
  (by decide +kernel : ∀ t : Fin grid0.N, win0_3.index t = ![0, 0])

/-- The keys' and values' weights. -/
theorem idx4 : ∀ t : Fin cfg0.N, win0_4.index t = ![0, 0] :=
  (by decide +kernel : ∀ t : Fin grid0.N, win0_4.index t = ![0, 0])

/-- The cosines' tile. -/
theorem idx5 : ∀ t : Fin cfg0.N, win0_5.index t = ![t.val % 64, 0] :=
  (by decide +kernel : ∀ t : Fin grid0.N, win0_5.index t = ![t.val % 64, 0])

/-- The sines' tile. -/
theorem idx6 : ∀ t : Fin cfg0.N, win0_6.index t = ![t.val % 64, 0] :=
  (by decide +kernel : ∀ t : Fin grid0.N, win0_6.index t = ![t.val % 64, 0])

/-- The queries' tile. -/
theorem idx7 : ∀ t : Fin cfg0.N, win0_7.index t = ![t.val, 0] :=
  (by decide +kernel : ∀ t : Fin grid0.N, win0_7.index t = ![t.val, 0])

/-- The memory queries' tile. -/
theorem idx8 : ∀ t : Fin cfg0.N, win0_8.index t = ![t.val, 0] :=
  (by decide +kernel : ∀ t : Fin grid0.N, win0_8.index t = ![t.val, 0])

/-- The keys' tile. -/
theorem idx9 : ∀ t : Fin cfg0.N, win0_9.index t = ![t.val / 64, t.val % 64, 0] :=
  (by decide +kernel : ∀ t : Fin grid0.N, win0_9.index t = ![t.val / 64, t.val % 64, 0])

/-- The values' tile. -/
theorem idx10 : ∀ t : Fin cfg0.N, win0_10.index t = ![t.val, 0, 0] :=
  (by decide +kernel : ∀ t : Fin grid0.N, win0_10.index t = ![t.val, 0, 0])

/-- The mean keys' tile. -/
theorem idx11 : ∀ t : Fin cfg0.N, win0_11.index t = ![t.val, 0, 0] :=
  (by decide +kernel : ∀ t : Fin grid0.N, win0_11.index t = ![t.val, 0, 0])

/-- Row `r` of the tile is row `256 t + r`. -/
theorem iblk0_apply (c : Dev nD) (t : Fin cfg0.N) (r : Fin 256) (k : Fin 1024) (R : Fin 32768) (hR : R.val = 256 * t.val + r.val) :
    iblk m c 0 t (ix2 r k) = V m c main_v27 (ix2 R k) := by
  show V m c main_v27 (((cfg0.win 0).blk t).view.emb (ix2 r k)) = _
  congr 1
  funext a
  match a with
  | ⟨0, _⟩ => exact Fin.ext (show win0_0.index t (0 : Fin 2) * 256 + 1 * r.val = R.val by rw [idx0]; show t.val * 256 + _ = _; omega)
  | ⟨1, _⟩ => exact Fin.ext (show win0_0.index t (1 : Fin 2) * 1024 + 1 * k.val = k.val by rw [idx0]; show 0 * 1024 + _ = _; omega)

/-- The queries' gain: whole. -/
theorem iblk1_eq (c : Dev nD) (t : Fin cfg0.N) : iblk m c 1 t = V m c main_v30 := by
  funext j
  show V m c main_v30 (((cfg0.win 1).blk t).view.emb j) = _
  congr 1
  funext a
  match a with
  | ⟨0, _⟩ => exact Fin.ext (show win0_1.index t (0 : Fin 2) * 1 + 1 * (j 0).val = (j 0).val by rw [idx1]; show 0 * 1 + _ = _; omega)
  | ⟨1, _⟩ => exact Fin.ext (show win0_1.index t (1 : Fin 2) * 1024 + 1 * (j 1).val = (j 1).val by rw [idx1]; show 0 * 1024 + _ = _; omega)

/-- The keys' gain: whole. -/
theorem iblk2_eq (c : Dev nD) (t : Fin cfg0.N) : iblk m c 2 t = V m c main_v31 := by
  funext j
  show V m c main_v31 (((cfg0.win 2).blk t).view.emb j) = _
  congr 1
  funext a
  match a with
  | ⟨0, _⟩ => exact Fin.ext (show win0_2.index t (0 : Fin 2) * 1 + 1 * (j 0).val = (j 0).val by rw [idx2]; show 0 * 1 + _ = _; omega)
  | ⟨1, _⟩ => exact Fin.ext (show win0_2.index t (1 : Fin 2) * 1024 + 1 * (j 1).val = (j 1).val by rw [idx2]; show 0 * 1024 + _ = _; omega)

/-- The queries' weights: whole. -/
theorem iblk3_eq (c : Dev nD) (t : Fin cfg0.N) : iblk m c 3 t = V m c main_v28 := by
  funext j
  show V m c main_v28 (((cfg0.win 3).blk t).view.emb j) = _
  congr 1
  funext a
  match a with
  | ⟨0, _⟩ => exact Fin.ext (show win0_3.index t (0 : Fin 2) * 1024 + 1 * (j 0).val = (j 0).val by rw [idx3]; show 0 * 1024 + _ = _; omega)
  | ⟨1, _⟩ => exact Fin.ext (show win0_3.index t (1 : Fin 2) * 1024 + 1 * (j 1).val = (j 1).val by rw [idx3]; show 0 * 1024 + _ = _; omega)

/-- The keys' and values' weights: whole. -/
theorem iblk4_eq (c : Dev nD) (t : Fin cfg0.N) : iblk m c 4 t = V m c main_v29 := by
  funext j
  show V m c main_v29 (((cfg0.win 4).blk t).view.emb j) = _
  congr 1
  funext a
  match a with
  | ⟨0, _⟩ => exact Fin.ext (show win0_4.index t (0 : Fin 2) * 1024 + 1 * (j 0).val = (j 0).val by rw [idx4]; show 0 * 1024 + _ = _; omega)
  | ⟨1, _⟩ => exact Fin.ext (show win0_4.index t (1 : Fin 2) * 1536 + 1 * (j 1).val = (j 1).val by rw [idx4]; show 0 * 1536 + _ = _; omega)

/-- The cosines' tile: row `r` is position `256 (t mod 64) + r`. -/
theorem iblk5_apply (c : Dev nD) (t : Fin cfg0.N) (r : Fin 256) (l : Fin 128) (p : Fin 16384) (hp : p.val = 256 * (t.val % 64) + r.val) :
    iblk m c 5 t (ix2 r l) = V m c main_v21 (ix2 p l) := by
  show V m c main_v21 (((cfg0.win 5).blk t).view.emb (ix2 r l)) = _
  congr 1
  funext a
  match a with
  | ⟨0, _⟩ => exact Fin.ext (show win0_5.index t (0 : Fin 2) * 256 + 1 * r.val = p.val by rw [idx5]; show t.val % 64 * 256 + _ = _; omega)
  | ⟨1, _⟩ => exact Fin.ext (show win0_5.index t (1 : Fin 2) * 128 + 1 * l.val = l.val by rw [idx5]; show 0 * 128 + _ = _; omega)

/-- The sines' tile: row `r` is position `256 (t mod 64) + r`. -/
theorem iblk6_apply (c : Dev nD) (t : Fin cfg0.N) (r : Fin 256) (l : Fin 128) (p : Fin 16384) (hp : p.val = 256 * (t.val % 64) + r.val) :
    iblk m c 6 t (ix2 r l) = V m c main_v26 (ix2 p l) := by
  show V m c main_v26 (((cfg0.win 6).blk t).view.emb (ix2 r l)) = _
  congr 1
  funext a
  match a with
  | ⟨0, _⟩ => exact Fin.ext (show win0_6.index t (0 : Fin 2) * 256 + 1 * r.val = p.val by rw [idx6]; show t.val % 64 * 256 + _ = _; omega)
  | ⟨1, _⟩ => exact Fin.ext (show win0_6.index t (1 : Fin 2) * 128 + 1 * l.val = l.val by rw [idx6]; show 0 * 128 + _ = _; omega)

/-- The queries' tile: row `r` is row `256 t + r` of the result. -/
theorem emb7 (t : Fin cfg0.N) (r : Fin 256) (k : Fin 768) (R : Fin 32768) (hR : R.val = 256 * t.val + r.val) :
    ((cfg0.win 7).blk t).view.emb (ix2 r k) = (ix2 R k : S32768x768.Idx) := by
  funext a
  match a with
  | ⟨0, _⟩ => exact Fin.ext (show win0_7.index t (0 : Fin 2) * 256 + 1 * r.val = R.val by rw [idx7]; show t.val * 256 + _ = _; omega)
  | ⟨1, _⟩ => exact Fin.ext (show win0_7.index t (1 : Fin 2) * 768 + 1 * k.val = k.val by rw [idx7]; show 0 * 768 + _ = _; omega)

/-- The memory queries' tile: row `r` is row `256 t + r` of the result. -/
theorem emb8 (t : Fin cfg0.N) (r : Fin 256) (k : Fin 256) (R : Fin 32768) (hR : R.val = 256 * t.val + r.val) :
    ((cfg0.win 8).blk t).view.emb (ix2 r k) = (ix2 R k : S32768x256.Idx) := by
  funext a
  match a with
  | ⟨0, _⟩ => exact Fin.ext (show win0_8.index t (0 : Fin 2) * 256 + 1 * r.val = R.val by rw [idx8]; show t.val * 256 + _ = _; omega)
  | ⟨1, _⟩ => exact Fin.ext (show win0_8.index t (1 : Fin 2) * 256 + 1 * k.val = k.val by rw [idx8]; show 0 * 256 + _ = _; omega)

/-- The keys' tile: pair `p`, row `r` is pair `6 (t / 64) + p` of the result, position `256 (t mod 64) + r`. -/
theorem emb9 (t : Fin cfg0.N) (p : Fin 6) (r l : Fin 256) (a : Fin 12) (s : Fin 16384) (ha : a.val = 6 * (t.val / 64) + p.val)
    (hs : s.val = 256 * (t.val % 64) + r.val) : ((cfg0.win 9).blk t).view.emb (ix3 p r l) = (ix3 a s l : S12x16384x256.Idx) := by
  funext b
  match b with
  | ⟨0, _⟩ => exact Fin.ext (show win0_9.index t (0 : Fin 3) * 6 + 1 * p.val = a.val by rw [idx9]; show t.val / 64 * 6 + _ = _; omega)
  | ⟨1, _⟩ => exact Fin.ext (show win0_9.index t (1 : Fin 3) * 256 + 1 * r.val = s.val by rw [idx9]; show t.val % 64 * 256 + _ = _; omega)
  | ⟨2, _⟩ => exact Fin.ext (show win0_9.index t (2 : Fin 3) * 256 + 1 * l.val = l.val by rw [idx9]; show 0 * 256 + _ = _; omega)

/-- The values' tile is block `t` of the result. -/
theorem emb10 (t : Fin cfg0.N) (j : Fin 768) (r : Fin 256) (n : Fin 128) (hn : n.val = t.val) :
    ((cfg0.win 10).blk t).view.emb (ix3 0 j r) = (ix3 n j r : S128x768x256.Idx) := by
  funext b
  match b with
  | ⟨0, _⟩ => exact Fin.ext (show win0_10.index t (0 : Fin 3) * 1 + 1 * 0 = n.val by rw [idx10]; show t.val * 1 + _ = _; omega)
  | ⟨1, _⟩ => exact Fin.ext (show win0_10.index t (1 : Fin 3) * 768 + 1 * j.val = j.val by rw [idx10]; show 0 * 768 + _ = _; omega)
  | ⟨2, _⟩ => exact Fin.ext (show win0_10.index t (2 : Fin 3) * 256 + 1 * r.val = r.val by rw [idx10]; show 0 * 256 + _ = _; omega)

/-- The mean keys' tile is block `t` of the result. -/
theorem emb11 (t : Fin cfg0.N) (j : Fin 768) (n : Fin 128) (hn : n.val = t.val) :
    ((cfg0.win 11).blk t).view.emb (ix3 0 0 j) = (ix3 n 0 j : S128x1x768.Idx) := by
  funext b
  match b with
  | ⟨0, _⟩ => exact Fin.ext (show win0_11.index t (0 : Fin 3) * 1 + 1 * 0 = n.val by rw [idx11]; show t.val * 1 + _ = _; omega)
  | ⟨1, _⟩ => exact Fin.ext (show win0_11.index t (1 : Fin 3) * 1 + 1 * 0 = 0 by rw [idx11]; rfl)
  | ⟨2, _⟩ => exact Fin.ext (show win0_11.index t (2 : Fin 3) * 768 + 1 * j.val = j.val by rw [idx11]; show 0 * 768 + _ = _; omega)

end Cert.Moba.Blocks

end
-- ==== Proof.Moba.Rotary.lean ====
/-
  The kernel's rotary turn of a tile of rows: 128 lanes at a time, each lane with its partner fetched by a rotation of the lanes.
-/
module

public import proofs.«01_k».proof.Proof.Gen.Kernel7Ideal.Value
public import proofs.«01_k».proof.Proof.Moba.Spec
public import Idealize.ShloMosaic.Lib.ValueIdx

@[expose] public section

noncomputable section

namespace Cert.Moba

open Cert.Kernel7Ideal Cert.Kernel7Ideal.Gen Idealize.ShloMosaic Idealize.ShloMosaic.TcCoe Idealize.SL.Sem
open Idealize.ShloMosaic.ValueIdx (select_one select_zero)

/-- A word's remainder by 64, as the kernel computes it. -/
def rem64 (w : BitVec 32) : BitVec 32 :=
  Scalar.select
    (IntOp.andi
      (IntOp.xori (IntOp.cmpi .slt (IntOp.remsi .vector w (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector w (Scalar.select (Scalar.cmpi .eq 64#32 0#32) 1#32 64#32)) 0#32))
    (IntOp.addi (IntOp.remsi .vector w (Scalar.select (Scalar.cmpi .eq 64#32 0#32) 1#32 64#32)) (Scalar.select (Scalar.cmpi .eq 64#32 0#32) 1#32 64#32))
    (IntOp.remsi .vector w (Scalar.select (Scalar.cmpi .eq 64#32 0#32) 1#32 64#32))

/-- The word for "the lane is in the first half of its head". -/
theorem isFirst : ∀ l : Fin 128, IntOp.cmpi .slt (rem64 (BitVec.ofNat 32 l.val)) 32#32 = if l.val % 64 < 32 then 1#1 else 0#1 := by
  decide +kernel

/-- A choice by the mask. -/
theorem select_first (a b : FVec Ideal S256x128 .f32) (r : Fin 256) (l : Fin 128) :
    select k0_pay20 a b (ix2 r l) = if l.val % 64 < 32 then a (ix2 r l) else b (ix2 r l) := by
  unfold k0_pay20
  pointwise
  refine (congrArg (fun w => Scalar.select w (a (ix2 r l)) (b (ix2 r l))) (isFirst l)).trans ?_
  by_cases h : l.val % 64 < 32
  · simp only [h, if_true, select_one]
  · simp only [h, if_false, select_zero]

/-- The turn of 128 lanes, as the kernel's operations. -/
def turnOps (y c s : FVec Ideal S256x128 .f32) : FVec Ideal S256x128 .f32 :=
  addf (mulf y c) (mulf (select k0_pay20 (dynamicRotate 1 96#32 none y rotates_S256x128_d1) (dynamicRotate 1 32#32 none y rotates_S256x128_d1)) s)

/-- Each lane with its partner. -/
theorem turnOps_apply (y c s : FVec Ideal S256x128 .f32) (r : Fin 256) (l : Fin 128) :
    turnOps y c s (ix2 r l) = y (ix2 r l) * c (ix2 r l)
      + (if l.val % 64 < 32 then y (ix2 r ⟨(l.val + 32) % 128, by omega⟩) else y (ix2 r ⟨(l.val + 96) % 128, by omega⟩)) * s (ix2 r l) := by
  have h (a b : FVec Ideal S256x128 .f32) := select_first a b r l
  unfold turnOps
  generalize k0_pay20 = m at h
  show y (ix2 r l) * c (ix2 r l) + select m _ _ (ix2 r l) * s (ix2 r l) = _
  rw [h]
  pointwise
  congr 2

/-- The turn of a tile's 768 lanes, as the kernel's operations. -/
def wideOps (z : FVec Ideal S256x768 .f32) (c s : FVec Ideal S256x128 .f32) : FVec Ideal S256x768 .f32 :=
  concatenate S256x768 1 [⟨S256x128, turnOps (extractStridedSlice S256x128 ![0, 0] z slices_S256x768_o0_0_S256x128) c s⟩,
    ⟨S256x128, turnOps (extractStridedSlice S256x128 ![0, 128] z slices_S256x768_o0_128_S256x128) c s⟩,
    ⟨S256x128, turnOps (extractStridedSlice S256x128 ![0, 256] z slices_S256x768_o0_256_S256x128) c s⟩,
    ⟨S256x128, turnOps (extractStridedSlice S256x128 ![0, 384] z slices_S256x768_o0_384_S256x128) c s⟩,
    ⟨S256x128, turnOps (extractStridedSlice S256x128 ![0, 512] z slices_S256x768_o0_512_S256x128) c s⟩,
    ⟨S256x128, turnOps (extractStridedSlice S256x128 ![0, 640] z slices_S256x768_o0_640_S256x128) c s⟩]
    concatenates_S256x128_S256x128_S256x128_S256x128_S256x128_S256x128_S256x768_d1

/-- One lane of the turn. -/
def lane (z : Fin 768 → EReal) (c s : Fin 128 → EReal) (j : Fin 768) : EReal :=
  z j * c ⟨j.val % 128, by omega⟩
    + (if j.val % 64 < 32 then z ⟨(j.val + 32) % 768, by omega⟩ else z ⟨(j.val + 736) % 768, by omega⟩) * s ⟨j.val % 128, by omega⟩

/-- A group's lanes are the tile's. -/
theorem lane_eq (z : Fin 768 → EReal) (y c s : Fin 128 → EReal) (j : Fin 768) (l : Fin 128) (h : j.val % 128 = l.val)
    (hy : ∀ i : Fin 128, y i = z ⟨j.val / 128 * 128 + i.val, by omega⟩) :
    y l * c l + (if l.val % 64 < 32 then y ⟨(l.val + 32) % 128, by omega⟩ else y ⟨(l.val + 96) % 128, by omega⟩) * s l = lane z c s j := by
  have e : (⟨j.val % 128, by omega⟩ : Fin 128) = l := Fin.ext h
  have e0 : (⟨j.val / 128 * 128 + l.val, by omega⟩ : Fin 768) = j := Fin.ext (show j.val / 128 * 128 + l.val = j.val by omega)
  unfold lane
  rw [e]
  simp only [hy, e0]
  by_cases b : l.val % 64 < 32
  · rw [if_pos b, if_pos (by omega)]
    congr 3
    exact Fin.ext (show j.val / 128 * 128 + (l.val + 32) % 128 = (j.val + 32) % 768 by omega)
  · rw [if_neg b, if_neg (by omega)]
    congr 3
    exact Fin.ext (show j.val / 128 * 128 + (l.val + 96) % 128 = (j.val + 736) % 768 by omega)

/-- Each lane of the tile with its partner. -/
theorem wideOps_apply (z : FVec Ideal S256x768 .f32) (c s : FVec Ideal S256x128 .f32) (r : Fin 256) (j : Fin 768) :
    wideOps z c s (ix2 r j) = lane (fun j => z (ix2 r j)) (fun l => c (ix2 r l)) (fun l => s (ix2 r l)) j := by
  unfold wideOps
  pointwise
  by_cases h0 : j.val < 128
  · rw [dif_pos h0]
    refine (turnOps_apply _ c s r ⟨j.val, by omega⟩).trans (lane_eq (fun j => z (ix2 r j)) (fun i => extractStridedSlice S256x128 ![0, 0] z slices_S256x768_o0_0_S256x128 (ix2 r i))
      (fun l => c (ix2 r l)) (fun l => s (ix2 r l)) j ⟨j.val, by omega⟩ (show j.val % 128 = j.val by omega) fun i => ?_)
    pointwise
    exact congrArg (fun i => z (ix2 r i)) (Fin.ext (show i.val = j.val / 128 * 128 + i.val by omega))
  rw [dif_neg h0]
  by_cases h1 : j.val - 128 < 128
  · rw [dif_pos h1]
    refine (turnOps_apply _ c s r ⟨j.val - 128, by omega⟩).trans (lane_eq (fun j => z (ix2 r j)) (fun i => extractStridedSlice S256x128 ![0, 128] z slices_S256x768_o0_128_S256x128 (ix2 r i))
      (fun l => c (ix2 r l)) (fun l => s (ix2 r l)) j ⟨j.val - 128, by omega⟩ (show j.val % 128 = j.val - 128 by omega) fun i => ?_)
    pointwise
    exact congrArg (fun i => z (ix2 r i)) (Fin.ext (show 128 + i.val = j.val / 128 * 128 + i.val by omega))
  rw [dif_neg h1]
  by_cases h2 : j.val - 128 - 128 < 128
  · rw [dif_pos h2]
    refine (turnOps_apply _ c s r ⟨j.val - 128 - 128, by omega⟩).trans (lane_eq (fun j => z (ix2 r j)) (fun i => extractStridedSlice S256x128 ![0, 256] z slices_S256x768_o0_256_S256x128 (ix2 r i))
      (fun l => c (ix2 r l)) (fun l => s (ix2 r l)) j ⟨j.val - 128 - 128, by omega⟩ (show j.val % 128 = j.val - 128 - 128 by omega) fun i => ?_)
    pointwise
    exact congrArg (fun i => z (ix2 r i)) (Fin.ext (show 256 + i.val = j.val / 128 * 128 + i.val by omega))
  rw [dif_neg h2]
  by_cases h3 : j.val - 128 - 128 - 128 < 128
  · rw [dif_pos h3]
    refine (turnOps_apply _ c s r ⟨j.val - 128 - 128 - 128, by omega⟩).trans (lane_eq (fun j => z (ix2 r j)) (fun i => extractStridedSlice S256x128 ![0, 384] z slices_S256x768_o0_384_S256x128 (ix2 r i))
      (fun l => c (ix2 r l)) (fun l => s (ix2 r l)) j ⟨j.val - 128 - 128 - 128, by omega⟩ (show j.val % 128 = j.val - 128 - 128 - 128 by omega) fun i => ?_)
    pointwise
    exact congrArg (fun i => z (ix2 r i)) (Fin.ext (show 384 + i.val = j.val / 128 * 128 + i.val by omega))
  rw [dif_neg h3]
  by_cases h4 : j.val - 128 - 128 - 128 - 128 < 128
  · rw [dif_pos h4]
    refine (turnOps_apply _ c s r ⟨j.val - 128 - 128 - 128 - 128, by omega⟩).trans (lane_eq (fun j => z (ix2 r j)) (fun i => extractStridedSlice S256x128 ![0, 512] z slices_S256x768_o0_512_S256x128 (ix2 r i))
      (fun l => c (ix2 r l)) (fun l => s (ix2 r l)) j ⟨j.val - 128 - 128 - 128 - 128, by omega⟩ (show j.val % 128 = j.val - 128 - 128 - 128 - 128 by omega) fun i => ?_)
    pointwise
    exact congrArg (fun i => z (ix2 r i)) (Fin.ext (show 512 + i.val = j.val / 128 * 128 + i.val by omega))
  rw [dif_neg h4]
  refine (turnOps_apply _ c s r ⟨j.val - 128 - 128 - 128 - 128 - 128, by omega⟩).trans (lane_eq (fun j => z (ix2 r j)) (fun i => extractStridedSlice S256x128 ![0, 640] z slices_S256x768_o0_640_S256x128 (ix2 r i))
      (fun l => c (ix2 r l)) (fun l => s (ix2 r l)) j ⟨j.val - 128 - 128 - 128 - 128 - 128, by omega⟩ (show j.val % 128 = j.val - 128 - 128 - 128 - 128 - 128 by omega) fun i => ?_)
  pointwise
  exact congrArg (fun i => z (ix2 r i)) (Fin.ext (show 640 + i.val = j.val / 128 * 128 + i.val by omega))

end Cert.Moba

end
-- ==== Proof.Moba.Body.lean ====
/-
  What the kernel's body leaves in its results' windows: the projections, turned and scaled, the values and the mean keys.
-/
module

public import proofs.«01_k».proof.Proof.Moba.Rotary
public import Idealize.ShloMosaic.Lib.Pointwise

@[expose] public section

noncomputable section

namespace Cert.Moba

open Cert.Kernel7Ideal Cert.Kernel7Ideal.Gen Idealize.ShloMosaic Idealize.ShloMosaic.TcCoe Idealize.SL.Sem

variable (x : Vec Ideal S256x1024 .f32) (g : Vec Ideal S1x1024 .f32) (w : Vec Ideal S1024x1024 .bf16) (wkv : Vec Ideal S1024x1536 .bf16)

/-- A tile's queries before the turn. -/
theorem q_apply (r : Fin 256) (j : Fin 768) : k0_pay6 x g w (ix2 r j)
    = project (fun k => x (ix2 r k)) (fun k => g (ix2 0 k)) (fun k j => w (ix2 k j)) ⟨j.val, by omega⟩ := by
  unfold_payloads
  pointwise [project, Ffn.unit, Ffn.scale]

/-- A tile's keys before the turn. -/
theorem k_apply (r : Fin 256) (j : Fin 768) : k0_pay19 (k0_pay2 x) g wkv (ix2 r j)
    = project (fun k => x (ix2 r k)) (fun k => g (ix2 0 k)) (fun k j => wkv (ix2 k j)) ⟨j.val, by omega⟩ := by
  unfold_payloads
  pointwise [project, Ffn.unit, Ffn.scale]

/-- A tile of a table is read whole: the cosines; -/
theorem cos_eq (c : Vec Ideal S256x128 .f32) : k0_pay3 (F := Ideal) c = c := by
  funext j
  obtain ⟨r, l, rfl⟩ : ∃ (r : Fin 256) (l : Fin 128), j = ix2 r l := ⟨j 0, j 1, eq_ix2 j⟩
  unfold k0_pay3
  pointwise

/-- the sines. -/
theorem sin_eq (s : Vec Ideal S256x128 .f32) : k0_pay4 (F := Ideal) s = s := by
  funext j
  obtain ⟨r, l, rfl⟩ : ∃ (r : Fin 256) (l : Fin 128), j = ix2 r l := ⟨j 0, j 1, eq_ix2 j⟩
  unfold k0_pay4
  pointwise

/-- A tile's turned keys, as the kernel's operations. -/
def keysOps (x0 : Vec Ideal S256x1024 .f32) (x2 : Vec Ideal S1x1024 .f32) (x4 : Vec Ideal S1024x1536 .bf16) (x5 x6 : Vec Ideal S256x128 .f32) :
    FVec Ideal S256x768 .f32 :=
  wideOps (k0_pay19 (k0_pay2 x0) x2 x4) (k0_pay3 (F := Ideal) x5) (k0_pay4 (F := Ideal) x6)

section Windows

variable (i : grid0.Coords) (x0 : Vec Ideal S256x1024 .f32) (x1 x2 : Vec Ideal S1x1024 .f32) (x3 : Vec Ideal S1024x1024 .bf16)
  (x4 : Vec Ideal S1024x1536 .bf16) (x5 x6 : Vec Ideal S256x128 .f32)

/-- The turned keys, lane by lane. -/
theorem keysOps_apply (r : Fin 256) (j : Fin 768) : keysOps x0 x2 x4 x5 x6 (ix2 r j)
    = lane (fun j => project (fun k => x0 (ix2 r k)) (fun k => x2 (ix2 0 k)) (fun k j => x4 (ix2 k j)) ⟨j.val, by omega⟩)
      (fun l => x5 (ix2 r l)) (fun l => x6 (ix2 r l)) j := by
  unfold keysOps
  rw [cos_eq, sin_eq]
  refine (wideOps_apply _ x5 x6 r j).trans ?_
  exact congrArg (fun z => lane z (fun l => x5 (ix2 r l)) (fun l => x6 (ix2 r l)) j) (funext fun j => k_apply x0 x2 x4 r j)

/-- The queries' window. -/
theorem out7_apply (r : Fin 256) (j : Fin 768) : out0_7 i x0 x1 x2 x3 x4 x5 x6 (ix2 r j)
    = lane (fun j => project (fun k => x0 (ix2 r k)) (fun k => x1 (ix2 0 k)) (fun k j => x3 (ix2 k j)) ⟨j.val, by omega⟩)
      (fun l => x5 (ix2 r l)) (fun l => x6 (ix2 r l)) j * queryScale := by
  have z : (![0, 0] : Fin 2 → ℕ) = fun _ => 0 := by decide
  unfold_out out0_7
  rw [View.canon_unit_zero (S := S256x768) z]
  simp only [View.ld_unit_zero (S := S256x1024) z, View.ld_unit_zero (S := S1x1024) z, View.ld_unit_zero (S := S1024x1024) z,
    View.ld_unit_zero (S := S256x128) z]
  show truncf .bf16 (mulf (wideOps (k0_pay6 x0 x1 x3) (k0_pay3 (F := Ideal) x5) (k0_pay4 (F := Ideal) x6))
    (broadcast S256x768 (Scalar.ofBits .f32 0x3E38AA3B#32))) bitsLt_bf16_f32 (ix2 r j) = _
  rw [cos_eq, sin_eq]
  have h := wideOps_apply (k0_pay6 x0 x1 x3) x5 x6 r j
  generalize wideOps (k0_pay6 x0 x1 x3) x5 x6 = y at h
  simp only [q_apply] at h
  pointwise [queryScale]
  rw [h]

/-- The memory queries' window. -/
theorem out8_apply (r : Fin 256) (j : Fin 256) : out0_8 i x0 x1 x2 x3 x4 x5 x6 (ix2 r j)
    = project (fun k => x0 (ix2 r k)) (fun k => x1 (ix2 0 k)) (fun k j => x3 (ix2 k j)) ⟨768 + j.val, by omega⟩ := by
  have z : (![0, 0] : Fin 2 → ℕ) = fun _ => 0 := by decide
  unfold_out out0_8
  rw [View.canon_unit_zero (S := S256x256) z]
  simp only [View.ld_unit_zero (S := S256x1024) z, View.ld_unit_zero (S := S1x1024) z, View.ld_unit_zero (S := S1024x1024) z]
  unfold_payloads
  pointwise [project, Ffn.unit, Ffn.scale]

/-- The values' window. -/
theorem out10_apply (j : Fin 768) (r : Fin 256) : out0_10 i x0 x1 x2 x3 x4 x5 x6 (ix3 0 j r)
    = project (fun k => x0 (ix2 r k)) (fun k => x2 (ix2 0 k)) (fun k j => x4 (ix2 k j)) ⟨768 + j.val, by omega⟩ := by
  have z : (![0, 0] : Fin 2 → ℕ) = fun _ => 0 := by decide
  have z3 : (![0, 0, 0] : Fin 3 → ℕ) = fun _ => 0 := by decide
  unfold_out out0_10
  rw [View.canon_unit_zero (S := S1x768x256) z3]
  simp only [View.ld_unit_zero (S := S256x1024) z, View.ld_unit_zero (S := S1x1024) z, View.ld_unit_zero (S := S1024x1536) z]
  unfold_payloads
  pointwise [project, Ffn.unit, Ffn.scale]

/-- The mean keys' window. -/
theorem out11_apply (j : Fin 768) : out0_11 i x0 x1 x2 x3 x4 x5 x6 (ix3 0 0 j)
    = Ideal.div (∑ r : Fin 256, lane (fun j => project (fun k => x0 (ix2 r k)) (fun k => x2 (ix2 0 k)) (fun k j => x4 (ix2 k j)) ⟨j.val, by omega⟩)
      (fun l => x5 (ix2 r l)) (fun l => x6 (ix2 r l)) j) blockLen := by
  have z : (![0, 0] : Fin 2 → ℕ) = fun _ => 0 := by decide
  have z3 : (![0, 0, 0] : Fin 3 → ℕ) = fun _ => 0 := by decide
  have h (r : Fin 256) := keysOps_apply x0 x2 x4 x5 x6 r j
  unfold_out out0_11
  rw [View.canon_unit_zero (S := S1x1x768) z3]
  simp only [View.ld_unit_zero (S := S256x1024) z, View.ld_unit_zero (S := S1x1024) z, View.ld_unit_zero (S := S1024x1536) z,
    View.ld_unit_zero (S := S256x128) z]
  show shapeCast S1x1x768 (divf (shapeCast S1x768 (multiReduction .add [0] S768 (keysOps x0 x2 x4 x5 x6) 0x00000000#32 reduces_S256x768_S768 (.inl rfl) rfl)
    shapeCasts_S768_S1x768) (broadcast S1x768 (Scalar.ofBits .f32 0x43800000#32))) shapeCasts_S1x768_S1x1x768 (ix3 0 0 j) = _
  generalize keysOps x0 x2 x4 x5 x6 = y at h
  pointwise [blockLen]
  simp only [h]

end Windows

end Cert.Moba

end
-- ==== Proof.Moba.Marks.lean ====
/-
  What the kernel's body leaves in the keys' window: per pair of heads a piece, each head's keys beside its block's mark.
-/
module

public import proofs.«01_k».proof.Proof.Moba.Rotary
public import Idealize.ShloMosaic.Lib.Pointwise
public import Idealize.ShloMosaic.Lib.IdealHost

@[expose] public section

noncomputable section

namespace Cert.Moba

open Cert.Kernel7Ideal Cert.Kernel7Ideal.Gen Idealize.ShloMosaic Idealize.ShloMosaic.TcCoe Idealize.SL.Sem
open Idealize.ShloMosaic.ValueIdx (select_one select_zero)

/-- The word of a tile's block within its sequence, as the kernel computes it. -/
def blockWord (b : BitVec 32) : BitVec 32 :=
  let n := Scalar.select (Scalar.cmpi .eq 64#32 0#32) 1#32 64#32
  let r := Scalar.remsi b n
  Scalar.select (Scalar.andi (Scalar.xori (Scalar.cmpi .slt r 0#32) (Scalar.cmpi .slt n 0#32)) (Scalar.cmpi .ne r 0#32)) (Scalar.addi r n) r

/-- It is the block's number among 64. -/
theorem blockWord_eq : ∀ t : Fin 128, blockWord (BitVec.ofNat 32 t.val) = BitVec.ofNat 32 (t.val % 64) := by
  decide +kernel

/-- The word for "the lane is among the first 64". -/
theorem isKey : ∀ l : Fin 128, IntOp.cmpi .slt (BitVec.ofNat 32 l.val) 64#32 = if l.val < 64 then 1#1 else 0#1 := by
  decide +kernel

/-- The word for "the lane is the block's". -/
theorem isBlock : ∀ (l : Fin 128) (n : Fin 64), IntOp.cmpi .eq (IntOp.subi (BitVec.ofNat 32 l.val) 64#32) (BitVec.ofNat 32 n.val)
    = if l.val = n.val + 64 then 1#1 else 0#1 := by
  decide +kernel

/-- A choice by the lane. -/
theorem select_key (a b : FVec Ideal S256x128 .f32) (r : Fin 256) (l : Fin 128) :
    select k0_pay28 a b (ix2 r l) = if l.val < 64 then a (ix2 r l) else b (ix2 r l) := by
  unfold k0_pay28
  pointwise
  refine (congrArg (fun w => Scalar.select w (a (ix2 r l)) (b (ix2 r l))) (isKey l)).trans ?_
  by_cases h : l.val < 64
  · simp only [h, if_true, select_one]
  · simp only [h, if_false, select_zero]

/-- The mark. -/
theorem mark_apply (t : Fin 128) (r : Fin 256) (l : Fin 128) :
    k0_pay29 (F := Ideal) (BitVec.ofNat 32 t.val) (ix2 r l) = if l.val = t.val % 64 + 64 then (1 : EReal) else 0 := by
  have e : k0_pay29 (F := Ideal) (BitVec.ofNat 32 t.val) (ix2 r l)
      = Scalar.select (IntOp.cmpi .eq (IntOp.subi (BitVec.ofNat 32 l.val) 64#32) (blockWord (BitVec.ofNat 32 t.val)))
        (Ideal.ofBits .f32 0x3F800000#32) (Ideal.ofBits .f32 0x00000000#32) := by
    unfold k0_pay29
    pointwise [blockWord]
  rw [e, blockWord_eq t, isBlock l ⟨t.val % 64, by omega⟩]
  by_cases h : l.val = t.val % 64 + 64
  · simp only [h, if_true, select_one]; exact Ideal.ofBits_one_f32
  · simp only [h, if_false, select_zero]; exact Ideal.ofBits_zero_f32

/-- A pair of heads' piece, as the kernel's operations. -/
def pieceOps (b : BitVec 32) (y : FVec Ideal S256x128 .f32) : FVec Ideal S256x256 .f32 :=
  concatenate S256x256 1 [⟨S256x128, select k0_pay28 y (k0_pay29 (F := Ideal) b)⟩,
    ⟨S256x128, select k0_pay28 (dynamicRotate 1 64#32 none y rotates_S256x128_d1) (k0_pay29 (F := Ideal) b)⟩]
    concatenates_S256x128_S256x128_S256x256_d1

/-- One head's lanes, seen from the pair's. -/
theorem half (n : ℕ) (k : Fin 128) (l : Fin 256) (a b : EReal) (hk : l.val % 128 = k.val) (hab : k.val < 64 → a = b) :
    (if k.val < 64 then a else if k.val = n + 64 then 1 else 0) = if l.val % 128 < 64 then b else if l.val % 128 - 64 = n then 1 else 0 := by
  rw [hk]
  by_cases h : k.val < 64
  · rw [if_pos h, if_pos h, hab h]
  · rw [if_neg h, if_neg h]
    by_cases e : k.val = n + 64
    · rw [if_pos e, if_pos (by omega)]
    · rw [if_neg e, if_neg (by omega)]

/-- Each head's keys beside the mark. -/
theorem pieceOps_apply (t : Fin 128) (y : FVec Ideal S256x128 .f32) (r : Fin 256) (l : Fin 256) : pieceOps (BitVec.ofNat 32 t.val) y (ix2 r l)
    = if l.val % 128 < 64 then y (ix2 r ⟨64 * (l.val / 128) + l.val % 128 % 64, by omega⟩)
      else if l.val % 128 - 64 = t.val % 64 then 1 else 0 := by
  have h (a : FVec Ideal S256x128 .f32) (l : Fin 128) := select_key a (k0_pay29 (F := Ideal) (BitVec.ofNat 32 t.val)) r l
  simp only [mark_apply] at h
  unfold pieceOps
  generalize k0_pay29 (F := Ideal) (BitVec.ofNat 32 t.val) = u at h
  generalize k0_pay28 = v at h
  have h' (a : FVec Ideal S256x128 .f32) (l : Fin 128) : Scalar.select (v (ix2 r l)) (a (ix2 r l)) (u (ix2 r l)) = _ := h a l
  have hr (l : Fin 128) (a : EReal) : Scalar.select (v (ix2 r l)) a (u (ix2 r l)) = if l.val < 64 then a else if l.val = t.val % 64 + 64 then 1 else 0 :=
    h' (fun _ => a) l
  pointwise
  by_cases b : l.val < 128
  · rw [dif_pos b]
    refine (hr ⟨l.val, b⟩ _).trans (half _ ⟨l.val, b⟩ l _ _ (Nat.mod_eq_of_lt b) fun (k : l.val < 64) => ?_)
    exact congrArg (fun i => y (ix2 r i)) (Fin.ext (show l.val = 64 * (l.val / 128) + l.val % 128 % 64 by omega))
  · rw [dif_neg b]
    refine (hr ⟨l.val - 128, by omega⟩ _).trans (half _ ⟨l.val - 128, by omega⟩ l _ _ (show l.val % 128 = l.val - 128 by omega) fun (k : l.val - 128 < 64) => ?_)
    exact congrArg (fun i => y (ix2 r i)) (Fin.ext (show (l.val - 128 + 128 - 64) % 128 = 64 * (l.val / 128) + l.val % 128 % 64 by omega))

/-- A lane of the keys' window: of pair `p`, row `r`, lane `l`. -/
def entry (t : Fin 128) (z : FVec Ideal S256x768 .f32) (p : Fin 6) (r l : Fin 256) : EReal :=
  marked (t.val % 64) (fun j => z (ix2 r j)) p l

/-- A piece of 128 lanes of the keys. -/
theorem piece_entry (t : Fin 128) (z : FVec Ideal S256x768 .f32) (p : Fin 6) (y : FVec Ideal S256x128 .f32)
    (hy : ∀ (r : Fin 256) (l : Fin 128), y (ix2 r l) = z (ix2 r ⟨128 * p.val + l.val, by omega⟩)) (r l : Fin 256) :
    pieceOps (BitVec.ofNat 32 t.val) y (ix2 r l) = entry t z p r l := by
  rw [pieceOps_apply]
  unfold entry marked
  by_cases k : l.val % 128 < 64
  · rw [if_pos k, dif_pos k, hy]
    exact congrArg (fun i => z (ix2 r i))
      (Fin.ext (show 128 * p.val + (64 * (l.val / 128) + l.val % 128 % 64) = 128 * p.val + 64 * (l.val / 128) + l.val % 128 by omega))
  · rw [if_neg k, dif_neg k]

/-- A piece as it is stored. -/
def stored (b : BitVec 32) (y : FVec Ideal S256x128 .f32) : FVec Ideal S1x256x256 .bf16 :=
  shapeCast S1x256x256 (truncf .bf16 (pieceOps b y) bitsLt_bf16_f32) shapeCasts_S256x256_S1x256x256

/-- Storing keeps the elements. -/
theorem stored_apply (b : BitVec 32) (y : FVec Ideal S256x128 .f32) (r l : Fin 256) : stored b y (ix3 0 r l) = pieceOps b y (ix2 r l) := by
  unfold stored
  generalize pieceOps b y = u
  pointwise

/-- A stored piece is its slot of the window. -/
theorem slot (t : Fin 128) (z : FVec Ideal S256x768 .f32) (p : Fin 6) (y : FVec Ideal S256x128 .f32)
    (hy : ∀ (r : Fin 256) (l : Fin 128), y (ix2 r l) = z (ix2 r ⟨128 * p.val + l.val, by omega⟩))
    (e : S1x256x256.Idx → S6x256x256.Idx) (he : ∀ r l : Fin 256, e (ix3 0 r l) = ix3 p r l) (i : S1x256x256.Idx) :
    stored (BitVec.ofNat 32 t.val) y i = entry t z (e i 0) (e i 1) (e i 2) := by
  obtain ⟨r, l, rfl⟩ : ∃ r l : Fin 256, i = ix3 0 r l := by
    refine ⟨i 1, i 2, (eq_ix3 i).trans ?_⟩
    have h : i 0 = (0 : Fin 1) := Fin.ext (by have := (i 0).isLt; show (i 0).val = 0; exact Nat.lt_one_iff.mp this)
    rw [h]
  rw [stored_apply, piece_entry t z p y hy, he]
  rfl

end Cert.Moba

end
-- ==== Proof.Moba.Window.lean ====
/-
  The keys' window: the body's six stores are the pairs of heads in turn.
-/
module

public import proofs.«01_k».proof.Proof.Moba.Body
public import proofs.«01_k».proof.Proof.Moba.Marks

@[expose] public section

noncomputable section

namespace Cert.Moba

open Cert.Kernel7Ideal Cert.Kernel7Ideal.Gen Idealize.ShloMosaic Idealize.ShloMosaic.TcCoe Idealize.SL.Sem

variable (z : FVec Ideal S256x768 .f32)

/-- Pair 0's lanes of the keys. -/
theorem lanes0 (r : Fin 256) (l : Fin 128) : extractStridedSlice S256x128 ![0, 0] z slices_S256x768_o0_0_S256x128 (ix2 r l)
    = z (ix2 r ⟨128 * (0 : Fin 6).val + l.val, by omega⟩) := by
  pointwise

/-- Pair 0's slot. -/
theorem place0 (r l : Fin 256) : r0_9.emb (ix3 0 r l) = (ix3 0 r l : S6x256x256.Idx) := by
  funext a
  match a with
  | ⟨0, _⟩ => exact Fin.ext (show 0 + 1 * 0 = 0 by omega)
  | ⟨1, _⟩ => exact Fin.ext (show 0 + 1 * r.val = r.val by omega)
  | ⟨2, _⟩ => exact Fin.ext (show 0 + 1 * l.val = l.val by omega)

/-- Pair 1's lanes of the keys. -/
theorem lanes1 (r : Fin 256) (l : Fin 128) : extractStridedSlice S256x128 ![0, 128] z slices_S256x768_o0_128_S256x128 (ix2 r l)
    = z (ix2 r ⟨128 * (1 : Fin 6).val + l.val, by omega⟩) := by
  pointwise

/-- Pair 1's slot. -/
theorem place1 (r l : Fin 256) : r0_10.emb (ix3 0 r l) = (ix3 1 r l : S6x256x256.Idx) := by
  funext a
  match a with
  | ⟨0, _⟩ => exact Fin.ext (show 1 + 1 * 0 = 1 by omega)
  | ⟨1, _⟩ => exact Fin.ext (show 0 + 1 * r.val = r.val by omega)
  | ⟨2, _⟩ => exact Fin.ext (show 0 + 1 * l.val = l.val by omega)

/-- Pair 2's lanes of the keys. -/
theorem lanes2 (r : Fin 256) (l : Fin 128) : extractStridedSlice S256x128 ![0, 256] z slices_S256x768_o0_256_S256x128 (ix2 r l)
    = z (ix2 r ⟨128 * (2 : Fin 6).val + l.val, by omega⟩) := by
  pointwise

/-- Pair 2's slot. -/
theorem place2 (r l : Fin 256) : r0_11.emb (ix3 0 r l) = (ix3 2 r l : S6x256x256.Idx) := by
  funext a
  match a with
  | ⟨0, _⟩ => exact Fin.ext (show 2 + 1 * 0 = 2 by omega)
  | ⟨1, _⟩ => exact Fin.ext (show 0 + 1 * r.val = r.val by omega)
  | ⟨2, _⟩ => exact Fin.ext (show 0 + 1 * l.val = l.val by omega)

/-- Pair 3's lanes of the keys. -/
theorem lanes3 (r : Fin 256) (l : Fin 128) : extractStridedSlice S256x128 ![0, 384] z slices_S256x768_o0_384_S256x128 (ix2 r l)
    = z (ix2 r ⟨128 * (3 : Fin 6).val + l.val, by omega⟩) := by
  pointwise

/-- Pair 3's slot. -/
theorem place3 (r l : Fin 256) : r0_12.emb (ix3 0 r l) = (ix3 3 r l : S6x256x256.Idx) := by
  funext a
  match a with
  | ⟨0, _⟩ => exact Fin.ext (show 3 + 1 * 0 = 3 by omega)
  | ⟨1, _⟩ => exact Fin.ext (show 0 + 1 * r.val = r.val by omega)
  | ⟨2, _⟩ => exact Fin.ext (show 0 + 1 * l.val = l.val by omega)

/-- Pair 4's lanes of the keys. -/
theorem lanes4 (r : Fin 256) (l : Fin 128) : extractStridedSlice S256x128 ![0, 512] z slices_S256x768_o0_512_S256x128 (ix2 r l)
    = z (ix2 r ⟨128 * (4 : Fin 6).val + l.val, by omega⟩) := by
  pointwise

/-- Pair 4's slot. -/
theorem place4 (r l : Fin 256) : r0_13.emb (ix3 0 r l) = (ix3 4 r l : S6x256x256.Idx) := by
  funext a
  match a with
  | ⟨0, _⟩ => exact Fin.ext (show 4 + 1 * 0 = 4 by omega)
  | ⟨1, _⟩ => exact Fin.ext (show 0 + 1 * r.val = r.val by omega)
  | ⟨2, _⟩ => exact Fin.ext (show 0 + 1 * l.val = l.val by omega)

/-- Pair 5's lanes of the keys. -/
theorem lanes5 (r : Fin 256) (l : Fin 128) : extractStridedSlice S256x128 ![0, 640] z slices_S256x768_o0_640_S256x128 (ix2 r l)
    = z (ix2 r ⟨128 * (5 : Fin 6).val + l.val, by omega⟩) := by
  pointwise

/-- Pair 5's slot. -/
theorem place5 (r l : Fin 256) : r0_14.emb (ix3 0 r l) = (ix3 5 r l : S6x256x256.Idx) := by
  funext a
  match a with
  | ⟨0, _⟩ => exact Fin.ext (show 5 + 1 * 0 = 5 by omega)
  | ⟨1, _⟩ => exact Fin.ext (show 0 + 1 * r.val = r.val by omega)
  | ⟨2, _⟩ => exact Fin.ext (show 0 + 1 * l.val = l.val by omega)

variable (i : grid0.Coords) (x0 : Vec Ideal S256x1024 .f32) (x1 x2 : Vec Ideal S1x1024 .f32) (x3 : Vec Ideal S1024x1024 .bf16)
  (x4 : Vec Ideal S1024x1536 .bf16) (x5 x6 : Vec Ideal S256x128 .f32)

/-- What the body leaves in the keys' window. -/
theorem out9_apply (t : Fin 128) (hi : (i 0).val = t.val) (p : Fin 6) (r l : Fin 256) :
    out0_9 i x0 x1 x2 x3 x4 x5 x6 (ix3 p r l) = entry t (keysOps x0 x2 x4 x5 x6) p r l := by
  have z : (![0, 0] : Fin 2 → ℕ) = fun _ => 0 := by decide
  have e : out0_9 i x0 x1 x2 x3 x4 x5 x6 = View.canon [
      ⟨r0_14, stored (BitVec.ofNat 32 t.val) (extractStridedSlice S256x128 ![0, 640] (keysOps x0 x2 x4 x5 x6) slices_S256x768_o0_640_S256x128)⟩,
      ⟨r0_13, stored (BitVec.ofNat 32 t.val) (extractStridedSlice S256x128 ![0, 512] (keysOps x0 x2 x4 x5 x6) slices_S256x768_o0_512_S256x128)⟩,
      ⟨r0_12, stored (BitVec.ofNat 32 t.val) (extractStridedSlice S256x128 ![0, 384] (keysOps x0 x2 x4 x5 x6) slices_S256x768_o0_384_S256x128)⟩,
      ⟨r0_11, stored (BitVec.ofNat 32 t.val) (extractStridedSlice S256x128 ![0, 256] (keysOps x0 x2 x4 x5 x6) slices_S256x768_o0_256_S256x128)⟩,
      ⟨r0_10, stored (BitVec.ofNat 32 t.val) (extractStridedSlice S256x128 ![0, 128] (keysOps x0 x2 x4 x5 x6) slices_S256x768_o0_128_S256x128)⟩,
      ⟨r0_9, stored (BitVec.ofNat 32 t.val) (extractStridedSlice S256x128 ![0, 0] (keysOps x0 x2 x4 x5 x6) slices_S256x768_o0_0_S256x128)⟩] := by
    rw [← hi]
    unfold_out out0_9
    simp only [View.ld_unit_zero (S := S256x1024) z, View.ld_unit_zero (S := S1x1024) z, View.ld_unit_zero (S := S1024x1536) z,
      View.ld_unit_zero (S := S256x128) z]
    rfl
  rw [e]
  refine View.canon_apply_of_pieces (fun y : S6x256x256.Idx => entry t (keysOps x0 x2 x4 x5 x6) (y 0) (y 1) (y 2)) _ (fun q hq => ?_) (ix3 p r l)
    (cover0_9 (F := Ideal) _ _ _ _ _ _ (ix3 p r l))
  simp only [List.mem_cons, List.not_mem_nil, or_false] at hq
  rcases hq with rfl | rfl | rfl | rfl | rfl | rfl
  · exact slot t _ 5 _ (lanes5 _) r0_14.emb place5
  · exact slot t _ 4 _ (lanes4 _) r0_13.emb place4
  · exact slot t _ 3 _ (lanes3 _) r0_12.emb place3
  · exact slot t _ 2 _ (lanes2 _) r0_11.emb place2
  · exact slot t _ 1 _ (lanes1 _) r0_10.emb place1
  · exact slot t _ 0 _ (lanes0 _) r0_9.emb place0

end Cert.Moba

end
-- ==== Proof.Moba.Kern.lean ====
/-
  The result arrays of the second layer's input projection, element by element as the mathematics of its arguments.
-/
module

public import proofs.«01_k».proof.Proof.Moba.Blocks
public import proofs.«01_k».proof.Proof.Moba.Window

@[expose] public section

noncomputable section

namespace Cert.Moba

open Idealize.ShloMosaic

/-- A lane with its partner, the sines of the first half negated, is the turn. -/
theorem lane_turn (c s : Fin 32 → EReal) (z : Fin 768 → EReal) (j : Fin 768) :
    lane z (fun l => c ⟨l.val % 32, by omega⟩) (fun l => if l.val % 64 < 32 then -s ⟨l.val % 32, by omega⟩ else s ⟨l.val % 32, by omega⟩) j
      = turn c s z j := by
  have e : (⟨j.val % 128 % 32, by omega⟩ : Fin 32) = ⟨j.val % 32, by omega⟩ := Fin.ext (show j.val % 128 % 32 = j.val % 32 by omega)
  unfold lane turn
  show z j * c ⟨j.val % 128 % 32, _⟩ + _ * (if j.val % 128 % 64 < 32 then -s ⟨j.val % 128 % 32, _⟩ else s ⟨j.val % 128 % 32, _⟩) = _
  rw [e]
  by_cases b : j.val % 64 < 32
  · rw [if_pos b, if_pos (by omega), if_pos b, mul_neg, ← sub_eq_add_neg]
  · rw [if_neg b, if_neg (by omega), if_neg b, add_comm]

namespace Kern

open Cert.Kernel7Ideal Cert.Kernel7Ideal.Gen Cert.Moba.Blocks
open Idealize.ShloMosaic.TcCoe Idealize.SL.Sem

variable (m : (ℓ : Loc nD τ sig) → Buf (Elt Ideal) ℓ) (c : Dev nD)

/-- The layer's rows, -/
abbrev rows : Fin 2 → Fin 16384 → Fin 1024 → EReal := fun n s k => m ((c : Thread nD τ).loc main_arg0) (ix3 n s k)
/-- the queries' gain, -/
abbrev gain : Fin 1024 → EReal := fun k => m ((c : Thread nD τ).loc main_arg1) (ix1 k)
/-- the keys' gain, -/
abbrev kvGain : Fin 1024 → EReal := fun k => m ((c : Thread nD τ).loc main_arg2) (ix1 k)
/-- the queries' weights, -/
abbrev wIn : Fin 1024 → Fin 1024 → EReal := fun k j => m ((c : Thread nD τ).loc main_arg3) (ix2 k j)
/-- and the keys' and values' weights. -/
abbrev wKv : Fin 1024 → Fin 1536 → EReal := fun k j => m ((c : Thread nD τ).loc main_arg4) (ix2 k j)

section Tile

variable (t : Fin cfg0.N) (r : Fin 256) (R : Fin 32768) (hR : R.val = 256 * t.val + r.val)

include hR in
/-- A tile's row is the batch's. -/
theorem row_eq : (fun k : Fin 1024 => (iblk m c 0 t (ix2 r k) : EReal)) = row (rows m c) R := by
  funext k
  rw [iblk0_apply m c t r k R hR]
  exact v27_apply m c R k

/-- The queries' gain; -/
theorem gain_eq : (fun k : Fin 1024 => (iblk m c 1 t (ix2 0 k) : EReal)) = gain m c := by
  funext k
  rw [iblk1_eq]
  exact v30_apply m c k

/-- the keys' gain; -/
theorem kvGain_eq : (fun k : Fin 1024 => (iblk m c 2 t (ix2 0 k) : EReal)) = kvGain m c := by
  funext k
  rw [iblk2_eq]
  exact v31_apply m c k

/-- the queries' weights; -/
theorem wIn_eq : (fun k j : Fin 1024 => (iblk m c 3 t (ix2 k j) : EReal)) = wIn m c := by
  funext k j
  rw [iblk3_eq]
  exact v28_apply m c k j

/-- the keys' and values' weights. -/
theorem wKv_eq : (fun (k : Fin 1024) (j : Fin 1536) => (iblk m c 4 t (ix2 k j) : EReal)) = wKv m c := by
  funext k j
  rw [iblk4_eq]
  exact v29_apply m c k j

include hR in
/-- A row's cosines are its position's; -/
theorem cos_row : (fun l : Fin 128 => (iblk m c 5 t (ix2 r l) : EReal)) = fun l => cosines ⟨R.val % 16384, by omega⟩ ⟨l.val % 32, by omega⟩ := by
  funext l
  rw [iblk5_apply m c t r l ⟨R.val % 16384, by omega⟩ (show R.val % 16384 = 256 * (t.val % 64) + r.val by omega)]
  exact v21_apply m c _ l

include hR in
/-- so its sines. -/
theorem sin_row : (fun l : Fin 128 => (iblk m c 6 t (ix2 r l) : EReal)) = fun l => if l.val % 64 < 32 then -sines ⟨R.val % 16384, by omega⟩ ⟨l.val % 32, by omega⟩
    else sines ⟨R.val % 16384, by omega⟩ ⟨l.val % 32, by omega⟩ := by
  funext l
  rw [iblk6_apply m c t r l ⟨R.val % 16384, by omega⟩ (show R.val % 16384 = 256 * (t.val % 64) + r.val by omega)]
  exact v26_apply m c _ l

include hR in
/-- A tile's turned keys are the batch's. -/
theorem keys_row (j : Fin 768) :
    lane (fun j => project (fun k : Fin 1024 => (iblk m c 0 t (ix2 r k) : EReal)) (fun k : Fin 1024 => (iblk m c 2 t (ix2 0 k) : EReal))
        (fun (k : Fin 1024) (j : Fin 1536) => (iblk m c 4 t (ix2 k j) : EReal)) ⟨j.val, by omega⟩)
      (fun l : Fin 128 => (iblk m c 5 t (ix2 r l) : EReal)) (fun l : Fin 128 => (iblk m c 6 t (ix2 r l) : EReal)) j
      = turned (rows m c) (kvGain m c) (by decide) (wKv m c) R j := by
  rw [row_eq m c t r R hR, kvGain_eq, wKv_eq, cos_row m c t r R hR, sin_row m c t r R hR]
  exact lane_turn _ _ _ j

include hR in
/-- A tile's turned queries are the batch's. -/
theorem queries_row (j : Fin 768) :
    lane (fun j => project (fun k : Fin 1024 => (iblk m c 0 t (ix2 r k) : EReal)) (fun k : Fin 1024 => (iblk m c 1 t (ix2 0 k) : EReal))
        (fun k j : Fin 1024 => (iblk m c 3 t (ix2 k j) : EReal)) ⟨j.val, by omega⟩)
      (fun l : Fin 128 => (iblk m c 5 t (ix2 r l) : EReal)) (fun l : Fin 128 => (iblk m c 6 t (ix2 r l) : EReal)) j
      = turned (rows m c) (gain m c) (by decide) (wIn m c) R j := by
  rw [row_eq m c t r R hR, gain_eq, wIn_eq, cos_row m c t r R hR, sin_row m c t r R hR]
  exact lane_turn _ _ _ j

end Tile

/-- The grid has 128 points. -/
theorem points : cfg0.N = 128 := by decide

/-- The queries. -/
theorem queries_apply (R : Fin 32768) (j : Fin 768) : (dats m 0 c).arrAt 7 cfg0.N (ix2 R j) = queries (rows m c) (gain m c) (wIn m c) R j := by
  have hN := points
  let t : Fin cfg0.N := ⟨R.val / 256, by omega⟩
  let r : Fin 256 := ⟨R.val % 256, by omega⟩
  have hR : R.val = 256 * t.val + r.val := by show R.val = 256 * (R.val / 256) + R.val % 256; omega
  have b := congrFun (Value.blocks7 m c t (flush0_7 t)) (ix2 r j)
  rw [Value.flushed7] at b
  have b' : (dats m 0 c).arrAt 7 cfg0.N (((cfg0.win 7).blk t).view.emb (ix2 r j)) = _ := b
  rw [emb7 t r j R hR] at b'
  refine b'.trans ((out7_apply (grid0.coords t) (iblk m c 0 t) (iblk m c 1 t) (iblk m c 2 t) (iblk m c 3 t) (iblk m c 4 t) (iblk m c 5 t) (iblk m c 6 t) r j).trans ?_)
  exact congrArg (· * queryScale) (queries_row m c t r R hR j)

/-- The memory's queries. -/
theorem memQueries_apply (R : Fin 32768) (j : Fin 256) : (dats m 0 c).arrAt 8 cfg0.N (ix2 R j) = memQueries (rows m c) (gain m c) (wIn m c) R j := by
  have hN := points
  let t : Fin cfg0.N := ⟨R.val / 256, by omega⟩
  let r : Fin 256 := ⟨R.val % 256, by omega⟩
  have hR : R.val = 256 * t.val + r.val := by show R.val = 256 * (R.val / 256) + R.val % 256; omega
  have b := congrFun (Value.blocks8 m c t (flush0_8 t)) (ix2 r j)
  rw [Value.flushed8] at b
  have b' : (dats m 0 c).arrAt 8 cfg0.N (((cfg0.win 8).blk t).view.emb (ix2 r j)) = _ := b
  rw [emb8 t r j R hR] at b'
  refine b'.trans ((out8_apply (grid0.coords t) (iblk m c 0 t) (iblk m c 1 t) (iblk m c 2 t) (iblk m c 3 t) (iblk m c 4 t) (iblk m c 5 t) (iblk m c 6 t) r j).trans ?_)
  rw [row_eq m c t r R hR, gain_eq, wIn_eq]
  rfl

/-- The keys with their marks. -/
theorem keys_apply (a : Fin 12) (s : Fin 16384) (l : Fin 256) : (dats m 0 c).arrAt 9 cfg0.N (ix3 a s l)
    = keys (rows m c) (kvGain m c) (wKv m c) a s l := by
  have hN := points
  let t : Fin cfg0.N := ⟨a.val / 6 * 64 + s.val / 256, by omega⟩
  let p : Fin 6 := ⟨a.val % 6, by omega⟩
  let r : Fin 256 := ⟨s.val % 256, by omega⟩
  have ht : t.val = a.val / 6 * 64 + s.val / 256 := rfl
  have hr : r.val = s.val % 256 := rfl
  have hb : t.val % 64 = s.val / 256 := by omega
  have b := congrFun (Value.blocks9 m c t (flush0_9 t)) (ix3 p r l)
  rw [Value.flushed9] at b
  have b' : (dats m 0 c).arrAt 9 cfg0.N (((cfg0.win 9).blk t).view.emb (ix3 p r l)) = _ := b
  rw [emb9 t p r l a s (show a.val = 6 * (t.val / 64) + a.val % 6 by omega) (by omega)] at b'
  refine b'.trans ((out9_apply (grid0.coords t) (iblk m c 0 t) (iblk m c 1 t) (iblk m c 2 t) (iblk m c 3 t) (iblk m c 4 t) (iblk m c 5 t) (iblk m c 6 t) ⟨t.val, by omega⟩ (coord t) p r l).trans ?_)
  unfold entry keys
  show marked (t.val % 64) _ p l = _
  rw [hb]
  refine congrArg (fun k => marked (s.val / 256) k p l) (funext fun j => ?_)
  rw [keysOps_apply]
  exact keys_row m c t r ⟨a.val / 6 * 16384 + s.val, by omega⟩ (show a.val / 6 * 16384 + s.val = 256 * t.val + r.val by omega) j

/-- The values. -/
theorem values_apply (n : Fin 128) (j : Fin 768) (r : Fin 256) : (dats m 0 c).arrAt 10 cfg0.N (ix3 n j r)
    = values (rows m c) (kvGain m c) (wKv m c) n j r := by
  have hN := points
  let t : Fin cfg0.N := ⟨n.val, by omega⟩
  have b := congrFun (Value.blocks10 m c t (flush0_10 t)) (ix3 0 j r)
  rw [Value.flushed10] at b
  have b' : (dats m 0 c).arrAt 10 cfg0.N (((cfg0.win 10).blk t).view.emb (ix3 0 j r)) = _ := b
  rw [emb10 t j r n rfl] at b'
  refine b'.trans ((out10_apply (grid0.coords t) (iblk m c 0 t) (iblk m c 1 t) (iblk m c 2 t) (iblk m c 3 t) (iblk m c 4 t) (iblk m c 5 t) (iblk m c 6 t) j r).trans ?_)
  rw [row_eq m c t r ⟨n.val * 256 + r.val, by omega⟩ (show n.val * 256 + r.val = 256 * n.val + r.val by omega), kvGain_eq, wKv_eq]
  rfl

/-- The mean keys. -/
theorem means_apply (n : Fin 128) (j : Fin 768) : (dats m 0 c).arrAt 11 cfg0.N (ix3 n 0 j)
    = means (rows m c) (kvGain m c) (wKv m c) n j := by
  have hN := points
  let t : Fin cfg0.N := ⟨n.val, by omega⟩
  have b := congrFun (Value.blocks11 m c t (flush0_11 t)) (ix3 0 0 j)
  rw [Value.flushed11] at b
  have b' : (dats m 0 c).arrAt 11 cfg0.N (((cfg0.win 11).blk t).view.emb (ix3 0 0 j)) = _ := b
  rw [emb11 t j n rfl] at b'
  refine b'.trans ((out11_apply (grid0.coords t) (iblk m c 0 t) (iblk m c 1 t) (iblk m c 2 t) (iblk m c 3 t) (iblk m c 4 t) (iblk m c 5 t) (iblk m c 6 t) j).trans ?_)
  exact congrArg (Ideal.div · blockLen) (Finset.sum_congr rfl fun r _ => keys_row m c t r ⟨n.val * 256 + r.val, by omega⟩
    (show n.val * 256 + r.val = 256 * n.val + r.val by omega) j)

end Kern

end Cert.Moba

end
-- ==== Proof.Moba.RefRows.lean ====
/-
  The reference of the second layer's input projection: its tables and its projected rows.
-/
module

public import proofs.«01_k».proof.Proof.Gen.Reference7Ideal.Read
public import proofs.«01_k».proof.Proof.Moba.Spec

@[expose] public section

noncomputable section

namespace Cert.Moba.Ref

open Cert.Reference7Ideal Cert.Reference7Ideal.Read Idealize.ShloMosaic Idealize.ShloMosaic.TcCoe Idealize.SL.Sem

/-! ## The tables -/

/-- The cosines; -/
theorem v16_apply (p : Fin 16384) (f : Fin 32) : (val_main_v16 (F := Ideal) (ix2 p f) : EReal) = cosines p f := by
  unfold val_main_v16 val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0 val_main_cst_1 val_main_cst_2
  pointwise [cosines, angle]

/-- the sines. -/
theorem v17_apply (p : Fin 16384) (f : Fin 32) : (val_main_v17 (F := Ideal) (ix2 p f) : EReal) = sines p f := by
  unfold val_main_v17 val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0 val_main_cst_1 val_main_cst_2
  pointwise [sines, angle]

variable (x0 : (⟨S2x16384x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024x1536, .f32⟩ : BufTy).Contents (Elt Ideal))

/-! ## The projections -/

/-- The rows normed for the queries; -/
theorem v30_apply (n : Fin 2) (s : Fin 16384) (k : Fin 1024) :
    val_main_v30 x0 x1 (ix3 n s k) = Ffn.unit (fun k => x0 (ix3 n s k)) (fun k => x1 (ix1 k)) k := by
  unfold val_main_v30 val_main_v29 val_main_v28 val_main_v27 val_main_v26 val_main_v25 val_main_v24 val_main_v23 val_main_v22 val_main_v21
    val_main_v20 val_main_v19 val_main_v18 val_main_cst_3 val_main_cst_4 val_main_cst_5
  pointwise [Ffn.unit, Ffn.scale]

/-- for the keys and values. -/
theorem v68_apply (n : Fin 2) (s : Fin 16384) (k : Fin 1024) :
    val_main_v68 x0 x2 (ix3 n s k) = Ffn.unit (fun k => x0 (ix3 n s k)) (fun k => x2 (ix1 k)) k := by
  unfold val_main_v68 val_main_v67 val_main_v66 val_main_v65 val_main_v64 val_main_v63 val_main_v62 val_main_v61 val_main_v60 val_main_v59
    val_main_v58 val_main_v57 val_main_v56 val_main_cst_7 val_main_cst_8 val_main_cst_9
  pointwise [Ffn.unit, Ffn.scale]

/-- The queries' projection; -/
theorem v31_apply (n : Fin 2) (s : Fin 16384) (j : Fin 1024) : val_main_v31 x0 x1 x3 (ix3 n s j)
    = project (fun k => x0 (ix3 n s k)) (fun k => x1 (ix1 k)) (fun k j => x3 (ix2 k j)) j := by
  have h (k : Fin 1024) := v30_apply x0 x1 n s k
  unfold val_main_v31
  generalize val_main_v30 x0 x1 = y at h
  pointwise [project]
  simp only [h]

/-- the keys' and values'. -/
theorem v69_apply (n : Fin 2) (s : Fin 16384) (j : Fin 1536) : val_main_v69 x0 x2 x4 (ix3 n s j)
    = project (fun k => x0 (ix3 n s k)) (fun k => x2 (ix1 k)) (fun k j => x4 (ix2 k j)) j := by
  have h (k : Fin 1024) := v68_apply x0 x2 n s k
  unfold val_main_v69
  generalize val_main_v68 x0 x2 = y at h
  pointwise [project]
  simp only [h]

end Cert.Moba.Ref

end
-- ==== Proof.Moba.RefTurns.lean ====
/-
  The reference of the second layer's input projection: its turned queries and keys.
-/
module

public import proofs.«01_k».proof.Proof.Moba.RefRows

@[expose] public section

noncomputable section

namespace Cert.Moba.Ref

open Cert.Reference7Ideal Cert.Reference7Ideal.Read Idealize.ShloMosaic Idealize.ShloMosaic.TcCoe Idealize.SL.Sem

/-- A head's lanes, first half and second, are the turn's. -/
theorem head_turn (c s : Fin 32 → EReal) (z : Fin 768 → EReal) (h : Fin 12) (l : Fin 64) :
    (if k : l.val < 32 then z ⟨h.val * 64 + l.val, by omega⟩ * c ⟨l.val, k⟩ - z ⟨h.val * 64 + (32 + l.val), by omega⟩ * s ⟨l.val, k⟩
      else z ⟨h.val * 64 + (l.val - 32), by omega⟩ * s ⟨l.val - 32, by omega⟩ + z ⟨h.val * 64 + (32 + (l.val - 32)), by omega⟩ * c ⟨l.val - 32, by omega⟩)
      = turn c s z ⟨64 * h.val + l.val, by omega⟩ := by
  unfold turn
  by_cases k : l.val < 32
  · have e0 : (⟨h.val * 64 + l.val, by omega⟩ : Fin 768) = ⟨64 * h.val + l.val, by omega⟩ := Fin.ext (show h.val * 64 + l.val = 64 * h.val + l.val by omega)
    have e1 : (⟨h.val * 64 + (32 + l.val), by omega⟩ : Fin 768) = ⟨(64 * h.val + l.val + 32) % 768, by omega⟩ :=
      Fin.ext (show h.val * 64 + (32 + l.val) = (64 * h.val + l.val + 32) % 768 by omega)
    have e2 : (⟨l.val, k⟩ : Fin 32) = ⟨(64 * h.val + l.val) % 32, by omega⟩ := Fin.ext (show l.val = (64 * h.val + l.val) % 32 by omega)
    rw [dif_pos k, if_pos (show (64 * h.val + l.val) % 64 < 32 by omega), e0, e1, e2]
  · have e0 : (⟨h.val * 64 + (l.val - 32), by omega⟩ : Fin 768) = ⟨(64 * h.val + l.val + 736) % 768, by omega⟩ :=
      Fin.ext (show h.val * 64 + (l.val - 32) = (64 * h.val + l.val + 736) % 768 by omega)
    have e1 : (⟨h.val * 64 + (32 + (l.val - 32)), by omega⟩ : Fin 768) = ⟨64 * h.val + l.val, by omega⟩ :=
      Fin.ext (show h.val * 64 + (32 + (l.val - 32)) = 64 * h.val + l.val by omega)
    have e2 : (⟨l.val - 32, by omega⟩ : Fin 32) = ⟨(64 * h.val + l.val) % 32, by omega⟩ := Fin.ext (show l.val - 32 = (64 * h.val + l.val) % 32 by omega)
    rw [dif_neg k, if_neg (show ¬ (64 * h.val + l.val) % 64 < 32 by omega), e0, e1, e2]

variable (x0 : (⟨S2x16384x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024x1536, .f32⟩ : BufTy).Contents (Elt Ideal))

/-- The turned queries, head by head; -/
theorem v53_apply (n : Fin 2) (s : Fin 16384) (h : Fin 12) (l : Fin 64) : val_main_v53 x0 x1 x3 (ix4 n s h l)
    = turn (cosines s) (sines s) (fun j => project (fun k => x0 (ix3 n s k)) (fun k => x1 (ix1 k)) (fun k j => x3 (ix2 k j)) ⟨j.val, by omega⟩)
      ⟨64 * h.val + l.val, by omega⟩ := by
  have hc (f : Fin 32) := v16_apply s f
  have hs (f : Fin 32) := v17_apply s f
  have hp (j : Fin 1024) := v31_apply x0 x1 x3 n s j
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v32
  generalize val_main_v31 x0 x1 x3 = y at hp
  generalize val_main_v16 (F := Ideal) = c at hc
  generalize val_main_v17 (F := Ideal) = d at hs
  pointwise
  simp only [hp, hc, hs]
  exact head_turn (cosines s) (sines s) (fun j => project (fun k => x0 (ix3 n s k)) (fun k => x1 (ix1 k)) (fun k j => x3 (ix2 k j)) ⟨j.val, by omega⟩) h l

/-- the turned keys. -/
theorem v90_apply (n : Fin 2) (s : Fin 16384) (h : Fin 12) (l : Fin 64) : val_main_v90 x0 x2 x4 (ix4 n s h l)
    = turn (cosines s) (sines s) (fun j => project (fun k => x0 (ix3 n s k)) (fun k => x2 (ix1 k)) (fun k j => x4 (ix2 k j)) ⟨j.val, by omega⟩)
      ⟨64 * h.val + l.val, by omega⟩ := by
  have hc (f : Fin 32) := v16_apply s f
  have hs (f : Fin 32) := v17_apply s f
  have hp (j : Fin 1536) := v69_apply x0 x2 x4 n s j
  unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70
  generalize val_main_v69 x0 x2 x4 = y at hp
  generalize val_main_v16 (F := Ideal) = c at hc
  generalize val_main_v17 (F := Ideal) = d at hs
  pointwise
  simp only [hp, hc, hs]
  exact head_turn (cosines s) (sines s) (fun j => project (fun k => x0 (ix3 n s k)) (fun k => x2 (ix1 k)) (fun k j => x4 (ix2 k j)) ⟨j.val, by omega⟩) h l

end Cert.Moba.Ref

end
-- ==== Proof.Moba.RefMarks.lean ====
/-
  The reference of the second layer's input projection: the block's mark beside the keys.
-/
module

public import proofs.«01_k».proof.Proof.Moba.RefTurns

@[expose] public section

noncomputable section

namespace Cert.Moba.Ref

open Cert.Reference7Ideal Cert.Reference7Ideal.Read Idealize.ShloMosaic Idealize.ShloMosaic.TcCoe Idealize.SL.Sem

/-- The word of a block's mark. -/
theorem eye_apply (p q : Fin 64) :
    (FloatOps.uitofp (F := Ideal) .f32 (IntOp.cmpi .eq (IntOp.addi (BitVec.ofNat 32 p.val) 0#32) (BitVec.ofNat 32 q.val)) : EReal) = if q.val = p.val then 1 else 0 := by
  have e : IntOp.cmpi .eq (IntOp.addi (BitVec.ofNat 32 p.val) 0#32) (BitVec.ofNat 32 q.val) = if q.val = p.val then 1#1 else 0#1 := by
    revert p q
    decide +kernel
  rw [e]
  by_cases h : q.val = p.val
  · rw [if_pos h, if_pos h]
    show (((1#1).toNat : ℝ) : EReal) = 1
    simp
  · rw [if_neg h, if_neg h]
    show (((0#1).toNat : ℝ) : EReal) = 0
    simp

/-- The 64 blocks' marks. -/
theorem v103_apply (p q : Fin 64) : (val_main_v103 (F := Ideal) (ix2 p q) : EReal) = if q.val = p.val then 1 else 0 := by
  unfold val_main_v103 val_main_v102 val_main_v101 val_main_v100 val_main_v99 val_main_v98 val_main_c
  pointwise
  exact eye_apply p q

/-- A position's mark is its block's. -/
theorem v108_apply (n : Fin 2) (s : Fin 16384) (h : Fin 12) (l : Fin 64) : (val_main_v108 (F := Ideal) (ix4 n s h l) : EReal)
    = if l.val = s.val / 256 then 1 else 0 := by
  have e (p q : Fin 64) := v103_apply p q
  unfold val_main_v108 val_main_v107 val_main_v106 val_main_v105 val_main_v104
  generalize val_main_v103 (F := Ideal) = y at e
  pointwise
  exact e ⟨s.val / 256, by omega⟩ l

variable (x0 : (⟨S2x16384x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024x1536, .f32⟩ : BufTy).Contents (Elt Ideal))

/-- A head's keys, the mark beside them. -/
theorem v109_apply (n : Fin 2) (s : Fin 16384) (h : Fin 12) (l : Fin 128) : val_main_v109 x0 x2 x4 (ix4 n s h l)
    = if k : l.val < 64 then val_main_v90 x0 x2 x4 (ix4 n s h ⟨l.val, k⟩) else if l.val - 64 = s.val / 256 then 1 else 0 := by
  have e (l : Fin 64) := v108_apply n s h l
  unfold val_main_v109
  generalize val_main_v90 x0 x2 x4 = y
  generalize val_main_v108 (F := Ideal) = z at e
  pointwise
  by_cases k : l.val < 64
  · rw [dif_pos k, dif_pos k]
  · rw [dif_neg k, dif_neg k]
    exact e ⟨l.val - 64, by omega⟩

/-- A pair of heads' keys, each with the mark beside them. -/
theorem v112_apply (a : Fin 12) (s : Fin 16384) (l : Fin 256) : val_main_v112 x0 x2 x4 (ix3 a s l)
    = val_main_v109 x0 x2 x4 (ix4 ⟨a.val / 6, by omega⟩ s ⟨a.val % 6 * 2 + l.val / 128, by omega⟩ ⟨l.val % 128, by omega⟩) := by
  have e2 : idx_main_v112 (ix3 a s l) = (ix4 ⟨a.val / 6, by omega⟩ ⟨a.val % 6, by omega⟩ s l : S2x6x16384x256.Idx) := by
    funext b
    match b with
    | ⟨0, _⟩ => exact Fin.ext (show ((a.val * 16384 + s.val) * 256 + l.val) / 25165824 = a.val / 6 by omega)
    | ⟨1, _⟩ => exact Fin.ext (show ((a.val * 16384 + s.val) * 256 + l.val) / 4194304 % 6 = a.val % 6 by omega)
    | ⟨2, _⟩ => exact Fin.ext (show ((a.val * 16384 + s.val) * 256 + l.val) / 256 % 16384 = s.val by omega)
    | ⟨3, _⟩ => exact Fin.ext (show ((a.val * 16384 + s.val) * 256 + l.val) % 256 = l.val by omega)
  have e1 : idx_main_v111 (ix4 ⟨a.val / 6, by omega⟩ ⟨a.val % 6, by omega⟩ s l) = (ix4 ⟨a.val / 6, by omega⟩ s ⟨a.val % 6, by omega⟩ l : S2x16384x6x256.Idx) := by
    funext b
    match b with
    | ⟨0, _⟩ => rfl
    | ⟨1, _⟩ => rfl
    | ⟨2, _⟩ => rfl
    | ⟨3, _⟩ => rfl
  have e0 : idx_main_v110 (ix4 ⟨a.val / 6, by omega⟩ s ⟨a.val % 6, by omega⟩ l)
      = (ix4 ⟨a.val / 6, by omega⟩ s ⟨a.val % 6 * 2 + l.val / 128, by omega⟩ ⟨l.val % 128, by omega⟩ : S2x16384x12x128.Idx) := by
    funext b
    match b with
    | ⟨0, _⟩ => exact Fin.ext (show (((a.val / 6 * 16384 + s.val) * 6 + a.val % 6) * 256 + l.val) / 25165824 = a.val / 6 by omega)
    | ⟨1, _⟩ => exact Fin.ext (show (((a.val / 6 * 16384 + s.val) * 6 + a.val % 6) * 256 + l.val) / 1536 % 16384 = s.val by omega)
    | ⟨2, _⟩ => exact Fin.ext (show (((a.val / 6 * 16384 + s.val) * 6 + a.val % 6) * 256 + l.val) / 128 % 12 = a.val % 6 * 2 + l.val / 128 by omega)
    | ⟨3, _⟩ => exact Fin.ext (show (((a.val / 6 * 16384 + s.val) * 6 + a.val % 6) * 256 + l.val) % 128 = l.val % 128 by omega)
  rw [val_main_v112_apply, e2, val_main_v111_apply, e1, val_main_v110_apply, e0]

end Cert.Moba.Ref

end
-- ==== Proof.Moba.RefResults.lean ====
/-
  The results of the second layer's input projection's reference, element by element as the mathematics of its arguments.
-/
module

public import proofs.«01_k».proof.Proof.Moba.RefMarks

@[expose] public section

noncomputable section

namespace Cert.Moba.Ref

open Cert.Reference7Ideal Cert.Reference7Ideal.Read Idealize.ShloMosaic Idealize.ShloMosaic.TcCoe Idealize.SL.Sem

/-- A turned row of the batch, at its sequence and position. -/
theorem turned_at {a : ℕ} (x : Fin 2 → Fin 16384 → Fin 1024 → EReal) (g : Fin 1024 → EReal) (ha : 768 ≤ a) (w : Fin 1024 → Fin a → EReal)
    (R : Fin 32768) (n : Fin 2) (s : Fin 16384) (hR : R.val = n.val * 16384 + s.val) (j i : Fin 768) (hj : i.val = j.val) :
    turned x g ha w R j = turn (cosines s) (sines s) (fun j => project (x n s) g w ⟨j.val, by omega⟩) i := by
  obtain rfl : i = j := Fin.ext hj
  have hn : (⟨R.val / 16384, by omega⟩ : Fin 2) = n := Fin.ext (show R.val / 16384 = n.val by omega)
  have hs : (⟨R.val % 16384, by omega⟩ : Fin 16384) = s := Fin.ext (show R.val % 16384 = s.val by omega)
  unfold turned row
  rw [hn, hs]

variable (x0 : (⟨S2x16384x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024x1536, .f32⟩ : BufTy).Contents (Elt Ideal))

/-- The queries. -/
theorem v114_apply (R : Fin 32768) (j : Fin 768) : val_main_v114 x0 x1 x3 (ix2 R j) = queries (fun n s k => x0 (ix3 n s k)) (fun k => x1 (ix1 k)) (fun k j => x3 (ix2 k j)) R j := by
  have e := v53_apply x0 x1 x3 ⟨R.val / 16384, by omega⟩ ⟨R.val % 16384, by omega⟩ ⟨j.val / 64, by omega⟩ ⟨j.val % 64, by omega⟩
  unfold queries
  rw [turned_at _ _ _ _ R ⟨R.val / 16384, by omega⟩ ⟨R.val % 16384, by omega⟩ (show R.val = R.val / 16384 * 16384 + R.val % 16384 by omega)
    j ⟨64 * (j.val / 64) + j.val % 64, by omega⟩ (show 64 * (j.val / 64) + j.val % 64 = j.val by omega), ← e]
  unfold val_main_v114 val_main_v113 val_main_v55 val_main_v54 val_main_cst_6
  generalize val_main_v53 x0 x1 x3 = y
  pointwise [queryScale]

/-- The memory's queries. -/
theorem v116_apply (R : Fin 32768) (j : Fin 256) : val_main_v116 x0 x1 x3 (ix2 R j) = memQueries (fun n s k => x0 (ix3 n s k)) (fun k => x1 (ix1 k)) (fun k j => x3 (ix2 k j)) R j := by
  have e (j : Fin 1024) := v31_apply x0 x1 x3 ⟨R.val / 16384, by omega⟩ ⟨R.val % 16384, by omega⟩ j
  unfold val_main_v116 val_main_v115 val_main_v33
  generalize val_main_v31 x0 x1 x3 = y at e
  pointwise [memQueries, row]
  simp only [e]

/-- The keys with their marks. -/
theorem v117_apply (a : Fin 12) (s : Fin 16384) (l : Fin 256) : val_main_v117 x0 x2 x4 (ix3 a s l) = keys (fun n s k => x0 (ix3 n s k)) (fun k => x2 (ix1 k)) (fun k j => x4 (ix2 k j)) a s l := by
  rw [val_main_v117_apply]
  change val_main_v112 x0 x2 x4 (ix3 a s l) = _
  rw [v112_apply, v109_apply]
  unfold keys marked
  by_cases b : l.val % 128 < 64
  · rw [dif_pos b, dif_pos b, v90_apply]
    exact (turned_at (fun n s k => x0 (ix3 n s k)) (fun k => x2 (ix1 k)) (by decide) (fun k j => x4 (ix2 k j)) ⟨a.val / 6 * 16384 + s.val, by omega⟩
      ⟨a.val / 6, by omega⟩ s (show a.val / 6 * 16384 + s.val = a.val / 6 * 16384 + s.val by omega) ⟨128 * (a.val % 6) + 64 * (l.val / 128) + l.val % 128, by omega⟩
      ⟨64 * (a.val % 6 * 2 + l.val / 128) + l.val % 128, by omega⟩
      (show 64 * (a.val % 6 * 2 + l.val / 128) + l.val % 128 = 128 * (a.val % 6) + 64 * (l.val / 128) + l.val % 128 by omega)).symm
  · rw [dif_neg b, dif_neg b]

/-- The values. -/
theorem v119_apply (n : Fin 128) (j : Fin 768) (r : Fin 256) : val_main_v119 x0 x2 x4 (ix3 n j r) = values (fun n s k => x0 (ix3 n s k)) (fun k => x2 (ix1 k)) (fun k j => x4 (ix2 k j)) n j r := by
  have e (n : Fin 2) (s : Fin 16384) (j : Fin 1536) := v69_apply x0 x2 x4 n s j
  have f : (⟨n.val / 64, by omega⟩ : Fin 2) = ⟨(n.val * 256 + r.val) / 16384, by omega⟩ := Fin.ext (show n.val / 64 = (n.val * 256 + r.val) / 16384 by omega)
  have p : (⟨n.val % 64 * 256 + r.val, by omega⟩ : Fin 16384) = ⟨(n.val * 256 + r.val) % 16384, by omega⟩ :=
    Fin.ext (show n.val % 64 * 256 + r.val = (n.val * 256 + r.val) % 16384 by omega)
  unfold val_main_v119 val_main_v118 val_main_v92 val_main_v91
  generalize val_main_v69 x0 x2 x4 = y at e
  pointwise [values, row]
  simp only [e]
  rw [f, p]

/-- The mean keys. -/
theorem v97_apply (n : Fin 128) (j : Fin 768) : val_main_v97 x0 x2 x4 (ix3 n 0 j) = means (fun n s k => x0 (ix3 n s k)) (fun k => x2 (ix1 k)) (fun k j => x4 (ix2 k j)) n j := by
  have e (r : Fin 256) := v90_apply x0 x2 x4 ⟨n.val / 64, by omega⟩ ⟨n.val % 64 * 256 + r.val, by omega⟩ ⟨j.val / 64, by omega⟩ ⟨j.val % 64, by omega⟩
  unfold val_main_v97 val_main_v96 val_main_v95 val_main_v94 val_main_v93 val_main_cst_10 val_main_cst_11
  generalize val_main_v90 x0 x2 x4 = y at e
  pointwise [means, blockLen]
  refine congrArg (Ideal.div · _) (Finset.sum_congr rfl fun r _ => (e r).trans ?_)
  exact (turned_at (fun n s k => x0 (ix3 n s k)) (fun k => x2 (ix1 k)) (by decide) (fun k j => x4 (ix2 k j)) ⟨n.val * 256 + r.val, by omega⟩
    ⟨n.val / 64, by omega⟩ ⟨n.val % 64 * 256 + r.val, by omega⟩ (show n.val * 256 + r.val = n.val / 64 * 16384 + (n.val % 64 * 256 + r.val) by omega)
    j ⟨64 * (j.val / 64) + j.val % 64, by omega⟩ (show 64 * (j.val / 64) + j.val % 64 = j.val by omega)).symm

end Cert.Moba.Ref

end
-- ==== Proof.Moba.Equation.lean ====
/-
  The equation between the two programs of the second layer's input projection: all their results are its mathematics of the arguments.
-/
module

public import proofs.«01_k».proof.Defs
public import proofs.«01_k».proof.Proof.Moba.Kern
public import proofs.«01_k».proof.Proof.Moba.RefResults
public import proofs.«01_k».proof.Proof.Gen.Reference7Ideal.Run

@[expose] public section

noncomputable section

namespace Cert.Moba

open Idealize.ShloMosaic Idealize.SL.Sem

/-- The mean keys' array has one row a block. -/
theorem mean_index (j : Cert.Kernel7Ideal.S128x1x768.Idx) : ∃ (n : Fin 128) (k : Fin 768), j = ix3 n 0 k := by
  refine ⟨j 0, j 2, (eq_ix3 j).trans ?_⟩
  have h : j 1 = (0 : Fin 1) := Fin.ext (by have := (j 1).isLt; show (j 1).val = 0; exact Nat.lt_one_iff.mp this)
  rw [h]

section Arrays

open Cert.Kernel7Ideal Cert.Kernel7Ideal.Gen Kern

variable (m : (ℓ : Loc nD τ sig) → Buf (Elt Ideal) ℓ) (c : Dev nD)

/-- The queries' array, -/
theorem queries_array : (dats m 0 c).arrAt 7 cfg0.N = fun j : S32768x768.Idx => queries (rows m c) (gain m c) (wIn m c) (j 0) (j 1) := by
  funext j
  obtain ⟨R, k, rfl⟩ : ∃ (R : Fin 32768) (k : Fin 768), j = ix2 R k := ⟨j 0, j 1, eq_ix2 j⟩
  exact Kern.queries_apply m c R k

/-- the memory's queries' array, -/
theorem memQueries_array : (dats m 0 c).arrAt 8 cfg0.N = fun j : S32768x256.Idx => memQueries (rows m c) (gain m c) (wIn m c) (j 0) (j 1) := by
  funext j
  obtain ⟨R, k, rfl⟩ : ∃ (R : Fin 32768) (k : Fin 256), j = ix2 R k := ⟨j 0, j 1, eq_ix2 j⟩
  exact Kern.memQueries_apply m c R k

/-- the keys' array, -/
theorem keys_array : (dats m 0 c).arrAt 9 cfg0.N = fun j : S12x16384x256.Idx => keys (rows m c) (kvGain m c) (wKv m c) (j 0) (j 1) (j 2) := by
  funext j
  obtain ⟨a, s, l, rfl⟩ : ∃ (a : Fin 12) (s : Fin 16384) (l : Fin 256), j = ix3 a s l := ⟨j 0, j 1, j 2, eq_ix3 j⟩
  exact Kern.keys_apply m c a s l

/-- the values' array -/
theorem values_array : (dats m 0 c).arrAt 10 cfg0.N = fun j : S128x768x256.Idx => values (rows m c) (kvGain m c) (wKv m c) (j 0) (j 1) (j 2) := by
  funext j
  obtain ⟨n, k, r, rfl⟩ : ∃ (n : Fin 128) (k : Fin 768) (r : Fin 256), j = ix3 n k r := ⟨j 0, j 1, j 2, eq_ix3 j⟩
  exact Kern.values_apply m c n k r

/-- and the mean keys' array are the mathematics of the kernel's arguments. -/
theorem means_array : (dats m 0 c).arrAt 11 cfg0.N = fun j : S128x1x768.Idx => means (rows m c) (kvGain m c) (wKv m c) (j 0) (j 2) := by
  funext j
  obtain ⟨n, k, rfl⟩ : ∃ (n : Fin 128) (k : Fin 768), j = ix3 n 0 k := mean_index j
  exact Kern.means_apply m c n k

end Arrays

section Values

open Cert.Reference7Ideal Cert.Reference7Ideal.Read

variable (x0 : (⟨S2x16384x1024, .f32⟩ : BufTy).Contents (Elt Ideal)) (x1 x2 : (⟨S1024, .f32⟩ : BufTy).Contents (Elt Ideal))
  (x3 : (⟨S1024x1024, .f32⟩ : BufTy).Contents (Elt Ideal)) (x4 : (⟨S1024x1536, .f32⟩ : BufTy).Contents (Elt Ideal))

/-- The reference's queries, -/
theorem queries_value : val_main_v114 (F := Ideal) x0 x1 x3 = fun j => queries (fun n s k => x0 (ix3 n s k)) (fun k => x1 (ix1 k)) (fun k j => x3 (ix2 k j)) (j 0) (j 1) := by
  funext j
  obtain ⟨R, k, rfl⟩ : ∃ (R : Fin 32768) (k : Fin 768), j = ix2 R k := ⟨j 0, j 1, eq_ix2 j⟩
  exact Ref.v114_apply x0 x1 x3 R k

/-- its memory's queries, -/
theorem memQueries_value : val_main_v116 (F := Ideal) x0 x1 x3 = fun j => memQueries (fun n s k => x0 (ix3 n s k)) (fun k => x1 (ix1 k)) (fun k j => x3 (ix2 k j)) (j 0) (j 1) := by
  funext j
  obtain ⟨R, k, rfl⟩ : ∃ (R : Fin 32768) (k : Fin 256), j = ix2 R k := ⟨j 0, j 1, eq_ix2 j⟩
  exact Ref.v116_apply x0 x1 x3 R k

/-- its keys, -/
theorem keys_value : val_main_v117 (F := Ideal) x0 x2 x4 = fun j => keys (fun n s k => x0 (ix3 n s k)) (fun k => x2 (ix1 k)) (fun k j => x4 (ix2 k j)) (j 0) (j 1) (j 2) := by
  funext j
  obtain ⟨a, s, l, rfl⟩ : ∃ (a : Fin 12) (s : Fin 16384) (l : Fin 256), j = ix3 a s l := ⟨j 0, j 1, j 2, eq_ix3 j⟩
  exact Ref.v117_apply x0 x2 x4 a s l

/-- its values -/
theorem values_value : val_main_v119 (F := Ideal) x0 x2 x4 = fun j => values (fun n s k => x0 (ix3 n s k)) (fun k => x2 (ix1 k)) (fun k j => x4 (ix2 k j)) (j 0) (j 1) (j 2) := by
  funext j
  obtain ⟨n, k, r, rfl⟩ : ∃ (n : Fin 128) (k : Fin 768) (r : Fin 256), j = ix3 n k r := ⟨j 0, j 1, j 2, eq_ix3 j⟩
  exact Ref.v119_apply x0 x2 x4 n k r

/-- and its mean keys are the mathematics of its arguments. -/
theorem means_value : val_main_v97 (F := Ideal) x0 x2 x4 = fun j => means (fun n s k => x0 (ix3 n s k)) (fun k => x2 (ix1 k)) (fun k j => x4 (ix2 k j)) (j 0) (j 2) := by
  funext j
  obtain ⟨n, k, rfl⟩ : ∃ (n : Fin 128) (k : Fin 768), j = ix3 n 0 k := mean_index j
  exact Ref.v97_apply x0 x2 x4 n k

/-- The reference's run, its results by name. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = val_main_v114 (F := Ideal) (m ((c.tc : Thread nD τ).loc main_arg0)) (m ((c.tc : Thread nD τ).loc main_arg1)) (m ((c.tc : Thread nD τ).loc main_arg3))
      ∧ r.2.mem ((c.tc : Thread nD τ).loc main_v116) = val_main_v116 (F := Ideal) (m ((c.tc : Thread nD τ).loc main_arg0)) (m ((c.tc : Thread nD τ).loc main_arg1)) (m ((c.tc : Thread nD τ).loc main_arg3))
      ∧ r.2.mem ((c.tc : Thread nD τ).loc main_v117) = val_main_v117 (F := Ideal) (m ((c.tc : Thread nD τ).loc main_arg0)) (m ((c.tc : Thread nD τ).loc main_arg2)) (m ((c.tc : Thread nD τ).loc main_arg4))
      ∧ r.2.mem ((c.tc : Thread nD τ).loc main_v119) = val_main_v119 (F := Ideal) (m ((c.tc : Thread nD τ).loc main_arg0)) (m ((c.tc : Thread nD τ).loc main_arg2)) (m ((c.tc : Thread nD τ).loc main_arg4))
      ∧ r.2.mem ((c.tc : Thread nD τ).loc main_v97) = val_main_v97 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v114_eq m c), (h c).2.1.trans (val_main_v116_eq _ _ _),
    (h c).2.2.1.trans (val_main_v117_eq m c), (h c).2.2.2.1.trans (val_main_v119_eq _ _ _), (h c).2.2.2.2.1.trans (val_main_v97_eq m c),
    (h c).2.2.2.2.2⟩) (Value.run m ρ)

end Values

/-- From equal arguments both programs run and end in equal results, the arguments unchanged. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨
    fun c => fun j => queries (Kern.rows m c) (Kern.gain m c) (Kern.wIn m c) (j 0) (j 1),
    fun c => fun j => memQueries (Kern.rows m c) (Kern.gain m c) (Kern.wIn m c) (j 0) (j 1),
    fun c => fun j => keys (Kern.rows m c) (Kern.kvGain m c) (Kern.wKv m c) (j 0) (j 1) (j 2),
    fun c => fun j => values (Kern.rows m c) (Kern.kvGain m c) (Kern.wKv m c) (j 0) (j 1) (j 2),
    fun c => fun j => means (Kern.rows m c) (Kern.kvGain m c) (Kern.wKv m c) (j 0) (j 2),
    ?_, ?_⟩
  · exact (θ_run (Cert.Kernel7Ideal.defs (F := Ideal)) _ _).mono (fun r h c => ⟨(h c).1.trans (queries_array m c),
      (h c).2.1.trans (memQueries_array m c), (h c).2.2.1.trans (keys_array m c), (h c).2.2.2.1.trans (values_array m c),
      (h c).2.2.2.2.1.trans (means_array m c), (h c).2.2.2.2.2⟩) (Cert.Kernel7Ideal.Value.run_blocks m g)
  · refine (θ_run (Cert.Reference7Ideal.defs (F := Ideal)) _ _).mono (fun r h c => ?_) (run_values m' g')
    have e := hargs c
    refine ⟨(h c).1.trans ?_, (h c).2.1.trans ?_, (h c).2.2.1.trans ?_, (h c).2.2.2.1.trans ?_, (h c).2.2.2.2.1.trans ?_, (h c).2.2.2.2.2⟩
    · rw [e.1, e.2.1, e.2.2.2.1]
      exact queries_value _ _ _
    · rw [e.1, e.2.1, e.2.2.2.1]
      exact memQueries_value _ _ _
    · rw [e.1, e.2.2.1, e.2.2.2.2]
      exact keys_value _ _ _
    · rw [e.1, e.2.2.1, e.2.2.2.2]
      exact values_value _ _ _
    · rw [e.1, e.2.2.1, e.2.2.2.2]
      exact means_value _ _ _

end Cert.Moba

end
-- ==== Proof.lean ====
/-
  The claims about the feed-forward block with and without the closing norm, the state-space recurrence, the two mixer calls, the two
  input projections and the memory's projection: of each the three runs, and the equation between kernel and reference.
-/
module

public import proofs.«01_k».proof.Proof.Gen.ReferenceIdeal.Read
public import proofs.«01_k».proof.Proof.Gen.ReferenceIdeal.Run
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Step
public import proofs.«01_k».proof.Proof.Gen.Pre_finite_and_nonzero
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Ffn.Equation
public import proofs.«01_k».proof.Proof.Ffn.PlainEquation
public import proofs.«01_k».proof.Proof.S5.Equation
public import proofs.«01_k».proof.Proof.Mix.Equation
public import proofs.«01_k».proof.Proof.Mix.PlainEquation
public import proofs.«01_k».proof.Proof.Inproj.Equation
public import proofs.«01_k».proof.Proof.Memory.Equation
public import proofs.«01_k».proof.Proof.Moba.Equation
public import Idealize.ShloMosaic.Adequacy
public import Idealize.ShloMosaic.Init

@[expose] public section

noncomputable section

namespace Cert.Proof

open Idealize.ShloMosaic Idealize.SL.Sem Cert.Kernel

/-- The reference runs, its arguments unchanged and no semaphore left counting (it has none). -/
theorem reference_run : Cert.quiescent_ReferenceIdeal (hReferenceIdeal := Cert.ReferenceIdeal.Gen.facts) := fun m ρ _ =>
  (θ_run (Cert.ReferenceIdeal.defs (F := Ideal)) _ _).mono (fun _ h => ⟨fun c => (h c).2, sem_eq_zero_of_no_sems rfl _⟩)
    (Cert.ReferenceIdeal.Value.run m ρ)

/-- So does the recurrence's reference. -/
theorem reference2_run : Cert.quiescent_Reference2Ideal (hReference2Ideal := Cert.Reference2Ideal.Gen.facts) := fun m ρ _ =>
  (θ_run (Cert.Reference2Ideal.defs (F := Ideal)) _ _).mono (fun _ h => ⟨fun c => (h c).2, sem_eq_zero_of_no_sems rfl _⟩)
    (Cert.S5.StepRun.run_iter m ρ (Cert.S5.states m) (fun _ => rfl) fun _ _ => rfl)

/-- So does the gated mixer call's, -/
theorem reference3_run : Cert.quiescent_Reference3Ideal (hReference3Ideal := Cert.Reference3Ideal.Gen.facts) := fun m ρ _ =>
  (θ_run (Cert.Reference3Ideal.defs (F := Ideal)) _ _).mono (fun _ h => ⟨fun c => (h c).2, sem_eq_zero_of_no_sems rfl _⟩)
    (Cert.Reference3Ideal.Value.run m ρ)

/-- the plain mixer call's, -/
theorem reference4_run : Cert.quiescent_Reference4Ideal (hReference4Ideal := Cert.Reference4Ideal.Gen.facts) := fun m ρ _ =>
  (θ_run (Cert.Reference4Ideal.defs (F := Ideal)) _ _).mono (fun _ h => ⟨fun c => (h c).2, sem_eq_zero_of_no_sems rfl _⟩)
    (Cert.Reference4Ideal.Value.run m ρ)

/-- the first layer's input projection's, -/
theorem reference5_run : Cert.quiescent_Reference5Ideal (hReference5Ideal := Cert.Reference5Ideal.Gen.facts) := fun m ρ _ =>
  (θ_run (Cert.Reference5Ideal.defs (F := Ideal)) _ _).mono (fun _ h => ⟨fun c => (h c).2.2, sem_eq_zero_of_no_sems rfl _⟩)
    (Cert.Reference5Ideal.Value.run m ρ)

/-- the memory's projection's, -/
theorem reference6_run : Cert.quiescent_Reference6Ideal (hReference6Ideal := Cert.Reference6Ideal.Gen.facts) := fun m ρ _ =>
  (θ_run (Cert.Reference6Ideal.defs (F := Ideal)) _ _).mono (fun _ h => ⟨fun c => (h c).2, sem_eq_zero_of_no_sems rfl _⟩)
    (Cert.Reference6Ideal.Value.run m ρ)

/-- the second layer's input projection's, -/
theorem reference7_run : Cert.quiescent_Reference7Ideal (hReference7Ideal := Cert.Reference7Ideal.Gen.facts) := fun m ρ _ =>
  (θ_run (Cert.Reference7Ideal.defs (F := Ideal)) _ _).mono (fun _ h => ⟨fun c => (h c).2.2.2.2.2, sem_eq_zero_of_no_sems rfl _⟩)
    (Cert.Moba.run_values m ρ)

/-- and that of the feed-forward block without the closing norm. -/
theorem reference8_run : Cert.quiescent_Reference8Ideal (hReference8Ideal := Cert.Reference8Ideal.Gen.facts) := fun m ρ _ =>
  (θ_run (Cert.Reference8Ideal.defs (F := Ideal)) _ _).mono (fun _ h => ⟨fun c => (h c).2, sem_eq_zero_of_no_sems rfl _⟩)
    (Cert.Reference8Ideal.Value.run m ρ)

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts, Cert.Kernel7.Gen.facts,
    Cert.Kernel7Ideal.Gen.facts, Cert.Reference7Ideal.Gen.facts, Cert.Kernel8.Gen.facts, Cert.Kernel8Ideal.Gen.facts, Cert.Reference8Ideal.Gen.facts,
    Cert.Pre_finite_and_nonzero.Gen.facts,
    fun m ρ _ => Cert.Kernel.Gen.frame m ρ, fun m ρ _ => Cert.KernelIdeal.Gen.frame m ρ, reference_run,
    fun m ρ _ => Cert.Kernel2.Gen.frame m ρ, fun m ρ _ => Cert.Kernel2Ideal.Gen.frame m ρ, fun m ρ _ => Cert.Kernel2Ideal.Gen.frame m ρ,
    reference2_run, fun m ρ _ => reference2_run m ρ trivial,
    fun m ρ _ => Cert.Kernel3.Gen.frame m ρ, fun m ρ _ => Cert.Kernel3Ideal.Gen.frame m ρ, reference3_run,
    fun m ρ _ => Cert.Kernel4.Gen.frame m ρ, fun m ρ _ => Cert.Kernel4Ideal.Gen.frame m ρ, reference4_run,
    fun m ρ _ => Cert.Kernel5.Gen.frame m ρ, fun m ρ _ => Cert.Kernel5Ideal.Gen.frame m ρ, reference5_run,
    fun m ρ _ => Cert.Kernel6.Gen.frame m ρ, fun m ρ _ => Cert.Kernel6Ideal.Gen.frame m ρ, reference6_run,
    fun m ρ _ => Cert.Kernel7.Gen.frame m ρ, fun m ρ _ => Cert.Kernel7Ideal.Gen.frame m ρ, reference7_run,
    fun m ρ _ => Cert.Kernel8.Gen.frame m ρ, fun m ρ _ => Cert.Kernel8Ideal.Gen.frame m ρ, reference8_run,
    trivial, Cert.Ffn.algebraic, trivial, Cert.S5.algebraic, trivial, Cert.Mix.algebraic, trivial, Cert.Mix.Plain.algebraic,
    trivial, Cert.Inproj.algebraic, trivial, Cert.Memory.algebraic, trivial, Cert.Moba.algebraic,
    trivial, Cert.Ffn.plain_algebraic⟩

end Cert.Proof

end
